-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay_above_minus_inf [hPre_decay_above_minus_inf : Cert.Pre_decay_above_minus_inf.Facts] (m : (ℓ : Loc Cert.KernelIdeal.nD Cert.KernelIdeal.τ Cert.KernelIdeal.sig) → Buf (Elt Ideal) ℓ) : Prop :=
  ∀ c : Dev Cert.KernelIdeal.nD,
    (Cert.Pre_decay_above_minus_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay_above_minus_inf [hPre_decay_above_minus_inf : Cert.Pre_decay_above_minus_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay_above_minus_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_sample_decay_above_minus_inf [hPre_sample_decay_above_minus_inf : Cert.Pre_sample_decay_above_minus_inf.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_sample_decay_above_minus_inf.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_sample_decay_above_minus_inf [hPre_sample_decay_above_minus_inf : Cert.Pre_sample_decay_above_minus_inf.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_sample_decay_above_minus_inf.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_decay_above_minus_inf [hKernelIdeal : Cert.KernelIdeal.Facts] [hPre_decay_above_minus_inf : Cert.Pre_decay_above_minus_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay_above_minus_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_decay_above_minus_inf [hReferenceIdeal : Cert.ReferenceIdeal.Facts] [hPre_decay_above_minus_inf : Cert.Pre_decay_above_minus_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay_above_minus_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_sample_decay_above_minus_inf [hKernel4Ideal : Cert.Kernel4Ideal.Facts] [hPre_sample_decay_above_minus_inf : Cert.Pre_sample_decay_above_minus_inf.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_sample_decay_above_minus_inf m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_sample_decay_above_minus_inf [hReference4Ideal : Cert.Reference4Ideal.Facts] [hPre_sample_decay_above_minus_inf : Cert.Pre_sample_decay_above_minus_inf.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_sample_decay_above_minus_inf m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal_pre_decay_above_minus_inf [hKernelIdeal : Cert.KernelIdeal.Facts] [hReferenceIdeal : Cert.ReferenceIdeal.Facts] [hPre_decay_above_minus_inf : Cert.Pre_decay_above_minus_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay_above_minus_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v30_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)) (v3 : (c : Dev Cert.Kernel2Ideal.nD) → Buf (Elt Ideal) ((c.tc : Thread Cert.Kernel2Ideal.nD Cert.Kernel2Ideal.τ).loc Cert.Kernel2Ideal.main_v5_3)) (v4 : (c : Dev Cert.Kernel2Ideal.nD) → Buf (Elt Ideal) ((c.tc : Thread Cert.Kernel2Ideal.nD Cert.Kernel2Ideal.τ).loc Cert.Kernel2Ideal.main_v5_4)) (v5 : (c : Dev Cert.Kernel2Ideal.nD) → Buf (Elt Ideal) ((c.tc : Thread Cert.Kernel2Ideal.nD Cert.Kernel2Ideal.τ).loc Cert.Kernel2Ideal.main_v5_5)) (v6 : (c : Dev Cert.Kernel2Ideal.nD) → Buf (Elt Ideal) ((c.tc : Thread Cert.Kernel2Ideal.nD Cert.Kernel2Ideal.τ).loc Cert.Kernel2Ideal.main_v5_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_v5_3) = v3 c
          ∧ r.2.mem ((c.tc : Thread Cert.Kernel2Ideal.nD Cert.Kernel2Ideal.τ).loc Cert.Kernel2Ideal.main_v5_4) = v4 c
          ∧ r.2.mem ((c.tc : Thread Cert.Kernel2Ideal.nD Cert.Kernel2Ideal.τ).loc Cert.Kernel2Ideal.main_v5_5) = v5 c
          ∧ r.2.mem ((c.tc : Thread Cert.Kernel2Ideal.nD Cert.Kernel2Ideal.τ).loc Cert.Kernel2Ideal.main_v5_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_v27) = v2 c
          ∧ r.2.mem ((c.tc : Thread Cert.Reference2Ideal.nD Cert.Reference2Ideal.τ).loc Cert.Reference2Ideal.main_v30) = v3 c
          ∧ r.2.mem ((c.tc : Thread Cert.Reference2Ideal.nD Cert.Reference2Ideal.τ).loc Cert.Reference2Ideal.main_v31) = v4 c
          ∧ r.2.mem ((c.tc : Thread Cert.Reference2Ideal.nD Cert.Reference2Ideal.τ).loc Cert.Reference2Ideal.main_v32) = v5 c
          ∧ r.2.mem ((c.tc : Thread Cert.Reference2Ideal.nD Cert.Reference2Ideal.τ).loc Cert.Reference2Ideal.main_v33) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v6) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v73) = v0 c
          ∧ r.2.mem ((c.tc : Thread Cert.Reference3Ideal.nD Cert.Reference3Ideal.τ).loc Cert.Reference3Ideal.main_v88) = v1 c
          ∧ r.2.mem ((c.tc : Thread Cert.Reference3Ideal.nD Cert.Reference3Ideal.τ).loc Cert.Reference3Ideal.main_v90) = v2 c
          ∧ r.2.mem ((c.tc : Thread Cert.Reference3Ideal.nD Cert.Reference3Ideal.τ).loc Cert.Reference3Ideal.main_v91) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_sample_decay_above_minus_inf [hKernel4Ideal : Cert.Kernel4Ideal.Facts] [hReference4Ideal : Cert.Reference4Ideal.Facts] [hPre_sample_decay_above_minus_inf : Cert.Pre_sample_decay_above_minus_inf.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_sample_decay_above_minus_inf m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_decay_above_minus_inf : Cert.Pre_decay_above_minus_inf.Facts) (hPre_sample_decay_above_minus_inf : Cert.Pre_sample_decay_above_minus_inf.Facts),
    quiescent_Kernel (hKernel := hKernel)
    ∧ quiescent_KernelIdeal (hKernelIdeal := hKernelIdeal)
    ∧ quiescent_KernelIdeal_pre_decay_above_minus_inf (hKernelIdeal := hKernelIdeal) (hPre_decay_above_minus_inf := hPre_decay_above_minus_inf)
    ∧ quiescent_ReferenceIdeal (hReferenceIdeal := hReferenceIdeal)
    ∧ quiescent_ReferenceIdeal_pre_decay_above_minus_inf (hReferenceIdeal := hReferenceIdeal) (hPre_decay_above_minus_inf := hPre_decay_above_minus_inf)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_sample_decay_above_minus_inf (hKernel4Ideal := hKernel4Ideal) (hPre_sample_decay_above_minus_inf := hPre_sample_decay_above_minus_inf)
    ∧ quiescent_Reference4Ideal (hReference4Ideal := hReference4Ideal)
    ∧ quiescent_Reference4Ideal_pre_sample_decay_above_minus_inf (hReference4Ideal := hReference4Ideal) (hPre_sample_decay_above_minus_inf := hPre_sample_decay_above_minus_inf)
    ∧ preserves_Kernel_KernelIdeal
    ∧ algebraic_KernelIdeal_ReferenceIdeal_pre_decay_above_minus_inf (hKernelIdeal := hKernelIdeal) (hReferenceIdeal := hReferenceIdeal) (hPre_decay_above_minus_inf := hPre_decay_above_minus_inf)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_sample_decay_above_minus_inf (hKernel4Ideal := hKernel4Ideal) (hReference4Ideal := hReference4Ideal) (hPre_sample_decay_above_minus_inf := hPre_sample_decay_above_minus_inf)
-- ==== Pre_decay_above_minus_inf.lean ====
abbrev S8192x8192 : Shape := ⟨2, ![8192, 8192]⟩
abbrev S8192x128 : Shape := ⟨2, ![8192, 128]⟩
abbrev S128x1024 : Shape := ⟨2, ![128, 1024]⟩
abbrev S1x1024 : Shape := ⟨2, ![1, 1024]⟩
abbrev S8192x1024 : Shape := ⟨2, ![8192, 1024]⟩
abbrev S_ : Shape := ⟨0, ![]⟩

class Facts : Prop where
  bitsLt_bf16_f32 : FTy.bits .bf16 < FTy.bits .f32
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x128_S128x1024_S8192x1024_1_0_0_1_n_n_wf : DotDims.WF S8192x128 S128x1024 S8192x1024 [1] [0] [0] [1] [] []

variable [Facts]

def dot_S8192x128_S128x1024_S8192x1024_1_0_0_1_n_n : DotDims S8192x128 S128x1024 S8192x1024 where
  lhsContracting := [1]
  rhsContracting := [0]
  lhsNonContracting := [0]
  rhsNonContracting := [1]
  lhsBatch := []
  rhsBatch := []
  wf := dot_S8192x128_S128x1024_S8192x1024_1_0_0_1_n_n_wf
def fn {F : FTy → Type} [FloatOps F] (main_arg0 : FVec F S8192x8192 .f32) (main_arg1 : FVec F S8192x128 .f32) (main_arg2 : FVec F S128x1024 .bf16) (main_arg3 : FVec F S1x1024 .f32) : IVec S8192x1024 1 :=
  let main_v0 : FVec F S128x1024 .f32 := (extf .f32 · bitsLt_bf16_f32) main_arg2
  let main_v1 : FVec F S8192x1024 .f32 := (fun l r => Host.dotGeneral dot_S8192x128_S128x1024_S8192x1024_1_0_0_1_n_n none l r) main_arg1 main_v0
  let main_v2 : FVec F S8192x1024 .f32 := broadcastInDim S8192x1024 ![0, 1] bcast_S1x1024_S8192x1024_0_1 main_arg3
  let main_v3 : FVec F S8192x1024 .f32 := addf main_v1 main_v2
  let main_cst : FVec F S_ .f32 := constant S_ .f32 0xFF800000#32
  let main_v4 : FVec F S8192x1024 .f32 := broadcastInDim S8192x1024 ![] bcast_S_S8192x1024 main_cst
  let main_v5 : IVec S8192x1024 1 := cmpf .ogt main_v3 main_v4
  main_v5
-- ==== Pre_sample_decay_above_minus_inf.lean ====
abbrev S128x8192 : Shape := ⟨2, ![128, 8192]⟩
abbrev S128x128 : Shape := ⟨2, ![128, 128]⟩
abbrev S128x1024 : Shape := ⟨2, ![128, 1024]⟩
abbrev S1x1024 : Shape := ⟨2, ![1, 1024]⟩
abbrev S128x4x256x512 : Shape := ⟨4, ![128, 4, 256, 512]⟩
abbrev S_ : Shape := ⟨0, ![]⟩

class Facts : Prop where
  bitsLt_bf16_f32 : FTy.bits .bf16 < FTy.bits .f32
  bcast_S1x1024_S128x1024_0_1 : S1x1024.BroadcastsInDim S128x1024 (![0, 1] : Fin 2 → Fin S128x1024.rank)
  bcast_S_S128x1024 : S_.BroadcastsInDim S128x1024 (![] : Fin 0 → Fin S128x1024.rank)
  dot_S128x128_S128x1024_S128x1024_1_0_0_1_n_n_wf : DotDims.WF S128x128 S128x1024 S128x1024 [1] [0] [0] [1] [] []

variable [Facts]

def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf
def fn {F : FTy → Type} [FloatOps F] (main_arg0 : FVec F S128x8192 .f32) (main_arg1 : FVec F S128x128 .f32) (main_arg2 : FVec F S128x1024 .bf16) (main_arg3 : FVec F S1x1024 .f32) (main_arg4 : FVec F S128x4x256x512 .f32) : IVec S128x1024 1 :=
  let main_v0 : FVec F S128x1024 .f32 := (extf .f32 · bitsLt_bf16_f32) main_arg2
  let main_v1 : FVec F S128x1024 .f32 := (fun l r => Host.dotGeneral dot_S128x128_S128x1024_S128x1024_1_0_0_1_n_n none l r) main_arg1 main_v0
  let main_v2 : FVec F S128x1024 .f32 := broadcastInDim S128x1024 ![0, 1] bcast_S1x1024_S128x1024_0_1 main_arg3
  let main_v3 : FVec F S128x1024 .f32 := addf main_v1 main_v2
  let main_cst : FVec F S_ .f32 := constant S_ .f32 0xFF800000#32
  let main_v4 : FVec F S128x1024 .f32 := broadcastInDim S128x1024 ![] bcast_S_S128x1024 main_cst
  let main_v5 : IVec S128x1024 1 := cmpf .ogt main_v3 main_v4
  main_v5
-- ==== Kernel.lean ====
abbrev S8192x8192 : Shape := ⟨2, ![8192, 8192]⟩
abbrev S8192x128 : Shape := ⟨2, ![8192, 128]⟩
abbrev S128x1024 : Shape := ⟨2, ![128, 1024]⟩
abbrev S1x1024 : Shape := ⟨2, ![1, 1024]⟩
abbrev S8192x2048 : Shape := ⟨2, ![8192, 2048]⟩
abbrev S4x4x256x512 : Shape := ⟨4, ![4, 4, 256, 512]⟩
abbrev S512x1024 : Shape := ⟨2, ![512, 1024]⟩
abbrev S512x2048 : Shape := ⟨2, ![512, 2048]⟩
abbrev S512x128 : Shape := ⟨2, ![512, 128]⟩
abbrev S1x4x256x512 : Shape := ⟨4, ![1, 4, 256, 512]⟩
abbrev S4x256x512 : Shape := ⟨3, ![4, 256, 512]⟩
abbrev S64x256 : Shape := ⟨2, ![64, 256]⟩
abbrev S64x64 : Shape := ⟨2, ![64, 64]⟩
abbrev S64x512 : Shape := ⟨2, ![64, 512]⟩
abbrev S1x256 : Shape := ⟨2, ![1, 256]⟩
abbrev S1x256x512 : Shape := ⟨3, ![1, 256, 512]⟩
abbrev S256x512 : Shape := ⟨2, ![256, 512]⟩
abbrev S4x64 : Shape := ⟨2, ![4, 64]⟩
abbrev S4x256 : Shape := ⟨2, ![4, 256]⟩
abbrev S64 : Shape := ⟨1, ![64]⟩
abbrev S64x1 : Shape := ⟨2, ![64, 1]⟩
abbrev S128x256 : Shape := ⟨2, ![128, 256]⟩
abbrev S256x128 : Shape := ⟨2, ![256, 128]⟩

abbrev nBuf : Space → Nat
  | .hbm => 6
  | .vmem => 16
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x1024, .bf16⟩
  | .hbm, ⟨3, _⟩ => ⟨S1x1024, .f32⟩
  | .hbm, ⟨4, _⟩ => ⟨S8192x2048, .f32⟩
  | .hbm, ⟨5, _⟩ => ⟨S4x4x256x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S512x128, .f32⟩
  | .local _ .vmem, ⟨7, _⟩ => ⟨S512x128, .f32⟩
  | .local _ .vmem, ⟨8, _⟩ => ⟨S128x1024, .bf16⟩
  | .local _ .vmem, ⟨9, _⟩ => ⟨S1x1024, .f32⟩
  | .local _ .vmem, ⟨10, _⟩ => ⟨S512x2048, .f32⟩
  | .local _ .vmem, ⟨11, _⟩ => ⟨S512x2048, .f32⟩
  | .local _ .vmem, ⟨12, _⟩ => ⟨S1x4x256x512, .f32⟩
  | .local _ .vmem, ⟨13, _⟩ => ⟨S1x4x256x512, .f32⟩
  | .local _ .vmem, ⟨14, _⟩ => ⟨S4x256x512, .f32⟩
  | .local _ .vmem, ⟨15, _⟩ => ⟨S512x1024, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 1, 4], ![false, false, false]⟩

@[reducible] def k0_t1_loop : Scf.Loop 32 :=
  let c0_i32_25 : BitVec 32 := 0#32
  let c8_i32_26 : BitVec 32 := 8#32
  let v71 : BitVec 32 := Scalar.addi c0_i32_25 c8_i32_26
  let c1_i32_27 : BitVec 32 := 1#32
  ⟨c0_i32_25, v71, c1_i32_27⟩
def k0_mult1 (k0_t1 : Fin k0_t1_loop.trips) : BitVec 32 :=
  let c0_i32_25 : BitVec 32 := 0#32
  let c1_i32_27 : BitVec 32 := 1#32
  let arg13 : BitVec 32 := Scf.iv c0_i32_25 c1_i32_27 k0_t1
  let c64_i32 : BitVec 32 := 64#32
  let v75 : BitVec 32 := Scalar.muli arg13 c64_i32
  v75
def k0_off1 (k0_t1 : Fin k0_t1_loop.trips) : Fin 2 → Nat :=
  let c0_i32_25 : BitVec 32 := 0#32
  let c1_i32_27 : BitVec 32 := 1#32
  let arg13 : BitVec 32 := Scf.iv c0_i32_25 c1_i32_27 k0_t1
  let c64_i32 : BitVec 32 := 64#32
  let v75 : BitVec 32 := Scalar.muli arg13 c64_i32
  let v76 : BitVec 32 := v75
  let v77 : Index := Scalar.indexCast v76
  let c0_31 : Index := 0#32
  ![v77.toNat, 0]
def k0_off2 (k0_t1 : Fin k0_t1_loop.trips) : Fin 2 → Nat :=
  let c0_i32_25 : BitVec 32 := 0#32
  let c1_i32_27 : BitVec 32 := 1#32
  let arg13 : BitVec 32 := Scf.iv c0_i32_25 c1_i32_27 k0_t1
  let c64_i32 : BitVec 32 := 64#32
  let v75 : BitVec 32 := Scalar.muli arg13 c64_i32
  let v76 : BitVec 32 := v75
  let v83 : Index := Scalar.indexCast v76
  let c0_34 : Index := 0#32
  ![v83.toNat, 0]
def k0_off3 (k0_t1 : Fin k0_t1_loop.trips) : Fin 2 → Nat :=
  let c0_i32_25 : BitVec 32 := 0#32
  let c1_i32_27 : BitVec 32 := 1#32
  let arg13 : BitVec 32 := Scf.iv c0_i32_25 c1_i32_27 k0_t1
  let c64_i32 : BitVec 32 := 64#32
  let v75 : BitVec 32 := Scalar.muli arg13 c64_i32
  let v76 : BitVec 32 := v75
  let v460 : Index := Scalar.indexCast v76
  let c256 : Index := 256#32
  ![v460.toNat, 256]
def k0_off4 (k0_t1 : Fin k0_t1_loop.trips) : Fin 2 → Nat :=
  let c0_i32_25 : BitVec 32 := 0#32
  let c1_i32_27 : BitVec 32 := 1#32
  let arg13 : BitVec 32 := Scf.iv c0_i32_25 c1_i32_27 k0_t1
  let c64_i32 : BitVec 32 := 64#32
  let v75 : BitVec 32 := Scalar.muli arg13 c64_i32
  let v76 : BitVec 32 := v75
  let v466 : Index := Scalar.indexCast v76
  let c512 : Index := 512#32
  ![v466.toNat, 512]
def k0_off5 (k0_t1 : Fin k0_t1_loop.trips) : Fin 2 → Nat :=
  let c0_i32_25 : BitVec 32 := 0#32
  let c1_i32_27 : BitVec 32 := 1#32
  let arg13 : BitVec 32 := Scf.iv c0_i32_25 c1_i32_27 k0_t1
  let c64_i32 : BitVec 32 := 64#32
  let v75 : BitVec 32 := Scalar.muli arg13 c64_i32
  let v76 : BitVec 32 := v75
  let v843 : Index := Scalar.indexCast v76
  let c512_187 : Index := 512#32
  ![v843.toNat, 512]
def k0_off6 (k0_t1 : Fin k0_t1_loop.trips) : Fin 2 → Nat :=
  let c0_i32_25 : BitVec 32 := 0#32
  let c1_i32_27 : BitVec 32 := 1#32
  let arg13 : BitVec 32 := Scf.iv c0_i32_25 c1_i32_27 k0_t1
  let c64_i32 : BitVec 32 := 64#32
  let v75 : BitVec 32 := Scalar.muli arg13 c64_i32
  let v76 : BitVec 32 := v75
  let v849 : Index := Scalar.indexCast v76
  let c1024 : Index := 1024#32
  ![v849.toNat, 1024]
def k0_off7 (k0_t1 : Fin k0_t1_loop.trips) : Fin 2 → Nat :=
  let c0_i32_25 : BitVec 32 := 0#32
  let c1_i32_27 : BitVec 32 := 1#32
  let arg13 : BitVec 32 := Scf.iv c0_i32_25 c1_i32_27 k0_t1
  let c64_i32 : BitVec 32 := 64#32
  let v75 : BitVec 32 := Scalar.muli arg13 c64_i32
  let v76 : BitVec 32 := v75
  let v1226 : Index := Scalar.indexCast v76
  let c768 : Index := 768#32
  ![v1226.toNat, 768]
def k0_off8 (k0_t1 : Fin k0_t1_loop.trips) : Fin 2 → Nat :=
  let c0_i32_25 : BitVec 32 := 0#32
  let c1_i32_27 : BitVec 32 := 1#32
  let arg13 : BitVec 32 := Scf.iv c0_i32_25 c1_i32_27 k0_t1
  let c64_i32 : BitVec 32 := 64#32
  let v75 : BitVec 32 := Scalar.muli arg13 c64_i32
  let v76 : BitVec 32 := v75
  let v1232 : Index := Scalar.indexCast v76
  let c1536 : Index := 1536#32
  ![v1232.toNat, 1536]
def k0_cond2 (i : grid0.Coords) : BitVec 1 :=
  let arg2 : BitVec 32 := BitVec.ofNat 32 (i 2).val
  let c3_i32_29 : BitVec 32 := 3#32
  let v72 : BitVec 1 := Scalar.cmpi .eq arg2 c3_i32_29
  let v73 : BitVec 32 := Scalar.extui v72
  let c0_i32_30 : BitVec 32 := 0#32
  let v74 : BitVec 1 := Scalar.cmpi .ne v73 c0_i32_30
  v74

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S8192x8192 : Shape := ⟨2, ![8192, 8192]⟩
abbrev S8192x128 : Shape := ⟨2, ![8192, 128]⟩
abbrev S128x1024 : Shape := ⟨2, ![128, 1024]⟩
abbrev S1x1024 : Shape := ⟨2, ![1, 1024]⟩
abbrev S8192x1024 : Shape := ⟨2, ![8192, 1024]⟩
abbrev S_ : Shape := ⟨0, ![]⟩
abbrev S4x2048x4x256 : Shape := ⟨4, ![4, 2048, 4, 256]⟩
abbrev S8192x2048 : Shape := ⟨2, ![8192, 2048]⟩
abbrev S4x2048x4x512 : Shape := ⟨4, ![4, 2048, 4, 512]⟩
abbrev S4x32x64x4x256 : Shape := ⟨5, ![4, 32, 64, 4, 256]⟩
abbrev S32x4x4x64x256 : Shape := ⟨5, ![32, 4, 4, 64, 256]⟩
abbrev S4x32x64x4x512 : Shape := ⟨5, ![4, 32, 64, 4, 512]⟩
abbrev S32x4x4x64x512 : Shape := ⟨5, ![32, 4, 4, 64, 512]⟩
abbrev S64x64 : Shape := ⟨2, ![64, 64]⟩
abbrev S4x4x256x512 : Shape := ⟨4, ![4, 4, 256, 512]⟩
abbrev S1x4x4x64x256 : Shape := ⟨5, ![1, 4, 4, 64, 256]⟩
abbrev S4x4x64x256 : Shape := ⟨4, ![4, 4, 64, 256]⟩
abbrev S1x4x4x64x512 : Shape := ⟨5, ![1, 4, 4, 64, 512]⟩
abbrev S4x4x64x512 : Shape := ⟨4, ![4, 4, 64, 512]⟩
abbrev S4x4x64x1x256 : Shape := ⟨5, ![4, 4, 64, 1, 256]⟩
abbrev S4x4x1x64x256 : Shape := ⟨5, ![4, 4, 1, 64, 256]⟩
abbrev S4x4x64x64x256 : Shape := ⟨5, ![4, 4, 64, 64, 256]⟩
abbrev S1x1x64x64x1 : Shape := ⟨5, ![1, 1, 64, 64, 1]⟩
abbrev S4x4x64x64 : Shape := ⟨4, ![4, 4, 64, 64]⟩
abbrev S4x4x1x256 : Shape := ⟨4, ![4, 4, 1, 256]⟩
abbrev S4x4x256 : Shape := ⟨3, ![4, 4, 256]⟩
abbrev S4x4x256x1 : Shape := ⟨4, ![4, 4, 256, 1]⟩

abbrev nBuf : Space → Nat
  | .hbm => 145
  | .vmem => 0
  | .smem => 0
  | _ => 0

abbrev hbmTy0_0 (i : Nat) : BufTy := match i % 128 with
  | 0 => ⟨S8192x8192, .f32⟩
  | 1 => ⟨S8192x128, .f32⟩
  | 2 => ⟨S128x1024, .bf16⟩
  | 3 => ⟨S1x1024, .f32⟩
  | 4 => ⟨S128x1024, .f32⟩
  | 5 => ⟨S8192x1024, .f32⟩
  | 6 => ⟨S8192x1024, .f32⟩
  | 7 => ⟨S8192x1024, .f32⟩
  | 8 => ⟨S8192x1024, .f32⟩
  | 9 => ⟨S_, .f32⟩
  | 10 => ⟨S8192x1024, .f32⟩
  | 11 => ⟨S8192x1024, .f32⟩
  | 12 => ⟨S8192x1024, .f32⟩
  | 13 => ⟨S8192x1024, .f32⟩
  | 14 => ⟨S8192x1024, .i1⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S4x2048x4x256, .f32⟩
  | 29 => ⟨S_, .f32⟩
  | 30 => ⟨S4x2048x4x256, .f32⟩
  | 31 => ⟨S4x2048x4x256, .f32⟩
  | 32 => ⟨S8192x1024, .f32⟩
  | 33 => ⟨S4x2048x4x256, .f32⟩
  | 34 => ⟨S8192x2048, .f32⟩
  | 35 => ⟨S4x2048x4x512, .f32⟩
  | 36 => ⟨S4x2048x4x256, .f32⟩
  | 37 => ⟨S4x32x64x4x256, .f32⟩
  | 38 => ⟨S32x4x4x64x256, .f32⟩
  | 39 => ⟨S4x32x64x4x256, .f32⟩
  | 40 => ⟨S32x4x4x64x256, .f32⟩
  | 41 => ⟨S4x32x64x4x512, .f32⟩
  | 42 => ⟨S32x4x4x64x512, .f32⟩
  | 43 => ⟨S4x32x64x4x256, .f32⟩
  | 44 => ⟨S32x4x4x64x256, .f32⟩
  | 45 => ⟨S_, .i1⟩
  | 46 => ⟨S64x64, .i1⟩
  | 47 => ⟨S64x64, .i32⟩
  | 48 => ⟨S_, .i32⟩
  | 49 => ⟨S64x64, .i32⟩
  | 50 => ⟨S64x64, .i32⟩
  | 51 => ⟨S64x64, .i32⟩
  | 52 => ⟨S64x64, .i1⟩
  | 53 => ⟨S_, .i1⟩
  | 54 => ⟨S64x64, .i1⟩
  | 55 => ⟨S64x64, .i1⟩
  | 56 => ⟨S_, .f32⟩
  | 57 => ⟨S4x4x256x512, .f32⟩
  | 58 => ⟨S_, .f32⟩
  | 59 => ⟨S32x4x4x64x512, .f32⟩
  | 60 => ⟨S_, .i32⟩
  | 61 => ⟨S32x4x4x64x256, .f32⟩
  | 62 => ⟨S32x4x4x64x256, .f32⟩
  | 63 => ⟨S32x4x4x64x512, .f32⟩
  | 64 => ⟨S32x4x4x64x256, .f32⟩
  | 65 => ⟨S64x64, .i1⟩
  | 66 => ⟨S_, .i32⟩
  | 67 => ⟨S4x4x256x512, .f32⟩
  | 68 => ⟨S32x4x4x64x512, .f32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S1x4x4x64x256, .f32⟩
  | 76 => ⟨S4x4x64x256, .f32⟩
  | 77 => ⟨S_, .i32⟩
  | 78 => ⟨S_, .i32⟩
  | 79 => ⟨S_, .i32⟩
  | 80 => ⟨S_, .i32⟩
  | 81 => ⟨S1x4x4x64x256, .f32⟩
  | 82 => ⟨S4x4x64x256, .f32⟩
  | 83 => ⟨S_, .i32⟩
  | 84 => ⟨S_, .i32⟩
  | 85 => ⟨S_, .i32⟩
  | 86 => ⟨S_, .i32⟩
  | 87 => ⟨S1x4x4x64x512, .f32⟩
  | 88 => ⟨S4x4x64x512, .f32⟩
  | 89 => ⟨S_, .i32⟩
  | 90 => ⟨S_, .i32⟩
  | 91 => ⟨S_, .i32⟩
  | 92 => ⟨S_, .i32⟩
  | 93 => ⟨S1x4x4x64x256, .f32⟩
  | 94 => ⟨S4x4x64x256, .f32⟩
  | 95 => ⟨S_, .f32⟩
  | 96 => ⟨S_, .f32⟩
  | 97 => ⟨S4x4x64x256, .f32⟩
  | 98 => ⟨S4x4x64x1x256, .f32⟩
  | 99 => ⟨S4x4x1x64x256, .f32⟩
  | 100 => ⟨S4x4x64x64x256, .f32⟩
  | 101 => ⟨S4x4x64x64x256, .f32⟩
  | 102 => ⟨S4x4x64x64x256, .f32⟩
  | 103 => ⟨S1x1x64x64x1, .i1⟩
  | 104 => ⟨S_, .f32⟩
  | 105 => ⟨S_, .f32⟩
  | 106 => ⟨S4x4x64x64x256, .i1⟩
  | 107 => ⟨S4x4x64x64x256, .f32⟩
  | 108 => ⟨S4x4x64x64x256, .f32⟩
  | 109 => ⟨S4x4x64x64x256, .f32⟩
  | 110 => ⟨S4x4x64x1x256, .f32⟩
  | 111 => ⟨S4x4x1x64x256, .f32⟩
  | 112 => ⟨S4x4x64x64x256, .f32⟩
  | 113 => ⟨S4x4x64x64x256, .f32⟩
  | 114 => ⟨S4x4x64x64x256, .f32⟩
  | 115 => ⟨S4x4x64x64x256, .f32⟩
  | 116 => ⟨S_, .f32⟩
  | 117 => ⟨S4x4x64x64, .f32⟩
  | 118 => ⟨S4x4x64x512, .f32⟩
  | 119 => ⟨S4x4x64x256, .f32⟩
  | 120 => ⟨S4x4x64x256, .f32⟩
  | 121 => ⟨S4x4x64x512, .f32⟩
  | 122 => ⟨S4x4x64x512, .f32⟩
  | 123 => ⟨S4x4x1x256, .f32⟩
  | 124 => ⟨S4x4x256, .f32⟩
  | 125 => ⟨S4x4x256, .f32⟩
  | 126 => ⟨S4x4x256x1, .f32⟩
  | 127 => ⟨S4x4x256x512, .f32⟩
  | _ => ⟨S8192x8192, .f32⟩

abbrev hbmTy0_1 (i : Nat) : BufTy := match i % 128 with
  | 0 => ⟨S4x4x256x512, .f32⟩
  | 1 => ⟨S4x4x64x256, .f32⟩
  | 2 => ⟨S4x4x64x256, .f32⟩
  | 3 => ⟨S4x4x64x256, .f32⟩
  | 4 => ⟨S4x4x64x256, .f32⟩
  | 5 => ⟨S4x4x256x512, .f32⟩
  | 6 => ⟨S4x4x256x512, .f32⟩
  | 7 => ⟨S1x4x4x64x512, .f32⟩
  | 8 => ⟨S_, .i32⟩
  | 9 => ⟨S_, .i32⟩
  | 10 => ⟨S_, .i32⟩
  | 11 => ⟨S_, .i32⟩
  | 12 => ⟨S32x4x4x64x512, .f32⟩
  | 13 => ⟨S_, .i32⟩
  | 14 => ⟨S_, .i32⟩
  | 15 => ⟨S4x32x64x4x512, .f32⟩
  | 16 => ⟨S8192x2048, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c : Ref sig .tc := ⟨.hbm, 45, rfl⟩
abbrev main_v26 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_c_0 : Ref sig .tc := ⟨.hbm, 53, rfl⟩
abbrev main_call1_v5 : Ref sig .tc := ⟨.hbm, 54, rfl⟩
abbrev main_v27 : Ref sig .tc := ⟨.hbm, 55, rfl⟩
abbrev main_cst_1 : Ref sig .tc := ⟨.hbm, 56, rfl⟩
abbrev main_v28 : Ref sig .tc := ⟨.hbm, 57, rfl⟩
abbrev main_cst_2 : Ref sig .tc := ⟨.hbm, 58, rfl⟩
abbrev main_v29 : Ref sig .tc := ⟨.hbm, 59, rfl⟩
abbrev main_c_3 : Ref sig .tc := ⟨.hbm, 60, rfl⟩
abbrev main_v30_0 : Ref sig .tc := ⟨.hbm, 61, rfl⟩
abbrev main_v30_1 : Ref sig .tc := ⟨.hbm, 62, rfl⟩
abbrev main_v30_2 : Ref sig .tc := ⟨.hbm, 63, rfl⟩
abbrev main_v30_3 : Ref sig .tc := ⟨.hbm, 64, rfl⟩
abbrev main_v30_4 : Ref sig .tc := ⟨.hbm, 65, rfl⟩
abbrev main_v30_5 : Ref sig .tc := ⟨.hbm, 66, rfl⟩
abbrev main_v30_6 : Ref sig .tc := ⟨.hbm, 67, rfl⟩
abbrev main_v30_7 : Ref sig .tc := ⟨.hbm, 68, rfl⟩
abbrev main_while0c_c_11 : Ref sig .tc := ⟨.hbm, 69, rfl⟩
abbrev main_while0c_v33 : Ref sig .tc := ⟨.hbm, 70, rfl⟩
abbrev main_while0b_call2_c : Ref sig .tc := ⟨.hbm, 71, rfl⟩
abbrev main_while0b_call2_c_0 : Ref sig .tc := ⟨.hbm, 72, rfl⟩
abbrev main_while0b_call2_c_1 : Ref sig .tc := ⟨.hbm, 73, rfl⟩
abbrev main_while0b_call2_c_2 : Ref sig .tc := ⟨.hbm, 74, rfl⟩
abbrev main_while0b_call2_v0 : Ref sig .tc := ⟨.hbm, 75, rfl⟩
abbrev main_while0b_v33 : Ref sig .tc := ⟨.hbm, 76, rfl⟩
abbrev main_while0b_call3_c : Ref sig .tc := ⟨.hbm, 77, rfl⟩
abbrev main_while0b_call3_c_0 : Ref sig .tc := ⟨.hbm, 78, rfl⟩
abbrev main_while0b_call3_c_1 : Ref sig .tc := ⟨.hbm, 79, rfl⟩
abbrev main_while0b_call3_c_2 : Ref sig .tc := ⟨.hbm, 80, rfl⟩
abbrev main_while0b_call3_v0 : Ref sig .tc := ⟨.hbm, 81, rfl⟩
abbrev main_while0b_v34 : Ref sig .tc := ⟨.hbm, 82, rfl⟩
abbrev main_while0b_call4_c : Ref sig .tc := ⟨.hbm, 83, rfl⟩
abbrev main_while0b_call4_c_0 : Ref sig .tc := ⟨.hbm, 84, rfl⟩
abbrev main_while0b_call4_c_1 : Ref sig .tc := ⟨.hbm, 85, rfl⟩
abbrev main_while0b_call4_c_2 : Ref sig .tc := ⟨.hbm, 86, rfl⟩
abbrev main_while0b_call4_v0 : Ref sig .tc := ⟨.hbm, 87, rfl⟩
abbrev main_while0b_v35 : Ref sig .tc := ⟨.hbm, 88, rfl⟩
abbrev main_while0b_call5_c : Ref sig .tc := ⟨.hbm, 89, rfl⟩
abbrev main_while0b_call5_c_0 : Ref sig .tc := ⟨.hbm, 90, rfl⟩
abbrev main_while0b_call5_c_1 : Ref sig .tc := ⟨.hbm, 91, rfl⟩
abbrev main_while0b_call5_c_2 : Ref sig .tc := ⟨.hbm, 92, rfl⟩
abbrev main_while0b_call5_v0 : Ref sig .tc := ⟨.hbm, 93, rfl⟩
abbrev main_while0b_v36 : Ref sig .tc := ⟨.hbm, 94, rfl⟩
abbrev main_while0b_call6_call0_cst : Ref sig .tc := ⟨.hbm, 95, rfl⟩
abbrev main_while0b_call6_call0_v0 : Ref sig .tc := ⟨.hbm, 96, rfl⟩
abbrev main_while0b_v37 : Ref sig .tc := ⟨.hbm, 97, rfl⟩
abbrev main_while0b_v38 : Ref sig .tc := ⟨.hbm, 98, rfl⟩
abbrev main_while0b_v39 : Ref sig .tc := ⟨.hbm, 99, rfl⟩
abbrev main_while0b_v40 : Ref sig .tc := ⟨.hbm, 100, rfl⟩
abbrev main_while0b_v41 : Ref sig .tc := ⟨.hbm, 101, rfl⟩
abbrev main_while0b_v42 : Ref sig .tc := ⟨.hbm, 102, rfl⟩
abbrev main_while0b_v43 : Ref sig .tc := ⟨.hbm, 103, rfl⟩
abbrev main_while0b_cst_11 : Ref sig .tc := ⟨.hbm, 104, rfl⟩
abbrev main_while0b_call7_v0 : Ref sig .tc := ⟨.hbm, 105, rfl⟩
abbrev main_while0b_call7_v1 : Ref sig .tc := ⟨.hbm, 106, rfl⟩
abbrev main_while0b_call7_v2 : Ref sig .tc := ⟨.hbm, 107, rfl⟩
abbrev main_while0b_v44 : Ref sig .tc := ⟨.hbm, 108, rfl⟩
abbrev main_while0b_v45 : Ref sig .tc := ⟨.hbm, 109, rfl⟩
abbrev main_while0b_v46 : Ref sig .tc := ⟨.hbm, 110, rfl⟩
abbrev main_while0b_v47 : Ref sig .tc := ⟨.hbm, 111, rfl⟩
abbrev main_while0b_v48 : Ref sig .tc := ⟨.hbm, 112, rfl⟩
abbrev main_while0b_v49 : Ref sig .tc := ⟨.hbm, 113, rfl⟩
abbrev main_while0b_v50 : Ref sig .tc := ⟨.hbm, 114, rfl⟩
abbrev main_while0b_v51 : Ref sig .tc := ⟨.hbm, 115, rfl⟩
abbrev main_while0b_cst_12 : Ref sig .tc := ⟨.hbm, 116, rfl⟩
abbrev main_while0b_v52 : Ref sig .tc := ⟨.hbm, 117, rfl⟩
abbrev main_while0b_v53 : Ref sig .tc := ⟨.hbm, 118, rfl⟩
abbrev main_while0b_v54 : Ref sig .tc := ⟨.hbm, 119, rfl⟩
abbrev main_while0b_v55 : Ref sig .tc := ⟨.hbm, 120, rfl⟩
abbrev main_while0b_v56 : Ref sig .tc := ⟨.hbm, 121, rfl⟩
abbrev main_while0b_v57 : Ref sig .tc := ⟨.hbm, 122, rfl⟩
abbrev main_while0b_v58 : Ref sig .tc := ⟨.hbm, 123, rfl⟩
abbrev main_while0b_v59 : Ref sig .tc := ⟨.hbm, 124, rfl⟩
abbrev main_while0b_v60 : Ref sig .tc := ⟨.hbm, 125, rfl⟩
abbrev main_while0b_v61 : Ref sig .tc := ⟨.hbm, 126, rfl⟩
abbrev main_while0b_v62 : Ref sig .tc := ⟨.hbm, 127, rfl⟩
abbrev main_while0b_v63 : Ref sig .tc := ⟨.hbm, 128, rfl⟩
abbrev main_while0b_v64 : Ref sig .tc := ⟨.hbm, 129, rfl⟩
abbrev main_while0b_v65 : Ref sig .tc := ⟨.hbm, 130, rfl⟩
abbrev main_while0b_v66 : Ref sig .tc := ⟨.hbm, 131, rfl⟩
abbrev main_while0b_v67 : Ref sig .tc := ⟨.hbm, 132, rfl⟩
abbrev main_while0b_v68 : Ref sig .tc := ⟨.hbm, 133, rfl⟩
abbrev main_while0b_v69 : Ref sig .tc := ⟨.hbm, 134, rfl⟩
abbrev main_while0b_call8_v0 : Ref sig .tc := ⟨.hbm, 135, rfl⟩
abbrev main_while0b_call8_c : Ref sig .tc := ⟨.hbm, 136, rfl⟩
abbrev main_while0b_call8_c_0 : Ref sig .tc := ⟨.hbm, 137, rfl⟩
abbrev main_while0b_call8_c_1 : Ref sig .tc := ⟨.hbm, 138, rfl⟩
abbrev main_while0b_call8_c_2 : Ref sig .tc := ⟨.hbm, 139, rfl⟩
abbrev main_while0b_v70 : Ref sig .tc := ⟨.hbm, 140, rfl⟩
abbrev main_while0b_c_13 : Ref sig .tc := ⟨.hbm, 141, rfl⟩
abbrev main_while0b_v71 : Ref sig .tc := ⟨.hbm, 142, rfl⟩
abbrev main_v31 : Ref sig .tc := ⟨.hbm, 143, rfl⟩
abbrev main_v32 : Ref sig .tc := ⟨.hbm, 144, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8192x2048 : Shape := ⟨2, ![8192, 2048]⟩
abbrev S2048 : Shape := ⟨1, ![2048]⟩
abbrev S2048x16400 : Shape := ⟨2, ![2048, 16400]⟩
abbrev S16384x2048 : Shape := ⟨2, ![16384, 2048]⟩
abbrev S2048x2048 : Shape := ⟨2, ![2048, 2048]⟩
abbrev S2048x10240 : Shape := ⟨2, ![2048, 10240]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S8192x8192 : Shape := ⟨2, ![8192, 8192]⟩
abbrev S8192x128 : Shape := ⟨2, ![8192, 128]⟩
abbrev S1024x2048 : Shape := ⟨2, ![1024, 2048]⟩
abbrev S2048x1024 : Shape := ⟨2, ![2048, 1024]⟩
abbrev S128x2048 : Shape := ⟨2, ![128, 2048]⟩
abbrev S16x2048 : Shape := ⟨2, ![16, 2048]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 21
  | .vmem => 30
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x16400, .f32⟩
  | .hbm, ⟨3, _⟩ => ⟨S16384x2048, .f32⟩
  | .hbm, ⟨4, _⟩ => ⟨S16384x2048, .f32⟩
  | .hbm, ⟨5, _⟩ => ⟨S2048x2048, .f32⟩
  | .hbm, ⟨6, _⟩ => ⟨S2048x2048, .f32⟩
  | .hbm, ⟨7, _⟩ => ⟨S2048x16400, .bf16⟩
  | .hbm, ⟨8, _⟩ => ⟨S2048x10240, .bf16⟩
  | .hbm, ⟨9, _⟩ => ⟨S2048x16, .bf16⟩
  | .hbm, ⟨10, _⟩ => ⟨S_, .i32⟩
  | .hbm, ⟨11, _⟩ => ⟨S_, .bf16⟩
  | .hbm, ⟨12, _⟩ => ⟨S2048x128, .bf16⟩
  | .hbm, ⟨13, _⟩ => ⟨S1x2048, .f32⟩
  | .hbm, ⟨14, _⟩ => ⟨S8192x8192, .f32⟩
  | .hbm, ⟨15, _⟩ => ⟨S8192x8192, .bf16⟩
  | .hbm, ⟨16, _⟩ => ⟨S8192x128, .f32⟩
  | .hbm, ⟨17, _⟩ => ⟨S16384x2048, .bf16⟩
  | .hbm, ⟨18, _⟩ => ⟨S16384x2048, .bf16⟩
  | .hbm, ⟨19, _⟩ => ⟨S2048x2048, .bf16⟩
  | .hbm, ⟨20, _⟩ => ⟨S2048x2048, .bf16⟩
  | .local _ .vmem, ⟨0, _⟩ => ⟨S1x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x128, .bf16⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S16x2048, .f32⟩
  | .local _ .vmem, ⟨12, _⟩ => ⟨S16x2048, .f32⟩
  | .local _ .vmem, ⟨13, _⟩ => ⟨S16x2048, .f32⟩
  | .local _ .vmem, ⟨14, _⟩ => ⟨S16x2048, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x128, .f32⟩
  | .local _ .vmem, ⟨20, _⟩ => ⟨S1024x128, .f32⟩
  | .local _ .vmem, ⟨21, _⟩ => ⟨S128x2048, .bf16⟩
  | .local _ .vmem, ⟨22, _⟩ => ⟨S128x2048, .bf16⟩
  | .local _ .vmem, ⟨23, _⟩ => ⟨S128x2048, .bf16⟩
  | .local _ .vmem, ⟨24, _⟩ => ⟨S128x2048, .bf16⟩
  | .local _ .vmem, ⟨25, _⟩ => ⟨S16x2048, .bf16⟩
  | .local _ .vmem, ⟨26, _⟩ => ⟨S16x2048, .bf16⟩
  | .local _ .vmem, ⟨27, _⟩ => ⟨S16x2048, .bf16⟩
  | .local _ .vmem, ⟨28, _⟩ => ⟨S16x2048, .bf16⟩
  | .local _ .vmem, ⟨29, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_v5_6 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_scratch0 : Ref sig .tc := ⟨.vmem, 29, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c6_i32 : BitVec 32 := 6#32
  let v31 : BitVec 1 := Scalar.cmpi .slt arg1 c6_i32
  let v_true : BitVec 1 := 1#1
  let v32 : BitVec 1 := Scalar.xori v31 v_true
  let true_12 : BitVec 1 := 1#1
  let v33 : BitVec 1 := Scalar.xori v32 true_12
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg1 c4_i32
  let c0_i32_5 : BitVec 32 := 0#32
  let v16 : BitVec 1 := Scalar.cmpi .ne v15 c0_i32_5
  let v17 : BitVec 1 := Scalar.andi v14 v16
  let v3 : BitVec 32 := Scalar.divsi arg1 c4_i32
  let c1_i32 : BitVec 32 := 1#32
  let v18 : BitVec 32 := Scalar.subi v3 c1_i32
  let v19 : BitVec 32 := Scalar.select v17 v18 v3
  let c2_i32 : BitVec 32 := 2#32
  let c0_i32_6 : BitVec 32 := 0#32
  let v20 : BitVec 1 := Scalar.cmpi .eq c2_i32 c0_i32_6
  let c1_i32_7 : BitVec 32 := 1#32
  let v21 : BitVec 32 := Scalar.select v20 c1_i32_7 c2_i32
  let v22 : BitVec 32 := Scalar.remsi v19 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let true_13 : BitVec 1 := 1#1
  let v34 : BitVec 1 := Scalar.xori v30 true_13
  let true_14 : BitVec 1 := 1#1
  let v35 : BitVec 1 := Scalar.xori v34 true_14
  let v36 : BitVec 1 := Scalar.andi v33 v35
  let v37 : BitVec 32 := Scalar.extui v36
  let c0_i32_15 : BitVec 32 := 0#32
  let v38 : BitVec 1 := Scalar.cmpi .ne v37 c0_i32_15
  v38

def k0_cond4 (i : grid0.Coords) : BitVec 1 :=
  let arg1 : BitVec 32 := BitVec.ofNat 32 (i 1).val
  let c6_i32 : BitVec 32 := 6#32
  let v31 : BitVec 1 := Scalar.cmpi .slt arg1 c6_i32
  let false_20 : BitVec 1 := 0#1
  let v46 : BitVec 1 := Scalar.xori v31 false_20
  let true_21 : BitVec 1 := 1#1
  let v47 : BitVec 1 := Scalar.xori v46 true_21
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg1 c4_i32
  let c0_i32_5 : BitVec 32 := 0#32
  let v16 : BitVec 1 := Scalar.cmpi .ne v15 c0_i32_5
  let v17 : BitVec 1 := Scalar.andi v14 v16
  let v3 : BitVec 32 := Scalar.divsi arg1 c4_i32
  let c1_i32 : BitVec 32 := 1#32
  let v18 : BitVec 32 := Scalar.subi v3 c1_i32
  let v19 : BitVec 32 := Scalar.select v17 v18 v3
  let c2_i32 : BitVec 32 := 2#32
  let c0_i32_6 : BitVec 32 := 0#32
  let v20 : BitVec 1 := Scalar.cmpi .eq c2_i32 c0_i32_6
  let c1_i32_7 : BitVec 32 := 1#32
  let v21 : BitVec 32 := Scalar.select v20 c1_i32_7 c2_i32
  let v22 : BitVec 32 := Scalar.remsi v19 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let true_22 : BitVec 1 := 1#1
  let v48 : BitVec 1 := Scalar.xori v30 true_22
  let true_23 : BitVec 1 := 1#1
  let v49 : BitVec 1 := Scalar.xori v48 true_23
  let v50 : BitVec 1 := Scalar.andi v47 v49
  let v51 : BitVec 32 := Scalar.extui v50
  let c0_i32_24 : BitVec 32 := 0#32
  let v52 : BitVec 1 := Scalar.cmpi .ne v51 c0_i32_24
  v52

def k0_cond3 (i : grid0.Coords) : BitVec 1 :=
  let arg1 : BitVec 32 := BitVec.ofNat 32 (i 1).val
  let c6_i32 : BitVec 32 := 6#32
  let v31 : BitVec 1 := Scalar.cmpi .slt arg1 c6_i32
  let true_16 : BitVec 1 := 1#1
  let v39 : BitVec 1 := Scalar.xori v31 true_16
  let true_17 : BitVec 1 := 1#1
  let v40 : BitVec 1 := Scalar.xori v39 true_17
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg1 c4_i32
  let c0_i32_5 : BitVec 32 := 0#32
  let v16 : BitVec 1 := Scalar.cmpi .ne v15 c0_i32_5
  let v17 : BitVec 1 := Scalar.andi v14 v16
  let v3 : BitVec 32 := Scalar.divsi arg1 c4_i32
  let c1_i32 : BitVec 32 := 1#32
  let v18 : BitVec 32 := Scalar.subi v3 c1_i32
  let v19 : BitVec 32 := Scalar.select v17 v18 v3
  let c2_i32 : BitVec 32 := 2#32
  let c0_i32_6 : BitVec 32 := 0#32
  let v20 : BitVec 1 := Scalar.cmpi .eq c2_i32 c0_i32_6
  let c1_i32_7 : BitVec 32 := 1#32
  let v21 : BitVec 32 := Scalar.select v20 c1_i32_7 c2_i32
  let v22 : BitVec 32 := Scalar.remsi v19 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let v_false : BitVec 1 := 0#1
  let v41 : BitVec 1 := Scalar.xori v30 v_false
  let true_18 : BitVec 1 := 1#1
  let v42 : BitVec 1 := Scalar.xori v41 true_18
  let v43 : BitVec 1 := Scalar.andi v40 v42
  let v44 : BitVec 32 := Scalar.extui v43
  let c0_i32_19 : BitVec 32 := 0#32
  let v45 : BitVec 1 := Scalar.cmpi .ne v44 c0_i32_19
  v45

def k0_cond5 (i : grid0.Coords) : BitVec 1 :=
  let arg1 : BitVec 32 := BitVec.ofNat 32 (i 1).val
  let c6_i32 : BitVec 32 := 6#32
  let v31 : BitVec 1 := Scalar.cmpi .slt arg1 c6_i32
  let false_25 : BitVec 1 := 0#1
  let v53 : BitVec 1 := Scalar.xori v31 false_25
  let true_26 : BitVec 1 := 1#1
  let v54 : BitVec 1 := Scalar.xori v53 true_26
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg1 c4_i32
  let c0_i32_5 : BitVec 32 := 0#32
  let v16 : BitVec 1 := Scalar.cmpi .ne v15 c0_i32_5
  let v17 : BitVec 1 := Scalar.andi v14 v16
  let v3 : BitVec 32 := Scalar.divsi arg1 c4_i32
  let c1_i32 : BitVec 32 := 1#32
  let v18 : BitVec 32 := Scalar.subi v3 c1_i32
  let v19 : BitVec 32 := Scalar.select v17 v18 v3
  let c2_i32 : BitVec 32 := 2#32
  let c0_i32_6 : BitVec 32 := 0#32
  let v20 : BitVec 1 := Scalar.cmpi .eq c2_i32 c0_i32_6
  let c1_i32_7 : BitVec 32 := 1#32
  let v21 : BitVec 32 := Scalar.select v20 c1_i32_7 c2_i32
  let v22 : BitVec 32 := Scalar.remsi v19 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let false_27 : BitVec 1 := 0#1
  let v55 : BitVec 1 := Scalar.xori v30 false_27
  let true_28 : BitVec 1 := 1#1
  let v56 : BitVec 1 := Scalar.xori v55 true_28
  let v57 : BitVec 1 := Scalar.andi v54 v56
  let v58 : BitVec 32 := Scalar.extui v57
  let c0_i32_29 : BitVec 32 := 0#32
  let v59 : BitVec 1 := Scalar.cmpi .ne v58 c0_i32_29
  v59

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.minsi arg1 c5_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi v16 v28
  let c0_i32_12 : BitVec 32 := 0#32
  let v30 : BitVec 1 := Scalar.cmpi .ne v29 c0_i32_12
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let v34 : BitVec 1 := Scalar.andi v33 v30
  let v35 : BitVec 32 := Scalar.addi v29 v28
  let v36 : BitVec 32 := Scalar.select v34 v35 v29
  let c0_i32_15 : BitVec 32 := 0#32
  let v37 : BitVec 1 := Scalar.cmpi .eq v36 c0_i32_15
  let c2_i32_16 : BitVec 32 := 2#32
  let v38 : BitVec 32 := Scalar.divsi v16 c2_i32_16
  let c0_i32_17 : BitVec 32 := 0#32
  let v39 : BitVec 1 := Scalar.cmpi .sgt v16 c0_i32_17
  let v40 : BitVec 32 := Scalar.extui v39
  let c0_i32_18 : BitVec 32 := 0#32
  let v41 : BitVec 1 := Scalar.cmpi .slt v16 c0_i32_18
  let v42 : BitVec 32 := Scalar.extui v41
  let v43 : BitVec 32 := Scalar.subi v40 v42
  let c0_i32_19 : BitVec 32 := 0#32
  let v44 : BitVec 1 := Scalar.cmpi .sgt c2_i32_16 c0_i32_19
  let v45 : BitVec 32 := Scalar.extui v44
  let c0_i32_20 : BitVec 32 := 0#32
  let v46 : BitVec 1 := Scalar.cmpi .slt c2_i32_16 c0_i32_20
  let v47 : BitVec 32 := Scalar.extui v46
  let v48 : BitVec 32 := Scalar.subi v45 v47
  let v49 : BitVec 1 := Scalar.cmpi .ne v43 v48
  let v50 : BitVec 32 := Scalar.remsi v16 c2_i32_16
  let c0_i32_21 : BitVec 32 := 0#32
  let v51 : BitVec 1 := Scalar.cmpi .ne v50 c0_i32_21
  let v52 : BitVec 1 := Scalar.andi v49 v51
  let c1_i32_22 : BitVec 32 := 1#32
  let v53 : BitVec 32 := Scalar.subi v38 c1_i32_22
  let v54 : BitVec 32 := Scalar.select v52 v53 v38
  let c4_i32_23 : BitVec 32 := 4#32
  let v55 : BitVec 32 := Scalar.muli v54 c4_i32_23
  let v56 : BitVec 32 := Scalar.addi v55 v26
  let c2_i32_24 : BitVec 32 := 2#32
  let v57 : BitVec 32 := Scalar.divsi v16 c2_i32_24
  let c0_i32_25 : BitVec 32 := 0#32
  let v58 : BitVec 1 := Scalar.cmpi .sgt v16 c0_i32_25
  let v59 : BitVec 32 := Scalar.extui v58
  let c0_i32_26 : BitVec 32 := 0#32
  let v60 : BitVec 1 := Scalar.cmpi .slt v16 c0_i32_26
  let v61 : BitVec 32 := Scalar.extui v60
  let v62 : BitVec 32 := Scalar.subi v59 v61
  let c0_i32_27 : BitVec 32 := 0#32
  let v63 : BitVec 1 := Scalar.cmpi .sgt c2_i32_24 c0_i32_27
  let v64 : BitVec 32 := Scalar.extui v63
  let c0_i32_28 : BitVec 32 := 0#32
  let v65 : BitVec 1 := Scalar.cmpi .slt c2_i32_24 c0_i32_28
  let v66 : BitVec 32 := Scalar.extui v65
  let v67 : BitVec 32 := Scalar.subi v64 v66
  let v68 : BitVec 1 := Scalar.cmpi .ne v62 v67
  let v69 : BitVec 32 := Scalar.remsi v16 c2_i32_24
  let c0_i32_29 : BitVec 32 := 0#32
  let v70 : BitVec 1 := Scalar.cmpi .ne v69 c0_i32_29
  let v71 : BitVec 1 := Scalar.andi v68 v70
  let c1_i32_30 : BitVec 32 := 1#32
  let v72 : BitVec 32 := Scalar.subi v57 c1_i32_30
  let v73 : BitVec 32 := Scalar.select v71 v72 v57
  let c1_i32_31 : BitVec 32 := 1#32
  let v74 : BitVec 32 := Scalar.addi v73 c1_i32_31
  let c4_i32_32 : BitVec 32 := 4#32
  let v75 : BitVec 32 := Scalar.muli v74 c4_i32_32
  let c1_i32_33 : BitVec 32 := 1#32
  let v76 : BitVec 32 := Scalar.subi v75 c1_i32_33
  let v77 : BitVec 32 := Scalar.select v37 v56 v76
  let c0_i32_34 : BitVec 32 := 0#32
  ![arg0.toNat, v77.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let c0_i32_10 : BitVec 32 := 0#32
  let v27 : BitVec 1 := Scalar.cmpi .eq c2_i32 c0_i32_10
  let c1_i32_11 : BitVec 32 := 1#32
  let v28 : BitVec 32 := Scalar.select v27 c1_i32_11 c2_i32
  let v29 : BitVec 32 := Scalar.remsi v16 v28
  let c0_i32_12 : BitVec 32 := 0#32
  let v30 : BitVec 1 := Scalar.cmpi .ne v29 c0_i32_12
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let v34 : BitVec 1 := Scalar.andi v33 v30
  let v35 : BitVec 32 := Scalar.addi v29 v28
  let v36 : BitVec 32 := Scalar.select v34 v35 v29
  let c1_i32_15 : BitVec 32 := 1#32
  let v37 : BitVec 1 := Scalar.cmpi .eq v36 c1_i32_15
  let c2_i32_16 : BitVec 32 := 2#32
  let v38 : BitVec 32 := Scalar.divsi v16 c2_i32_16
  let c0_i32_17 : BitVec 32 := 0#32
  let v39 : BitVec 1 := Scalar.cmpi .sgt v16 c0_i32_17
  let v40 : BitVec 32 := Scalar.extui v39
  let c0_i32_18 : BitVec 32 := 0#32
  let v41 : BitVec 1 := Scalar.cmpi .slt v16 c0_i32_18
  let v42 : BitVec 32 := Scalar.extui v41
  let v43 : BitVec 32 := Scalar.subi v40 v42
  let c0_i32_19 : BitVec 32 := 0#32
  let v44 : BitVec 1 := Scalar.cmpi .sgt c2_i32_16 c0_i32_19
  let v45 : BitVec 32 := Scalar.extui v44
  let c0_i32_20 : BitVec 32 := 0#32
  let v46 : BitVec 1 := Scalar.cmpi .slt c2_i32_16 c0_i32_20
  let v47 : BitVec 32 := Scalar.extui v46
  let v48 : BitVec 32 := Scalar.subi v45 v47
  let v49 : BitVec 1 := Scalar.cmpi .ne v43 v48
  let v50 : BitVec 32 := Scalar.remsi v16 c2_i32_16
  let c0_i32_21 : BitVec 32 := 0#32
  let v51 : BitVec 1 := Scalar.cmpi .ne v50 c0_i32_21
  let v52 : BitVec 1 := Scalar.andi v49 v51
  let c1_i32_22 : BitVec 32 := 1#32
  let v53 : BitVec 32 := Scalar.subi v38 c1_i32_22
  let v54 : BitVec 32 := Scalar.select v52 v53 v38
  let c4_i32_23 : BitVec 32 := 4#32
  let v55 : BitVec 32 := Scalar.muli v54 c4_i32_23
  let v56 : BitVec 32 := Scalar.addi v55 v26
  let c2_i32_24 : BitVec 32 := 2#32
  let v57 : BitVec 32 := Scalar.divsi v16 c2_i32_24
  let c0_i32_25 : BitVec 32 := 0#32
  let v58 : BitVec 1 := Scalar.cmpi .sgt v16 c0_i32_25
  let v59 : BitVec 32 := Scalar.extui v58
  let c0_i32_26 : BitVec 32 := 0#32
  let v60 : BitVec 1 := Scalar.cmpi .slt v16 c0_i32_26
  let v61 : BitVec 32 := Scalar.extui v60
  let v62 : BitVec 32 := Scalar.subi v59 v61
  let c0_i32_27 : BitVec 32 := 0#32
  let v63 : BitVec 1 := Scalar.cmpi .sgt c2_i32_24 c0_i32_27
  let v64 : BitVec 32 := Scalar.extui v63
  let c0_i32_28 : BitVec 32 := 0#32
  let v65 : BitVec 1 := Scalar.cmpi .slt c2_i32_24 c0_i32_28
  let v66 : BitVec 32 := Scalar.extui v65
  let v67 : BitVec 32 := Scalar.subi v64 v66
  let v68 : BitVec 1 := Scalar.cmpi .ne v62 v67
  let v69 : BitVec 32 := Scalar.remsi v16 c2_i32_24
  let c0_i32_29 : BitVec 32 := 0#32
  let v70 : BitVec 1 := Scalar.cmpi .ne v69 c0_i32_29
  let v71 : BitVec 1 := Scalar.andi v68 v70
  let c1_i32_30 : BitVec 32 := 1#32
  let v72 : BitVec 32 := Scalar.subi v57 c1_i32_30
  let v73 : BitVec 32 := Scalar.select v71 v72 v57
  let c4_i32_31 : BitVec 32 := 4#32
  let v74 : BitVec 32 := Scalar.muli v73 c4_i32_31
  let c1_i32_32 : BitVec 32 := 1#32
  let v75 : BitVec 32 := Scalar.subi v74 c1_i32_32
  let c0_i32_33 : BitVec 32 := 0#32
  let v76 : BitVec 32 := Scalar.maxsi v75 c0_i32_33
  let v77 : BitVec 32 := Scalar.select v37 v56 v76
  let c0_i32_34 : BitVec 32 := 0#32
  ![arg0.toNat, v77.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S16x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S8192x2048 : Shape := ⟨2, ![8192, 2048]⟩
abbrev S2048 : Shape := ⟨1, ![2048]⟩
abbrev S2048x16400 : Shape := ⟨2, ![2048, 16400]⟩
abbrev S16384x2048 : Shape := ⟨2, ![16384, 2048]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x16400 : Shape := ⟨2, ![8192, 16400]⟩
abbrev S8192x1024 : Shape := ⟨2, ![8192, 1024]⟩
abbrev S8192x16 : Shape := ⟨2, ![8192, 16]⟩
abbrev S8192x8192 : Shape := ⟨2, ![8192, 8192]⟩
abbrev S8192x128 : Shape := ⟨2, ![8192, 128]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x16400, .f32⟩
  | .hbm, ⟨3, _⟩ => ⟨S16384x2048, .f32⟩
  | .hbm, ⟨4, _⟩ => ⟨S16384x2048, .f32⟩
  | .hbm, ⟨5, _⟩ => ⟨S2048x2048, .f32⟩
  | .hbm, ⟨6, _⟩ => ⟨S2048x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x16400, .f32⟩
  | .hbm, ⟨24, _⟩ => ⟨S8192x1024, .f32⟩
  | .hbm, ⟨25, _⟩ => ⟨S8192x1024, .f32⟩
  | .hbm, ⟨26, _⟩ => ⟨S8192x2048, .f32⟩
  | .hbm, ⟨27, _⟩ => ⟨S8192x2048, .f32⟩
  | .hbm, ⟨28, _⟩ => ⟨S8192x16, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x8192, .f32⟩
  | .hbm, ⟨35, _⟩ => ⟨S8192x8192, .f32⟩
  | .hbm, ⟨36, _⟩ => ⟨S8192x8192, .bf16⟩
  | .hbm, ⟨37, _⟩ => ⟨S_, .i32⟩
  | .hbm, ⟨38, _⟩ => ⟨S_, .f32⟩
  | .hbm, ⟨39, _⟩ => ⟨S8192x128, .f32⟩
  | .hbm, ⟨40, _⟩ => ⟨S_, .f32⟩
  | .hbm, ⟨41, _⟩ => ⟨S16384x2048, .f32⟩
  | .hbm, ⟨42, _⟩ => ⟨S16384x2048, .f32⟩
  | .hbm, ⟨43, _⟩ => ⟨S16384x2048, .bf16⟩
  | .hbm, ⟨44, _⟩ => ⟨S16384x2048, .bf16⟩
  | .hbm, ⟨45, _⟩ => ⟨S2048x2048, .bf16⟩
  | .hbm, ⟨46, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_call0_v0 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel3.lean ====
abbrev S8192x2048 : Shape := ⟨2, ![8192, 2048]⟩
abbrev S8192x8192 : Shape := ⟨2, ![8192, 8192]⟩
abbrev S2048 : Shape := ⟨1, ![2048]⟩
abbrev S3x2048 : Shape := ⟨2, ![3, 2048]⟩
abbrev S2048x2048 : Shape := ⟨2, ![2048, 2048]⟩
abbrev S1x2048 : Shape := ⟨2, ![1, 2048]⟩
abbrev S2048x8192 : Shape := ⟨2, ![2048, 8192]⟩
abbrev S32x8x2048 : Shape := ⟨3, ![32, 8, 2048]⟩
abbrev S256x2048 : Shape := ⟨2, ![256, 2048]⟩
abbrev S8x2048 : Shape := ⟨2, ![8, 2048]⟩
abbrev S2048x256 : Shape := ⟨2, ![2048, 256]⟩
abbrev S1x8x2048 : Shape := ⟨3, ![1, 8, 2048]⟩
abbrev S256x512 : Shape := ⟨2, ![256, 512]⟩
abbrev S8x512 : Shape := ⟨2, ![8, 512]⟩
abbrev S1x512 : Shape := ⟨2, ![1, 512]⟩
abbrev S1x8x512 : Shape := ⟨3, ![1, 8, 512]⟩
abbrev S256 : Shape := ⟨1, ![256]⟩
abbrev S256x1 : Shape := ⟨2, ![256, 1]⟩
abbrev S4x8x8x2048 : Shape := ⟨4, ![4, 8, 8, 2048]⟩
abbrev S4x1x2x2048 : Shape := ⟨4, ![4, 1, 2, 2048]⟩
abbrev S4x2x2048 : Shape := ⟨3, ![4, 2, 2048]⟩

abbrev nBuf : Space → Nat
  | .hbm => 20
  | .vmem => 35
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x8192, .bf16⟩
  | .hbm, ⟨3, _⟩ => ⟨S8192x2048, .f32⟩
  | .hbm, ⟨4, _⟩ => ⟨S2048, .f32⟩
  | .hbm, ⟨5, _⟩ => ⟨S3x2048, .f32⟩
  | .hbm, ⟨6, _⟩ => ⟨S2048, .f32⟩
  | .hbm, ⟨7, _⟩ => ⟨S2048, .f32⟩
  | .hbm, ⟨8, _⟩ => ⟨S2048x2048, .bf16⟩
  | .hbm, ⟨9, _⟩ => ⟨S2048x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S8192x2048, .f32⟩
  | .hbm, ⟨14, _⟩ => ⟨S2048x8192, .bf16⟩
  | .hbm, ⟨15, _⟩ => ⟨S8192x2048, .f32⟩
  | .hbm, ⟨16, _⟩ => ⟨S32x8x2048, .f32⟩
  | .hbm, ⟨17, _⟩ => ⟨S4x8x8x2048, .f32⟩
  | .hbm, ⟨18, _⟩ => ⟨S4x1x2x2048, .f32⟩
  | .hbm, ⟨19, _⟩ => ⟨S4x2x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S8x2048, .f32⟩
  | .local _ .vmem, ⟨15, _⟩ => ⟨S8x2048, .f32⟩
  | .local _ .vmem, ⟨16, _⟩ => ⟨S8x2048, .f32⟩
  | .local _ .vmem, ⟨17, _⟩ => ⟨S8x2048, .f32⟩
  | .local _ .vmem, ⟨18, _⟩ => ⟨S1x2048, .f32⟩
  | .local _ .vmem, ⟨19, _⟩ => ⟨S3x2048, .f32⟩
  | .local _ .vmem, ⟨20, _⟩ => ⟨S1x2048, .f32⟩
  | .local _ .vmem, ⟨21, _⟩ => ⟨S256x2048, .f32⟩
  | .local _ .vmem, ⟨22, _⟩ => ⟨S256x2048, .f32⟩
  | .local _ .vmem, ⟨23, _⟩ => ⟨S2048x2048, .bf16⟩
  | .local _ .vmem, ⟨24, _⟩ => ⟨S1x2048, .f32⟩
  | .local _ .vmem, ⟨25, _⟩ => ⟨S2048x2048, .bf16⟩
  | .local _ .vmem, ⟨26, _⟩ => ⟨S256x2048, .f32⟩
  | .local _ .vmem, ⟨27, _⟩ => ⟨S256x2048, .f32⟩
  | .local _ .vmem, ⟨28, _⟩ => ⟨S2048x256, .bf16⟩
  | .local _ .vmem, ⟨29, _⟩ => ⟨S2048x256, .bf16⟩
  | .local _ .vmem, ⟨30, _⟩ => ⟨S256x2048, .f32⟩
  | .local _ .vmem, ⟨31, _⟩ => ⟨S256x2048, .f32⟩
  | .local _ .vmem, ⟨32, _⟩ => ⟨S1x8x2048, .f32⟩
  | .local _ .vmem, ⟨33, _⟩ => ⟨S1x8x2048, .f32⟩
  | .local _ .vmem, ⟨34, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x2048 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S8192x2048 : Shape := ⟨2, ![8192, 2048]⟩
abbrev S8192x8192 : Shape := ⟨2, ![8192, 8192]⟩
abbrev S2048 : Shape := ⟨1, ![2048]⟩
abbrev S3x2048 : Shape := ⟨2, ![3, 2048]⟩
abbrev S2048x2048 : Shape := ⟨2, ![2048, 2048]⟩
abbrev S8192x4x512 : Shape := ⟨3, ![8192, 4, 512]⟩
abbrev S4x512 : Shape := ⟨2, ![4, 512]⟩
abbrev S_ : Shape := ⟨0, ![]⟩
abbrev S8192x4 : Shape := ⟨2, ![8192, 4]⟩
abbrev S8192x4x1 : Shape := ⟨3, ![8192, 4, 1]⟩
abbrev S1x4x512 : Shape := ⟨3, ![1, 4, 512]⟩
abbrev S4x2048x2048 : Shape := ⟨3, ![4, 2048, 2048]⟩
abbrev S4x2050x2048 : Shape := ⟨3, ![4, 2050, 2048]⟩
abbrev S1x2048 : Shape := ⟨2, ![1, 2048]⟩
abbrev S1x1x2048 : Shape := ⟨3, ![1, 1, 2048]⟩
abbrev S8192 : Shape := ⟨1, ![8192]⟩
abbrev S8192x1 : Shape := ⟨2, ![8192, 1]⟩
abbrev S2048x8192 : Shape := ⟨2, ![2048, 8192]⟩
abbrev S4x2x2048 : Shape := ⟨3, ![4, 2, 2048]⟩

abbrev nBuf : Space → Nat
  | .hbm => 122
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x8192, .f32⟩
  | .hbm, ⟨2, _⟩ => ⟨S8192x8192, .bf16⟩
  | .hbm, ⟨3, _⟩ => ⟨S8192x2048, .f32⟩
  | .hbm, ⟨4, _⟩ => ⟨S2048, .f32⟩
  | .hbm, ⟨5, _⟩ => ⟨S3x2048, .f32⟩
  | .hbm, ⟨6, _⟩ => ⟨S2048, .f32⟩
  | .hbm, ⟨7, _⟩ => ⟨S2048, .f32⟩
  | .hbm, ⟨8, _⟩ => ⟨S2048x2048, .bf16⟩
  | .hbm, ⟨9, _⟩ => ⟨S2048x2048, .bf16⟩
  | .hbm, ⟨10, _⟩ => ⟨S8192x2048, .f32⟩
  | .hbm, ⟨11, _⟩ => ⟨S8192x2048, .f32⟩
  | .hbm, ⟨12, _⟩ => ⟨S8192x2048, .bf16⟩
  | .hbm, ⟨13, _⟩ => ⟨S8192x2048, .f32⟩
  | .hbm, ⟨14, _⟩ => ⟨S8192x2048, .bf16⟩
  | .hbm, ⟨15, _⟩ => ⟨S8192x2048, .f32⟩
  | .hbm, ⟨16, _⟩ => ⟨S8192x2048, .bf16⟩
  | .hbm, ⟨17, _⟩ => ⟨S8192x2048, .f32⟩
  | .hbm, ⟨18, _⟩ => ⟨S8192x2048, .bf16⟩
  | .hbm, ⟨19, _⟩ => ⟨S8192x2048, .f32⟩
  | .hbm, ⟨20, _⟩ => ⟨S8192x4x512, .f32⟩
  | .hbm, ⟨21, _⟩ => ⟨S4x512, .f32⟩
  | .hbm, ⟨22, _⟩ => ⟨S8192x4x512, .f32⟩
  | .hbm, ⟨23, _⟩ => ⟨S_, .f32⟩
  | .hbm, ⟨24, _⟩ => ⟨S8192x4, .f32⟩
  | .hbm, ⟨25, _⟩ => ⟨S8192x4x1, .f32⟩
  | .hbm, ⟨26, _⟩ => ⟨S_, .f32⟩
  | .hbm, ⟨27, _⟩ => ⟨S8192x4x1, .f32⟩
  | .hbm, ⟨28, _⟩ => ⟨S8192x4x1, .f32⟩
  | .hbm, ⟨29, _⟩ => ⟨S_, .f32⟩
  | .hbm, ⟨30, _⟩ => ⟨S8192x4x1, .f32⟩
  | .hbm, ⟨31, _⟩ => ⟨S8192x4x1, .f32⟩
  | .hbm, ⟨32, _⟩ => ⟨S8192x4x1, .f32⟩
  | .hbm, ⟨33, _⟩ => ⟨S8192x4x512, .f32⟩
  | .hbm, ⟨34, _⟩ => ⟨S8192x4x512, .f32⟩
  | .hbm, ⟨35, _⟩ => ⟨S1x4x512, .f32⟩
  | .hbm, ⟨36, _⟩ => ⟨S8192x4x512, .f32⟩
  | .hbm, ⟨37, _⟩ => ⟨S8192x4x512, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S4x2048x2048, .f32⟩
  | .hbm, ⟨51, _⟩ => ⟨S_, .i32⟩
  | .hbm, ⟨52, _⟩ => ⟨S_, .f32⟩
  | .hbm, ⟨53, _⟩ => ⟨S4x2050x2048, .f32⟩
  | .hbm, ⟨54, _⟩ => ⟨S4x2048x2048, .f32⟩
  | .hbm, ⟨55, _⟩ => ⟨S1x2048, .f32⟩
  | .hbm, ⟨56, _⟩ => ⟨S2048, .f32⟩
  | .hbm, ⟨57, _⟩ => ⟨S1x1x2048, .f32⟩
  | .hbm, ⟨58, _⟩ => ⟨S4x2048x2048, .f32⟩
  | .hbm, ⟨59, _⟩ => ⟨S4x2048x2048, .f32⟩
  | .hbm, ⟨60, _⟩ => ⟨S1x1x2048, .f32⟩
  | .hbm, ⟨61, _⟩ => ⟨S4x2048x2048, .f32⟩
  | .hbm, ⟨62, _⟩ => ⟨S4x2048x2048, .f32⟩
  | .hbm, ⟨63, _⟩ => ⟨S4x2048x2048, .f32⟩
  | .hbm, ⟨64, _⟩ => ⟨S1x2048, .f32⟩
  | .hbm, ⟨65, _⟩ => ⟨S2048, .f32⟩
  | .hbm, ⟨66, _⟩ => ⟨S1x1x2048, .f32⟩
  | .hbm, ⟨67, _⟩ => ⟨S4x2048x2048, .f32⟩
  | .hbm, ⟨68, _⟩ => ⟨S4x2048x2048, .f32⟩
  | .hbm, ⟨69, _⟩ => ⟨S4x2048x2048, .f32⟩
  | .hbm, ⟨70, _⟩ => ⟨S4x2048x2048, .f32⟩
  | .hbm, ⟨71, _⟩ => ⟨S1x2048, .f32⟩
  | .hbm, ⟨72, _⟩ => ⟨S2048, .f32⟩
  | .hbm, ⟨73, _⟩ => ⟨S1x1x2048, .f32⟩
  | .hbm, ⟨74, _⟩ => ⟨S4x2048x2048, .f32⟩
  | .hbm, ⟨75, _⟩ => ⟨S4x2048x2048, .f32⟩
  | .hbm, ⟨76, _⟩ => ⟨S4x2048x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S8192x2048, .f32⟩
  | .hbm, ⟨83, _⟩ => ⟨S8192x2048, .f32⟩
  | .hbm, ⟨84, _⟩ => ⟨S_, .f32⟩
  | .hbm, ⟨85, _⟩ => ⟨S8192x2048, .f32⟩
  | .hbm, ⟨86, _⟩ => ⟨S8192x2048, .f32⟩
  | .hbm, ⟨87, _⟩ => ⟨S8192x2048, .f32⟩
  | .hbm, ⟨88, _⟩ => ⟨S8192x2048, .f32⟩
  | .hbm, ⟨89, _⟩ => ⟨S8192x2048, .f32⟩
  | .hbm, ⟨90, _⟩ => ⟨S_, .f32⟩
  | .hbm, ⟨91, _⟩ => ⟨S8192x2048, .f32⟩
  | .hbm, ⟨92, _⟩ => ⟨S8192x2048, .f32⟩
  | .hbm, ⟨93, _⟩ => ⟨S_, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S8192x2048, .f32⟩
  | .hbm, ⟨98, _⟩ => ⟨S2048x2048, .f32⟩
  | .hbm, ⟨99, _⟩ => ⟨S8192x2048, .f32⟩
  | .hbm, ⟨100, _⟩ => ⟨S8192x2048, .f32⟩
  | .hbm, ⟨101, _⟩ => ⟨S8192x2048, .f32⟩
  | .hbm, ⟨102, _⟩ => ⟨S_, .f32⟩
  | .hbm, ⟨103, _⟩ => ⟨S8192, .f32⟩
  | .hbm, ⟨104, _⟩ => ⟨S8192x1, .f32⟩
  | .hbm, ⟨105, _⟩ => ⟨S_, .f32⟩
  | .hbm, ⟨106, _⟩ => ⟨S8192x1, .f32⟩
  | .hbm, ⟨107, _⟩ => ⟨S8192x1, .f32⟩
  | .hbm, ⟨108, _⟩ => ⟨S_, .f32⟩
  | .hbm, ⟨109, _⟩ => ⟨S8192x1, .f32⟩
  | .hbm, ⟨110, _⟩ => ⟨S8192x1, .f32⟩
  | .hbm, ⟨111, _⟩ => ⟨S8192x1, .f32⟩
  | .hbm, ⟨112, _⟩ => ⟨S8192x2048, .f32⟩
  | .hbm, ⟨113, _⟩ => ⟨S8192x2048, .f32⟩
  | .hbm, ⟨114, _⟩ => ⟨S1x2048, .f32⟩
  | .hbm, ⟨115, _⟩ => ⟨S8192x2048, .f32⟩
  | .hbm, ⟨116, _⟩ => ⟨S8192x2048, .f32⟩
  | .hbm, ⟨117, _⟩ => ⟨S2048x8192, .f32⟩
  | .hbm, ⟨118, _⟩ => ⟨S2048x8192, .bf16⟩
  | .hbm, ⟨119, _⟩ => ⟨S2048x2048, .f32⟩
  | .hbm, ⟨120, _⟩ => ⟨S8192x2048, .f32⟩
  | .hbm, ⟨121, _⟩ => ⟨S4x2x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c : Ref sig .tc := ⟨.hbm, 51, rfl⟩
abbrev main_call1_v0 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_2 : Ref sig .tc := ⟨.hbm, 81, rfl⟩
abbrev main_v58 : Ref sig .tc := ⟨.hbm, 82, rfl⟩
abbrev main_v59 : Ref sig .tc := ⟨.hbm, 83, rfl⟩
abbrev main_cst_3 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_4 : Ref sig .tc := ⟨.hbm, 90, rfl⟩
abbrev main_v65 : Ref sig .tc := ⟨.hbm, 91, rfl⟩
abbrev main_v66 : Ref sig .tc := ⟨.hbm, 92, rfl⟩
abbrev main_cst_5 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_6 : Ref sig .tc := ⟨.hbm, 102, rfl⟩
abbrev main_v75 : Ref sig .tc := ⟨.hbm, 103, rfl⟩
abbrev main_v76 : Ref sig .tc := ⟨.hbm, 104, rfl⟩
abbrev main_cst_7 : Ref sig .tc := ⟨.hbm, 105, rfl⟩
abbrev main_v77 : Ref sig .tc := ⟨.hbm, 106, rfl⟩
abbrev main_v78 : Ref sig .tc := ⟨.hbm, 107, rfl⟩
abbrev main_cst_8 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩

abbrev nD : Nat := 1
abbrev τ : Topo := Topo.v7x

variable {F : FTy → Type} [FloatOps F]
-- ==== Kernel4.lean ====
abbrev S128x8192 : Shape := ⟨2, ![128, 8192]⟩
abbrev S128x128 : Shape := ⟨2, ![128, 128]⟩
abbrev S128x1024 : Shape := ⟨2, ![128, 1024]⟩
abbrev S1x1024 : Shape := ⟨2, ![1, 1024]⟩
abbrev S128x4x256x512 : Shape := ⟨4, ![128, 4, 256, 512]⟩
abbrev S128x1x8192 : Shape := ⟨3, ![128, 1, 8192]⟩
abbrev S128x1x128 : Shape := ⟨3, ![128, 1, 128]⟩
abbrev S128x1x2048 : Shape := ⟨3, ![128, 1, 2048]⟩
abbrev S4x1x1024 : Shape := ⟨3, ![4, 1, 1024]⟩
abbrev S4x1x2048 : Shape := ⟨3, ![4, 1, 2048]⟩
abbrev S4x1x128 : Shape := ⟨3, ![4, 1, 128]⟩
abbrev S4x4x256x512 : Shape := ⟨4, ![4, 4, 256, 512]⟩
abbrev S8x256 : Shape := ⟨2, ![8, 256]⟩
abbrev S1x1x128 : Shape := ⟨3, ![1, 1, 128]⟩
abbrev S1x128 : Shape := ⟨2, ![1, 128]⟩
abbrev S8x128 : Shape := ⟨2, ![8, 128]⟩
abbrev S8x1024 : Shape := ⟨2, ![8, 1024]⟩
abbrev S1x1x256 : Shape := ⟨3, ![1, 1, 256]⟩
abbrev S1x256 : Shape := ⟨2, ![1, 256]⟩
abbrev S1x1x512 : Shape := ⟨3, ![1, 1, 512]⟩
abbrev S1x512 : Shape := ⟨2, ![1, 512]⟩
abbrev S8x512 : Shape := ⟨2, ![8, 512]⟩
abbrev S1x1x256x512 : Shape := ⟨4, ![1, 1, 256, 512]⟩
abbrev S256x512 : Shape := ⟨2, ![256, 512]⟩
abbrev S8 : Shape := ⟨1, ![8]⟩
abbrev S8x1 : Shape := ⟨2, ![8, 1]⟩
abbrev S128x256 : Shape := ⟨2, ![128, 256]⟩
abbrev S256x128 : Shape := ⟨2, ![256, 128]⟩

abbrev nBuf : Space → Nat
  | .hbm => 9
  | .vmem => 16
  | .smem => 0
  | _ => 0

abbrev bufTy : (tb : Table) → Fin (tcTables nBuf tb) → BufTy
  | .hbm, ⟨0, _⟩ => ⟨S128x8192, .f32⟩
  | .hbm, ⟨1, _⟩ => ⟨S128x128, .f32⟩
  | .hbm, ⟨2, _⟩ => ⟨S128x1024, .bf16⟩
  | .hbm, ⟨3, _⟩ => ⟨S1x1024, .f32⟩
  | .hbm, ⟨4, _⟩ => ⟨S128x4x256x512, .f32⟩
  | .hbm, ⟨5, _⟩ => ⟨S128x1x8192, .f32⟩
  | .hbm, ⟨6, _⟩ => ⟨S128x1x128, .f32⟩
  | .hbm, ⟨7, _⟩ => ⟨S128x1x2048, .f32⟩
  | .hbm, ⟨8, _⟩ => ⟨S128x4x256x512, .f32⟩
  | .local _ .vmem, ⟨0, _⟩ => ⟨S4x1x1024, .f32⟩
  | .local _ .vmem, ⟨1, _⟩ => ⟨S4x1x1024, .f32⟩
  | .local _ .vmem, ⟨2, _⟩ => ⟨S4x1x1024, .f32⟩
  | .local _ .vmem, ⟨3, _⟩ => ⟨S4x1x1024, .f32⟩
  | .local _ .vmem, ⟨4, _⟩ => ⟨S4x1x2048, .f32⟩
  | .local _ .vmem, ⟨5, _⟩ => ⟨S4x1x2048, .f32⟩
  | .local _ .vmem, ⟨6, _⟩ => ⟨S4x1x128, .f32⟩
  | .local _ .vmem, ⟨7, _⟩ => ⟨S4x1x128, .f32⟩
  | .local _ .vmem, ⟨8, _⟩ => ⟨S128x1024, .bf16⟩
  | .local _ .vmem, ⟨9, _⟩ => ⟨S1x1024, .f32⟩
  | .local _ .vmem, ⟨10, _⟩ => ⟨S4x4x256x512, .f32⟩
  | .local _ .vmem, ⟨11, _⟩ => ⟨S4x4x256x512, .f32⟩
  | .local _ .vmem, ⟨12, _⟩ => ⟨S4x1x2048, .f32⟩
  | .local _ .vmem, ⟨13, _⟩ => ⟨S4x1x2048, .f32⟩
  | .local _ .vmem, ⟨14, _⟩ => ⟨S4x4x256x512, .f32⟩
  | .local _ .vmem, ⟨15, _⟩ => ⟨S4x4x256x512, .f32⟩
  | _, _ => ⟨S128x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x4x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S128x8192 : Shape := ⟨2, ![128, 8192]⟩
abbrev S128x128 : Shape := ⟨2, ![128, 128]⟩
abbrev S128x1024 : Shape := ⟨2, ![128, 1024]⟩
abbrev S1x1024 : Shape := ⟨2, ![1, 1024]⟩
abbrev S128x4x256x512 : Shape := ⟨4, ![128, 4, 256, 512]⟩
abbrev S_ : Shape := ⟨0, ![]⟩
abbrev S128x4x1x256 : Shape := ⟨4, ![128, 4, 1, 256]⟩
abbrev S128x2048 : Shape := ⟨2, ![128, 2048]⟩
abbrev S128x4x1x512 : Shape := ⟨4, ![128, 4, 1, 512]⟩
abbrev S128x4x1x1x256 : Shape := ⟨5, ![128, 4, 1, 1, 256]⟩
abbrev S128x4x1x1 : Shape := ⟨4, ![128, 4, 1, 1]⟩
abbrev S128x4x256 : Shape := ⟨3, ![128, 4, 256]⟩
abbrev S128x4x256x1 : Shape := ⟨4, ![128, 4, 256, 1]⟩
abbrev S128x1x2048 : Shape := ⟨3, ![128, 1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S128x8192, .f32⟩
  | .hbm, ⟨1, _⟩ => ⟨S128x128, .f32⟩
  | .hbm, ⟨2, _⟩ => ⟨S128x1024, .bf16⟩
  | .hbm, ⟨3, _⟩ => ⟨S1x1024, .f32⟩
  | .hbm, ⟨4, _⟩ => ⟨S128x4x256x512, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S128x1024, .i1⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x4x1x256, .f32⟩
  | .hbm, ⟨29, _⟩ => ⟨S128x1024, .f32⟩
  | .hbm, ⟨30, _⟩ => ⟨S128x4x1x256, .f32⟩
  | .hbm, ⟨31, _⟩ => ⟨S_, .f32⟩
  | .hbm, ⟨32, _⟩ => ⟨S128x4x1x256, .f32⟩
  | .hbm, ⟨33, _⟩ => ⟨S128x4x1x256, .f32⟩
  | .hbm, ⟨34, _⟩ => ⟨S128x1024, .f32⟩
  | .hbm, ⟨35, _⟩ => ⟨S128x4x1x256, .f32⟩
  | .hbm, ⟨36, _⟩ => ⟨S128x2048, .f32⟩
  | .hbm, ⟨37, _⟩ => ⟨S128x4x1x512, .f32⟩
  | .hbm, ⟨38, _⟩ => ⟨S128x4x1x1x256, .f32⟩
  | .hbm, ⟨39, _⟩ => ⟨S128x4x1x1x256, .f32⟩
  | .hbm, ⟨40, _⟩ => ⟨S128x4x1x1x256, .f32⟩
  | .hbm, ⟨41, _⟩ => ⟨S128x4x1x1x256, .f32⟩
  | .hbm, ⟨42, _⟩ => ⟨S128x4x1x1x256, .f32⟩
  | .hbm, ⟨43, _⟩ => ⟨S128x4x1x1x256, .f32⟩
  | .hbm, ⟨44, _⟩ => ⟨S128x4x1x1x256, .f32⟩
  | .hbm, ⟨45, _⟩ => ⟨S128x4x1x1x256, .f32⟩
  | .hbm, ⟨46, _⟩ => ⟨S_, .f32⟩
  | .hbm, ⟨47, _⟩ => ⟨S128x4x1x1, .f32⟩
  | .hbm, ⟨48, _⟩ => ⟨S128x4x1x512, .f32⟩
  | .hbm, ⟨49, _⟩ => ⟨S128x4x1x256, .f32⟩
  | .hbm, ⟨50, _⟩ => ⟨S128x4x1x256, .f32⟩
  | .hbm, ⟨51, _⟩ => ⟨S128x4x1x512, .f32⟩
  | .hbm, ⟨52, _⟩ => ⟨S128x4x1x512, .f32⟩
  | .hbm, ⟨53, _⟩ => ⟨S128x4x256, .f32⟩
  | .hbm, ⟨54, _⟩ => ⟨S128x4x256, .f32⟩
  | .hbm, ⟨55, _⟩ => ⟨S128x4x256x1, .f32⟩
  | .hbm, ⟨56, _⟩ => ⟨S128x4x256x512, .f32⟩
  | .hbm, ⟨57, _⟩ => ⟨S128x4x256x512, .f32⟩
  | .hbm, ⟨58, _⟩ => ⟨S128x4x1x256, .f32⟩
  | .hbm, ⟨59, _⟩ => ⟨S128x4x1x256, .f32⟩
  | .hbm, ⟨60, _⟩ => ⟨S128x4x1x256, .f32⟩
  | .hbm, ⟨61, _⟩ => ⟨S128x4x256x512, .f32⟩
  | .hbm, ⟨62, _⟩ => ⟨S128x4x256x512, .f32⟩
  | .hbm, ⟨63, _⟩ => ⟨S128x1x2048, .f32⟩
  | _, _ => ⟨S128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Proof.IdealOut.lean ====
/- The rows of the output block that the loop over the chunks stores do not depend on what the
   block held when the loop began: each chunk stores whole rows computed from the inputs and the carried state. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One chunk's stores, found by running its body, are the same whatever the output block holds. -/
theorem trip_k0_t1_out (𝒱 : Variants) (c : Dev nD) (bd : Option 𝒱.V) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (arg2 : BitVec 32) (v26 : IVec S512x1024 32) (v32 : FVec F S512x1024 .f32) (v34 : IVec S512x1024 1) (v35 : FVec F S512x1024 .f32) (v66 : IVec S64x256 32) (v69 : IVec S64x64 32) (v70 : IVec S64x64 32) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (k : Fin k0_t1_loop.trips) (g g' : BufTy.Contents (Elt F) arg9.view.ty) (h : BufTy.Contents (Elt F) arg11.view.ty) :
    tripL_k0_t1 (F := F) 𝒱 c bd i arg3 harg3 arg4 harg4 arg5 harg5 arg6 harg6 arg7 harg7 arg8 harg8 arg9 harg9 arg10 harg10 arg11 harg11 arg12 harg12 arg2 v26 v32 v34 v35 v66 v69 v70 X_arg3 X_arg4 X_arg5 X_arg12 k g h = tripL_k0_t1 (F := F) 𝒱 c bd i arg3 harg3 arg4 harg4 arg5 harg5 arg6 harg6 arg7 harg7 arg8 harg8 arg9 harg9 arg10 harg10 arg11 harg11 arg12 harg12 arg2 v26 v32 v34 v35 v66 v69 v70 X_arg3 X_arg4 X_arg5 X_arg12 k g' h := by
  unfold tripL_k0_t1 trip_k0_t1; rfl

/-- The stores of the first `n` chunks are the same whatever the output block held when the loop began. -/
theorem pb_k0_t1_out (𝒱 : Variants) (c : Dev nD) (bd : Option 𝒱.V) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (arg2 : BitVec 32) (v26 : IVec S512x1024 32) (v32 : FVec F S512x1024 .f32) (v34 : IVec S512x1024 1) (v35 : FVec F S512x1024 .f32) (v66 : IVec S64x256 32) (v69 : IVec S64x64 32) (v70 : IVec S64x64 32) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (g g' : BufTy.Contents (Elt F) arg9.view.ty) (h : BufTy.Contents (Elt F) arg11.view.ty) (n : ℕ) :
    pb_k0_t1 (F := F) 𝒱 c bd i arg3 harg3 arg4 harg4 arg5 harg5 arg6 harg6 arg7 harg7 arg8 harg8 arg9 harg9 arg10 harg10 arg11 harg11 arg12 harg12 arg2 v26 v32 v34 v35 v66 v69 v70 X_arg3 X_arg4 X_arg5 X_arg12 g h n = pb_k0_t1 (F := F) 𝒱 c bd i arg3 harg3 arg4 harg4 arg5 harg5 arg6 harg6 arg7 harg7 arg8 harg8 arg9 harg9 arg10 harg10 arg11 harg11 arg12 harg12 arg2 v26 v32 v34 v35 v66 v69 v70 X_arg3 X_arg4 X_arg5 X_arg12 g' h n := by
  induction n with
  | zero => rfl
  | succ n ih =>
    rw [pb_k0_t1.eq_2, pb_k0_t1.eq_2, ih]
    unfold pb_k0_t1Step
    split
    · rw [trip_k0_t1_out (F := F) 𝒱 c bd i arg3 harg3 arg4 harg4 arg5 harg5 arg6 harg6 arg7 harg7 arg8 harg8 arg9 harg9 arg10 harg10 arg11 harg11 arg12 harg12 arg2 v26 v32 v34 v35 v66 v69 v70 X_arg3 X_arg4 X_arg5 X_arg12 _ _ (arg9.view.writes (Elt F) g' (pb_k0_t1 (F := F) 𝒱 c bd i arg3 harg3 arg4 harg4 arg5 harg5 arg6 harg6 arg7 harg7 arg8 harg8 arg9 harg9 arg10 harg10 arg11 harg11 arg12 harg12 arg2 v26 v32 v34 v35 v66 v69 v70 X_arg3 X_arg4 X_arg5 X_arg12 g' h n).1)]
    · rfl

end Cert.KernelIdeal.Own

end
-- ==== Proof.IdealRunA.lean ====
/- The body of the kernel run at a first time block of a batch row (case A of the frame): the
   stores it makes into each buffer, with the proof that it runs to its end. The generated text of this case, with one
   step put in: the stores of the loop over the chunks are restated as made over a fixed block (`pb_k0_t1_out`). -/
module

public import proofs.«01_k».proof.Proof.IdealOut

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 4, 8, 12), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : cond0_0 i) (hc1 : ¬cond0_1 i)
    (x0 : Vec F S512x1024 .f32) (x1 : Vec F S512x1024 .f32) (x2 : Vec F S512x2048 .f32) (x3 : Vec F S512x128 .f32) (x4 : Vec F S128x1024 .bf16) (x5 : Vec F S1x1024 .f32) :
    Σ' (L6 : List (View.Piece (Elt F) S512x2048 .f32)), Σ' (L7 : List (View.Piece (Elt F) S1x4x256x512 .f32)), { LS0 : List (View.Piece (Elt F) S4x256x512 .f32) //
      ∀ (xi7 : Vec F S1x4x256x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xi7 ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xi7 ∗ (∃ f, arg11.view.loc (c : Thread nD τ) ↦[arg11.view.set]{fullShare} arg11.view.writes (Elt F) f LS0) ∗ (∃ d, owns (c : Thread nD τ) arg12 fullShare d)) -∗ K ⟨⟩))
          ⊢ wp frame (wpE (defs₀ (F := F)) Variants.none c none) E (cc0_gla_prompt i arg3 harg3 arg4 harg4 arg5 harg5 arg6 harg6 arg7 harg7 arg8 harg8 arg9 harg9 arg10 harg10 arg11 harg11 arg12 harg12) K } := by
  refine ⟨?_, [], ?_, fun xi7 E K => ?run⟩
  case run =>
    simp only [cc0_gla_prompt_eq_skeleton]; unfold cc0_gla_prompt_skel
    simp only [k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    rw [pb_k0_t1_out (g := f6) (g' := arg9.view.junk)]
    isplitl [H6]; · iexists _; iexact H6
    isplitl [H7]
    · iexists _; isplitr; · ipureintro; exact harg10.read_unread _
      iexact H7
    isplitl [HS0]; · iexists _; iexact HS0
    iexists _, _; isplitr; swap; · iexact HS1
    ipureintro; rfl

end Cert.KernelIdeal.Own

end
-- ==== Proof.IdealRunB.lean ====
/- The body of the kernel run at a middle time block (case B of the frame): the
   stores it makes into each buffer, with the proof that it runs to its end. The generated text of this case, with one
   step put in: the stores of the loop over the chunks are restated as made over a fixed block (`pb_k0_t1_out`). -/
module

public import proofs.«01_k».proof.Proof.IdealRunA

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 14: 8 of 16), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : ¬cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (xs0 : Vec F S4x256x512 .f32) :
    Σ' (L6 : List (View.Piece (Elt F) S512x2048 .f32)), Σ' (L7 : List (View.Piece (Elt F) S1x4x256x512 .f32)), { LS0 : List (View.Piece (Elt F) S4x256x512 .f32) //
      ∀ (xi7 : Vec F S1x4x256x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xi7 ∗ owns (c : Thread nD τ) arg11 fullShare xs0 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ owns (c : Thread nD τ) arg10 fullShare xi7 ∗ (∃ f, arg11.view.loc (c : Thread nD τ) ↦[arg11.view.set]{fullShare} arg11.view.writes (Elt F) f LS0) ∗ (∃ d, owns (c : Thread nD τ) arg12 fullShare d)) -∗ K ⟨⟩))
          ⊢ wp frame (wpE (defs₀ (F := F)) Variants.none c none) E (cc0_gla_prompt i arg3 harg3 arg4 harg4 arg5 harg5 arg6 harg6 arg7 harg7 arg8 harg8 arg9 harg9 arg10 harg10 arg11 harg11 arg12 harg12) K } := by
  refine ⟨?_, [], ?_, fun xi7 E K => ?run⟩
  case run =>
    simp only [cc0_gla_prompt_eq_skeleton]; unfold cc0_gla_prompt_skel
    simp only [k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg10.eq_unread hf7; obtain rfl := harg11.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    rw [pb_k0_t1_out (g := f6) (g' := arg9.view.junk)]
    isplitl [H6]; · iexists _; iexact H6
    isplitl [H7]
    · iexists _; isplitr; · ipureintro; exact harg10.read_unread _
      iexact H7
    isplitl [HS0]; · iexists _; iexact HS0
    iexists _, _; isplitr; swap; · iexact HS1
    ipureintro; rfl

end Cert.KernelIdeal.Own

end
-- ==== Proof.IdealRunC.lean ====
/- The body of the kernel run at a last time block (case C of the frame): the
   stores it makes into each buffer, with the proof that it runs to its end. The generated text of this case, with one
   step put in: the stores of the loop over the chunks are restated as made over a fixed block (`pb_k0_t1_out`). -/
module

public import proofs.«01_k».proof.Proof.IdealRunB

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 3, 7, 11, 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (xs0 : Vec F S4x256x512 .f32) :
    Σ' (L6 : List (View.Piece (Elt F) S512x2048 .f32)), Σ' (L7 : List (View.Piece (Elt F) S1x4x256x512 .f32)), { LS0 : List (View.Piece (Elt F) S4x256x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs0 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ d, owns (c : Thread nD τ) arg12 fullShare d)) -∗ K ⟨⟩))
          ⊢ wp frame (wpE (defs₀ (F := F)) Variants.none c none) E (cc0_gla_prompt i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_gla_prompt_eq_skeleton]; unfold cc0_gla_prompt_skel
    simp only [k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    unfold kernelRun0_C.sl.v75
    rw [pb_k0_t1_out (g := f6) (g' := arg9.view.junk)]
    isplitl [H6]; · iexists _; iexact H6
    isplitl [H7]; · iexists _; iexact H7
    isplitl [HS0]; · iexists _; iexact HS0
    iexists _, _; isplitr; swap; · iexact HS1
    ipureintro; rfl

end Cert.KernelIdeal.Own

end
-- ==== Proof.IdealFrame.lean ====
/- The frame of the kernel: what each output block and the carried state hold point by point, the
   obligation of the body at each point, the run of the whole program and its frame. The generated text, over the three
   runs of this directory. -/
module

public import proofs.«01_k».proof.Proof.IdealRunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 6 tile its block (32 stores of `S64x512`, checked by the kernel's evaluation: Lib/Ring.lean `Piece.tiledL`, linear in the pieces, through a loop's `@[irreducible]` trip theorem too), so they cover it. -/
theorem cover0_A_6 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : cond0_0 i) (hc1 : ¬cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (y : S512x2048.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 x0 x1 x2 x3 x4 x5).1 S64x512.size (by sl_kernel_rfl) y

/-- What case A leaves in output 6's staging buffer: its pieces read back over junk. -/
def out0_A_6 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : cond0_0 i) (hc1 : ¬cond0_1 i)
    (x0 : Vec F S512x1024 .f32) (x1 : Vec F S512x1024 .f32) (x2 : Vec F S512x2048 .f32) (x3 : Vec F S512x128 .f32) (x4 : Vec F S128x1024 .bf16) (x5 : Vec F S1x1024 .f32) : Vec F S512x2048 .f32 :=
  VO0_6.read (Elt F) (VO0_6.writes (Elt F) VO0_6.junk (kernelRun0_A c i arg3 harg3 arg4 harg4 arg5 harg5 arg6 harg6 arg7 harg7 arg8 harg8 arg9 harg9 arg10 harg10 arg11 harg11 arg12 harg12 hc0 hc1 x0 x1 x2 x3 x4 x5).1)

/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : cond0_0 i) (hc1 : ¬cond0_1 i)
    (x0 : Vec F S512x1024 .f32) (x1 : Vec F S512x1024 .f32) (x2 : Vec F S512x2048 .f32) (x3 : Vec F S512x128 .f32) (x4 : Vec F S128x1024 .bf16) (x5 : Vec F S1x1024 .f32) : Vec F S1x4x256x512 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 hc0 hc1 x0 x1 x2 x3 x4 x5).2.1)

/-- Case A's pieces for scratch `arg11`, which the kernel carries between points, cover it: one of them a store of the WHOLE buffer (Lib/Ring.lean `sl_whole_mem`). -/
theorem scover0_A_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : cond0_0 i) (hc1 : ¬cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (y : S4x256x512.Idx) :
    ∃ pc ∈ (kernelRun0_A c i arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_wholeMem (kernelRun0_A c i arg3 harg3 arg4 harg4 arg5 harg5 arg6 harg6 arg7 harg7 arg8 harg8 arg9 harg9 arg10 harg10 arg11 harg11 arg12 harg12 hc0 hc1 x0 x1 x2 x3 x4 x5).2.2.1 (by sl_whole_mem) y

/-- What case A leaves in scratch `arg11`: its pieces read back over junk. -/
def sout0_A_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : cond0_0 i) (hc1 : ¬cond0_1 i)
    (x0 : Vec F S512x1024 .f32) (x1 : Vec F S512x1024 .f32) (x2 : Vec F S512x2048 .f32) (x3 : Vec F S512x128 .f32) (x4 : Vec F S128x1024 .bf16) (x5 : Vec F S1x1024 .f32) : Vec F S4x256x512 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 hc0 hc1 x0 x1 x2 x3 x4 x5).2.2.1)

/-- Case B's pieces for output 6 tile its block (32 stores of `S64x512`, checked by the kernel's evaluation: Lib/Ring.lean `Piece.tiledL`, linear in the pieces, through a loop's `@[irreducible]` trip theorem too), so they cover it. -/
theorem cover0_B_6 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : ¬cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (xs0 : Vec F S4x256x512 .f32) (y : S512x2048.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 x4 x5 xs0).1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 x4 x5 xs0).1 S64x512.size (by sl_kernel_rfl) y

/-- What case B leaves in output 6's staging buffer: its pieces read back over junk. -/
def out0_B_6 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : ¬cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (xs0 : Vec F S4x256x512 .f32) : Vec F S512x2048 .f32 :=
  VO0_6.read (Elt F) (VO0_6.writes (Elt F) VO0_6.junk (kernelRun0_B c i arg3 harg3 arg4 harg4 arg5 harg5 arg6 harg6 arg7 harg7 arg8 harg8 arg9 harg9 arg10 harg10 arg11 harg11 arg12 harg12 hc0 hc1 x0 x1 x2 x3 x4 x5 xs0).1)

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : ¬cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (xs0 : Vec F S4x256x512 .f32) : Vec F S1x4x256x512 .f32 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 hc0 hc1 x0 x1 x2 x3 x4 x5 xs0).2.1)

/-- Case B's pieces for scratch `arg11`, which the kernel carries between points, cover it: 32 pieces of `S1x256x512` tiling it (Lib/Ring.lean `Piece.tiledL`). -/
theorem scover0_B_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : ¬cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (xs0 : Vec F S4x256x512 .f32) (y : S4x256x512.Idx) :
    ∃ pc ∈ (kernelRun0_B c i arg3 harg3 arg4 harg4 arg5 harg5 arg6 harg6 arg7 harg7 arg8 harg8 arg9 harg9 arg10 harg10 arg11 harg11 arg12 harg12 hc0 hc1 x0 x1 x2 x3 x4 x5 xs0).2.2.1, y ∈ pc.1.set :=
  View.cover_of_tiledL (kernelRun0_B c i arg3 harg3 arg4 harg4 arg5 harg5 arg6 harg6 arg7 harg7 arg8 harg8 arg9 harg9 arg10 harg10 arg11 harg11 arg12 harg12 hc0 hc1 x0 x1 x2 x3 x4 x5 xs0).2.2.1 S1x256x512.size (by sl_kernel_rfl) y

/-- What case B leaves in scratch `arg11`: its pieces read back over junk. -/
def sout0_B_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : ¬cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (xs0 : Vec F S4x256x512 .f32) : Vec F S4x256x512 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 arg12 harg12 hc0 hc1 x0 x1 x2 x3 x4 x5 xs0).2.2.1)

/-- Case C's pieces for output 6 tile its block (32 stores of `S64x512`, checked by the kernel's evaluation: Lib/Ring.lean `Piece.tiledL`, linear in the pieces, through a loop's `@[irreducible]` trip theorem too), so they cover it. -/
theorem cover0_C_6 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (xs0 : Vec F S4x256x512 .f32) (y : S512x2048.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 xs0).1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 xs0).1 S64x512.size (by sl_kernel_rfl) y

/-- What case C leaves in output 6's staging buffer: its pieces read back over junk. -/
def out0_C_6 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (xs0 : Vec F S4x256x512 .f32) : Vec F S512x2048 .f32 :=
  VO0_6.read (Elt F) (VO0_6.writes (Elt F) VO0_6.junk (kernelRun0_C c i arg3 harg3 arg4 harg4 arg5 harg5 arg6 harg6 arg7 harg7 arg8 harg8 arg9 harg9 arg10 harg10 arg11 harg11 arg12 harg12 hc0 hc1 x0 x1 x2 x3 x4 x5 xs0).1)

/-- Case C's pieces for output 7 tile its block (1 store of `S1x4x256x512`, checked by the kernel's evaluation: Lib/Ring.lean `Piece.tiledL`, linear in the pieces, through a loop's `@[irreducible]` trip theorem too), so they cover it. -/
theorem cover0_C_7 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (xs0 : Vec F S4x256x512 .f32) (y : S1x4x256x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 xs0).2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 xs0).2.1 S1x4x256x512.size (by sl_kernel_rfl) y

/-- What case C leaves in output 7's staging buffer: its pieces read back over junk. -/
def out0_C_7 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (xs0 : Vec F S4x256x512 .f32) : Vec F S1x4x256x512 .f32 :=
  VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 hc0 hc1 x0 x1 x2 x3 x4 x5 xs0).2.1)

/-- Case C's pieces for scratch `arg11`, which the kernel carries between points, cover it: 32 pieces of `S1x256x512` tiling it (Lib/Ring.lean `Piece.tiledL`). -/
theorem scover0_C_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (xs0 : Vec F S4x256x512 .f32) (y : S4x256x512.Idx) :
    ∃ pc ∈ (kernelRun0_C c i arg3 harg3 arg4 harg4 arg5 harg5 arg6 harg6 arg7 harg7 arg8 harg8 arg9 harg9 arg10 harg10 arg11 harg11 arg12 harg12 hc0 hc1 x0 x1 x2 x3 x4 x5 xs0).2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 x0 x1 x2 x3 x4 x5 xs0).2.2.1 S1x256x512.size (by sl_kernel_rfl) y

/-- What case C leaves in scratch `arg11`: its pieces read back over junk. -/
def sout0_C_0 (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : cond0_1 i)
    (x0 : Vec F S512x1024 .f32) (x1 : Vec F S512x1024 .f32) (x2 : Vec F S512x2048 .f32) (x3 : Vec F S512x128 .f32) (x4 : Vec F S128x1024 .bf16) (x5 : Vec F S1x1024 .f32) (xs0 : Vec F S4x256x512 .f32) : Vec F S4x256x512 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 hc0 hc1 x0 x1 x2 x3 x4 x5 xs0).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x2048 .f32 × Vec F S1x4x256x512 .f32 × Vec F S4x256x512 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 4 = 0 then
      if h1 : (n + 1) % 4 = 3 then
        False.elim (by have hN : n + 1 < 16 := lt_of_lt_of_eq hn (show cfg0.N = 16 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 4 = 3 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2)

/-- `outsAt0` at a point of case A: that case's contents. -/
theorem outsAt0_A (c : Dev nD) (t : Fin cfg0.N) (h0 : t.val % 4 = 0) (h1 : ¬t.val % 4 = 3) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : ¬t.val % 4 = 3) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 4 = 0) (h1 : t.val % 4 = 3) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_6 sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        isplitl [HS1]; · iexact HS1
        iintro ⟨H0, H1, H2, H3, H4, H5, ⟨%e6, H6⟩, H7, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _)
        iexists _; iexact H7
      · rw [PhiS_castSucc m c t, PhiS_pos m c _ _ hz]
        rw [outsAt0_A m c t h0 h1]
        unfold out0_A_6 sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexists _; iexact HS0
        isplitl [HS1]; · iexact HS1
        iintro ⟨H0, H1, H2, H3, H4, H5, ⟨%e6, H6⟩, H7, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _)
        iexists _; iexact H7
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold out0_C_6 out0_C_7 sout0_C_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        iintro ⟨H0, H1, H2, H3, H4, H5, ⟨%e6, H6⟩, ⟨%e7, H7⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold out0_B_6 sout0_B_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        isplitl [HS1]; · iexact HS1
        iintro ⟨H0, H1, H2, H3, H4, H5, ⟨%e6, H6⟩, H7, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _)
        iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Own

end
-- ==== Proof.IdealValue.lean ====
/- What the outputs of the whole program hold, point by point. The generated text, over the frame of this directory. -/
module

public import proofs.«01_k».proof.Proof.IdealFrame
public import Idealize.ShloMosaic.Lib.Pipeline.Value

@[expose] public section

noncomputable section

namespace Cert.KernelIdeal.Value

open Cert.KernelIdeal Cert.KernelIdeal.Gen Cert.KernelIdeal.Own Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Gen.outsAt0`: its component 0), read through the window's block. -/
theorem flushed6 (c : Dev nD) (t : Fin cfg0.N) :
    (dats m 0 c).flushed 6 t = (cfg0.win 6).cut (grid0.coords t) ((outsAt0 m c t.val t.isLt).1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 4 = 0) (h1 : ¬t.val % 4 = 3) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  simp only [flushed6, outsAt0_A m c t h0 h1]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 4 = 0) (h1 : ¬t.val % 4 = 3) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  simp only [flushed6, outsAt0_B m c t h0 h1]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 4 = 0) (h1 : t.val % 4 = 3) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  simp only [flushed6, outsAt0_C m c t h0 h1]

/-- The index map sends distinct grid points to distinct block indices (decided over the 16 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8192x2048.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 1), read through the window's block. -/
theorem flushed7 (c : Dev nD) (t : Fin cfg0.N) :
    (dats m 0 c).flushed 7 t = (cfg0.win 7).cut (grid0.coords t) ((outsAt0 m c t.val t.isLt).2.1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 4 = 0) (h1 : ¬t.val % 4 = 3) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  simp only [flushed7, outsAt0_A m c t h0 h1]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 4 = 0) (h1 : ¬t.val % 4 = 3) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  simp only [flushed7, outsAt0_B m c t h0 h1]

/-- … so at a point where case C runs, what its write-back would write is that case's NAMED TERM for the window (`Gen.out0_C_7`: the pieces
    its run found, read back) at the point's memrefs and input blocks, and for an output the case reads back what the point before left (`Gen.outsAt0` at `t - 1`) — by the frame's rewriting lemma for the case. -/
theorem flushed7_C (c : Dev nD) (t : Fin cfg0.N) (h0 : ¬t.val % 4 = 0) (h1 : t.val % 4 = 3) :
    (dats m 0 c).flushed 7 t = (cfg0.win 7).cut (grid0.coords t) (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2) := by
  simp only [flushed7, outsAt0_C m c t h0 h1]

-- no `blocks7`: window 7's index map revisits a block index, or its points could not be enumerated here;
-- the final array is still the frame's `arrAt`, to read with Lib/Pipeline/Value.lean's lemmas by hand

/-- An index that no flushing point's block covers keeps output window 7's array contents at region entry. -/
theorem entry7 (c : Dev nD) (i : S4x4x256x512.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: input window 4 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 4).trans (((dats m 0 c).arrAt_in 4 rfl _).trans ((A_eq m c 4).trans (V_main_arg2 m c)))

/-- After the frame run, argument `main_arg3` is as launched: input window 5 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 5).trans (((dats m 0 c).arrAt_in 5 rfl _).trans ((A_eq m c 5).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post6 m r h c,
      post7 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 4)
    stores the scratch whole without reading what it held, and `acc` does not enter there (nor where no point meets the
    conditions: `acc`, never read). -/
def scAt0_0 (c : Dev nD) (n : ℕ) (hb : n < cfg0.N) (acc : Vec F S4x256x512 .f32) : Vec F S4x256x512 .f32 :=
  if h0 : n % 4 = 0 then
    if h1 : n % 4 = 3 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))
  else
    if h1 : n % 4 = 3 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc

/-- WHAT CARRIED SCRATCH 0 HOLDS after point `t`: the fold of its run up to `t`, from the reset at the run's first point
    `4·(t / 4)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2 = Pipeline.accAt (fun n h => scAt0_0 m c n h (VS0_0.read (Elt F) VS0_0.junk)) (scAt0_0 m c) (4 * (t.val / 4)) (t.val % 4)
      (by have h1 := t.isLt; have h2 := Nat.div_add_mod t.val 4; omega) :=
  Pipeline.eq_accAt_of_mod (fun n h => (outsAt0 m c n h).2.2) 4 (fun n h => scAt0_0 m c n h (VS0_0.read (Elt F) VS0_0.junk)) (scAt0_0 m c)
    (fun n h hn => by
      have hN := lt_of_lt_of_eq h (show cfg0.N = 16 from N_0)
      by_cases h0 : n % 4 = 0 <;> by_cases h1 : n % 4 = 3
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 16 from N_0)
      by_cases h0 : (n + 1) % 4 = 0 <;> by_cases h1 : (n + 1) % 4 = 3
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S512x2048 .f32 × Vec F S1x4x256x512 .f32 × Vec F S4x256x512 .f32 :=
  ((VO0_6.read (Elt F) VO0_6.junk, VO0_7.read (Elt F) VO0_7.junk, VS0_0.read (Elt F) VS0_0.junk) : Vec F S512x2048 .f32 × Vec F S1x4x256x512 .f32 × Vec F S4x256x512 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S512x2048 .f32 × Vec F S1x4x256x512 .f32 × Vec F S4x256x512 .f32) : Vec F S512x2048 .f32 × Vec F S1x4x256x512 .f32 × Vec F S4x256x512 .f32 :=
  if h0 : n % 4 = 0 then
    if h1 : n % 4 = 3 then
      False.elim (by have hN : n < 16 := lt_of_lt_of_eq hb (show cfg0.N = 16 from N_0); omega)
    else
      (out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)))
  else
    if h1 : n % 4 = 3 then
      (out0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2, out0_C_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2)
    else
      (out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc.2.2)

/-- `stAt0` at a point of case A: that case's contents. -/
theorem stAt0_A (c : Dev nD) (t : Fin cfg0.N) (acc : Vec F S512x2048 .f32 × Vec F S1x4x256x512 .f32 × Vec F S4x256x512 .f32) (h0 : t.val % 4 = 0) (h1 : ¬t.val % 4 = 3) :
    stAt0 m c t.val t.isLt acc = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t)) :=
  (dif_pos h0).trans ((dif_neg h1).trans rfl)

/-- `stAt0` at a point of case B: that case's contents, over `acc`. -/
theorem stAt0_B (c : Dev nD) (t : Fin cfg0.N) (acc : Vec F S512x2048 .f32 × Vec F S1x4x256x512 .f32 × Vec F S4x256x512 .f32) (h0 : ¬t.val % 4 = 0) (h1 : ¬t.val % 4 = 3) :
    stAt0 m c t.val t.isLt acc = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) acc.2.2) :=
  (dif_neg h0).trans ((dif_neg h1).trans rfl)

/-- `stAt0` at a point of case C: that case's contents, over `acc`. -/
theorem stAt0_C (c : Dev nD) (t : Fin cfg0.N) (acc : Vec F S512x2048 .f32 × Vec F S1x4x256x512 .f32 × Vec F S4x256x512 .f32) (h0 : ¬t.val % 4 = 0) (h1 : t.val % 4 = 3) :
    stAt0 m c t.val t.isLt acc = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) acc.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 16 from N_0)
  have e := Pipeline.eq_accAt_of_mod (fun n h => outsAt0 m c n h) 16 (fun n h => stAt0 m c n h junk0) (stAt0 m c)
    (fun n h _ => by
      have hN := lt_of_lt_of_eq h (show cfg0.N = 16 from N_0)
      obtain rfl : n = 0 := by omega
      exact outsAt0_zero m c h)
    (fun n h _ => outsAt0_succ m c n h)
    (by decide) n hn (by have := Nat.div_add_mod n 16; omega)
  have hd : n / 16 = 0 := Nat.div_eq_of_lt hN
  have hm : n % 16 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 6 -/

/-- The block of the array that holds index `i`, numbered in the order the points write the blocks back (one per point),
    `i`'s place in it, and the point that writes it back. -/
abbrev run6Of (i : S8192x2048.Idx) : ℕ := 1 * ((i 0).val / 512 - 0) + 1 * ((i 1).val / 2048 - 0)
set_option backward.proofsInPublic true in
abbrev loc6Of (i : S8192x2048.Idx) : S512x2048.Idx := fun a => match a with
  | ⟨0, _⟩ => ⟨(i 0).val % 512, Nat.mod_lt _ (by decide)⟩
  | ⟨1, _⟩ => ⟨(i 1).val % 2048, Nat.mod_lt _ (by decide)⟩
abbrev pt6Of (i : S8192x2048.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v0_0) := fun i =>
  if h : pt6Of i < cfg0.N then
    (Pipeline.accAt (fun n h => stAt0 m c n h junk0) (stAt0 m c) 0 (pt6Of i) (by omega)).1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 15
    ∧ 0 ≤ win0_6.index t (1 : Fin 2) ∧ win0_6.index t (1 : Fin 2) ≤ 0
    ∧ 1 * (win0_6.index t (0 : Fin 2) - 0) + 1 * (win0_6.index t (1 : Fin 2) - 0) = t.val :=
  (by decide +kernel : ∀ t : Fin grid0.N, _)

/-- Every block of the box is SOME flushing point's: `onto6Pt`, the point that writes back the block at place `q` of the box. -/
abbrev onto6Pt (q0 : Fin 16) (q1 : Fin 1) : Fin grid0.N :=
  ⟨1 * q0.val + 1 * q1.val, lt_of_lt_of_eq (by omega) N_0.symm⟩
theorem idx_onto6 : ∀ (q0 : Fin 16) (q1 : Fin 1), ∃ t : Fin cfg0.N, (cfg0.win 6).flush t = true ∧ win0_6.index t = ![q0.val + 0, q1.val + 0] :=
  fun q0 q1 => ⟨onto6Pt q0 q1, (by decide +kernel : ∀ (q0 : Fin 16) (q1 : Fin 1), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  obtain ⟨e0, e1, e2⟩ := idx_facts6 t
  funext y
  have hy0 : (y 0).val < 512 := (y 0).isLt
  have hy1 : (y 1).val < 2048 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 2048 + 1 * (y 1).val := rfl
  have hr : run6Of (((cfg0.win 6).blk t).view.emb y) = t.val := by
    show 1 * ((((cfg0.win 6).blk t).view.emb y 0).val / 512 - 0) + 1 * ((((cfg0.win 6).blk t).view.emb y 1).val / 2048 - 0) = _
    rw [hb0, hb1]
    rw [show (win0_6.index t (0 : Fin 2) * 512 + 1 * (y 0).val) / 512 = win0_6.index t (0 : Fin 2) from by omega]; rw [show (win0_6.index t (1 : Fin 2) * 2048 + 1 * (y 1).val) / 2048 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 512 = (y 0).val; rw [hb0]; omega
    | ⟨1, _⟩ => show (((cfg0.win 6).blk t).view.emb y 1).val % 2048 = (y 1).val; rw [hb1]; omega
  have hp : pt6Of (((cfg0.win 6).blk t).view.emb y) = t.val := by
    exact hr
  show (Pipeline.accAt (fun n h => stAt0 m c n h junk0) (stAt0 m c) 0 t.val _).1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S8192x2048.Idx) :
    i ∈ ((cfg0.win 6).blk t).view.set ↔ ∀ a : Fin 2, win0_6.index t a * S512x2048.size a ≤ (i a).val ∧ (i a).val < win0_6.index t a * S512x2048.size a + S512x2048.size a := by
  show i ∈ ((View.whole main_v0_0).slice (win0_6.rect t)).set ↔ _
  rw [View.set_slice_whole, Rect.mem_set_unit]
  exact Iff.rfl

/-- THE COVERED INDICES: in some flushing point's block iff inside the box those blocks fill. -/
theorem covered_iff6 (i : S8192x2048.Idx) :
    (∃ t : Fin cfg0.N, (cfg0.win 6).flush t = true ∧ i ∈ ((cfg0.win 6).blk t).view.set) ↔ 0 ≤ (i 0).val ∧ (i 0).val < 8192 ∧ 0 ≤ (i 1).val ∧ (i 1).val < 2048 := by
  constructor
  · rintro ⟨t, -, hi⟩
    rw [mem_blk6] at hi
    have b0 : win0_6.index t (0 : Fin 2) * 512 ≤ (i 0).val ∧ (i 0).val < win0_6.index t (0 : Fin 2) * 512 + 512 := hi 0
    have b1 : win0_6.index t (1 : Fin 2) * 2048 ≤ (i 1).val ∧ (i 1).val < win0_6.index t (1 : Fin 2) * 2048 + 2048 := hi 1
    obtain ⟨e0, e1, e2⟩ := idx_facts6 t
    omega
  · intro h
    have hi0 : (i 0).val < 8192 := (i 0).isLt
    have hi1 : (i 1).val < 2048 := (i 1).isLt
    obtain ⟨t, hft, ht⟩ := idx_onto6 ⟨(i 0).val / 512 - 0, by omega⟩ ⟨(i 1).val / 2048 - 0, by omega⟩
    have q0 : win0_6.index t (0 : Fin 2) = (i 0).val / 512 - 0 + 0 := congrFun ht 0
    have q1 : win0_6.index t (1 : Fin 2) = (i 1).val / 2048 - 0 + 0 := congrFun ht 1
    refine ⟨t, hft, ?_⟩
    rw [mem_blk6]
    intro a
    match a with
    | ⟨0, _⟩ => show win0_6.index t (0 : Fin 2) * 512 ≤ (i 0).val ∧ (i 0).val < win0_6.index t (0 : Fin 2) * 512 + 512; omega
    | ⟨1, _⟩ => show win0_6.index t (1 : Fin 2) * 2048 ≤ (i 1).val ∧ (i 1).val < win0_6.index t (1 : Fin 2) * 2048 + 2048; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 8192 := (i 0).isLt; have h1 : (i 1).val < 2048 := (i 1).isLt; omega))

/-! ## Output window 7 -/

/-- The block of the array that holds index `i`, numbered in the order the points write the blocks back (one every 4 points),
    `i`'s place in it, and the point that writes it back (the last of its 4). -/
abbrev run7Of (i : S4x4x256x512.Idx) : ℕ := 1 * ((i 0).val / 1 - 0) + 1 * ((i 1).val / 4 - 0) + 1 * ((i 2).val / 256 - 0) + 1 * ((i 3).val / 512 - 0)
set_option backward.proofsInPublic true in
abbrev loc7Of (i : S4x4x256x512.Idx) : S1x4x256x512.Idx := fun a => match a with
  | ⟨0, _⟩ => ⟨(i 0).val % 1, Nat.mod_lt _ (by decide)⟩
  | ⟨1, _⟩ => ⟨(i 1).val % 4, Nat.mod_lt _ (by decide)⟩
  | ⟨2, _⟩ => ⟨(i 2).val % 256, Nat.mod_lt _ (by decide)⟩
  | ⟨3, _⟩ => ⟨(i 3).val % 512, Nat.mod_lt _ (by decide)⟩
abbrev pt7Of (i : S4x4x256x512.Idx) : ℕ := 4 * run7Of i + 3

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v0_1) := fun i =>
  if h : pt7Of i < cfg0.N then
    (Pipeline.accAt (fun n h => stAt0 m c n h junk0) (stAt0 m c) 0 (pt7Of i) (by omega)).2.1 (loc7Of i)
  else V m c (Pipeline.arrRef spec0 7) i

/-- The printed index map, decided over the grid: output window 7's block indices stay in the box, and the block number
    read off them is the point's (`t / 4`). -/
theorem idx_facts7 : ∀ t : Fin cfg0.N, 0 ≤ win0_7.index t (0 : Fin 4) ∧ win0_7.index t (0 : Fin 4) ≤ 3
    ∧ 0 ≤ win0_7.index t (1 : Fin 4) ∧ win0_7.index t (1 : Fin 4) ≤ 0
    ∧ 0 ≤ win0_7.index t (2 : Fin 4) ∧ win0_7.index t (2 : Fin 4) ≤ 0
    ∧ 0 ≤ win0_7.index t (3 : Fin 4) ∧ win0_7.index t (3 : Fin 4) ≤ 0
    ∧ 1 * (win0_7.index t (0 : Fin 4) - 0) + 1 * (win0_7.index t (1 : Fin 4) - 0) + 1 * (win0_7.index t (2 : Fin 4) - 0) + 1 * (win0_7.index t (3 : Fin 4) - 0) = t.val / 4 :=
  (by decide +kernel : ∀ t : Fin grid0.N, _)

/-- Every block of the box is SOME flushing point's: `onto7Pt`, the point that writes back the block at place `q` of the box (the last point of its run). -/
abbrev onto7Pt (q0 : Fin 4) (q1 : Fin 1) (q2 : Fin 1) (q3 : Fin 1) : Fin grid0.N :=
  ⟨4 * (1 * q0.val + 1 * q1.val + 1 * q2.val + 1 * q3.val) + 3, lt_of_lt_of_eq (by omega) N_0.symm⟩
theorem idx_onto7 : ∀ (q0 : Fin 4) (q1 : Fin 1) (q2 : Fin 1) (q3 : Fin 1), ∃ t : Fin cfg0.N, (cfg0.win 7).flush t = true ∧ win0_7.index t = ![q0.val + 0, q1.val + 0, q2.val + 0, q3.val + 0] :=
  fun q0 q1 q2 q3 => ⟨onto7Pt q0 q1 q2 q3, (by decide +kernel : ∀ (q0 : Fin 4) (q1 : Fin 1) (q2 : Fin 1) (q3 : Fin 1), win0_7.flush (onto7Pt q0 q1 q2 q3) = true ∧ win0_7.index (onto7Pt q0 q1 q2 q3) = ![q0.val + 0, q1.val + 0, q2.val + 0, q3.val + 0]) q0 q1 q2 q3⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  have hm : t.val % 4 = 3 := (flush0_7 t).mp hf
  obtain ⟨e0, e1, e2, e3, e4⟩ := idx_facts7 t
  funext y
  have hy0 : (y 0).val < 1 := (y 0).isLt
  have hy1 : (y 1).val < 4 := (y 1).isLt
  have hy2 : (y 2).val < 256 := (y 2).isLt
  have hy3 : (y 3).val < 512 := (y 3).isLt
  have hb0 : (((cfg0.win 7).blk t).view.emb y 0).val = win0_7.index t (0 : Fin 4) * 1 + 1 * (y 0).val := rfl
  have hb1 : (((cfg0.win 7).blk t).view.emb y 1).val = win0_7.index t (1 : Fin 4) * 4 + 1 * (y 1).val := rfl
  have hb2 : (((cfg0.win 7).blk t).view.emb y 2).val = win0_7.index t (2 : Fin 4) * 256 + 1 * (y 2).val := rfl
  have hb3 : (((cfg0.win 7).blk t).view.emb y 3).val = win0_7.index t (3 : Fin 4) * 512 + 1 * (y 3).val := rfl
  have hr : run7Of (((cfg0.win 7).blk t).view.emb y) = t.val / 4 := by
    show 1 * ((((cfg0.win 7).blk t).view.emb y 0).val / 1 - 0) + 1 * ((((cfg0.win 7).blk t).view.emb y 1).val / 4 - 0) + 1 * ((((cfg0.win 7).blk t).view.emb y 2).val / 256 - 0) + 1 * ((((cfg0.win 7).blk t).view.emb y 3).val / 512 - 0) = _
    rw [hb0, hb1, hb2, hb3]
    rw [show (win0_7.index t (0 : Fin 4) * 1 + 1 * (y 0).val) / 1 = win0_7.index t (0 : Fin 4) from by omega]; rw [show (win0_7.index t (1 : Fin 4) * 4 + 1 * (y 1).val) / 4 = win0_7.index t (1 : Fin 4) from by omega]; rw [show (win0_7.index t (2 : Fin 4) * 256 + 1 * (y 2).val) / 256 = win0_7.index t (2 : Fin 4) from by omega]; rw [show (win0_7.index t (3 : Fin 4) * 512 + 1 * (y 3).val) / 512 = win0_7.index t (3 : Fin 4) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 4 = (y 1).val; rw [hb1]; omega
    | ⟨2, _⟩ => show (((cfg0.win 7).blk t).view.emb y 2).val % 256 = (y 2).val; rw [hb2]; omega
    | ⟨3, _⟩ => show (((cfg0.win 7).blk t).view.emb y 3).val % 512 = (y 3).val; rw [hb3]; omega
  have hp : pt7Of (((cfg0.win 7).blk t).view.emb y) = t.val := by
    show 4 * run7Of (((cfg0.win 7).blk t).view.emb y) + 3 = _
    rw [hr]; have := Nat.div_add_mod t.val 4; omega
  show (Pipeline.accAt (fun n h => stAt0 m c n h junk0) (stAt0 m c) 0 t.val _).2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S4x4x256x512.Idx) :
    i ∈ ((cfg0.win 7).blk t).view.set ↔ ∀ a : Fin 4, win0_7.index t a * S1x4x256x512.size a ≤ (i a).val ∧ (i a).val < win0_7.index t a * S1x4x256x512.size a + S1x4x256x512.size a := by
  show i ∈ ((View.whole main_v0_1).slice (win0_7.rect t)).set ↔ _
  rw [View.set_slice_whole, Rect.mem_set_unit]
  exact Iff.rfl

/-- THE COVERED INDICES: in some flushing point's block iff inside the box those blocks fill. -/
theorem covered_iff7 (i : S4x4x256x512.Idx) :
    (∃ t : Fin cfg0.N, (cfg0.win 7).flush t = true ∧ i ∈ ((cfg0.win 7).blk t).view.set) ↔ 0 ≤ (i 0).val ∧ (i 0).val < 4 ∧ 0 ≤ (i 1).val ∧ (i 1).val < 4 ∧ 0 ≤ (i 2).val ∧ (i 2).val < 256 ∧ 0 ≤ (i 3).val ∧ (i 3).val < 512 := by
  constructor
  · rintro ⟨t, -, hi⟩
    rw [mem_blk7] at hi
    have b0 : win0_7.index t (0 : Fin 4) * 1 ≤ (i 0).val ∧ (i 0).val < win0_7.index t (0 : Fin 4) * 1 + 1 := hi 0
    have b1 : win0_7.index t (1 : Fin 4) * 4 ≤ (i 1).val ∧ (i 1).val < win0_7.index t (1 : Fin 4) * 4 + 4 := hi 1
    have b2 : win0_7.index t (2 : Fin 4) * 256 ≤ (i 2).val ∧ (i 2).val < win0_7.index t (2 : Fin 4) * 256 + 256 := hi 2
    have b3 : win0_7.index t (3 : Fin 4) * 512 ≤ (i 3).val ∧ (i 3).val < win0_7.index t (3 : Fin 4) * 512 + 512 := hi 3
    obtain ⟨e0, e1, e2, e3, e4⟩ := idx_facts7 t
    omega
  · intro h
    have hi0 : (i 0).val < 4 := (i 0).isLt
    have hi1 : (i 1).val < 4 := (i 1).isLt
    have hi2 : (i 2).val < 256 := (i 2).isLt
    have hi3 : (i 3).val < 512 := (i 3).isLt
    obtain ⟨t, hft, ht⟩ := idx_onto7 ⟨(i 0).val / 1 - 0, by omega⟩ ⟨(i 1).val / 4 - 0, by omega⟩ ⟨(i 2).val / 256 - 0, by omega⟩ ⟨(i 3).val / 512 - 0, by omega⟩
    have q0 : win0_7.index t (0 : Fin 4) = (i 0).val / 1 - 0 + 0 := congrFun ht 0
    have q1 : win0_7.index t (1 : Fin 4) = (i 1).val / 4 - 0 + 0 := congrFun ht 1
    have q2 : win0_7.index t (2 : Fin 4) = (i 2).val / 256 - 0 + 0 := congrFun ht 2
    have q3 : win0_7.index t (3 : Fin 4) = (i 3).val / 512 - 0 + 0 := congrFun ht 3
    refine ⟨t, hft, ?_⟩
    rw [mem_blk7]
    intro a
    match a with
    | ⟨0, _⟩ => show win0_7.index t (0 : Fin 4) * 1 ≤ (i 0).val ∧ (i 0).val < win0_7.index t (0 : Fin 4) * 1 + 1; omega
    | ⟨1, _⟩ => show win0_7.index t (1 : Fin 4) * 4 ≤ (i 1).val ∧ (i 1).val < win0_7.index t (1 : Fin 4) * 4 + 4; omega
    | ⟨2, _⟩ => show win0_7.index t (2 : Fin 4) * 256 ≤ (i 2).val ∧ (i 2).val < win0_7.index t (2 : Fin 4) * 256 + 256; omega
    | ⟨3, _⟩ => show win0_7.index t (3 : Fin 4) * 512 ≤ (i 3).val ∧ (i 3).val < win0_7.index t (3 : Fin 4) * 512 + 512; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 4 := (i 0).isLt; have h1 : (i 1).val < 4 := (i 1).isLt; have h2 : (i 2).val < 256 := (i 2).isLt; have h3 : (i 3).val < 512 := (i 3).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v0_0) = G6 m c
      ∧ r.2.mem ((c : Thread nD τ).loc main_v0_1) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post6 m r h c).trans (final6 m c),
      (post7 m r h c).trans (final7 m c),
      kept_main_arg0 m r h c,
      kept_main_arg1 m r h c,
      kept_main_arg2 m r h c,
      kept_main_arg3 m r h c⟩)
    (run_main m ρ)

end Cert.KernelIdeal.Value

end
-- ==== Proof.RefStep.lean ====
/- The run of the reference as the iteration of its step over the chunks. The generated text, with one step of it
   spelled out (`step_7`, which cites the equation of the output stack as it stands). -/
module

public import proofs.«01_k».proof.Proof.Gen.ReferenceIdeal.Run
public import proofs.«01_k».proof.Proof.Gen.ReferenceIdeal.Step

@[expose] public section

noncomputable section

namespace Cert.ReferenceIdeal.OwnStep

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v30_6) = s.main_v30_6
  f_7 : V0 (Proc.devRef .tc main_v30_7) = s.main_v30_7
  f_0 : V0 (Proc.devRef .tc main_v30_0) = s.main_v30_0
  f_1 : V0 (Proc.devRef .tc main_v30_1) = s.main_v30_1
  f_2 : V0 (Proc.devRef .tc main_v30_2) = s.main_v30_2
  f_3 : V0 (Proc.devRef .tc main_v30_3) = s.main_v30_3
  n_5 : V0 (Proc.devRef .tc main_v30_5) = constantI S_ 32 (BitVec.ofNat 32 j)
  k_4 : V0 (Proc.devRef .tc main_v30_4) = Cert.ReferenceIdeal.Step.K_main_v27 (F := F)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call2_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call2_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x4x4x64x256 (V0 (Proc.devRef .tc main_v30_0)) (fun k => (((![V0 (Proc.devRef .tc main_v30_5), constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x256_S1x4x4x64x256 : (Proc.devRef .tc main_while0b_call2_v0 : DevRef τ sig).ty.Contents (Elt F)) = Cert.ReferenceIdeal.Step.b4 j s := by
  unfold Cert.ReferenceIdeal.Step.b4
  rw [← al_0 h, ← al_1 h, ← al_2 h, ← al_3 h, h.f_0, h.n_5]
  try rfl
set_option maxRecDepth 8192 in
theorem al_5 (h : Holds V0 s j) : (res_main_while0b_v33 V0 : (Proc.devRef .tc main_while0b_v33 : DevRef τ sig).ty.Contents (Elt F)) = Cert.ReferenceIdeal.Step.b5 j s := by
  unfold res_main_while0b_v33 Cert.ReferenceIdeal.Step.b5
  rw [← al_4 h]
  try rfl
set_option maxRecDepth 8192 in
theorem al_6 (h : Holds V0 s j) : (constantI S_ 32 0#32 : (Proc.devRef .tc main_while0b_call3_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call3_c_0 : DevRef τ sig).ty.Contents (Elt F)) = Cert.ReferenceIdeal.Step.b7 j s := by
  unfold Cert.ReferenceIdeal.Step.b7
  rfl
set_option maxRecDepth 8192 in
theorem al_8 (h : Holds V0 s j) : (constantI S_ 32 0#32 : (Proc.devRef .tc main_while0b_call3_c_1 : DevRef τ sig).ty.Contents (Elt F)) = Cert.ReferenceIdeal.Step.b8 j s := by
  unfold Cert.ReferenceIdeal.Step.b8
  rfl
set_option maxRecDepth 8192 in
theorem al_9 (h : Holds V0 s j) : (constantI S_ 32 0#32 : (Proc.devRef .tc main_while0b_call3_c_2 : DevRef τ sig).ty.Contents (Elt F)) = Cert.ReferenceIdeal.Step.b9 j s := by
  unfold Cert.ReferenceIdeal.Step.b9
  rfl
set_option maxRecDepth 8192 in
theorem al_10 (h : Holds V0 s j) : (Host.dynamicSlice S1x4x4x64x256 (V0 (Proc.devRef .tc main_v30_1)) (fun k => (((![V0 (Proc.devRef .tc main_v30_5), constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x256_S1x4x4x64x256 : (Proc.devRef .tc main_while0b_call3_v0 : DevRef τ sig).ty.Contents (Elt F)) = Cert.ReferenceIdeal.Step.b10 j s := by
  unfold Cert.ReferenceIdeal.Step.b10
  rw [← al_6 h, ← al_7 h, ← al_8 h, ← al_9 h, h.f_1, h.n_5]
  try rfl
set_option maxRecDepth 8192 in
theorem al_11 (h : Holds V0 s j) : (res_main_while0b_v34 V0 : (Proc.devRef .tc main_while0b_v34 : DevRef τ sig).ty.Contents (Elt F)) = Cert.ReferenceIdeal.Step.b11 j s := by
  unfold res_main_while0b_v34 Cert.ReferenceIdeal.Step.b11
  rw [← al_10 h]
  try rfl
set_option maxRecDepth 8192 in
theorem al_12 (h : Holds V0 s j) : (constantI S_ 32 0#32 : (Proc.devRef .tc main_while0b_call4_c : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call4_c_0 : DevRef τ sig).ty.Contents (Elt F)) = Cert.ReferenceIdeal.Step.b13 j s := by
  unfold Cert.ReferenceIdeal.Step.b13
  rfl
set_option maxRecDepth 8192 in
theorem al_14 (h : Holds V0 s j) : (constantI S_ 32 0#32 : (Proc.devRef .tc main_while0b_call4_c_1 : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call4_c_2 : DevRef τ sig).ty.Contents (Elt F)) = Cert.ReferenceIdeal.Step.b15 j s := by
  unfold Cert.ReferenceIdeal.Step.b15
  rfl
set_option maxRecDepth 8192 in
theorem al_16 (h : Holds V0 s j) : (Host.dynamicSlice S1x4x4x64x512 (V0 (Proc.devRef .tc main_v30_2)) (fun k => (((![V0 (Proc.devRef .tc main_v30_5), constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x512_S1x4x4x64x512 : (Proc.devRef .tc main_while0b_call4_v0 : DevRef τ sig).ty.Contents (Elt F)) = Cert.ReferenceIdeal.Step.b16 j s := by
  unfold Cert.ReferenceIdeal.Step.b16
  rw [← al_12 h, ← al_13 h, ← al_14 h, ← al_15 h, h.f_2, h.n_5]
  try rfl
set_option maxRecDepth 8192 in
theorem al_17 (h : Holds V0 s j) : (res_main_while0b_v35 V0 : (Proc.devRef .tc main_while0b_v35 : DevRef τ sig).ty.Contents (Elt F)) = Cert.ReferenceIdeal.Step.b17 j s := by
  unfold res_main_while0b_v35 Cert.ReferenceIdeal.Step.b17
  rw [← al_16 h]
  try rfl
set_option maxRecDepth 8192 in
theorem al_18 (h : Holds V0 s j) : (constantI S_ 32 0#32 : (Proc.devRef .tc main_while0b_call5_c : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call5_c_0 : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call5_c_1 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call5_c_2 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x4x4x64x256 (V0 (Proc.devRef .tc main_v30_3)) (fun k => (((![V0 (Proc.devRef .tc main_v30_5), constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x256_S1x4x4x64x256 : (Proc.devRef .tc main_while0b_call5_v0 : DevRef τ sig).ty.Contents (Elt F)) = Cert.ReferenceIdeal.Step.b22 j s := by
  unfold Cert.ReferenceIdeal.Step.b22
  rw [← al_18 h, ← al_19 h, ← al_20 h, ← al_21 h, h.f_3, h.n_5]
  try rfl
set_option maxRecDepth 8192 in
theorem al_23 (h : Holds V0 s j) : (shapeCast S4x4x64x256 (Host.dynamicSlice S1x4x4x64x256 (V0 (Proc.devRef .tc main_v30_3)) (fun k => (((![V0 (Proc.devRef .tc main_v30_5), constantI S_ 32 0#32, constantI S_ 32 0#32, constantI S_ 32 0#32, constantI S_ 32 0#32] : Fin 5 → (⟨S_, .i32⟩ : BufTy).Contents (Elt F))) k (Shape.Idx.first h_S_)).toInt) sliceFits_S32x4x4x64x256_S1x4x4x64x256) shapeCasts_S1x4x4x64x256_S4x4x64x256 : (Proc.devRef .tc main_while0b_v36 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (constant S_ .f32 0x00000000#32 : (Proc.devRef .tc main_while0b_call6_call0_cst : DevRef τ sig).ty.Contents (Elt F)) = Cert.ReferenceIdeal.Step.b24 j s := by
  unfold Cert.ReferenceIdeal.Step.b24
  rfl
set_option maxRecDepth 8192 in
theorem al_25 (h : Holds V0 s j) : (broadcastInDim S_ ![] bcast_S_S_ (constant S_ .f32 0x00000000#32) : (Proc.devRef .tc main_while0b_call6_call0_v0 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (res_main_while0b_v37 V0 : (Proc.devRef .tc main_while0b_v37 : DevRef τ sig).ty.Contents (Elt F)) = Cert.ReferenceIdeal.Step.b26 j s := by
  unfold res_main_while0b_v37 Cert.ReferenceIdeal.Step.b26
  rw [← al_23 h, ← al_25 h]
  try rfl
set_option maxRecDepth 8192 in
theorem al_27 (h : Holds V0 s j) : (broadcastInDim S4x4x64x1x256 ![0, 1, 2, 4] bcast_S4x4x64x256_S4x4x64x1x256_0_1_2_4 (res_main_while0b_v37 V0) : (Proc.devRef .tc main_while0b_v38 : DevRef τ sig).ty.Contents (Elt F)) = Cert.ReferenceIdeal.Step.b27 j s := by
  unfold Cert.ReferenceIdeal.Step.b27
  rw [← al_26 h]
  try rfl
set_option maxRecDepth 8192 in
theorem al_28 (h : Holds V0 s j) : (broadcastInDim S4x4x1x64x256 ![0, 1, 3, 4] bcast_S4x4x64x256_S4x4x1x64x256_0_1_3_4 (res_main_while0b_v37 V0) : (Proc.devRef .tc main_while0b_v39 : DevRef τ sig).ty.Contents (Elt F)) = Cert.ReferenceIdeal.Step.b28 j s := by
  unfold Cert.ReferenceIdeal.Step.b28
  rw [← al_26 h]
  try rfl
set_option maxRecDepth 8192 in
theorem al_29 (h : Holds V0 s j) : (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v37 V0)) : (Proc.devRef .tc main_while0b_v40 : DevRef τ sig).ty.Contents (Elt F)) = Cert.ReferenceIdeal.Step.b29 j s := by
  unfold Cert.ReferenceIdeal.Step.b29
  rw [← al_27 h]
  try rfl
set_option maxRecDepth 8192 in
theorem al_30 (h : Holds V0 s j) : (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v37 V0)) : (Proc.devRef .tc main_while0b_v41 : DevRef τ sig).ty.Contents (Elt F)) = Cert.ReferenceIdeal.Step.b30 j s := by
  unfold Cert.ReferenceIdeal.Step.b30
  rw [← al_28 h]
  try rfl
set_option maxRecDepth 8192 in
theorem al_31 (h : Holds V0 s j) : (subf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v37 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v37 V0))) : (Proc.devRef .tc main_while0b_v42 : DevRef τ sig).ty.Contents (Elt F)) = Cert.ReferenceIdeal.Step.b31 j s := by
  unfold Cert.ReferenceIdeal.Step.b31
  rw [← al_29 h, ← al_30 h]
  try rfl
set_option maxRecDepth 8192 in
theorem al_32 (h : Holds V0 s j) : (broadcastInDim S1x1x64x64x1 ![2, 3] bcast_S64x64_S1x1x64x64x1_2_3 (V0 (Proc.devRef .tc main_v30_4)) : (Proc.devRef .tc main_while0b_v43 : DevRef τ sig).ty.Contents (Elt F)) = Cert.ReferenceIdeal.Step.b32 j s := by
  unfold Cert.ReferenceIdeal.Step.b32
  rw [h.k_4]
  try rfl
set_option maxRecDepth 8192 in
theorem al_33 (h : Holds V0 s j) : (constant S_ .f32 0xFF800000#32 : (Proc.devRef .tc main_while0b_cst_11 : DevRef τ sig).ty.Contents (Elt F)) = Cert.ReferenceIdeal.Step.b33 j s := by
  unfold Cert.ReferenceIdeal.Step.b33
  rfl
set_option maxRecDepth 8192 in
theorem al_34 (h : Holds V0 s j) : (id (constant S_ .f32 0xFF800000#32) : (Proc.devRef .tc main_while0b_call7_v0 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (broadcastInDim S4x4x64x64x256 ![0, 1, 2, 3, 4] bcast_S1x1x64x64x1_S4x4x64x64x256_0_1_2_3_4 (broadcastInDim S1x1x64x64x1 ![2, 3] bcast_S64x64_S1x1x64x64x1_2_3 (V0 (Proc.devRef .tc main_v30_4))) : (Proc.devRef .tc main_while0b_call7_v1 : DevRef τ sig).ty.Contents (Elt F)) = Cert.ReferenceIdeal.Step.b35 j s := by
  unfold Cert.ReferenceIdeal.Step.b35
  rw [← al_32 h]
  try rfl
set_option maxRecDepth 8192 in
theorem al_36 (h : Holds V0 s j) : (broadcastInDim S4x4x64x64x256 ![] bcast_S_S4x4x64x64x256 (id (constant S_ .f32 0xFF800000#32)) : (Proc.devRef .tc main_while0b_call7_v2 : DevRef τ sig).ty.Contents (Elt F)) = Cert.ReferenceIdeal.Step.b36 j s := by
  unfold Cert.ReferenceIdeal.Step.b36
  rw [← al_34 h]
  try rfl
set_option maxRecDepth 8192 in
theorem al_37 (h : Holds V0 s j) : (select (broadcastInDim S4x4x64x64x256 ![0, 1, 2, 3, 4] bcast_S1x1x64x64x1_S4x4x64x64x256_0_1_2_3_4 (broadcastInDim S1x1x64x64x1 ![2, 3] bcast_S64x64_S1x1x64x64x1_2_3 (V0 (Proc.devRef .tc main_v30_4)))) (subf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v37 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v37 V0)))) (broadcastInDim S4x4x64x64x256 ![] bcast_S_S4x4x64x64x256 (id (constant S_ .f32 0xFF800000#32))) : (Proc.devRef .tc main_while0b_v44 : DevRef τ sig).ty.Contents (Elt F)) = Cert.ReferenceIdeal.Step.b37 j s := by
  unfold Cert.ReferenceIdeal.Step.b37
  rw [← al_35 h, ← al_31 h, ← al_36 h]
  try rfl
set_option maxRecDepth 8192 in
theorem al_38 (h : Holds V0 s j) : (Host.exp (select (broadcastInDim S4x4x64x64x256 ![0, 1, 2, 3, 4] bcast_S1x1x64x64x1_S4x4x64x64x256_0_1_2_3_4 (broadcastInDim S1x1x64x64x1 ![2, 3] bcast_S64x64_S1x1x64x64x1_2_3 (V0 (Proc.devRef .tc main_v30_4)))) (subf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v37 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v37 V0)))) (broadcastInDim S4x4x64x64x256 ![] bcast_S_S4x4x64x64x256 (id (constant S_ .f32 0xFF800000#32)))) : (Proc.devRef .tc main_while0b_v45 : DevRef τ sig).ty.Contents (Elt F)) = Cert.ReferenceIdeal.Step.b38 j s := by
  unfold Cert.ReferenceIdeal.Step.b38
  rw [← al_37 h]
  try rfl
set_option maxRecDepth 8192 in
theorem al_39 (h : Holds V0 s j) : (broadcastInDim S4x4x64x1x256 ![0, 1, 2, 4] bcast_S4x4x64x256_S4x4x64x1x256_0_1_2_4 (res_main_while0b_v33 V0) : (Proc.devRef .tc main_while0b_v46 : DevRef τ sig).ty.Contents (Elt F)) = Cert.ReferenceIdeal.Step.b39 j s := by
  unfold Cert.ReferenceIdeal.Step.b39
  rw [← al_5 h]
  try rfl
set_option maxRecDepth 8192 in
theorem al_40 (h : Holds V0 s j) : (broadcastInDim S4x4x1x64x256 ![0, 1, 3, 4] bcast_S4x4x64x256_S4x4x1x64x256_0_1_3_4 (res_main_while0b_v34 V0) : (Proc.devRef .tc main_while0b_v47 : DevRef τ sig).ty.Contents (Elt F)) = Cert.ReferenceIdeal.Step.b40 j s := by
  unfold Cert.ReferenceIdeal.Step.b40
  rw [← al_11 h]
  try rfl
set_option maxRecDepth 8192 in
theorem al_41 (h : Holds V0 s j) : (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v33 V0)) : (Proc.devRef .tc main_while0b_v48 : DevRef τ sig).ty.Contents (Elt F)) = Cert.ReferenceIdeal.Step.b41 j s := by
  unfold Cert.ReferenceIdeal.Step.b41
  rw [← al_39 h]
  try rfl
set_option maxRecDepth 8192 in
theorem al_42 (h : Holds V0 s j) : (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v34 V0)) : (Proc.devRef .tc main_while0b_v49 : DevRef τ sig).ty.Contents (Elt F)) = Cert.ReferenceIdeal.Step.b42 j s := by
  unfold Cert.ReferenceIdeal.Step.b42
  rw [← al_40 h]
  try rfl
set_option maxRecDepth 8192 in
theorem al_43 (h : Holds V0 s j) : (mulf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v33 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v34 V0))) : (Proc.devRef .tc main_while0b_v50 : DevRef τ sig).ty.Contents (Elt F)) = Cert.ReferenceIdeal.Step.b43 j s := by
  unfold Cert.ReferenceIdeal.Step.b43
  rw [← al_41 h, ← al_42 h]
  try rfl
set_option maxRecDepth 8192 in
theorem al_44 (h : Holds V0 s j) : (mulf (mulf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v33 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v34 V0)))) (Host.exp (select (broadcastInDim S4x4x64x64x256 ![0, 1, 2, 3, 4] bcast_S1x1x64x64x1_S4x4x64x64x256_0_1_2_3_4 (broadcastInDim S1x1x64x64x1 ![2, 3] bcast_S64x64_S1x1x64x64x1_2_3 (V0 (Proc.devRef .tc main_v30_4)))) (subf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v37 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v37 V0)))) (broadcastInDim S4x4x64x64x256 ![] bcast_S_S4x4x64x64x256 (id (constant S_ .f32 0xFF800000#32))))) : (Proc.devRef .tc main_while0b_v51 : DevRef τ sig).ty.Contents (Elt F)) = Cert.ReferenceIdeal.Step.b44 j s := by
  unfold Cert.ReferenceIdeal.Step.b44
  rw [← al_43 h, ← al_38 h]
  try rfl
set_option maxRecDepth 8192 in
theorem al_45 (h : Holds V0 s j) : (constant S_ .f32 0x00000000#32 : (Proc.devRef .tc main_while0b_cst_12 : DevRef τ sig).ty.Contents (Elt F)) = Cert.ReferenceIdeal.Step.b45 j s := by
  unfold Cert.ReferenceIdeal.Step.b45
  rfl
set_option maxRecDepth 8192 in
theorem al_46 (h : Holds V0 s j) : (Host.reduceAdd (mulf (mulf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v33 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v34 V0)))) (Host.exp (select (broadcastInDim S4x4x64x64x256 ![0, 1, 2, 3, 4] bcast_S1x1x64x64x1_S4x4x64x64x256_0_1_2_3_4 (broadcastInDim S1x1x64x64x1 ![2, 3] bcast_S64x64_S1x1x64x64x1_2_3 (V0 (Proc.devRef .tc main_v30_4)))) (subf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v37 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v37 V0)))) (broadcastInDim S4x4x64x64x256 ![] bcast_S_S4x4x64x64x256 (id (constant S_ .f32 0xFF800000#32)))))) (constant S_ .f32 0x00000000#32) reducesTo_S4x4x64x64x256_S4x4x64x64_d4 h_S_ : (Proc.devRef .tc main_while0b_v52 : DevRef τ sig).ty.Contents (Elt F)) = Cert.ReferenceIdeal.Step.b46 j s := by
  unfold Cert.ReferenceIdeal.Step.b46
  rw [← al_44 h, ← al_45 h]
  try rfl
set_option maxRecDepth 8192 in
theorem al_47 (h : Holds V0 s j) : (Host.dotGeneral dot_S4x4x64x64_S4x4x64x512_S4x4x64x512_3_2_2_3_01_01 none (Host.reduceAdd (mulf (mulf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v33 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v34 V0)))) (Host.exp (select (broadcastInDim S4x4x64x64x256 ![0, 1, 2, 3, 4] bcast_S1x1x64x64x1_S4x4x64x64x256_0_1_2_3_4 (broadcastInDim S1x1x64x64x1 ![2, 3] bcast_S64x64_S1x1x64x64x1_2_3 (V0 (Proc.devRef .tc main_v30_4)))) (subf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v37 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v37 V0)))) (broadcastInDim S4x4x64x64x256 ![] bcast_S_S4x4x64x64x256 (id (constant S_ .f32 0xFF800000#32)))))) (constant S_ .f32 0x00000000#32) reducesTo_S4x4x64x64x256_S4x4x64x64_d4 h_S_) (res_main_while0b_v35 V0) : (Proc.devRef .tc main_while0b_v53 : DevRef τ sig).ty.Contents (Elt F)) = Cert.ReferenceIdeal.Step.b47 j s := by
  unfold Cert.ReferenceIdeal.Step.b47
  rw [← al_46 h, ← al_17 h]
  try rfl
set_option maxRecDepth 8192 in
theorem al_48 (h : Holds V0 s j) : (Host.exp (res_main_while0b_v37 V0) : (Proc.devRef .tc main_while0b_v54 : DevRef τ sig).ty.Contents (Elt F)) = Cert.ReferenceIdeal.Step.b48 j s := by
  unfold Cert.ReferenceIdeal.Step.b48
  rw [← al_26 h]
  try rfl
set_option maxRecDepth 8192 in
theorem al_49 (h : Holds V0 s j) : (mulf (res_main_while0b_v33 V0) (Host.exp (res_main_while0b_v37 V0)) : (Proc.devRef .tc main_while0b_v55 : DevRef τ sig).ty.Contents (Elt F)) = Cert.ReferenceIdeal.Step.b49 j s := by
  unfold Cert.ReferenceIdeal.Step.b49
  rw [← al_5 h, ← al_48 h]
  try rfl
set_option maxRecDepth 8192 in
theorem al_50 (h : Holds V0 s j) : (Host.dotGeneral dot_S4x4x64x256_S4x4x256x512_S4x4x64x512_3_2_2_3_01_01 none (mulf (res_main_while0b_v33 V0) (Host.exp (res_main_while0b_v37 V0))) (V0 (Proc.devRef .tc main_v30_6)) : (Proc.devRef .tc main_while0b_v56 : DevRef τ sig).ty.Contents (Elt F)) = Cert.ReferenceIdeal.Step.b50 j s := by
  unfold Cert.ReferenceIdeal.Step.b50
  rw [← al_49 h, h.f_6]
  try rfl
set_option maxRecDepth 8192 in
theorem al_51 (h : Holds V0 s j) : (addf (Host.dotGeneral dot_S4x4x64x64_S4x4x64x512_S4x4x64x512_3_2_2_3_01_01 none (Host.reduceAdd (mulf (mulf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v33 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v34 V0)))) (Host.exp (select (broadcastInDim S4x4x64x64x256 ![0, 1, 2, 3, 4] bcast_S1x1x64x64x1_S4x4x64x64x256_0_1_2_3_4 (broadcastInDim S1x1x64x64x1 ![2, 3] bcast_S64x64_S1x1x64x64x1_2_3 (V0 (Proc.devRef .tc main_v30_4)))) (subf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v37 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v37 V0)))) (broadcastInDim S4x4x64x64x256 ![] bcast_S_S4x4x64x64x256 (id (constant S_ .f32 0xFF800000#32)))))) (constant S_ .f32 0x00000000#32) reducesTo_S4x4x64x64x256_S4x4x64x64_d4 h_S_) (res_main_while0b_v35 V0)) (Host.dotGeneral dot_S4x4x64x256_S4x4x256x512_S4x4x64x512_3_2_2_3_01_01 none (mulf (res_main_while0b_v33 V0) (Host.exp (res_main_while0b_v37 V0))) (V0 (Proc.devRef .tc main_v30_6))) : (Proc.devRef .tc main_while0b_v57 : DevRef τ sig).ty.Contents (Elt F)) = Cert.ReferenceIdeal.Step.b51 j s := by
  unfold Cert.ReferenceIdeal.Step.b51
  rw [← al_47 h, ← al_50 h]
  try rfl
set_option maxRecDepth 8192 in
theorem al_52 (h : Holds V0 s j) : (res_main_while0b_v58 V0 : (Proc.devRef .tc main_while0b_v58 : DevRef τ sig).ty.Contents (Elt F)) = Cert.ReferenceIdeal.Step.b52 j s := by
  unfold res_main_while0b_v58 Cert.ReferenceIdeal.Step.b52
  rw [← al_26 h]
  try rfl
set_option maxRecDepth 8192 in
theorem al_53 (h : Holds V0 s j) : (shapeCast S4x4x256 (res_main_while0b_v58 V0) shapeCasts_S4x4x1x256_S4x4x256 : (Proc.devRef .tc main_while0b_v59 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (Host.exp (shapeCast S4x4x256 (res_main_while0b_v58 V0) shapeCasts_S4x4x1x256_S4x4x256) : (Proc.devRef .tc main_while0b_v60 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (broadcastInDim S4x4x256x1 ![0, 1, 2] bcast_S4x4x256_S4x4x256x1_0_1_2 (Host.exp (shapeCast S4x4x256 (res_main_while0b_v58 V0) shapeCasts_S4x4x1x256_S4x4x256)) : (Proc.devRef .tc main_while0b_v61 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (broadcastInDim S4x4x256x512 ![0, 1, 2, 3] bcast_S4x4x256x1_S4x4x256x512_0_1_2_3 (broadcastInDim S4x4x256x1 ![0, 1, 2] bcast_S4x4x256_S4x4x256x1_0_1_2 (Host.exp (shapeCast S4x4x256 (res_main_while0b_v58 V0) shapeCasts_S4x4x1x256_S4x4x256))) : (Proc.devRef .tc main_while0b_v62 : DevRef τ sig).ty.Contents (Elt F)) = Cert.ReferenceIdeal.Step.b56 j s := by
  unfold Cert.ReferenceIdeal.Step.b56
  rw [← al_55 h]
  try rfl
set_option maxRecDepth 8192 in
theorem al_57 (h : Holds V0 s j) : (mulf (broadcastInDim S4x4x256x512 ![0, 1, 2, 3] bcast_S4x4x256x1_S4x4x256x512_0_1_2_3 (broadcastInDim S4x4x256x1 ![0, 1, 2] bcast_S4x4x256_S4x4x256x1_0_1_2 (Host.exp (shapeCast S4x4x256 (res_main_while0b_v58 V0) shapeCasts_S4x4x1x256_S4x4x256)))) (V0 (Proc.devRef .tc main_v30_6)) : (Proc.devRef .tc main_while0b_v63 : DevRef τ sig).ty.Contents (Elt F)) = Cert.ReferenceIdeal.Step.b57 j s := by
  unfold Cert.ReferenceIdeal.Step.b57
  rw [← al_56 h, h.f_6]
  try rfl
set_option maxRecDepth 8192 in
theorem al_58 (h : Holds V0 s j) : (broadcastInDim S4x4x64x256 ![0, 1, 2, 3] bcast_S4x4x1x256_S4x4x64x256_0_1_2_3 (res_main_while0b_v58 V0) : (Proc.devRef .tc main_while0b_v64 : DevRef τ sig).ty.Contents (Elt F)) = Cert.ReferenceIdeal.Step.b58 j s := by
  unfold Cert.ReferenceIdeal.Step.b58
  rw [← al_52 h]
  try rfl
set_option maxRecDepth 8192 in
theorem al_59 (h : Holds V0 s j) : (subf (broadcastInDim S4x4x64x256 ![0, 1, 2, 3] bcast_S4x4x1x256_S4x4x64x256_0_1_2_3 (res_main_while0b_v58 V0)) (res_main_while0b_v37 V0) : (Proc.devRef .tc main_while0b_v65 : DevRef τ sig).ty.Contents (Elt F)) = Cert.ReferenceIdeal.Step.b59 j s := by
  unfold Cert.ReferenceIdeal.Step.b59
  rw [← al_58 h, ← al_26 h]
  try rfl
set_option maxRecDepth 8192 in
theorem al_60 (h : Holds V0 s j) : (Host.exp (subf (broadcastInDim S4x4x64x256 ![0, 1, 2, 3] bcast_S4x4x1x256_S4x4x64x256_0_1_2_3 (res_main_while0b_v58 V0)) (res_main_while0b_v37 V0)) : (Proc.devRef .tc main_while0b_v66 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (mulf (res_main_while0b_v34 V0) (Host.exp (subf (broadcastInDim S4x4x64x256 ![0, 1, 2, 3] bcast_S4x4x1x256_S4x4x64x256_0_1_2_3 (res_main_while0b_v58 V0)) (res_main_while0b_v37 V0))) : (Proc.devRef .tc main_while0b_v67 : DevRef τ sig).ty.Contents (Elt F)) = Cert.ReferenceIdeal.Step.b61 j s := by
  unfold Cert.ReferenceIdeal.Step.b61
  rw [← al_11 h, ← al_60 h]
  try rfl
set_option maxRecDepth 8192 in
theorem al_62 (h : Holds V0 s j) : (Host.dotGeneral dot_S4x4x64x256_S4x4x64x512_S4x4x256x512_2_2_3_3_01_01 none (mulf (res_main_while0b_v34 V0) (Host.exp (subf (broadcastInDim S4x4x64x256 ![0, 1, 2, 3] bcast_S4x4x1x256_S4x4x64x256_0_1_2_3 (res_main_while0b_v58 V0)) (res_main_while0b_v37 V0)))) (res_main_while0b_v35 V0) : (Proc.devRef .tc main_while0b_v68 : DevRef τ sig).ty.Contents (Elt F)) = Cert.ReferenceIdeal.Step.b62 j s := by
  unfold Cert.ReferenceIdeal.Step.b62
  rw [← al_61 h, ← al_17 h]
  try rfl
set_option maxRecDepth 8192 in
theorem al_63 (h : Holds V0 s j) : (addf (mulf (broadcastInDim S4x4x256x512 ![0, 1, 2, 3] bcast_S4x4x256x1_S4x4x256x512_0_1_2_3 (broadcastInDim S4x4x256x1 ![0, 1, 2] bcast_S4x4x256_S4x4x256x1_0_1_2 (Host.exp (shapeCast S4x4x256 (res_main_while0b_v58 V0) shapeCasts_S4x4x1x256_S4x4x256)))) (V0 (Proc.devRef .tc main_v30_6))) (Host.dotGeneral dot_S4x4x64x256_S4x4x64x512_S4x4x256x512_2_2_3_3_01_01 none (mulf (res_main_while0b_v34 V0) (Host.exp (subf (broadcastInDim S4x4x64x256 ![0, 1, 2, 3] bcast_S4x4x1x256_S4x4x64x256_0_1_2_3 (res_main_while0b_v58 V0)) (res_main_while0b_v37 V0)))) (res_main_while0b_v35 V0)) : (Proc.devRef .tc main_while0b_v69 : DevRef τ sig).ty.Contents (Elt F)) = Cert.ReferenceIdeal.Step.b63 j s := by
  unfold Cert.ReferenceIdeal.Step.b63
  rw [← al_57 h, ← al_62 h]
  try rfl
set_option maxRecDepth 8192 in
theorem al_64 (h : Holds V0 s j) : (broadcastInDim S1x4x4x64x512 ![1, 2, 3, 4] bcast_S4x4x64x512_S1x4x4x64x512_1_2_3_4 (addf (Host.dotGeneral dot_S4x4x64x64_S4x4x64x512_S4x4x64x512_3_2_2_3_01_01 none (Host.reduceAdd (mulf (mulf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v33 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v34 V0)))) (Host.exp (select (broadcastInDim S4x4x64x64x256 ![0, 1, 2, 3, 4] bcast_S1x1x64x64x1_S4x4x64x64x256_0_1_2_3_4 (broadcastInDim S1x1x64x64x1 ![2, 3] bcast_S64x64_S1x1x64x64x1_2_3 (V0 (Proc.devRef .tc main_v30_4)))) (subf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v37 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v37 V0)))) (broadcastInDim S4x4x64x64x256 ![] bcast_S_S4x4x64x64x256 (id (constant S_ .f32 0xFF800000#32)))))) (constant S_ .f32 0x00000000#32) reducesTo_S4x4x64x64x256_S4x4x64x64_d4 h_S_) (res_main_while0b_v35 V0)) (Host.dotGeneral dot_S4x4x64x256_S4x4x256x512_S4x4x64x512_3_2_2_3_01_01 none (mulf (res_main_while0b_v33 V0) (Host.exp (res_main_while0b_v37 V0))) (V0 (Proc.devRef .tc main_v30_6)))) : (Proc.devRef .tc main_while0b_call8_v0 : DevRef τ sig).ty.Contents (Elt F)) = Cert.ReferenceIdeal.Step.b64 j s := by
  unfold Cert.ReferenceIdeal.Step.b64
  rw [← al_51 h]
  try rfl
set_option maxRecDepth 8192 in
theorem al_65 (h : Holds V0 s j) : (constantI S_ 32 0#32 : (Proc.devRef .tc main_while0b_call8_c : DevRef τ sig).ty.Contents (Elt F)) = Cert.ReferenceIdeal.Step.b65 j s := by
  unfold Cert.ReferenceIdeal.Step.b65
  rfl
set_option maxRecDepth 8192 in
theorem al_66 (h : Holds V0 s j) : (constantI S_ 32 0#32 : (Proc.devRef .tc main_while0b_call8_c_0 : DevRef τ sig).ty.Contents (Elt F)) = Cert.ReferenceIdeal.Step.b66 j s := by
  unfold Cert.ReferenceIdeal.Step.b66
  rfl
set_option maxRecDepth 8192 in
theorem al_67 (h : Holds V0 s j) : (constantI S_ 32 0#32 : (Proc.devRef .tc main_while0b_call8_c_1 : DevRef τ sig).ty.Contents (Elt F)) = Cert.ReferenceIdeal.Step.b67 j s := by
  unfold Cert.ReferenceIdeal.Step.b67
  rfl
set_option maxRecDepth 8192 in
theorem al_68 (h : Holds V0 s j) : (constantI S_ 32 0#32 : (Proc.devRef .tc main_while0b_call8_c_2 : DevRef τ sig).ty.Contents (Elt F)) = Cert.ReferenceIdeal.Step.b68 j s := by
  unfold Cert.ReferenceIdeal.Step.b68
  rfl
set_option maxRecDepth 8192 in
theorem al_69 (h : Holds V0 s j) : (Host.dynamicUpdateSlice (V0 (Proc.devRef .tc main_v30_7)) (broadcastInDim S1x4x4x64x512 ![1, 2, 3, 4] bcast_S4x4x64x512_S1x4x4x64x512_1_2_3_4 (addf (Host.dotGeneral dot_S4x4x64x64_S4x4x64x512_S4x4x64x512_3_2_2_3_01_01 none (Host.reduceAdd (mulf (mulf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v33 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v34 V0)))) (Host.exp (select (broadcastInDim S4x4x64x64x256 ![0, 1, 2, 3, 4] bcast_S1x1x64x64x1_S4x4x64x64x256_0_1_2_3_4 (broadcastInDim S1x1x64x64x1 ![2, 3] bcast_S64x64_S1x1x64x64x1_2_3 (V0 (Proc.devRef .tc main_v30_4)))) (subf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v37 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v37 V0)))) (broadcastInDim S4x4x64x64x256 ![] bcast_S_S4x4x64x64x256 (id (constant S_ .f32 0xFF800000#32)))))) (constant S_ .f32 0x00000000#32) reducesTo_S4x4x64x64x256_S4x4x64x64_d4 h_S_) (res_main_while0b_v35 V0)) (Host.dotGeneral dot_S4x4x64x256_S4x4x256x512_S4x4x64x512_3_2_2_3_01_01 none (mulf (res_main_while0b_v33 V0) (Host.exp (res_main_while0b_v37 V0))) (V0 (Proc.devRef .tc main_v30_6))))) (fun k => (((![V0 (Proc.devRef .tc main_v30_5), constantI S_ 32 0#32, constantI S_ 32 0#32, constantI S_ 32 0#32, constantI S_ 32 0#32] : Fin 5 → (⟨S_, .i32⟩ : BufTy).Contents (Elt F))) k (Shape.Idx.first h_S_)).toInt) updateFits_S32x4x4x64x512_S1x4x4x64x512 : (Proc.devRef .tc main_while0b_v70 : DevRef τ sig).ty.Contents (Elt F)) = Cert.ReferenceIdeal.Step.b69 j s := by
  unfold Cert.ReferenceIdeal.Step.b69
  rw [← al_64 h, ← al_65 h, ← al_66 h, ← al_67 h, ← al_68 h, h.f_7, h.n_5]
  try rfl

/-! One trip's step of the carried values is `step`, field by field; a counter steps to the next number. -/

theorem step_6 (h : Holds V0 s j) : step_main_v30_6 V0 = (step j s).main_v30_6 := by
  unfold step_main_v30_6 Cert.ReferenceIdeal.Step.step
  show id (addf (mulf (broadcastInDim S4x4x256x512 ![0, 1, 2, 3] bcast_S4x4x256x1_S4x4x256x512_0_1_2_3 (broadcastInDim S4x4x256x1 ![0, 1, 2] bcast_S4x4x256_S4x4x256x1_0_1_2 (Host.exp (shapeCast S4x4x256 (res_main_while0b_v58 V0) shapeCasts_S4x4x1x256_S4x4x256)))) (V0 (Proc.devRef .tc main_v30_6))) (Host.dotGeneral dot_S4x4x64x256_S4x4x64x512_S4x4x256x512_2_2_3_3_01_01 none (mulf (res_main_while0b_v34 V0) (Host.exp (subf (broadcastInDim S4x4x64x256 ![0, 1, 2, 3] bcast_S4x4x1x256_S4x4x64x256_0_1_2_3 (res_main_while0b_v58 V0)) (res_main_while0b_v37 V0)))) (res_main_while0b_v35 V0))) = _
  rw [al_63 h]
  try rfl
theorem step_7 (h : Holds V0 s j) : step_main_v30_7 V0 = (step j s).main_v30_7 := by
  unfold step_main_v30_7 Cert.ReferenceIdeal.Step.step
  show id (Host.dynamicUpdateSlice (V0 (Proc.devRef .tc main_v30_7)) (broadcastInDim S1x4x4x64x512 ![1, 2, 3, 4] bcast_S4x4x64x512_S1x4x4x64x512_1_2_3_4 (addf (Host.dotGeneral dot_S4x4x64x64_S4x4x64x512_S4x4x64x512_3_2_2_3_01_01 none (Host.reduceAdd (mulf (mulf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v33 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v34 V0)))) (Host.exp (select (broadcastInDim S4x4x64x64x256 ![0, 1, 2, 3, 4] bcast_S1x1x64x64x1_S4x4x64x64x256_0_1_2_3_4 (broadcastInDim S1x1x64x64x1 ![2, 3] bcast_S64x64_S1x1x64x64x1_2_3 (V0 (Proc.devRef .tc main_v30_4)))) (subf (broadcastInDim S4x4x64x64x256 ![0, 1, 2, 3, 4] bcast_S4x4x64x1x256_S4x4x64x64x256_0_1_2_3_4 (broadcastInDim S4x4x64x1x256 ![0, 1, 2, 4] bcast_S4x4x64x256_S4x4x64x1x256_0_1_2_4 (res_main_while0b_v37 V0))) (broadcastInDim S4x4x64x64x256 ![0, 1, 2, 3, 4] bcast_S4x4x1x64x256_S4x4x64x64x256_0_1_2_3_4 (broadcastInDim S4x4x1x64x256 ![0, 1, 3, 4] bcast_S4x4x64x256_S4x4x1x64x256_0_1_3_4 (res_main_while0b_v37 V0)))) (broadcastInDim S4x4x64x64x256 ![] bcast_S_S4x4x64x64x256 (id (constant S_ .f32 0xFF800000#32)))))) (constant S_ .f32 0x00000000#32) reducesTo_S4x4x64x64x256_S4x4x64x64_d4 h_S_) (res_main_while0b_v35 V0)) (Host.dotGeneral dot_S4x4x64x256_S4x4x256x512_S4x4x64x512_3_2_2_3_01_01 none (mulf (res_main_while0b_v33 V0) (Host.exp (res_main_while0b_v37 V0))) (V0 (Proc.devRef .tc main_v30_6))))) (fun k => (((![V0 (Proc.devRef .tc main_v30_5), constantI S_ 32 0#32, constantI S_ 32 0#32, constantI S_ 32 0#32, constantI S_ 32 0#32] : Fin 5 → (⟨S_, .i32⟩ : BufTy).Contents (Elt F))) k (Shape.Idx.first h_S_)).toInt) updateFits_S32x4x4x64x512_S1x4x4x64x512) = _
  exact al_69 h
theorem step_5 (h : Holds V0 s j) : step_main_v30_5 V0 = constantI S_ 32 (BitVec.ofNat 32 (j + 1)) := by
  unfold step_main_v30_5
  rw [h.n_5]
  funext i
  show BitVec.ofNat 32 j + 1#32 = BitVec.ofNat 32 (j + 1)
  simp only [BitVec.ofNat_add]

set_option maxRecDepth 8192 in
theorem out_main_v32_holds (h : Holds V0 s j) : out_main_v32 V0 = Cert.ReferenceIdeal.Step.R_main_v32 s := by
  unfold out_main_v32 Cert.ReferenceIdeal.Step.R_main_v32
  rw [h.f_7]
  try rfl

/-- One trip keeps the valuation holding: `step` of the state, the same set-up values, the next number. -/
theorem holds_step (h : Holds V0 s j) : Holds (STEP V0) (step j s) (j + 1) where
  f_6 := (STEP_main_v30_6 V0).trans (step_6 h)
  f_7 := (STEP_main_v30_7 V0).trans (step_7 h)
  n_5 := (STEP_main_v30_5 V0).trans (step_5 h)
  k_4 := (STEP_main_v30_4 V0).trans h.k_4
  f_0 := (STEP_main_v30_0 V0).trans h.f_0
  f_1 := (STEP_main_v30_1 V0).trans h.f_1
  f_2 := (STEP_main_v30_2 V0).trans h.f_2
  f_3 := (STEP_main_v30_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v32) = Cert.ReferenceIdeal.Step.R_main_v32 (it c 32)
      ∧ r.2.mem ((c.tc : Thread nD τ).loc main_v30_6) = (it c 32).main_v30_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 32
    ⟨(h c).1.trans (out_main_v32_holds hk), (h c).2.1.trans hk.f_6, (h c).2.2.1, (h c).2.2.2.1, (h c).2.2.2.2.1, (h c).2.2.2.2.2⟩) (Value.run m ρ)

end Cert.ReferenceIdeal.OwnStep

end
-- ==== Proof.Head.lean ====
/- One head's work on one chunk, as the kernel computes it: the scores of the chunk's queries against its keys in slabs
   of four rows and four diagonals, the chunk's output, and the state it hands to the next chunk. The four heads of the
   kernel's loop body are these functions of what they read. -/
module

public import proofs.«01_k».proof.Proof.IdealOut

@[expose] public section

set_option maxRecDepth 16384

noncomputable section

namespace Cert.KernelIdeal.Own

open Cert.KernelIdeal.Gen

open Idealize.ShloMosaic Idealize.SL.Sem

variable {F : FTy → Type} [FloatOps F]

/-- The scores of the four rows from row `lo` against the keys before row `lo`: both sides are scaled by the decay from
    row `r`, the row before `lo`; keys from row `lo` on get the factor `exp (-∞)`. -/
def slab (r lo : ℕ) (w : BitVec 32) (hr : S64x256.Slices ![r, 0] S1x256) (hl : S64x256.Slices ![lo, 0] S4x256)
    (row : IVec S64x256 32) (q k b : FVec F S64x256 .f32) : FVec F S4x64 .f32 :=
  matmul dot_S4x256_S64x256_S4x64_1_1_0_0_n_n none
    (truncf .bf16 (mulf (extractStridedSlice S4x256 ![lo, 0] q hl)
      (exp (subf (extractStridedSlice S4x256 ![lo, 0] b hl)
        (broadcastTo S4x256 (extractStridedSlice S1x256 ![r, 0] b hr) broadcasts_S1x256_S4x256)))) bitsLt_bf16_f32)
    (truncf .bf16 (mulf k (exp (select (cmpi .slt row (broadcast S64x256 w))
      (subf (broadcastTo S64x256 (extractStridedSlice S1x256 ![r, 0] b hr) broadcasts_S1x256_S64x256) b)
      (broadcast S64x256 (Scalar.ofBits .f32 0xFF800000#32 : F .f32))))) bitsLt_bf16_f32)
    (constant S4x64 .f32 0x00000000#32)

/-- The products of the queries with the keys `d` rows above them, scaled by the decay between the two rows; zero where
    the key lies in an earlier group of four rows. -/
def diagTerm (w : BitVec 32) (rsub : IVec S64x256 32) (q k b : FVec F S64x256 .f32) : FVec F S64x256 .f32 :=
  mulf (mulf q (dynamicRotate 0 w none k rotates_S64x256_d0))
    (exp (select (cmpi .sge rsub (broadcast S64x256 w)) (subf b (dynamicRotate 0 w none b rotates_S64x256_d0))
      (broadcast S64x256 (Scalar.ofBits .f32 0xFF800000#32 : F .f32))))

/-- The row sums of `t`, placed on the `w`-th diagonal below the main one; zero elsewhere. -/
def onDiag (w : BitVec 32) (ri cj : IVec S64x64 32) (t : FVec F S64x256 .f32) : FVec F S64x64 .f32 :=
  select (cmpi .eq (subi ri cj) (broadcast S64x64 w))
    (broadcastTo S64x64 (shapeCast S64x1 (shapeCast S64x1 (multiReduction .add [1] S64 t 0x00000000#32 reduces_S64x256_S64 (.inl rfl) rfl)
      shapeCasts_S64_S64x1) shapeCasts_S64x1_S64x1) broadcasts_S64x1_S64x64)
    (broadcast S64x64 (Scalar.ofBits .f32 0x00000000#32 : F .f32))

/-- The part of the scores that comes from the groups of four rows before the query's own. -/
def below (row : IVec S64x256 32) (q k b : FVec F S64x256 .f32) : FVec F S64x64 .f32 :=
  concatenate S64x64 0 [⟨S4x64, broadcast S4x64 (Scalar.ofBits .f32 0x00000000#32 : F .f32)⟩,
    ⟨S4x64, slab 3 4 4#32 slices_S64x256_o3_0_S1x256 slices_S64x256_o4_0_S4x256 row q k b⟩,
    ⟨S4x64, slab 7 8 8#32 slices_S64x256_o7_0_S1x256 slices_S64x256_o8_0_S4x256 row q k b⟩,
    ⟨S4x64, slab 11 12 12#32 slices_S64x256_o11_0_S1x256 slices_S64x256_o12_0_S4x256 row q k b⟩,
    ⟨S4x64, slab 15 16 16#32 slices_S64x256_o15_0_S1x256 slices_S64x256_o16_0_S4x256 row q k b⟩,
    ⟨S4x64, slab 19 20 20#32 slices_S64x256_o19_0_S1x256 slices_S64x256_o20_0_S4x256 row q k b⟩,
    ⟨S4x64, slab 23 24 24#32 slices_S64x256_o23_0_S1x256 slices_S64x256_o24_0_S4x256 row q k b⟩,
    ⟨S4x64, slab 27 28 28#32 slices_S64x256_o27_0_S1x256 slices_S64x256_o28_0_S4x256 row q k b⟩,
    ⟨S4x64, slab 31 32 32#32 slices_S64x256_o31_0_S1x256 slices_S64x256_o32_0_S4x256 row q k b⟩,
    ⟨S4x64, slab 35 36 36#32 slices_S64x256_o35_0_S1x256 slices_S64x256_o36_0_S4x256 row q k b⟩,
    ⟨S4x64, slab 39 40 40#32 slices_S64x256_o39_0_S1x256 slices_S64x256_o40_0_S4x256 row q k b⟩,
    ⟨S4x64, slab 43 44 44#32 slices_S64x256_o43_0_S1x256 slices_S64x256_o44_0_S4x256 row q k b⟩,
    ⟨S4x64, slab 47 48 48#32 slices_S64x256_o47_0_S1x256 slices_S64x256_o48_0_S4x256 row q k b⟩,
    ⟨S4x64, slab 51 52 52#32 slices_S64x256_o51_0_S1x256 slices_S64x256_o52_0_S4x256 row q k b⟩,
    ⟨S4x64, slab 55 56 56#32 slices_S64x256_o55_0_S1x256 slices_S64x256_o56_0_S4x256 row q k b⟩,
    ⟨S4x64, slab 59 60 60#32 slices_S64x256_o59_0_S1x256 slices_S64x256_o60_0_S4x256 row q k b⟩]
    concatenates_S4x64_S4x64_S4x64_S4x64_S4x64_S4x64_S4x64_S4x64_S4x64_S4x64_S4x64_S4x64_S4x64_S4x64_S4x64_S4x64_S64x64_d0

/-- The scores of one head in one chunk. -/
def scores (row rsub : IVec S64x256 32) (ri cj : IVec S64x64 32) (q k b : FVec F S64x256 .f32) : FVec F S64x64 .f32 :=
  addf (addf (addf (addf (below row q k b) (onDiag 0#32 ri cj (mulf q k)))
    (onDiag 1#32 ri cj (diagTerm 1#32 rsub q k b))) (onDiag 2#32 ri cj (diagTerm 2#32 rsub q k b)))
    (onDiag 3#32 ri cj (diagTerm 3#32 rsub q k b))

/-- The output of one head in one chunk: the queries read from the state with their decay, and the scores times the
    values. -/
def headO (row rsub : IVec S64x256 32) (ri cj : IVec S64x64 32) (q k b : FVec F S64x256 .f32) (v : FVec F S64x512 .f32)
    (s : FVec F S256x512 .f32) : FVec F S64x512 .f32 :=
  addf (matmul dot_S64x256_S256x512_S64x512_1_0_0_1_n_n none (truncf .bf16 (mulf q (exp b)) bitsLt_bf16_f32)
      (truncf .bf16 s bitsLt_bf16_f32) (constant S64x512 .f32 0x00000000#32))
    (matmul dot_S64x64_S64x512_S64x512_1_0_0_1_n_n none (truncf .bf16 (scores row rsub ri cj q k b) bitsLt_bf16_f32)
      (truncf .bf16 v bitsLt_bf16_f32) (constant S64x512 .f32 0x00000000#32))

/-- The state that one head's chunk leaves: the old state with the chunk's whole decay, and the keys, each with the decay
    from its row to the chunk's end, times the values. -/
def headS (k b : FVec F S64x256 .f32) (v : FVec F S64x512 .f32) (s : FVec F S256x512 .f32) : FVec F S256x512 .f32 :=
  addf (mulf (concatenate S256x512 1
        [⟨S256x128, transpose S256x128 [1, 0] (broadcastTo S128x256 (shapeCast S1x256 (exp (extractStridedSlice S1x256 ![63, 0] b slices_S64x256_o63_0_S1x256))
          shapeCasts_S1x256_S1x256) broadcasts_S1x256_S128x256) transposes_S128x256_p1_0_S256x128⟩,
         ⟨S256x128, transpose S256x128 [1, 0] (broadcastTo S128x256 (shapeCast S1x256 (exp (extractStridedSlice S1x256 ![63, 0] b slices_S64x256_o63_0_S1x256))
          shapeCasts_S1x256_S1x256) broadcasts_S1x256_S128x256) transposes_S128x256_p1_0_S256x128⟩,
         ⟨S256x128, transpose S256x128 [1, 0] (broadcastTo S128x256 (shapeCast S1x256 (exp (extractStridedSlice S1x256 ![63, 0] b slices_S64x256_o63_0_S1x256))
          shapeCasts_S1x256_S1x256) broadcasts_S1x256_S128x256) transposes_S128x256_p1_0_S256x128⟩,
         ⟨S256x128, transpose S256x128 [1, 0] (broadcastTo S128x256 (shapeCast S1x256 (exp (extractStridedSlice S1x256 ![63, 0] b slices_S64x256_o63_0_S1x256))
          shapeCasts_S1x256_S1x256) broadcasts_S1x256_S128x256) transposes_S128x256_p1_0_S256x128⟩]
        concatenates_S256x128_S256x128_S256x128_S256x128_S256x512_d1) s)
    (matmul dot_S64x256_S64x512_S256x512_0_0_1_1_n_n none
      (truncf .bf16 (mulf k (exp (subf (broadcastTo S64x256 (extractStridedSlice S1x256 ![63, 0] b slices_S64x256_o63_0_S1x256)
        broadcasts_S1x256_S64x256) b))) bitsLt_bf16_f32)
      (truncf .bf16 v bitsLt_bf16_f32) (constant S256x512 .f32 0x00000000#32))

/-- The queries with the factor 1/16. -/
def scaled (q : FVec F S64x256 .f32) : FVec F S64x256 .f32 :=
  mulf q (broadcast S64x256 (Scalar.ofBits .f32 0x3D800000#32 : F .f32))

/-- A 64 × 256 block of a 512 × 1024 buffer. -/
abbrev rd (a : Memref sig .tc .vmem S512x1024 .f32) (X : BufTy.Contents (Elt F) a.view.ty) (off : Fin 2 → ℕ)
    (h : ∀ a, off a + S64x256.size a ≤ S512x1024.size a) : FVec F S64x256 .f32 :=
  View.readAt (Elt F) a.view (Rect.unit (s := S512x1024) off S64x256.size h).toLoadRect X

/-- A 64 × 512 block of a 512 × 2048 buffer. -/
abbrev rdV (a : Memref sig .tc .vmem S512x2048 .f32) (X : BufTy.Contents (Elt F) a.view.ty) (off : Fin 2 → ℕ)
    (h : ∀ a, off a + S64x512.size a ≤ S512x2048.size a) : FVec F S64x512 .f32 :=
  View.readAt (Elt F) a.view (Rect.unit (s := S512x2048) off S64x512.size h).toLoadRect X

/-- One head's state out of the four. -/
abbrev rdS (a : Memref sig .tc .vmem S4x256x512 .f32) (X : BufTy.Contents (Elt F) a.view.ty) (off : Fin 3 → ℕ)
    (h : ∀ a, off a + S1x256x512.size a ≤ S4x256x512.size a) : FVec F S256x512 .f32 :=
  shapeCast S256x512 (View.readAt (Elt F) a.view (Rect.unit (s := S4x256x512) off S1x256x512.size h).toLoadRect X) shapeCasts_S1x256x512_S256x512

/-- The stores of one chunk: each head's output into its columns, and each head's state into its place. -/
theorem trip_eq (𝒱 : Variants) (c : Dev nD) (bd : Option 𝒱.V) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (arg2 : BitVec 32) (v26 : IVec S512x1024 32) (v32 : FVec F S512x1024 .f32) (v34 : IVec S512x1024 1) (v35 : FVec F S512x1024 .f32) (v66 : IVec S64x256 32) (v69 : IVec S64x64 32) (v70 : IVec S64x64 32) (X_arg3 : BufTy.Contents (Elt F) arg3.view.ty) (X_arg4 : BufTy.Contents (Elt F) arg4.view.ty) (X_arg5 : BufTy.Contents (Elt F) arg5.view.ty) (X_arg12 : BufTy.Contents (Elt F) arg12.view.ty) (k : Fin k0_t1_loop.trips) (g : BufTy.Contents (Elt F) arg9.view.ty) (h : BufTy.Contents (Elt F) arg11.view.ty) :
    tripL_k0_t1 (F := F) 𝒱 c bd i arg3 harg3 arg4 harg4 arg5 harg5 arg6 harg6 arg7 harg7 arg8 harg8 arg9 harg9 arg10 harg10 arg11 harg11 arg12 harg12 arg2 v26 v32 v34 v35 v66 v69 v70 X_arg3 X_arg4 X_arg5 X_arg12 k g h =
      ([⟨Rect.unit (s := S512x2048) (k0_off8 k) S64x512.size (k0_off8_inb k), headO v66 k0_pay174 v69 v70 (scaled (rd arg3 X_arg3 (k0_off7 k) (k0_off7_inb k))) (rd arg4 X_arg4 (k0_off7 k) (k0_off7_inb k)) (rd arg12 X_arg12 (k0_off7 k) (k0_off7_inb k)) (rdV arg5 X_arg5 (k0_off8 k) (k0_off8_inb k)) (rdS arg11 h ![3, 0, 0] inb_S4x256x512_S1x256x512_3_0_0)⟩
        , ⟨Rect.unit (s := S512x2048) (k0_off6 k) S64x512.size (k0_off6_inb k), headO v66 k0_pay174 v69 v70 (scaled (rd arg3 X_arg3 (k0_off5 k) (k0_off5_inb k))) (rd arg4 X_arg4 (k0_off5 k) (k0_off5_inb k)) (rd arg12 X_arg12 (k0_off5 k) (k0_off5_inb k)) (rdV arg5 X_arg5 (k0_off6 k) (k0_off6_inb k)) (rdS arg11 h ![2, 0, 0] inb_S4x256x512_S1x256x512_2_0_0)⟩
        , ⟨Rect.unit (s := S512x2048) (k0_off4 k) S64x512.size (k0_off4_inb k), headO v66 k0_pay174 v69 v70 (scaled (rd arg3 X_arg3 (k0_off3 k) (k0_off3_inb k))) (rd arg4 X_arg4 (k0_off3 k) (k0_off3_inb k)) (rd arg12 X_arg12 (k0_off3 k) (k0_off3_inb k)) (rdV arg5 X_arg5 (k0_off4 k) (k0_off4_inb k)) (rdS arg11 h ![1, 0, 0] inb_S4x256x512_S1x256x512_1_0_0)⟩
        , ⟨Rect.unit (s := S512x2048) (k0_off2 k) S64x512.size (k0_off2_inb k), headO v66 k0_pay174 v69 v70 (scaled (rd arg3 X_arg3 (k0_off1 k) (k0_off1_inb k))) (rd arg4 X_arg4 (k0_off1 k) (k0_off1_inb k)) (rd arg12 X_arg12 (k0_off1 k) (k0_off1_inb k)) (rdV arg5 X_arg5 (k0_off2 k) (k0_off2_inb k)) (rdS arg11 h ![0, 0, 0] inb_S4x256x512_S1x256x512_0_0_0)⟩],
       [⟨Rect.unit (s := S4x256x512) ![3, 0, 0] S1x256x512.size inb_S4x256x512_S1x256x512_3_0_0, shapeCast S1x256x512 (headS (rd arg4 X_arg4 (k0_off7 k) (k0_off7_inb k)) (rd arg12 X_arg12 (k0_off7 k) (k0_off7_inb k)) (rdV arg5 X_arg5 (k0_off8 k) (k0_off8_inb k)) (rdS arg11 h ![3, 0, 0] inb_S4x256x512_S1x256x512_3_0_0)) shapeCasts_S256x512_S1x256x512⟩
        , ⟨Rect.unit (s := S4x256x512) ![2, 0, 0] S1x256x512.size inb_S4x256x512_S1x256x512_2_0_0, shapeCast S1x256x512 (headS (rd arg4 X_arg4 (k0_off5 k) (k0_off5_inb k)) (rd arg12 X_arg12 (k0_off5 k) (k0_off5_inb k)) (rdV arg5 X_arg5 (k0_off6 k) (k0_off6_inb k)) (rdS arg11 h ![2, 0, 0] inb_S4x256x512_S1x256x512_2_0_0)) shapeCasts_S256x512_S1x256x512⟩
        , ⟨Rect.unit (s := S4x256x512) ![1, 0, 0] S1x256x512.size inb_S4x256x512_S1x256x512_1_0_0, shapeCast S1x256x512 (headS (rd arg4 X_arg4 (k0_off3 k) (k0_off3_inb k)) (rd arg12 X_arg12 (k0_off3 k) (k0_off3_inb k)) (rdV arg5 X_arg5 (k0_off4 k) (k0_off4_inb k)) (rdS arg11 h ![1, 0, 0] inb_S4x256x512_S1x256x512_1_0_0)) shapeCasts_S256x512_S1x256x512⟩
        , ⟨Rect.unit (s := S4x256x512) ![0, 0, 0] S1x256x512.size inb_S4x256x512_S1x256x512_0_0_0, shapeCast S1x256x512 (headS (rd arg4 X_arg4 (k0_off1 k) (k0_off1_inb k)) (rd arg12 X_arg12 (k0_off1 k) (k0_off1_inb k)) (rdV arg5 X_arg5 (k0_off2 k) (k0_off2_inb k)) (rdS arg11 h ![0, 0, 0] inb_S4x256x512_S1x256x512_0_0_0)) shapeCasts_S256x512_S1x256x512⟩]) := by
  unfold tripL_k0_t1 trip_k0_t1
  rfl

end Cert.KernelIdeal.Own

end
-- ==== Proof.Spec.lean ====
/- Gated linear attention, chunk by chunk, as functions of the arrays' elements: what the kernel and the reference are
   both shown to compute. -/
module

public import Idealize.ShloMosaic.PureOps.Ideal
public import Mathlib.Algebra.BigOperators.Fin

@[expose] public section

noncomputable section

namespace Cert.Gla

open Idealize.ShloMosaic
open scoped BigOperators

/-- The product of query row `i` and key row `j` with the decay between the two rows. -/
def dotH (q k b : Fin 64 → Fin 256 → EReal) (i j : Fin 64) : EReal :=
  ∑ d : Fin 256, q i d * k j d * Ideal.exp (b i d - b j d)

/-- The score of query row `i` against key row `j`: none where the key comes after the query. -/
def scoreH (q k b : Fin 64 → Fin 256 → EReal) (i j : Fin 64) : EReal := if j.val ≤ i.val then dotH q k b i j else 0

/-- One chunk's output: what the state gives to each query with its decay from the chunk's start, and the scores times the
    values. -/
def outH (q k b : Fin 64 → Fin 256 → EReal) (v : Fin 64 → Fin 512 → EReal) (s : Fin 256 → Fin 512 → EReal) (i : Fin 64)
    (l : Fin 512) : EReal :=
  ∑ d : Fin 256, q i d * Ideal.exp (b i d) * s d l + ∑ j : Fin 64, scoreH q k b i j * v j l

/-- The state after a chunk: the state before it with the chunk's decay, and the keys, each with the decay from its row to
    the chunk's end, times the values. -/
def newH (k b : Fin 64 → Fin 256 → EReal) (v : Fin 64 → Fin 512 → EReal) (s : Fin 256 → Fin 512 → EReal) (d : Fin 256)
    (l : Fin 512) : EReal :=
  Ideal.exp (b 63 d) * s d l + ∑ j : Fin 64, k j d * Ideal.exp (b 63 d - b j d) * v j l

/-- A decay logit's log-decay: a sixteenth of the logarithm of its logistic. -/
def gOf (x : EReal) : EReal :=
  (0 - (max (0 - x) 0 + Ideal.log1p (Ideal.exp (0 - max x (-x))))) * Ideal.ofBits .f32 0x3D800000#32

/-- The row of the arrays that is row `i` of chunk `n` of sequence `bt`. -/
def rowOf (bt n i : ℕ) : Fin 8192 := ⟨(2048 * bt + 64 * n + i) % 8192, Nat.mod_lt _ (by norm_num)⟩

variable (p : Fin 8192 → Fin 8192 → EReal) (x : Fin 8192 → Fin 1024 → EReal)

/-- The queries of a chunk, scaled by 1/16. -/
def qH (bt n : ℕ) (h : Fin 4) (i : Fin 64) (d : Fin 256) : EReal :=
  p (rowOf bt n i) ⟨256 * h.val + d.val, by omega⟩ * Ideal.ofBits .f32 0x3D800000#32

/-- The keys of a chunk. -/
def kH (bt n : ℕ) (h : Fin 4) (i : Fin 64) (d : Fin 256) : EReal := p (rowOf bt n i) ⟨1024 + 256 * h.val + d.val, by omega⟩

/-- The values of a chunk. -/
def vH (bt n : ℕ) (h : Fin 4) (i : Fin 64) (l : Fin 512) : EReal := p (rowOf bt n i) ⟨2048 + 512 * h.val + l.val, by omega⟩

/-- The log-decays of a chunk's rows added up from the chunk's start; `x` holds the decay logits. -/
def bH (bt n : ℕ) (h : Fin 4) (i : Fin 64) (d : Fin 256) : EReal :=
  ∑ t ∈ Finset.range (i.val + 1), gOf (x (rowOf bt n t) ⟨256 * h.val + d.val, by omega⟩)

/-- The state before chunk `n`. -/
def stH (bt : ℕ) (h : Fin 4) : ℕ → Fin 256 → Fin 512 → EReal
  | 0 => fun _ _ => 0
  | n + 1 => newH (kH p bt n h) (bH x bt n h) (vH p bt n h) (stH bt h n)

/-- The output of chunk `n`. -/
def oH (bt n : ℕ) (h : Fin 4) : Fin 64 → Fin 512 → EReal :=
  outH (qH p bt n h) (kH p bt n h) (bH x bt n h) (vH p bt n h) (stH p x bt h n)

/-! ## Where no decay logit is `-∞` -/

/-- Every entry is a real number. -/
def IsReal {m n : ℕ} (b : Fin m → Fin n → EReal) : Prop := ∀ i d, ∃ r : ℝ, b i d = (r : EReal)

/-- The decays between three rows compose. -/
theorem exp_mul {u v w : EReal} (hu : ∃ r : ℝ, u = r) (hv : ∃ r : ℝ, v = r) (hw : ∃ r : ℝ, w = r) :
    Ideal.exp (u - v) * Ideal.exp (v - w) = Ideal.exp (u - w) := by
  obtain ⟨u, rfl⟩ := hu
  obtain ⟨v, rfl⟩ := hv
  obtain ⟨w, rfl⟩ := hw
  rw [← EReal.coe_sub, ← EReal.coe_sub, ← EReal.coe_sub, Ideal.exp_coe, Ideal.exp_coe, Ideal.exp_coe, ← EReal.coe_mul,
    ← Real.exp_add]
  congr 2
  ring

/-- No decay between a row and itself. -/
theorem exp_sub_self {u : EReal} (hu : ∃ r : ℝ, u = r) : Ideal.exp (u - u) = 1 := by
  obtain ⟨u, rfl⟩ := hu
  rw [← EReal.coe_sub, sub_self, Ideal.exp_coe, Real.exp_zero, EReal.coe_one]

/-- The pattern of 1/16 is the real 1/16. -/
theorem sixteenth : Ideal.ofBits .f32 0x3D800000#32 = ((1 / 16 : ℝ) : EReal) := by
  have h0 : (BitVec.extractLsb' 31 1 0x3D800000#32 == 1#1) = false := by decide
  have h1 : (BitVec.extractLsb' 23 8 0x3D800000#32).toNat = 123 := by decide
  have h2 : (BitVec.extractLsb' 0 23 0x3D800000#32).toNat = 0 := by decide
  simp only [Ideal.ofBits, Ideal.ieee, Nat.reduceAdd, h0, h1, h2]
  norm_num

/-- The pattern of 16 is the real 16. -/
theorem sixteen : Ideal.ofBits .f32 0x41800000#32 = ((16 : ℝ) : EReal) := by
  have h0 : (BitVec.extractLsb' 31 1 0x41800000#32 == 1#1) = false := by decide
  have h1 : (BitVec.extractLsb' 23 8 0x41800000#32).toNat = 131 := by decide
  have h2 : (BitVec.extractLsb' 0 23 0x41800000#32).toNat = 0 := by decide
  simp only [Ideal.ofBits, Ideal.ieee, Nat.reduceAdd, h0, h1, h2]
  norm_num

/-- The larger of two reals is the same in the extended reals. -/
theorem coe_max (a b : ℝ) : ((max a b : ℝ) : EReal) = max (a : EReal) (b : EReal) := EReal.coe_strictMono.monotone.map_max

/-- The log-decay of a real logit, in real numbers. -/
theorem gOf_coe (r : ℝ) : gOf (r : EReal) = (((0 - (max (0 - r) 0 + Real.log (1 + Real.exp (0 - |r|)))) * (1 / 16) : ℝ) : EReal) := by
  have hp : ¬ (1 + Real.exp (0 - |r|) ≤ 0) := not_le.2 (by positivity)
  have hm : max (r : EReal) (-(r : EReal)) = ((|r| : ℝ) : EReal) := by
    rw [← EReal.coe_neg, ← coe_max]; rfl
  rw [gOf, sixteenth, hm, Ideal.log1p, ← EReal.coe_zero, ← EReal.coe_sub, ← EReal.coe_sub, Ideal.exp_coe, ← EReal.coe_one,
    ← EReal.coe_add, Ideal.log_coe, if_neg hp, ← coe_max, ← EReal.coe_add, ← EReal.coe_sub, ← EReal.coe_mul]

/-- The log-decay of the logit `∞` is zero. -/
theorem gOf_top : gOf ⊤ = 0 := by
  have h : Ideal.log1p 0 = 0 := by
    rw [Ideal.log1p, add_zero, ← EReal.coe_one, Ideal.log_coe, if_neg (by norm_num), Real.log_one, EReal.coe_zero]
  simp [gOf, h]

/-- A logit above `-∞` has a real log-decay. -/
theorem gOf_real {x : EReal} (hx : x ≠ ⊥) : ∃ r : ℝ, gOf x = r := by
  induction x using EReal.rec with
  | bot => exact absurd rfl hx
  | top => exact ⟨0, gOf_top.trans EReal.coe_zero.symm⟩
  | coe r => exact ⟨_, gOf_coe r⟩

/-- The running sums of log-decays are real where no logit is `-∞`. -/
theorem bH_real (hx : ∀ R C, x R C ≠ ⊥) (bt n : ℕ) (h : Fin 4) : IsReal (bH x bt n h) := by
  intro i d
  choose r hr using fun t : ℕ => gOf_real (hx (rowOf bt n t) ⟨256 * h.val + d.val, by omega⟩)
  refine ⟨∑ t ∈ Finset.range (i.val + 1), r t, ?_⟩
  rw [bH, Finset.sum_congr rfl fun t _ => hr t]
  exact (map_sum (⟨⟨Real.toEReal, EReal.coe_zero⟩, EReal.coe_add⟩ : ℝ →+ EReal) r _).symm

end Cert.Gla

end
-- ==== Proof.Attn.lean ====
/- One head's chunk as the kernel computes it, read at an index: where the running log-decays are real numbers it is the
   chunk of the specification. -/
module

public import proofs.«01_k».proof.Proof.Head
public import proofs.«01_k».proof.Proof.Spec
public import Idealize.ShloMosaic.Lib.Pointwise

@[expose] public section

set_option maxRecDepth 16384

noncomputable section

namespace Cert.KernelIdeal.Own

open Cert.KernelIdeal.Gen Cert.Gla

open Idealize.ShloMosaic Idealize.SL.Sem

/-- The rows of a chunk, numbered. -/
def row0 : IVec S64x256 32 := iota .tc S64x256 32 [0] iota_S64x256_d0_w32
/-- The rows of a chunk's scores, numbered. -/
def ri0 : IVec S64x64 32 := iota .tc S64x64 32 [0] iota_S64x64_d0_w32
/-- The columns of a chunk's scores, numbered. -/
def cj0 : IVec S64x64 32 := iota .tc S64x64 32 [1] iota_S64x64_d1_w32

/-- A 64 × n block by its two coordinates. -/
abbrev at2 {n : ℕ} {φ : FTy} (x : FVec Ideal ⟨2, ![64, n]⟩ φ) : Fin 64 → Fin n → EReal := fun i d => x (ix2 i d)

/-- The pattern of `-∞`. -/
theorem minus_inf : Ideal.ofBits .f32 0xFF800000#32 = ⊥ := by simp [Ideal.ofBits, Ideal.ieee]

/-- A number below `2 ^ 31` is itself as a signed word. -/
theorem toInt_small (n : ℕ) (h : n < 1000000) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

theorem select_slt {α : Type} (m n : ℕ) (hm : m < 1000000) (hn : n < 1000000) (x y : α) :
    Scalar.select (IntOp.cmpi .slt (BitVec.ofNat 32 m) (BitVec.ofNat 32 n)) x y = if m < n then x else y := by
  have e : (BitVec.ofNat 32 m).slt (BitVec.ofNat 32 n) = decide (m < n) := by
    rw [BitVec.slt, toInt_small m hm, toInt_small n hn]; simp
  simp only [IntOp.cmpi, Scalar.select, e]
  by_cases h : m < n <;> simp [h]

theorem select_sge {α : Type} (m n : ℕ) (hm : m < 1000000) (hn : n < 1000000) (x y : α) :
    Scalar.select (IntOp.cmpi .sge (BitVec.ofNat 32 m) (BitVec.ofNat 32 n)) x y = if n ≤ m then x else y := by
  have e : (BitVec.ofNat 32 n).sle (BitVec.ofNat 32 m) = decide (n ≤ m) := by
    rw [BitVec.sle, toInt_small m hm, toInt_small n hn]; simp
  simp only [IntOp.cmpi, Scalar.select, e]
  by_cases h : n ≤ m <;> simp [h]

theorem select_diag {α : Type} (i j n : ℕ) (hi : i < 1000) (hj : j < 1000) (hn : n < 1000) (x y : α) :
    Scalar.select (IntOp.cmpi .eq (IntOp.subi (BitVec.ofNat 32 i) (BitVec.ofNat 32 j)) (BitVec.ofNat 32 n)) x y
      = if i = j + n then x else y := by
  have e : (IntOp.subi (BitVec.ofNat 32 i) (BitVec.ofNat 32 j) = BitVec.ofNat 32 n) ↔ i = j + n := by
    rw [IntOp.subi, ← BitVec.toNat_inj]
    simp only [BitVec.toNat_sub, BitVec.toNat_ofNat]
    omega
  by_cases h : i = j + n
  · rw [if_pos h]
    simp only [IntOp.cmpi, Scalar.select, e.2 h]
    simp
  · rw [if_neg h]
    have e' : (IntOp.subi (BitVec.ofNat 32 i) (BitVec.ofNat 32 j) == BitVec.ofNat 32 n) = false := by
      rw [beq_eq_false_iff_ne]; exact fun q => h (e.1 q)
    simp only [IntOp.cmpi, Scalar.select, e']
    simp

theorem and_mask (i m n : ℕ) (hn : n + 1 = 2 ^ m) (hm : m < 10) (hi : i < 1000) :
    IntOp.andi (BitVec.ofNat 32 i) (BitVec.ofNat 32 n) = BitVec.ofNat 32 (i % (n + 1)) := by
  rw [IntOp.andi, ← BitVec.toNat_inj, BitVec.toNat_and, BitVec.toNat_ofNat, BitVec.toNat_ofNat, BitVec.toNat_ofNat]
  have h2 : (2 : ℕ) ^ m ≤ 2 ^ 9 := Nat.pow_le_pow_right (by norm_num) (by omega)
  rw [Nat.mod_eq_of_lt (show i < 2 ^ 32 by omega), Nat.mod_eq_of_lt (show n < 2 ^ 32 by omega),
    Nat.mod_eq_of_lt (show i % (n + 1) < 2 ^ 32 from lt_of_le_of_lt (Nat.mod_le _ _) (by omega)), hn,
    show n = 2 ^ m - 1 by omega, Nat.and_two_pow_sub_one_eq_mod]

/-- Four rows of scores against the keys before them. -/
theorem slab_apply (r lo : ℕ) (hr : S64x256.Slices ![r, 0] S1x256) (hl : S64x256.Slices ![lo, 0] S4x256)
    (q k b : FVec Ideal S64x256 .f32) (hb : IsReal (at2 b)) (a : Fin 4) (j : Fin 64) (h : r < 64) (h' : lo + 4 ≤ 64) :
    slab r lo (BitVec.ofNat 32 lo) hr hl row0 q k b (ix2 a j)
      = if j.val < lo then dotH (at2 q) (at2 k) (at2 b) ⟨lo + a.val, by omega⟩ j else 0 := by
  pointwise [slab, row0]
  rw [minus_inf]
  simp only [select_slt j.val lo (by omega) (by omega)]
  split
  · refine Finset.sum_congr rfl fun d _ => ?_
    rw [mul_mul_mul_comm]
    exact congrArg _ (exp_mul (hb _ d) (hb ⟨r, h⟩ d) (hb j d))
  · refine Finset.sum_eq_zero fun d _ => ?_
    rw [Ideal.exp_bot, mul_zero, mul_zero]

/-- Blocks of four rows hold the rows of `f` from row `4 n` on, in column `j`. -/
def Rows (f : Fin 64 → Fin 64 → EReal) (j : Fin 64) : ℕ → List (FVec Ideal S4x64 .f32) → Prop
  | _, [] => True
  | n, x :: xs => (∀ (a : Fin 4) (h : 4 * n + a.val < 64), x (ix2 a j) = f ⟨4 * n + a.val, h⟩ j) ∧ Rows f j (n + 1) xs

/-- Blocks of four rows one below the other, read at an index. -/
theorem rows_apply (f : Fin 64 → Fin 64 → EReal) (i j : Fin 64) : ∀ (xs : List (FVec Ideal S4x64 .f32)) (n : ℕ)
    (hs : ∀ s ∈ (xs.map fun x => (⟨S4x64, x⟩ : (s : Shape) × (s.Idx → EReal))).map (·.1), s.FitsOff S64x64 0) (c : ℕ)
    (hc : c < (axisSizes S64x64 0 (xs.map fun x => (⟨S4x64, x⟩ : (s : Shape) × (s.Idx → EReal)))).sum),
    Rows f j n xs → 4 * n + c = i.val →
    concatenateAt S64x64 0 (ix2 i j) (xs.map fun x => (⟨S4x64, x⟩ : (s : Shape) × (s.Idx → EReal))) hs c hc = f i j
  | [], _, _, _, hc, _, _ => absurd hc (Nat.not_lt_zero _)
  | [x], n, hs, c, hc, hr, e => by
    have h4 : c < 4 := by simpa [axisSizes] using hc
    refine (concatenateAt_singleton (t := S64x64) (s := S4x64) 0 (ix2 i j) x hs c hc).trans ?_
    have hx := hr.1 ⟨c, h4⟩ (by show 4 * n + c < 64; omega)
    refine (congrArg x ?_).trans (hx.trans (congrArg (f · j) (Fin.ext e)))
    rw [Shape.Idx.norm_def]
    funext b
    refine Fin.ext ?_
    fin_cases b <;> rfl
  | x :: y :: ys, n, hs, c, hc, hr, e => by
    refine (concatenateAt_cons (t := S64x64) (s := S4x64) 0 (ix2 i j) x ⟨S4x64, y⟩ (ys.map fun x => ⟨S4x64, x⟩) hs c hc).trans ?_
    split
    · next hlt =>
      have h4 : c < 4 := hlt
      have hx := hr.1 ⟨c, h4⟩ (by show 4 * n + c < 64; omega)
      refine (congrArg x ?_).trans (hx.trans (congrArg (f · j) (Fin.ext e)))
      rw [Shape.Idx.norm_def]
      funext b
      refine Fin.ext ?_
      fin_cases b <;> rfl
    · next hlt =>
      have h4 : ¬ c < 4 := hlt
      exact rows_apply f i j (y :: ys) (n + 1) _ (c - 4) _ hr.2 (by omega)

/-- The scores from the groups of four rows before the query's own. -/
theorem below_apply (q k b : FVec Ideal S64x256 .f32) (hb : IsReal (at2 b)) (i j : Fin 64) :
    below row0 q k b (ix2 i j) = if j.val < 4 * (i.val / 4) then dotH (at2 q) (at2 k) (at2 b) i j else 0 := by
  have key : ∀ (n r lo : ℕ) (hr : S64x256.Slices ![r, 0] S1x256) (hl : S64x256.Slices ![lo, 0] S4x256) (a : Fin 4)
      (h : 4 * n + a.val < 64), lo = 4 * n → r < 64 → lo + 4 ≤ 64 → slab r lo (BitVec.ofNat 32 lo) hr hl row0 q k b (ix2 a j)
        = (fun i j : Fin 64 => if j.val < 4 * (i.val / 4) then dotH (at2 q) (at2 k) (at2 b) i j else 0) ⟨4 * n + a.val, h⟩ j := by
    intro n r lo hr hl a h e h1 h2
    subst e
    rw [slab_apply _ _ _ _ q k b hb _ _ h1 h2]
    dsimp only
    rw [show 4 * ((4 * n + a.val) / 4) = 4 * n by omega]
  unfold below
  refine (concatenate_apply _ _ _ _ _).trans (rows_apply
    (fun i j => if j.val < 4 * (i.val / 4) then dotH (at2 q) (at2 k) (at2 b) i j else 0) i j [broadcast S4x64 (Scalar.ofBits .f32 0x00000000#32 : Ideal .f32),
    slab 3 4 4#32 slices_S64x256_o3_0_S1x256 slices_S64x256_o4_0_S4x256 row0 q k b,
    slab 7 8 8#32 slices_S64x256_o7_0_S1x256 slices_S64x256_o8_0_S4x256 row0 q k b,
    slab 11 12 12#32 slices_S64x256_o11_0_S1x256 slices_S64x256_o12_0_S4x256 row0 q k b,
    slab 15 16 16#32 slices_S64x256_o15_0_S1x256 slices_S64x256_o16_0_S4x256 row0 q k b,
    slab 19 20 20#32 slices_S64x256_o19_0_S1x256 slices_S64x256_o20_0_S4x256 row0 q k b,
    slab 23 24 24#32 slices_S64x256_o23_0_S1x256 slices_S64x256_o24_0_S4x256 row0 q k b,
    slab 27 28 28#32 slices_S64x256_o27_0_S1x256 slices_S64x256_o28_0_S4x256 row0 q k b,
    slab 31 32 32#32 slices_S64x256_o31_0_S1x256 slices_S64x256_o32_0_S4x256 row0 q k b,
    slab 35 36 36#32 slices_S64x256_o35_0_S1x256 slices_S64x256_o36_0_S4x256 row0 q k b,
    slab 39 40 40#32 slices_S64x256_o39_0_S1x256 slices_S64x256_o40_0_S4x256 row0 q k b,
    slab 43 44 44#32 slices_S64x256_o43_0_S1x256 slices_S64x256_o44_0_S4x256 row0 q k b,
    slab 47 48 48#32 slices_S64x256_o47_0_S1x256 slices_S64x256_o48_0_S4x256 row0 q k b,
    slab 51 52 52#32 slices_S64x256_o51_0_S1x256 slices_S64x256_o52_0_S4x256 row0 q k b,
    slab 55 56 56#32 slices_S64x256_o55_0_S1x256 slices_S64x256_o56_0_S4x256 row0 q k b,
    slab 59 60 60#32 slices_S64x256_o59_0_S1x256 slices_S64x256_o60_0_S4x256 row0 q k b] 0 _ i.val _ ⟨fun a h => ?_,
    fun a h => key 1 3 4 _ _ a h rfl (by norm_num) (by norm_num),
    fun a h => key 2 7 8 _ _ a h rfl (by norm_num) (by norm_num),
    fun a h => key 3 11 12 _ _ a h rfl (by norm_num) (by norm_num),
    fun a h => key 4 15 16 _ _ a h rfl (by norm_num) (by norm_num),
    fun a h => key 5 19 20 _ _ a h rfl (by norm_num) (by norm_num),
    fun a h => key 6 23 24 _ _ a h rfl (by norm_num) (by norm_num),
    fun a h => key 7 27 28 _ _ a h rfl (by norm_num) (by norm_num),
    fun a h => key 8 31 32 _ _ a h rfl (by norm_num) (by norm_num),
    fun a h => key 9 35 36 _ _ a h rfl (by norm_num) (by norm_num),
    fun a h => key 10 39 40 _ _ a h rfl (by norm_num) (by norm_num),
    fun a h => key 11 43 44 _ _ a h rfl (by norm_num) (by norm_num),
    fun a h => key 12 47 48 _ _ a h rfl (by norm_num) (by norm_num),
    fun a h => key 13 51 52 _ _ a h rfl (by norm_num) (by norm_num),
    fun a h => key 14 55 56 _ _ a h rfl (by norm_num) (by norm_num),
    fun a h => key 15 59 60 _ _ a h rfl (by norm_num) (by norm_num), trivial⟩ (by omega))
  dsimp only
  rw [if_neg (by omega)]
  exact Ideal.ofBits_zero_f32

/-- The main diagonal. -/
theorem diag0 (q k b : FVec Ideal S64x256 .f32) (hb : IsReal (at2 b)) (i j : Fin 64) :
    onDiag 0#32 ri0 cj0 (mulf q k) (ix2 i j) = if i.val = j.val then dotH (at2 q) (at2 k) (at2 b) i j else 0 := by
  pointwise [onDiag, ri0, cj0]
  rw [select_diag i.val j.val 0 (by omega) (by omega) (by omega)]
  by_cases h : i.val = j.val
  · rw [if_pos (by omega), if_pos (by omega)]
    obtain rfl : i = j := Fin.ext h
    refine Finset.sum_congr rfl fun d _ => ?_
    rw [exp_sub_self (hb i d), mul_one]
  · rw [if_neg (by omega), if_neg (by omega)]

/-- The `w`-th diagonal below the main one. -/
theorem diagN (w : ℕ) (hw : w < 4) (q k b : FVec Ideal S64x256 .f32) (i j : Fin 64) :
    onDiag (BitVec.ofNat 32 w) ri0 cj0 (diagTerm (BitVec.ofNat 32 w) k0_pay174 q k b) (ix2 i j)
      = if i.val = j.val + w ∧ w ≤ i.val % 4 then dotH (at2 q) (at2 k) (at2 b) i j else 0 := by
  have hi := i.isLt
  pointwise [onDiag, ri0, cj0, diagTerm, k0_pay174]
  rw [select_diag i.val j.val w (by omega) (by omega) (by omega), minus_inf]
  simp only [and_mask i.val 2 3 (by norm_num) (by norm_num) (by omega), select_sge (i.val % (3 + 1)) w (by omega) (by omega)]
  by_cases h : i.val = j.val + w
  · rw [if_pos h]
    by_cases h4 : w ≤ i.val % 4
    · simp only [if_pos h4, if_pos (And.intro h h4)]
      refine Finset.sum_congr rfl fun d _ => ?_
      have e : (⟨(i.val + 64 - (BitVec.ofNat 32 w).toNat % 64) % 64, Nat.mod_lt _ (by norm_num)⟩ : Fin 64) = j := Fin.ext (by
        show (i.val + 64 - (BitVec.ofNat 32 w).toNat % 64) % 64 = j.val
        rw [BitVec.toNat_ofNat]; omega)
      rw [e]
    · simp only [if_neg h4, if_neg (fun q : i.val = j.val + w ∧ w ≤ i.val % 4 => h4 q.2)]
      refine Finset.sum_eq_zero fun d _ => ?_
      rw [Ideal.exp_bot, mul_zero]
  · rw [if_neg h, if_neg (fun q => h q.1)]

/-- The kernel's scores: a query against every key up to its own row. -/
theorem scores_apply (q k b : FVec Ideal S64x256 .f32) (hb : IsReal (at2 b)) (i j : Fin 64) :
    scores row0 k0_pay174 ri0 cj0 q k b (ix2 i j) = scoreH (at2 q) (at2 k) (at2 b) i j := by
  have e : scores row0 k0_pay174 ri0 cj0 q k b (ix2 i j)
      = below row0 q k b (ix2 i j) + onDiag 0#32 ri0 cj0 (mulf q k) (ix2 i j)
        + onDiag (BitVec.ofNat 32 1) ri0 cj0 (diagTerm (BitVec.ofNat 32 1) k0_pay174 q k b) (ix2 i j)
        + onDiag (BitVec.ofNat 32 2) ri0 cj0 (diagTerm (BitVec.ofNat 32 2) k0_pay174 q k b) (ix2 i j)
        + onDiag (BitVec.ofNat 32 3) ri0 cj0 (diagTerm (BitVec.ofNat 32 3) k0_pay174 q k b) (ix2 i j) := rfl
  rw [e, below_apply q k b hb, diag0 q k b hb, diagN 1 (by norm_num), diagN 2 (by norm_num), diagN 3 (by norm_num), scoreH]
  generalize dotH (at2 q) (at2 k) (at2 b) i j = z
  have hc : j.val < 4 * (i.val / 4) ∨ i.val < j.val ∨ i.val = j.val ∨ (i.val = j.val + 1 ∧ 1 ≤ i.val % 4)
      ∨ (i.val = j.val + 2 ∧ 2 ≤ i.val % 4) ∨ (i.val = j.val + 3 ∧ 3 ≤ i.val % 4) := by omega
  rcases hc with h | h | h | h | h | h
  · rw [if_pos (by omega), if_neg (by omega), if_neg (by omega), if_neg (by omega), if_neg (by omega), if_pos (by omega)]; simp
  · rw [if_neg (by omega), if_neg (by omega), if_neg (by omega), if_neg (by omega), if_neg (by omega), if_neg (by omega)]; simp
  · rw [if_neg (by omega), if_pos (by omega), if_neg (by omega), if_neg (by omega), if_neg (by omega), if_pos (by omega)]; simp
  · rw [if_neg (by omega), if_neg (by omega), if_pos (by omega), if_neg (by omega), if_neg (by omega), if_pos (by omega)]; simp
  · rw [if_neg (by omega), if_neg (by omega), if_neg (by omega), if_pos (by omega), if_neg (by omega), if_pos (by omega)]; simp
  · rw [if_neg (by omega), if_neg (by omega), if_neg (by omega), if_neg (by omega), if_pos (by omega), if_pos (by omega)]; simp

/-- The kernel's output of one head's chunk. -/
theorem headO_apply (q k b : FVec Ideal S64x256 .f32) (v : FVec Ideal S64x512 .f32) (s : FVec Ideal S256x512 .f32)
    (hb : IsReal (at2 b)) (i : Fin 64) (l : Fin 512) :
    headO row0 k0_pay174 ri0 cj0 q k b v s (ix2 i l)
      = outH (at2 q) (at2 k) (at2 b) (at2 v) (fun d l => s (ix2 d l)) i l := by
  pointwise [headO]
  exact congrArg _ (Finset.sum_congr rfl fun j _ => congrArg (· * _) (scores_apply q k b hb i j))

/-- The kernel's next state of one head's chunk. -/
theorem headS_apply (k b : FVec Ideal S64x256 .f32) (v : FVec Ideal S64x512 .f32) (s : FVec Ideal S256x512 .f32)
    (d : Fin 256) (l : Fin 512) :
    headS k b v s (ix2 d l) = newH (at2 k) (at2 b) (at2 v) (fun d l => s (ix2 d l)) d l := by
  pointwise [headS]
  simp only [dite_eq_ite, ite_self]
  rfl

end Cert.KernelIdeal.Own

end
-- ==== Proof.Loop.lean ====
/- The loop of the kernel over its eight chunks of 64 rows, read at an index: each chunk leaves in the scratch the state after
   it, and in the output block its rows of the specification. -/
module

public import proofs.«01_k».proof.Proof.Attn
public import proofs.«01_k».proof.Proof.Gen.KernelIdeal.Loops
public import Idealize.ShloMosaic.Lib.WritesUnit

@[expose] public section

set_option maxRecDepth 16384

noncomputable section

namespace Cert.KernelIdeal.Own

open Cert.KernelIdeal.Gen Cert.Gla

open Idealize.ShloMosaic Idealize.SL.Sem

/-! ## Where a chunk's blocks lie -/

theorem off1_eq : ∀ k : Fin k0_t1_loop.trips, k0_off1 k = ![64 * k.val, 0] := by decide +kernel
theorem off2_eq : ∀ k : Fin k0_t1_loop.trips, k0_off2 k = ![64 * k.val, 0] := by decide +kernel
theorem off3_eq : ∀ k : Fin k0_t1_loop.trips, k0_off3 k = ![64 * k.val, 256] := by decide +kernel
theorem off4_eq : ∀ k : Fin k0_t1_loop.trips, k0_off4 k = ![64 * k.val, 512] := by decide +kernel
theorem off5_eq : ∀ k : Fin k0_t1_loop.trips, k0_off5 k = ![64 * k.val, 512] := by decide +kernel
theorem off6_eq : ∀ k : Fin k0_t1_loop.trips, k0_off6 k = ![64 * k.val, 1024] := by decide +kernel
theorem off7_eq : ∀ k : Fin k0_t1_loop.trips, k0_off7 k = ![64 * k.val, 768] := by decide +kernel
theorem off8_eq : ∀ k : Fin k0_t1_loop.trips, k0_off8 k = ![64 * k.val, 1536] := by decide +kernel
theorem trips_eq : k0_t1_loop.trips = 8 := by decide +kernel

theorem row_lt (k : Fin k0_t1_loop.trips) (i : Fin 64) : 64 * k.val + i.val < 512 := by
  have : k.val < 8 := trips_eq ▸ k.isLt
  omega

/-! ## The four stores of a chunk -/

section four

variable {sig : RefSig} {κ : Kind} {sp : Space}

/-- Four stores of 64 × 512 blocks side by side: each block's element reads what was stored there, and other rows read
    what the earlier stores left. -/
theorem read_four (V : View sig κ sp S512x2048 .f32) (f : V.ty.Contents (Elt Ideal)) (k : ℕ) (hk : k < 8)
    {o0 o1 o2 o3 : Fin 2 → ℕ} (e0 : o0 = ![64 * k, 0]) (e1 : o1 = ![64 * k, 512]) (e2 : o2 = ![64 * k, 1024])
    (e3 : o3 = ![64 * k, 1536])
    (b0 : ∀ a, o0 a + S64x512.size a ≤ S512x2048.size a) (b1 : ∀ a, o1 a + S64x512.size a ≤ S512x2048.size a)
    (b2 : ∀ a, o2 a + S64x512.size a ≤ S512x2048.size a) (b3 : ∀ a, o3 a + S64x512.size a ≤ S512x2048.size a)
    (w0 w1 w2 w3 : FVec Ideal S64x512 .f32) (W : Fin 4 → Fin 64 → Fin 512 → EReal)
    (hw0 : ∀ i l, w0 (ix2 i l) = W 0 i l) (hw1 : ∀ i l, w1 (ix2 i l) = W 1 i l) (hw2 : ∀ i l, w2 (ix2 i l) = W 2 i l)
    (hw3 : ∀ i l, w3 (ix2 i l) = W 3 i l) (L : List (View.Piece (Elt Ideal) S512x2048 .f32)) :
    (∀ (h : Fin 4) (i : Fin 64) (l : Fin 512), V.read (Elt Ideal) (V.writes (Elt Ideal) f
        (⟨Rect.unit (s := S512x2048) o3 S64x512.size b3, w3⟩ :: ⟨Rect.unit (s := S512x2048) o2 S64x512.size b2, w2⟩ ::
          ⟨Rect.unit (s := S512x2048) o1 S64x512.size b1, w1⟩ :: ⟨Rect.unit (s := S512x2048) o0 S64x512.size b0, w0⟩ :: L))
        (ix2 (⟨64 * k + i.val, by omega⟩ : Fin 512) (⟨512 * h.val + l.val, by omega⟩ : Fin 2048)) = W h i l)
    ∧ ∀ (r : Fin 512) (C : Fin 2048), (r.val < 64 * k ∨ 64 * k + 64 ≤ r.val) → V.read (Elt Ideal) (V.writes (Elt Ideal) f
        (⟨Rect.unit (s := S512x2048) o3 S64x512.size b3, w3⟩ :: ⟨Rect.unit (s := S512x2048) o2 S64x512.size b2, w2⟩ ::
          ⟨Rect.unit (s := S512x2048) o1 S64x512.size b1, w1⟩ :: ⟨Rect.unit (s := S512x2048) o0 S64x512.size b0, w0⟩ :: L))
        (ix2 r C) = V.read (Elt Ideal) (V.writes (Elt Ideal) f L) (ix2 r C) := by
  subst e0 e1 e2 e3
  constructor
  · intro h i l
    match h with
    | 0 =>
      rw [View.read_writes_cons_unit_of_not_mem V f b3 w3 _ _ rfl (1 : Fin 2) (Or.inl (by show 512 * 0 + l.val < 1536; omega)),
        View.read_writes_cons_unit_of_not_mem V f b2 w2 _ _ rfl (1 : Fin 2) (Or.inl (by show 512 * 0 + l.val < 1024; omega)),
        View.read_writes_cons_unit_of_not_mem V f b1 w1 _ _ rfl (1 : Fin 2) (Or.inl (by show 512 * 0 + l.val < 512; omega)),
        ← hw0]
      exact View.read_writes_cons_unit_of_mem V f b0 w0 L _ (ix2 i l) rfl (Fin.forall_fin_two.mpr ⟨rfl, rfl⟩)
    | 1 =>
      rw [View.read_writes_cons_unit_of_not_mem V f b3 w3 _ _ rfl (1 : Fin 2) (Or.inl (by show 512 * 1 + l.val < 1536; omega)),
        View.read_writes_cons_unit_of_not_mem V f b2 w2 _ _ rfl (1 : Fin 2) (Or.inl (by show 512 * 1 + l.val < 1024; omega)),
        ← hw1]
      exact View.read_writes_cons_unit_of_mem V f b1 w1 _ _ (ix2 i l) rfl (Fin.forall_fin_two.mpr ⟨rfl, rfl⟩)
    | 2 =>
      rw [View.read_writes_cons_unit_of_not_mem V f b3 w3 _ _ rfl (1 : Fin 2) (Or.inl (by show 512 * 2 + l.val < 1536; omega)),
        ← hw2]
      exact View.read_writes_cons_unit_of_mem V f b2 w2 _ _ (ix2 i l) rfl (Fin.forall_fin_two.mpr ⟨rfl, rfl⟩)
    | 3 =>
      rw [← hw3]
      exact View.read_writes_cons_unit_of_mem V f b3 w3 _ _ (ix2 i l) rfl (Fin.forall_fin_two.mpr ⟨rfl, rfl⟩)
  · intro r C hr
    rw [View.read_writes_cons_unit_of_not_mem V f b3 w3 _ _ rfl (0 : Fin 2) hr,
      View.read_writes_cons_unit_of_not_mem V f b2 w2 _ _ rfl (0 : Fin 2) hr,
      View.read_writes_cons_unit_of_not_mem V f b1 w1 _ _ rfl (0 : Fin 2) hr,
      View.read_writes_cons_unit_of_not_mem V f b0 w0 _ _ rfl (0 : Fin 2) hr]

/-- Four stores, one of each head's state: every element reads what was stored for its head. -/
theorem read_four_s (V : View sig κ sp S4x256x512 .f32) (f : V.ty.Contents (Elt Ideal))
    (w0 w1 w2 w3 : FVec Ideal S256x512 .f32) (W : Fin 4 → Fin 256 → Fin 512 → EReal)
    (hw0 : ∀ d l, w0 (ix2 d l) = W 0 d l) (hw1 : ∀ d l, w1 (ix2 d l) = W 1 d l) (hw2 : ∀ d l, w2 (ix2 d l) = W 2 d l)
    (hw3 : ∀ d l, w3 (ix2 d l) = W 3 d l) (L : List (View.Piece (Elt Ideal) S4x256x512 .f32)) (h : Fin 4) (d : Fin 256)
    (l : Fin 512) : V.read (Elt Ideal) (V.writes (Elt Ideal) f
        (⟨Rect.unit (s := S4x256x512) ![3, 0, 0] S1x256x512.size inb_S4x256x512_S1x256x512_3_0_0, shapeCast S1x256x512 w3 shapeCasts_S256x512_S1x256x512⟩ ::
         ⟨Rect.unit (s := S4x256x512) ![2, 0, 0] S1x256x512.size inb_S4x256x512_S1x256x512_2_0_0, shapeCast S1x256x512 w2 shapeCasts_S256x512_S1x256x512⟩ ::
         ⟨Rect.unit (s := S4x256x512) ![1, 0, 0] S1x256x512.size inb_S4x256x512_S1x256x512_1_0_0, shapeCast S1x256x512 w1 shapeCasts_S256x512_S1x256x512⟩ ::
         ⟨Rect.unit (s := S4x256x512) ![0, 0, 0] S1x256x512.size inb_S4x256x512_S1x256x512_0_0_0, shapeCast S1x256x512 w0 shapeCasts_S256x512_S1x256x512⟩ :: L))
        (ix3 h d l) = W h d l := by
  have cast : ∀ w : FVec Ideal S256x512 .f32, shapeCast S1x256x512 w shapeCasts_S256x512_S1x256x512 (ix3 (0 : Fin 1) d l) = w (ix2 d l) := by
    intro w; pointwise
  have at3 : ∀ n : ℕ, ∀ hn : n < 4, ∀ a : Fin 3, ((ix3 (⟨n, hn⟩ : Fin 4) d l : S4x256x512.Idx) a).val
      = (![n, 0, 0] : Fin 3 → ℕ) a + ((ix3 (0 : Fin 1) d l : S1x256x512.Idx) a).val := by
    intro n hn a
    match a with
    | 0 => rfl
    | 1 => exact (Nat.zero_add _).symm
    | 2 => exact (Nat.zero_add _).symm
  match h with
  | 0 =>
    rw [View.read_writes_cons_unit_of_not_mem V f _ _ _ _ rfl (0 : Fin 3) (Or.inl (by show 0 < 3; omega)),
      View.read_writes_cons_unit_of_not_mem V f _ _ _ _ rfl (0 : Fin 3) (Or.inl (by show 0 < 2; omega)),
      View.read_writes_cons_unit_of_not_mem V f _ _ _ _ rfl (0 : Fin 3) (Or.inl (by show 0 < 1; omega)), ← hw0, ← cast w0]
    exact View.read_writes_cons_unit_of_mem V f _ _ L _ (ix3 (0 : Fin 1) d l) rfl (at3 0 (by omega))
  | 1 =>
    rw [View.read_writes_cons_unit_of_not_mem V f _ _ _ _ rfl (0 : Fin 3) (Or.inl (by show 1 < 3; omega)),
      View.read_writes_cons_unit_of_not_mem V f _ _ _ _ rfl (0 : Fin 3) (Or.inl (by show 1 < 2; omega)), ← hw1, ← cast w1]
    exact View.read_writes_cons_unit_of_mem V f _ _ _ _ (ix3 (0 : Fin 1) d l) rfl (at3 1 (by omega))
  | 2 =>
    rw [View.read_writes_cons_unit_of_not_mem V f _ _ _ _ rfl (0 : Fin 3) (Or.inl (by show 2 < 3; omega)), ← hw2, ← cast w2]
    exact View.read_writes_cons_unit_of_mem V f _ _ _ _ (ix3 (0 : Fin 1) d l) rfl (at3 2 (by omega))
  | 3 =>
    rw [← hw3, ← cast w3]
    exact View.read_writes_cons_unit_of_mem V f _ _ _ _ (ix3 (0 : Fin 1) d l) rfl (at3 3 (by omega))

end four

/-! ## One grid point's data, chunk by chunk -/

/-- Row `i` of chunk `n` of a 512-row block. -/
def rowP (n i : ℕ) : Fin 512 := ⟨(64 * n + i) % 512, Nat.mod_lt _ (by norm_num)⟩

/-- One head's 256 columns of a chunk. -/
def colsP (Y : Fin 512 → Fin 1024 → EReal) (n : ℕ) (h : Fin 4) (i : Fin 64) (d : Fin 256) : EReal :=
  Y (rowP n i) ⟨256 * h.val + d.val, by omega⟩

/-- One head's queries of a chunk, with the factor 1/16. -/
def qP (Y : Fin 512 → Fin 1024 → EReal) (n : ℕ) (h : Fin 4) (i : Fin 64) (d : Fin 256) : EReal :=
  colsP Y n h i d * Ideal.ofBits .f32 0x3D800000#32

/-- One head's 512 value columns of a chunk. -/
def valsP (Y : Fin 512 → Fin 2048 → EReal) (n : ℕ) (h : Fin 4) (i : Fin 64) (l : Fin 512) : EReal :=
  Y (rowP n i) ⟨512 * h.val + l.val, by omega⟩

/-- The states within a grid point, from the one it begins with. -/
def stP (Y4 Yb : Fin 512 → Fin 1024 → EReal) (Y5 : Fin 512 → Fin 2048 → EReal) (S : Fin 4 → Fin 256 → Fin 512 → EReal) :
    ℕ → Fin 4 → Fin 256 → Fin 512 → EReal
  | 0 => S
  | n + 1 => fun h => newH (colsP Y4 n h) (colsP Yb n h) (valsP Y5 n h) (stP Y4 Yb Y5 S n h)

theorem rd_at2 (a : Memref sig .tc .vmem S512x1024 .f32) (X : BufTy.Contents (Elt Ideal) a.view.ty)
    (Y : Fin 512 → Fin 1024 → EReal) (hY : ∀ r c, a.view.read (Elt Ideal) X (ix2 r c) = Y r c) (k : ℕ) (hk : k < 8) (h : Fin 4)
    {off : Fin 2 → ℕ} (e : off = ![64 * k, 256 * h.val]) (inb : ∀ a, off a + S64x256.size a ≤ S512x1024.size a) :
    at2 (rd a X off inb) = colsP Y k h := by
  subst e
  funext i d
  refine Eq.trans ?_ (hY (rowP k i) ⟨256 * h.val + d.val, by omega⟩)
  show a.view.read (Elt Ideal) X _ = _
  refine congrArg (a.view.read (Elt Ideal) X) (funext (Fin.forall_fin_two.mpr ⟨Fin.ext ?_, Fin.ext ?_⟩))
  · show 64 * k + 1 * i.val = (64 * k + i.val) % 512
    omega
  · show 256 * h.val + 1 * d.val = 256 * h.val + d.val
    omega

theorem rdV_at2 (a : Memref sig .tc .vmem S512x2048 .f32) (X : BufTy.Contents (Elt Ideal) a.view.ty)
    (Y : Fin 512 → Fin 2048 → EReal) (hY : ∀ r c, a.view.read (Elt Ideal) X (ix2 r c) = Y r c) (k : ℕ) (hk : k < 8) (h : Fin 4)
    {off : Fin 2 → ℕ} (e : off = ![64 * k, 512 * h.val]) (inb : ∀ a, off a + S64x512.size a ≤ S512x2048.size a) :
    at2 (rdV a X off inb) = valsP Y k h := by
  subst e
  funext i d
  refine Eq.trans ?_ (hY (rowP k i) ⟨512 * h.val + d.val, by omega⟩)
  show a.view.read (Elt Ideal) X _ = _
  refine congrArg (a.view.read (Elt Ideal) X) (funext (Fin.forall_fin_two.mpr ⟨Fin.ext ?_, Fin.ext ?_⟩))
  · show 64 * k + 1 * i.val = (64 * k + i.val) % 512
    omega
  · show 512 * h.val + 1 * d.val = 512 * h.val + d.val
    omega

theorem scaled_at2 (q : FVec Ideal S64x256 .f32) : at2 (scaled q) = fun i d => at2 q i d * Ideal.ofBits .f32 0x3D800000#32 := by
  funext i d
  show scaled q (ix2 i d) = _
  pointwise [scaled]

theorem rdS_at (a : Memref sig .tc .vmem S4x256x512 .f32) (X : BufTy.Contents (Elt Ideal) a.view.ty)
    (S : Fin 4 → Fin 256 → Fin 512 → EReal) (hS : ∀ h d l, a.view.read (Elt Ideal) X (ix3 h d l) = S h d l) (h : Fin 4)
    {off : Fin 3 → ℕ} (e : off = ![h.val, 0, 0]) (inb : ∀ a, off a + S1x256x512.size a ≤ S4x256x512.size a) :
    (fun d l => rdS a X off inb (ix2 d l)) = S h := by
  subst e
  funext d l
  refine Eq.trans ?_ (hS h d l)
  have cast : ∀ w : FVec Ideal S1x256x512 .f32, shapeCast S256x512 w shapeCasts_S1x256x512_S256x512 (ix2 d l) = w (ix3 (0 : Fin 1) d l) := by
    intro w; pointwise
  refine (cast _).trans ?_
  show a.view.read (Elt Ideal) X _ = _
  refine congrArg (a.view.read (Elt Ideal) X) (funext fun x => ?_)
  match x with
  | 0 => exact Fin.ext (by show h.val + 1 * 0 = h.val; omega)
  | 1 => exact Fin.ext (by show 0 + 1 * d.val = d.val; omega)
  | 2 => exact Fin.ext (by show 0 + 1 * l.val = l.val; omega)

/-! ## The chunks in turn -/

section loop

variable (𝒱 : Variants) (c : Dev nD) (bd : Option 𝒱.V) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (arg2 : BitVec 32) (v26 : IVec S512x1024 32) (v32 : FVec Ideal S512x1024 .f32) (v34 : IVec S512x1024 1) (v35 : FVec Ideal S512x1024 .f32) (X_arg3 : BufTy.Contents (Elt Ideal) arg3.view.ty) (X_arg4 : BufTy.Contents (Elt Ideal) arg4.view.ty) (X_arg5 : BufTy.Contents (Elt Ideal) arg5.view.ty) (X_arg12 : BufTy.Contents (Elt Ideal) arg12.view.ty)
  (Y3 Y4 Yb : Fin 512 → Fin 1024 → EReal) (Y5 : Fin 512 → Fin 2048 → EReal)
  (h3 : ∀ r c, arg3.view.read (Elt Ideal) X_arg3 (ix2 r c) = Y3 r c) (h4 : ∀ r c, arg4.view.read (Elt Ideal) X_arg4 (ix2 r c) = Y4 r c)
  (hb : ∀ r c, arg12.view.read (Elt Ideal) X_arg12 (ix2 r c) = Yb r c) (h5 : ∀ r c, arg5.view.read (Elt Ideal) X_arg5 (ix2 r c) = Y5 r c)
  (hreal : ∀ r c, ∃ x : ℝ, Yb r c = (x : EReal))

include h3 h4 hb h5 hreal

/-- What a chunk stores in the output block. -/
theorem trip_out (k : Fin k0_t1_loop.trips) (g : BufTy.Contents (Elt Ideal) arg9.view.ty) (G : BufTy.Contents (Elt Ideal) arg11.view.ty)
    (S : Fin 4 → Fin 256 → Fin 512 → EReal) (hS : ∀ h d l, arg11.view.read (Elt Ideal) G (ix3 h d l) = S h d l)
    {sig' : RefSig} {κ : Kind} {sp : Space} (V : View sig' κ sp S512x2048 .f32) (f : V.ty.Contents (Elt Ideal))
    (L : List (View.Piece (Elt Ideal) S512x2048 .f32)) :
    (∀ (h : Fin 4) (i' : Fin 64) (l : Fin 512), V.read (Elt Ideal) (V.writes (Elt Ideal) f
        ((tripL_k0_t1 (F := Ideal) 𝒱 c bd i arg3 harg3 arg4 harg4 arg5 harg5 arg6 harg6 arg7 harg7 arg8 harg8 arg9 harg9 arg10 harg10 arg11 harg11 arg12 harg12 arg2 v26 v32 v34 v35 row0 ri0 cj0 X_arg3 X_arg4 X_arg5 X_arg12 k g G).1 ++ L))
        (ix2 (⟨64 * k.val + i'.val, row_lt k i'⟩ : Fin 512) (⟨512 * h.val + l.val, by omega⟩ : Fin 2048))
          = outH (qP Y3 k.val h) (colsP Y4 k.val h) (colsP Yb k.val h) (valsP Y5 k.val h) (S h) i' l)
    ∧ ∀ (r : Fin 512) (C : Fin 2048), (r.val < 64 * k.val ∨ 64 * k.val + 64 ≤ r.val) → V.read (Elt Ideal) (V.writes (Elt Ideal) f
        ((tripL_k0_t1 (F := Ideal) 𝒱 c bd i arg3 harg3 arg4 harg4 arg5 harg5 arg6 harg6 arg7 harg7 arg8 harg8 arg9 harg9 arg10 harg10 arg11 harg11 arg12 harg12 arg2 v26 v32 v34 v35 row0 ri0 cj0 X_arg3 X_arg4 X_arg5 X_arg12 k g G).1 ++ L)) (ix2 r C) = V.read (Elt Ideal) (V.writes (Elt Ideal) f L) (ix2 r C) := by
  have hk : k.val < 8 := trips_eq ▸ k.isLt
  rw [trip_eq]
  refine read_four V f k.val hk (off2_eq k) (off4_eq k) (off6_eq k) (off8_eq k) (k0_off2_inb k) (k0_off4_inb k) (k0_off6_inb k)
    (k0_off8_inb k) _ _ _ _
    (fun h => outH (qP Y3 k.val h) (colsP Y4 k.val h) (colsP Yb k.val h) (valsP Y5 k.val h) (S h))
    ?_ ?_ ?_ ?_ L
  · intro i l
    rw [headO_apply _ _ _ _ _ (by rw [rd_at2 arg12 X_arg12 Yb hb k.val hk 0 (off1_eq k)]; exact fun i d => hreal _ _),
      scaled_at2, rd_at2 arg3 X_arg3 Y3 h3 k.val hk 0 (off1_eq k), rd_at2 arg4 X_arg4 Y4 h4 k.val hk 0 (off1_eq k),
      rd_at2 arg12 X_arg12 Yb hb k.val hk 0 (off1_eq k), rdV_at2 arg5 X_arg5 Y5 h5 k.val hk 0 (off2_eq k),
      rdS_at arg11 G S hS 0 (off := ![0, 0, 0]) rfl]
    rfl
  · intro i l
    rw [headO_apply _ _ _ _ _ (by rw [rd_at2 arg12 X_arg12 Yb hb k.val hk 1 (off3_eq k)]; exact fun i d => hreal _ _),
      scaled_at2, rd_at2 arg3 X_arg3 Y3 h3 k.val hk 1 (off3_eq k), rd_at2 arg4 X_arg4 Y4 h4 k.val hk 1 (off3_eq k),
      rd_at2 arg12 X_arg12 Yb hb k.val hk 1 (off3_eq k), rdV_at2 arg5 X_arg5 Y5 h5 k.val hk 1 (off4_eq k),
      rdS_at arg11 G S hS 1 (off := ![1, 0, 0]) rfl]
    rfl
  · intro i l
    rw [headO_apply _ _ _ _ _ (by rw [rd_at2 arg12 X_arg12 Yb hb k.val hk 2 (off5_eq k)]; exact fun i d => hreal _ _),
      scaled_at2, rd_at2 arg3 X_arg3 Y3 h3 k.val hk 2 (off5_eq k), rd_at2 arg4 X_arg4 Y4 h4 k.val hk 2 (off5_eq k),
      rd_at2 arg12 X_arg12 Yb hb k.val hk 2 (off5_eq k), rdV_at2 arg5 X_arg5 Y5 h5 k.val hk 2 (off6_eq k),
      rdS_at arg11 G S hS 2 (off := ![2, 0, 0]) rfl]
    rfl
  · intro i l
    rw [headO_apply _ _ _ _ _ (by rw [rd_at2 arg12 X_arg12 Yb hb k.val hk 3 (off7_eq k)]; exact fun i d => hreal _ _),
      scaled_at2, rd_at2 arg3 X_arg3 Y3 h3 k.val hk 3 (off7_eq k), rd_at2 arg4 X_arg4 Y4 h4 k.val hk 3 (off7_eq k),
      rd_at2 arg12 X_arg12 Yb hb k.val hk 3 (off7_eq k), rdV_at2 arg5 X_arg5 Y5 h5 k.val hk 3 (off8_eq k),
      rdS_at arg11 G S hS 3 (off := ![3, 0, 0]) rfl]
    rfl

omit h3 hreal in
/-- What a chunk stores in the scratch: the state after it. -/
theorem trip_state (k : Fin k0_t1_loop.trips) (g : BufTy.Contents (Elt Ideal) arg9.view.ty) (G : BufTy.Contents (Elt Ideal) arg11.view.ty)
    (S : Fin 4 → Fin 256 → Fin 512 → EReal) (hS : ∀ h d l, arg11.view.read (Elt Ideal) G (ix3 h d l) = S h d l)
    {sig' : RefSig} {κ : Kind} {sp : Space} (V : View sig' κ sp S4x256x512 .f32) (f : V.ty.Contents (Elt Ideal))
    (L : List (View.Piece (Elt Ideal) S4x256x512 .f32)) (h : Fin 4) (d : Fin 256) (l : Fin 512) :
    V.read (Elt Ideal) (V.writes (Elt Ideal) f ((tripL_k0_t1 (F := Ideal) 𝒱 c bd i arg3 harg3 arg4 harg4 arg5 harg5 arg6 harg6 arg7 harg7 arg8 harg8 arg9 harg9 arg10 harg10 arg11 harg11 arg12 harg12 arg2 v26 v32 v34 v35 row0 ri0 cj0 X_arg3 X_arg4 X_arg5 X_arg12 k g G).2 ++ L)) (ix3 h d l)
      = newH (colsP Y4 k.val h) (colsP Yb k.val h) (valsP Y5 k.val h) (S h) d l := by
  have hk : k.val < 8 := trips_eq ▸ k.isLt
  rw [trip_eq]
  refine read_four_s V f _ _ _ _ (fun h => newH (colsP Y4 k.val h) (colsP Yb k.val h) (valsP Y5 k.val h) (S h))
    ?_ ?_ ?_ ?_ L h d l
  · intro d l
    rw [headS_apply, rd_at2 arg4 X_arg4 Y4 h4 k.val hk 0 (off1_eq k),
      rd_at2 arg12 X_arg12 Yb hb k.val hk 0 (off1_eq k), rdV_at2 arg5 X_arg5 Y5 h5 k.val hk 0 (off2_eq k),
      rdS_at arg11 G S hS 0 (off := ![0, 0, 0]) rfl]
  · intro d l
    rw [headS_apply, rd_at2 arg4 X_arg4 Y4 h4 k.val hk 1 (off3_eq k),
      rd_at2 arg12 X_arg12 Yb hb k.val hk 1 (off3_eq k), rdV_at2 arg5 X_arg5 Y5 h5 k.val hk 1 (off4_eq k),
      rdS_at arg11 G S hS 1 (off := ![1, 0, 0]) rfl]
  · intro d l
    rw [headS_apply, rd_at2 arg4 X_arg4 Y4 h4 k.val hk 2 (off5_eq k),
      rd_at2 arg12 X_arg12 Yb hb k.val hk 2 (off5_eq k), rdV_at2 arg5 X_arg5 Y5 h5 k.val hk 2 (off6_eq k),
      rdS_at arg11 G S hS 2 (off := ![2, 0, 0]) rfl]
  · intro d l
    rw [headS_apply, rd_at2 arg4 X_arg4 Y4 h4 k.val hk 3 (off7_eq k),
      rd_at2 arg12 X_arg12 Yb hb k.val hk 3 (off7_eq k), rdV_at2 arg5 X_arg5 Y5 h5 k.val hk 3 (off8_eq k),
      rdS_at arg11 G S hS 3 (off := ![3, 0, 0]) rfl]

variable (G9 : BufTy.Contents (Elt Ideal) arg9.view.ty) (G11 : BufTy.Contents (Elt Ideal) arg11.view.ty)
  (S : Fin 4 → Fin 256 → Fin 512 → EReal) (hS : ∀ h d l, arg11.view.read (Elt Ideal) G11 (ix3 h d l) = S h d l)

include hS

omit h3 hreal in
/-- The scratch after `n` chunks. -/
theorem loop_state (n : ℕ) (hn : n ≤ k0_t1_loop.trips) (h : Fin 4) (d : Fin 256) (l : Fin 512) :
    arg11.view.read (Elt Ideal) (arg11.view.writes (Elt Ideal) G11 (pb_k0_t1 (F := Ideal) 𝒱 c bd i arg3 harg3 arg4 harg4 arg5 harg5 arg6 harg6 arg7 harg7 arg8 harg8 arg9 harg9 arg10 harg10 arg11 harg11 arg12 harg12 arg2 v26 v32 v34 v35 row0 ri0 cj0 X_arg3 X_arg4 X_arg5 X_arg12 G9 G11 n).2) (ix3 h d l) = stP Y4 Yb Y5 S n h d l := by
  induction n generalizing h d l with
  | zero => exact hS h d l
  | succ n ih =>
    rw [pb_k0_t1_succ (F := Ideal) 𝒱 c bd i arg3 harg3 arg4 harg4 arg5 harg5 arg6 harg6 arg7 harg7 arg8 harg8 arg9 harg9 arg10 harg10 arg11 harg11 arg12 harg12 arg2 v26 v32 v34 v35 row0 ri0 cj0 X_arg3 X_arg4 X_arg5 X_arg12 G9 G11 ⟨n, hn⟩]
    exact trip_state 𝒱 c bd i arg3 harg3 arg4 harg4 arg5 harg5 arg6 harg6 arg7 harg7 arg8 harg8 arg9 harg9 arg10 harg10 arg11 harg11 arg12 harg12 arg2 v26 v32 v34 v35 X_arg3 X_arg4 X_arg5 X_arg12 Y4 Yb Y5 h4 hb h5 ⟨n, hn⟩ _ _ _ (fun h d l => ih (by omega) h d l) arg11.view G11 _ h d l

omit h3 hreal in
/-- The scratch after all eight chunks. -/
theorem loop_state_8 (n : ℕ) (hn : n = 8) (h : Fin 4) (d : Fin 256) (l : Fin 512) :
    arg11.view.read (Elt Ideal) (arg11.view.writes (Elt Ideal) G11 (pb_k0_t1 (F := Ideal) 𝒱 c bd i arg3 harg3 arg4 harg4 arg5 harg5 arg6 harg6 arg7 harg7 arg8 harg8 arg9 harg9 arg10 harg10 arg11 harg11 arg12 harg12 arg2 v26 v32 v34 v35 row0 ri0 cj0 X_arg3 X_arg4 X_arg5 X_arg12 G9 G11 n).2) (ix3 h d l) = stP Y4 Yb Y5 S 8 h d l := by
  subst hn
  exact loop_state 𝒱 c bd i arg3 harg3 arg4 harg4 arg5 harg5 arg6 harg6 arg7 harg7 arg8 harg8 arg9 harg9 arg10 harg10 arg11 harg11 arg12 harg12 arg2 v26 v32 v34 v35 X_arg3 X_arg4 X_arg5 X_arg12 Y4 Yb Y5 h4 hb h5 G9 G11 S hS 8 (by rw [trips_eq]) h d l

omit h3 hreal in
/-- The scratch's stores after the last chunk, over any earlier ones: the state after the eighth chunk. -/
theorem loop_state_last {sig' : RefSig} {κ : Kind} {sp : Space} (V : View sig' κ sp S4x256x512 .f32) (f : V.ty.Contents (Elt Ideal))
    (L : List (View.Piece (Elt Ideal) S4x256x512 .f32)) (n : ℕ) (hn : n = 8) (h : Fin 4) (d : Fin 256) (l : Fin 512) :
    V.read (Elt Ideal) (V.writes (Elt Ideal) f ((pb_k0_t1 (F := Ideal) 𝒱 c bd i arg3 harg3 arg4 harg4 arg5 harg5 arg6 harg6 arg7 harg7 arg8 harg8 arg9 harg9 arg10 harg10 arg11 harg11 arg12 harg12 arg2 v26 v32 v34 v35 row0 ri0 cj0 X_arg3 X_arg4 X_arg5 X_arg12 G9 G11 n).2 ++ L)) (ix3 h d l) = stP Y4 Yb Y5 S 8 h d l := by
  subst hn
  have ht : 7 < k0_t1_loop.trips := by rw [trips_eq]; norm_num
  rw [pb_k0_t1_succ (F := Ideal) 𝒱 c bd i arg3 harg3 arg4 harg4 arg5 harg5 arg6 harg6 arg7 harg7 arg8 harg8 arg9 harg9 arg10 harg10 arg11 harg11 arg12 harg12 arg2 v26 v32 v34 v35 row0 ri0 cj0 X_arg3 X_arg4 X_arg5 X_arg12 G9 G11 ⟨7, ht⟩, List.append_assoc]
  exact trip_state 𝒱 c bd i arg3 harg3 arg4 harg4 arg5 harg5 arg6 harg6 arg7 harg7 arg8 harg8 arg9 harg9 arg10 harg10 arg11 harg11 arg12 harg12 arg2 v26 v32 v34 v35 X_arg3 X_arg4 X_arg5 X_arg12 Y4 Yb Y5 h4 hb h5 ⟨7, ht⟩ _ _ _
    (fun h d l => loop_state 𝒱 c bd i arg3 harg3 arg4 harg4 arg5 harg5 arg6 harg6 arg7 harg7 arg8 harg8 arg9 harg9 arg10 harg10 arg11 harg11 arg12 harg12 arg2 v26 v32 v34 v35 X_arg3 X_arg4 X_arg5 X_arg12 Y4 Yb Y5 h4 hb h5 G9 G11 S hS 7 ht.le h d l) V f _ h d l

omit h3 hreal in
/-- The scratch's stores of the eight chunks alone. -/
theorem loop_state_only {sig' : RefSig} {κ : Kind} {sp : Space} (V : View sig' κ sp S4x256x512 .f32) (f : V.ty.Contents (Elt Ideal))
    (n : ℕ) (hn : n = 8) (h : Fin 4) (d : Fin 256) (l : Fin 512) :
    V.read (Elt Ideal) (V.writes (Elt Ideal) f (pb_k0_t1 (F := Ideal) 𝒱 c bd i arg3 harg3 arg4 harg4 arg5 harg5 arg6 harg6 arg7 harg7 arg8 harg8 arg9 harg9 arg10 harg10 arg11 harg11 arg12 harg12 arg2 v26 v32 v34 v35 row0 ri0 cj0 X_arg3 X_arg4 X_arg5 X_arg12 G9 G11 n).2) (ix3 h d l) = stP Y4 Yb Y5 S 8 h d l := by
  have key := loop_state_last 𝒱 c bd i arg3 harg3 arg4 harg4 arg5 harg5 arg6 harg6 arg7 harg7 arg8 harg8 arg9 harg9 arg10 harg10 arg11 harg11 arg12 harg12 arg2 v26 v32 v34 v35 X_arg3 X_arg4 X_arg5 X_arg12 Y4 Yb Y5 h4 hb h5 G9 G11 S hS V f [] n hn h d l
  rw [List.append_nil] at key
  exact key

/-- The output block after `n` chunks: every row of a chunk already done is the specification's. -/
theorem loop_out {sig' : RefSig} {κ : Kind} {sp : Space} (V : View sig' κ sp S512x2048 .f32) (f : V.ty.Contents (Elt Ideal))
    (n : ℕ) (hn : n ≤ k0_t1_loop.trips) (m : ℕ) (hm : m < n) (h : Fin 4) (i' : Fin 64) (l : Fin 512) :
    V.read (Elt Ideal) (V.writes (Elt Ideal) f (pb_k0_t1 (F := Ideal) 𝒱 c bd i arg3 harg3 arg4 harg4 arg5 harg5 arg6 harg6 arg7 harg7 arg8 harg8 arg9 harg9 arg10 harg10 arg11 harg11 arg12 harg12 arg2 v26 v32 v34 v35 row0 ri0 cj0 X_arg3 X_arg4 X_arg5 X_arg12 G9 G11 n).1) (ix2 (rowP m i'.val) (⟨512 * h.val + l.val, by omega⟩ : Fin 2048))
      = outH (qP Y3 m h) (colsP Y4 m h) (colsP Yb m h) (valsP Y5 m h) (stP Y4 Yb Y5 S m h) i' l := by
  induction n with
  | zero => exact absurd hm (Nat.not_lt_zero _)
  | succ n ih =>
    rw [pb_k0_t1_succ (F := Ideal) 𝒱 c bd i arg3 harg3 arg4 harg4 arg5 harg5 arg6 harg6 arg7 harg7 arg8 harg8 arg9 harg9 arg10 harg10 arg11 harg11 arg12 harg12 arg2 v26 v32 v34 v35 row0 ri0 cj0 X_arg3 X_arg4 X_arg5 X_arg12 G9 G11 ⟨n, hn⟩]
    have key := trip_out 𝒱 c bd i arg3 harg3 arg4 harg4 arg5 harg5 arg6 harg6 arg7 harg7 arg8 harg8 arg9 harg9 arg10 harg10 arg11 harg11 arg12 harg12 arg2 v26 v32 v34 v35 X_arg3 X_arg4 X_arg5 X_arg12 Y3 Y4 Yb Y5 h3 h4 hb h5 hreal ⟨n, hn⟩
      (arg9.view.writes (Elt Ideal) G9 (pb_k0_t1 (F := Ideal) 𝒱 c bd i arg3 harg3 arg4 harg4 arg5 harg5 arg6 harg6 arg7 harg7 arg8 harg8 arg9 harg9 arg10 harg10 arg11 harg11 arg12 harg12 arg2 v26 v32 v34 v35 row0 ri0 cj0 X_arg3 X_arg4 X_arg5 X_arg12 G9 G11 n).1) (arg11.view.writes (Elt Ideal) G11 (pb_k0_t1 (F := Ideal) 𝒱 c bd i arg3 harg3 arg4 harg4 arg5 harg5 arg6 harg6 arg7 harg7 arg8 harg8 arg9 harg9 arg10 harg10 arg11 harg11 arg12 harg12 arg2 v26 v32 v34 v35 row0 ri0 cj0 X_arg3 X_arg4 X_arg5 X_arg12 G9 G11 n).2) _
      (fun h d l => loop_state 𝒱 c bd i arg3 harg3 arg4 harg4 arg5 harg5 arg6 harg6 arg7 harg7 arg8 harg8 arg9 harg9 arg10 harg10 arg11 harg11 arg12 harg12 arg2 v26 v32 v34 v35 X_arg3 X_arg4 X_arg5 X_arg12 Y4 Yb Y5 h4 hb h5 G9 G11 S hS n (by omega) h d l) V f (pb_k0_t1 (F := Ideal) 𝒱 c bd i arg3 harg3 arg4 harg4 arg5 harg5 arg6 harg6 arg7 harg7 arg8 harg8 arg9 harg9 arg10 harg10 arg11 harg11 arg12 harg12 arg2 v26 v32 v34 v35 row0 ri0 cj0 X_arg3 X_arg4 X_arg5 X_arg12 G9 G11 n).1
    by_cases hmn : m = n
    · subst hmn
      have e : rowP m i'.val = ⟨64 * m + i'.val, row_lt ⟨m, hn⟩ i'⟩ := Fin.ext (Nat.mod_eq_of_lt (row_lt ⟨m, hn⟩ i'))
      rw [e]
      exact key.1 h i' l
    · have h8 : n < 8 := trips_eq ▸ hn
      refine (key.2 _ _ (Or.inl ?_)).trans (ih (by omega) (by omega))
      show (64 * m + i'.val) % 512 < 64 * n
      omega

end loop

end Cert.KernelIdeal.Own

end
-- ==== Proof.Decay.lean ====
/- The kernel's log-decays and their running sums: each row is added to the rows 1, 2, 4, 8, 16 and 32 above it in its
   group of 64, so a row ends as the sum of its group's rows up to itself. -/
module

public import proofs.«01_k».proof.Proof.Attn

@[expose] public section

set_option maxRecDepth 16384

noncomputable section

namespace Cert.KernelIdeal.Own

open Cert.KernelIdeal.Gen Cert.Gla

open Idealize.ShloMosaic Idealize.SL.Sem

/-- The log-decays before the running sums. -/
def logDecay (v3 : FVec Ideal S512x128 .f32) (v4 : FVec Ideal S128x1024 .bf16) (v5 : FVec Ideal S1x1024 .f32) : FVec Ideal S512x1024 .f32 :=
  have v9 : FVec Ideal S512x1024 .f32 := addf (matmul dot_S512x128_S128x1024_S512x1024_1_0_0_1_n_n none (truncf .bf16 v3 bitsLt_bf16_f32) v4
    (constant S512x1024 .f32 0x00000000#32)) (broadcastTo S512x1024 v5 broadcasts_S1x1024_S512x1024)
  mulf (subf (broadcast S512x1024 (Scalar.ofBits .f32 0x00000000#32 : Ideal .f32))
    (addf (maximumf (subf (broadcast S512x1024 (Scalar.ofBits .f32 0x00000000#32 : Ideal .f32)) v9)
        (broadcast S512x1024 (Scalar.ofBits .f32 0x00000000#32 : Ideal .f32)))
      (log1p (exp (subf (broadcast S512x1024 (Scalar.ofBits .f32 0x00000000#32 : Ideal .f32)) (absf v9))))))
    (broadcast S512x1024 (Scalar.ofBits .f32 0x3D800000#32 : Ideal .f32))

/-- Each row with the row `n` above it in its group of 64. -/
def stp (n : ℕ) (x : FVec Ideal S512x1024 .f32) : FVec Ideal S512x1024 .f32 :=
  addf x (select (cmpi .sge k0_pay169 (broadcast S512x1024 (BitVec.ofNat 32 n)))
    (dynamicRotate 0 (BitVec.ofNat 32 n) none x rotates_S512x1024_d0)
    (broadcast S512x1024 (Scalar.ofBits .f32 0x00000000#32 : Ideal .f32)))

/-- What the kernel keeps for the point: six such additions. -/
theorem pay173_eq (x3 : FVec Ideal S512x128 .f32) (x4 : FVec Ideal S128x1024 .bf16) (x5 : FVec Ideal S1x1024 .f32) :
    k0_pay173 (F := Ideal) k0_pay169 (k0_pay170 x3 x4 x5) k0_pay171 (k0_pay172 x3 x4 x5)
      = shapeCast S512x1024 (stp 32 (stp 16 (stp 8 (stp 4 (stp 2 (stp 1 (logDecay x3 x4 x5))))))) shapeCasts_S512x1024_S512x1024 := rfl

/-- A decay logit of the point. -/
def logitP (x3 : FVec Ideal S512x128 .f32) (x4 : FVec Ideal S128x1024 .bf16) (x5 : FVec Ideal S1x1024 .f32) (r : Fin 512) (c : Fin 1024) : EReal :=
  ∑ e : Fin 128, x3 (ix2 r e) * x4 (ix2 e c) + x5 (ix2 0 c)

theorem logDecay_apply (x3 : FVec Ideal S512x128 .f32) (x4 : FVec Ideal S128x1024 .bf16) (x5 : FVec Ideal S1x1024 .f32) (r : Fin 512)
    (c : Fin 1024) : logDecay x3 x4 x5 (ix2 r c) = gOf (logitP x3 x4 x5 r c) := by
  pointwise [logDecay, gOf, logitP]
  rfl

theorem stp_apply (n : ℕ) (hn : n < 64) (x : FVec Ideal S512x1024 .f32) (r : Fin 512) (c : Fin 1024) :
    stp n x (ix2 r c) = x (ix2 r c) + if n ≤ r.val % 64 then x (ix2 ⟨(r.val - n) % 512, Nat.mod_lt _ (by norm_num)⟩ c) else 0 := by
  have hr := r.isLt
  pointwise [stp, k0_pay169]
  rw [and_mask r.val 6 63 (by norm_num) (by norm_num) (by omega), select_sge (r.val % (63 + 1)) n (by omega) (by omega)]
  refine congrArg _ ?_
  by_cases h : n ≤ r.val % 64
  · rw [if_pos h, if_pos h]
    refine congrArg (fun z => x (ix2 z c)) (Fin.ext ?_)
    show (r.val + 512 - (BitVec.ofNat 32 n).toNat % 512) % 512 = (r.val - n) % 512
    rw [BitVec.toNat_ofNat]
    omega
  · rw [if_neg h, if_neg h]

/-- Row `r` of `x` is the sum of the `w` rows of `G` up to `r` that are in its group of 64. -/
def Cum (w : ℕ) (G : Fin 512 → Fin 1024 → EReal) (x : FVec Ideal S512x1024 .f32) : Prop :=
  ∀ (r : Fin 512) (c : Fin 1024), x (ix2 r c)
    = ∑ t ∈ Finset.Ico (r.val % 64 + 1 - w) (r.val % 64 + 1), G ⟨(64 * (r.val / 64) + t) % 512, Nat.mod_lt _ (by norm_num)⟩ c

theorem stp_cum (w : ℕ) (hw : w < 64) (G : Fin 512 → Fin 1024 → EReal) (x : FVec Ideal S512x1024 .f32) (h : Cum w G x) :
    Cum (2 * w) G (stp w x) := by
  intro r c
  have hr := r.isLt
  rw [stp_apply w hw, h r c]
  split
  · next hle =>
    rw [h _ c]
    have e1 : (r.val - w) % 512 % 64 = r.val % 64 - w := by omega
    have e2 : (r.val - w) % 512 / 64 = r.val / 64 := by omega
    simp only [e1, e2]
    rw [add_comm, show r.val % 64 - w + 1 = r.val % 64 + 1 - w by omega,
      show r.val % 64 + 1 - w - w = r.val % 64 + 1 - 2 * w by omega]
    exact Finset.sum_Ico_consecutive _ (by omega) (by omega)
  · next hle => rw [add_zero, show r.val % 64 + 1 - w = 0 by omega, show r.val % 64 + 1 - 2 * w = 0 by omega]

/-- The kernel's running sums of the log-decays. -/
theorem pay173_apply (x3 : FVec Ideal S512x128 .f32) (x4 : FVec Ideal S128x1024 .bf16) (x5 : FVec Ideal S1x1024 .f32) (r : Fin 512)
    (c : Fin 1024) :
    k0_pay173 (F := Ideal) k0_pay169 (k0_pay170 x3 x4 x5) k0_pay171 (k0_pay172 x3 x4 x5) (ix2 r c)
      = ∑ t ∈ Finset.range (r.val % 64 + 1), gOf (logitP x3 x4 x5 ⟨(64 * (r.val / 64) + t) % 512, Nat.mod_lt _ (by norm_num)⟩ c) := by
  rw [pay173_eq]
  have h0 : Cum 1 (fun r c => gOf (logitP x3 x4 x5 r c)) (logDecay x3 x4 x5) := by
    intro r c
    have hr := r.isLt
    rw [logDecay_apply, Nat.add_sub_cancel, Nat.Ico_succ_singleton, Finset.sum_singleton]
    refine congrArg (fun z => gOf (logitP x3 x4 x5 z c)) (Fin.ext ?_)
    show r.val = (64 * (r.val / 64) + r.val % 64) % 512
    omega
  have h := stp_cum 32 (by norm_num) _ _ (stp_cum 16 (by norm_num) _ _ (stp_cum 8 (by norm_num) _ _ (stp_cum 4 (by norm_num) _ _
    (stp_cum 2 (by norm_num) _ _ (stp_cum 1 (by norm_num) _ _ h0))))) r c
  have e : ∀ y : FVec Ideal S512x1024 .f32, shapeCast S512x1024 y shapeCasts_S512x1024_S512x1024 (ix2 r c) = y (ix2 r c) := by
    intro y
    pointwise []
  rw [e]
  refine h.trans ?_
  rw [show r.val % 64 + 1 - 2 * 32 = 0 by omega, ← Finset.range_eq_Ico]

end Cert.KernelIdeal.Own

end
-- ==== Proof.Points.lean ====
/- What one grid point of the kernel leaves in its output block and in its scratch, in terms of the blocks it is given. -/
module

public import proofs.«01_k».proof.Proof.IdealFrame
public import proofs.«01_k».proof.Proof.Loop
public import proofs.«01_k».proof.Proof.Decay
public import Idealize.ShloMosaic.Lib.WholeRead

@[expose] public section

set_option maxRecDepth 16384

noncomputable section

namespace Cert.KernelIdeal.Own

open Cert.KernelIdeal.Gen Cert.Gla

open Idealize.ShloMosaic Idealize.SL.Sem

/-- A whole buffer read from its first element is what it holds. -/
theorem read_whole {sg : RefSig} {κ : Kind} {sp : Space} {s : Shape} {e : EltTy} {m : Memref sg κ sp s e} (h : m.IsWhole)
    (X : s.Idx → Elt Ideal e) (off : Fin s.rank → ℕ) (h0 : ∀ a, off a = 0) (inb : ∀ a, off a + s.size a ≤ s.size a) :
    View.readAt (Elt Ideal) m.view (Rect.unit (s := s) off s.size inb).toLoadRect (h.unread X) = X := by
  funext x
  rw [h.readAt_unread]
  refine congrArg X (funext fun a => Fin.ext ?_)
  show off a + 1 * (x a).val = (x a).val
  rw [h0 a, Nat.zero_add, Nat.one_mul]

/-- A load of a whole buffer from its first element. -/
theorem readAt_whole {sg : RefSig} {κ : Kind} {sp : Space} {s : Shape} {e : EltTy} (V : View sg κ sp s e)
    (f : V.ty.Contents (Elt Ideal)) (off : Fin s.rank → ℕ) (h0 : ∀ a, off a = 0) (inb : ∀ a, off a + s.size a ≤ s.size a)
    (y : s.Idx) : View.readAt (Elt Ideal) V (Rect.unit (s := s) off s.size inb).toLoadRect f y = V.read (Elt Ideal) f y := by
  show V.read (Elt Ideal) f _ = _
  refine congrArg (V.read (Elt Ideal) f) (funext fun a => Fin.ext ?_)
  show off a + 1 * (y a).val = (y a).val
  rw [h0 a, Nat.zero_add, Nat.one_mul]

/-- A store of a whole buffer read back. -/
theorem read_write_whole {sg : RefSig} {κ : Kind} {sp : Space} {s : Shape} {e : EltTy} (V : View sg κ sp s e)
    (f : V.ty.Contents (Elt Ideal)) (off : Fin s.rank → ℕ) (h0 : ∀ a, off a = 0) (inb : ∀ a, off a + s.size a ≤ s.size a)
    (w : s.Idx → Elt Ideal e) (L : List (View.Piece (Elt Ideal) s e)) (y : s.Idx) :
    V.read (Elt Ideal) (V.writes (Elt Ideal) f (⟨Rect.unit (s := s) off s.size inb, w⟩ :: L)) y = w y :=
  View.read_writes_cons_unit_of_mem V f inb w L y y rfl fun a => by rw [h0 a, Nat.zero_add]

/-- A rank-two block by its coordinates. -/
abbrev co2 {n0 n1 : ℕ} {e : EltTy} (x : Vec Ideal ⟨2, ![n0, n1]⟩ e) : Fin n0 → Fin n1 → Elt Ideal e := fun r c => x (ix2 r c)
/-- The heads' states by their coordinates. -/
abbrev co3 (x : Vec Ideal S4x256x512 .f32) : Fin 4 → Fin 256 → Fin 512 → EReal := fun h d l => x (ix3 h d l)

/-- The running log-decays of a 512-row block, restarted at each chunk of 64 rows. -/
def decP (x3 : Vec Ideal S512x128 .f32) (x4 : Vec Ideal S128x1024 .bf16) (x5 : Vec Ideal S1x1024 .f32) (r : Fin 512)
    (c : Fin 1024) : EReal :=
  ∑ t ∈ Finset.range (r.val % 64 + 1), gOf (logitP x3 x4 x5 ⟨(64 * (r.val / 64) + t) % 512, Nat.mod_lt _ (by norm_num)⟩ c)

theorem decP_real (x3 : Vec Ideal S512x128 .f32) (x4 : Vec Ideal S128x1024 .bf16) (x5 : Vec Ideal S1x1024 .f32)
    (hx : ∀ r c, logitP x3 x4 x5 r c ≠ ⊥) (r : Fin 512) (c : Fin 1024) : ∃ x : ℝ, decP x3 x4 x5 r c = (x : EReal) := by
  choose g hg using fun t : ℕ => gOf_real (hx ⟨(64 * (r.val / 64) + t) % 512, Nat.mod_lt _ (by norm_num)⟩ c)
  refine ⟨∑ t ∈ Finset.range (r.val % 64 + 1), g t, ?_⟩
  rw [decP, Finset.sum_congr rfl fun t _ => hg t]
  exact (map_sum (⟨⟨Real.toEReal, EReal.coe_zero⟩, EReal.coe_add⟩ : ℝ →+ EReal) g _).symm

/-- The running log-decays as they are computed from the three blocks read. -/
theorem dec_read {arg6 : Memref sig .tc .vmem S512x128 .f32} (harg6 : arg6.IsWhole) {arg7 : Memref sig .tc .vmem S128x1024 .bf16}
    (harg7 : arg7.IsWhole) {arg8 : Memref sig .tc .vmem S1x1024 .f32} (harg8 : arg8.IsWhole) (x3 : Vec Ideal S512x128 .f32)
    (x4 : Vec Ideal S128x1024 .bf16) (x5 : Vec Ideal S1x1024 .f32) :
    k0_pay173 (F := Ideal) k0_pay169
        (k0_pay170 (View.readAt (Elt Ideal) arg6.view (Rect.unit (s := S512x128) ![0, 0] S512x128.size inb_S512x128_S512x128_0_0).toLoadRect (harg6.unread x3))
          (View.readAt (Elt Ideal) arg7.view (Rect.unit (s := S128x1024) ![0, 0] S128x1024.size inb_S128x1024_S128x1024_0_0).toLoadRect (harg7.unread x4))
          (View.readAt (Elt Ideal) arg8.view (Rect.unit (s := S1x1024) ![0, 0] S1x1024.size inb_S1x1024_S1x1024_0_0).toLoadRect (harg8.unread x5)))
        k0_pay171
        (k0_pay172 (View.readAt (Elt Ideal) arg6.view (Rect.unit (s := S512x128) ![0, 0] S512x128.size inb_S512x128_S512x128_0_0).toLoadRect (harg6.unread x3))
          (View.readAt (Elt Ideal) arg7.view (Rect.unit (s := S128x1024) ![0, 0] S128x1024.size inb_S128x1024_S128x1024_0_0).toLoadRect (harg7.unread x4))
          (View.readAt (Elt Ideal) arg8.view (Rect.unit (s := S1x1024) ![0, 0] S1x1024.size inb_S1x1024_S1x1024_0_0).toLoadRect (harg8.unread x5)))
      = k0_pay173 k0_pay169 (k0_pay170 x3 x4 x5) k0_pay171 (k0_pay172 x3 x4 x5) := by
  rw [read_whole harg6 x3 _ (fun a => by fin_cases a <;> rfl), read_whole harg7 x4 _ (fun a => by fin_cases a <;> rfl),
    read_whole harg8 x5 _ (fun a => by fin_cases a <;> rfl)]

/-- The state a batch row starts from is zero. -/
theorem zero_start {sg : RefSig} {κ : Kind} {sp : Space} (V : View sg κ sp S4x256x512 .f32) (f : V.ty.Contents (Elt Ideal))
    (L : List (View.Piece (Elt Ideal) S4x256x512 .f32)) (h : Fin 4) (d : Fin 256) (l : Fin 512) :
    V.read (Elt Ideal) (V.writes (Elt Ideal) f (⟨Rect.unit (s := S4x256x512) ![0, 0, 0] S4x256x512.size inb_S4x256x512_S4x256x512_0_0_0,
      k0_pay168 (F := Ideal)⟩ :: L)) (ix3 h d l) = 0 := by
  rw [read_write_whole V f _ (fun a => by fin_cases a <;> rfl)]
  pointwise [k0_pay168]

set_option maxHeartbeats 1000000 in
/-- The output block of a point (the first of a batch row), chunk by chunk. -/
theorem out6_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : cond0_0 i) (hc1 : ¬cond0_1 i) (x0 : Vec Ideal S512x1024 .f32) (x1 : Vec Ideal S512x1024 .f32) (x2 : Vec Ideal S512x2048 .f32) (x3 : Vec Ideal S512x128 .f32) (x4 : Vec Ideal S128x1024 .bf16) (x5 : Vec Ideal S1x1024 .f32)
    (hx : ∀ r c, logitP x3 x4 x5 r c ≠ ⊥) (n : ℕ) (hn : n < 8) (h : Fin 4) (i' : Fin 64) (l : Fin 512) :
    out0_A_6 (F := Ideal) c i arg3 harg3 arg4 harg4 arg5 harg5 arg6 harg6 arg7 harg7 arg8 harg8 arg9 harg9 arg10 harg10 arg11 harg11 arg12 harg12 hc0 hc1 x0 x1 x2 x3 x4 x5 (ix2 (rowP n i'.val) (⟨512 * h.val + l.val, by omega⟩ : Fin 2048))
      = outH (qP (co2 x0) n h) (colsP (co2 x1) n h) (colsP (decP x3 x4 x5) n h) (valsP (co2 x2) n h)
          (stP (co2 x1) (decP x3 x4 x5) (co2 x2) (fun _ _ _ => 0) n h) i' l := by
  unfold out0_A_6 kernelRun0_A
  refine loop_out Variants.none c none i arg3 harg3 arg4 harg4 arg5 harg5 arg6 harg6 arg7 harg7 arg8 harg8 arg9 harg9 arg10 harg10 arg11 harg11 arg12 harg12 _ _ _ _ _ _ _ _ _ (co2 x0) (co2 x1) (decP x3 x4 x5) (co2 x2) (fun r c => congrFun (harg3.read_unread x0) (ix2 r c)) (fun r c => congrFun (harg4.read_unread x1) (ix2 r c)) ?_
    (fun r c => congrFun (harg5.read_unread x2) (ix2 r c)) (decP_real x3 x4 x5 hx) _ _ (fun _ _ _ => 0) ?_ VO0_6 VO0_6.junk _ (le_of_eq rfl)
    n hn h i' l
  · intro r c
    exact (read_write_whole arg12.view _ ![0, 0] (fun a => by fin_cases a <;> rfl) inb_S512x1024_S512x1024_0_0 _ [] (ix2 r c)).trans
      ((congrFun (dec_read harg6 harg7 harg8 x3 x4 x5) (ix2 r c)).trans (pay173_apply x3 x4 x5 r c))
  · exact fun h d l => zero_start arg11.view _ _ h d l

set_option maxHeartbeats 1000000 in
/-- The scratch after a point: the state after its eight chunks. -/
theorem out_s_A (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : cond0_0 i) (hc1 : ¬cond0_1 i) (x0 : Vec Ideal S512x1024 .f32) (x1 : Vec Ideal S512x1024 .f32) (x2 : Vec Ideal S512x2048 .f32) (x3 : Vec Ideal S512x128 .f32) (x4 : Vec Ideal S128x1024 .bf16) (x5 : Vec Ideal S1x1024 .f32) (h : Fin 4) (d : Fin 256) (l : Fin 512) :
    sout0_A_0 (F := Ideal) c i arg3 harg3 arg4 harg4 arg5 harg5 arg6 harg6 arg7 harg7 arg8 harg8 arg9 harg9 arg10 harg10 arg11 harg11 arg12 harg12 hc0 hc1 x0 x1 x2 x3 x4 x5 (ix3 h d l) = stP (co2 x1) (decP x3 x4 x5) (co2 x2) (fun _ _ _ => 0) 8 h d l := by
  unfold sout0_A_0 kernelRun0_A
  refine loop_state_last Variants.none c none i arg3 harg3 arg4 harg4 arg5 harg5 arg6 harg6 arg7 harg7 arg8 harg8 arg9 harg9 arg10 harg10 arg11 harg11 arg12 harg12 _ _ _ _ _ _ _ _ _ (co2 x1) (decP x3 x4 x5) (co2 x2) (fun r c => congrFun (harg4.read_unread x1) (ix2 r c)) ?_
    (fun r c => congrFun (harg5.read_unread x2) (ix2 r c)) _ _ (fun _ _ _ => 0) ?_ VS0_0 VS0_0.junk _ _ rfl h d l
  · intro r c
    exact (read_write_whole arg12.view _ ![0, 0] (fun a => by fin_cases a <;> rfl) inb_S512x1024_S512x1024_0_0 _ [] (ix2 r c)).trans
      ((congrFun (dec_read harg6 harg7 harg8 x3 x4 x5) (ix2 r c)).trans (pay173_apply x3 x4 x5 r c))
  · exact fun h d l => zero_start arg11.view _ _ h d l

set_option maxHeartbeats 1000000 in
/-- The output block of a point (neither first nor last of a batch row), chunk by chunk. -/
theorem out6_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : ¬cond0_1 i) (x0 : Vec Ideal S512x1024 .f32) (x1 : Vec Ideal S512x1024 .f32) (x2 : Vec Ideal S512x2048 .f32) (x3 : Vec Ideal S512x128 .f32) (x4 : Vec Ideal S128x1024 .bf16) (x5 : Vec Ideal S1x1024 .f32) (xs0 : Vec Ideal S4x256x512 .f32)
    (hx : ∀ r c, logitP x3 x4 x5 r c ≠ ⊥) (n : ℕ) (hn : n < 8) (h : Fin 4) (i' : Fin 64) (l : Fin 512) :
    out0_B_6 (F := Ideal) c i arg3 harg3 arg4 harg4 arg5 harg5 arg6 harg6 arg7 harg7 arg8 harg8 arg9 harg9 arg10 harg10 arg11 harg11 arg12 harg12 hc0 hc1 x0 x1 x2 x3 x4 x5 xs0 (ix2 (rowP n i'.val) (⟨512 * h.val + l.val, by omega⟩ : Fin 2048))
      = outH (qP (co2 x0) n h) (colsP (co2 x1) n h) (colsP (decP x3 x4 x5) n h) (valsP (co2 x2) n h)
          (stP (co2 x1) (decP x3 x4 x5) (co2 x2) (co3 xs0) n h) i' l := by
  unfold out0_B_6 kernelRun0_B
  refine loop_out Variants.none c none i arg3 harg3 arg4 harg4 arg5 harg5 arg6 harg6 arg7 harg7 arg8 harg8 arg9 harg9 arg10 harg10 arg11 harg11 arg12 harg12 _ _ _ _ _ _ _ _ _ (co2 x0) (co2 x1) (decP x3 x4 x5) (co2 x2) (fun r c => congrFun (harg3.read_unread x0) (ix2 r c)) (fun r c => congrFun (harg4.read_unread x1) (ix2 r c)) ?_
    (fun r c => congrFun (harg5.read_unread x2) (ix2 r c)) (decP_real x3 x4 x5 hx) _ _ (co3 xs0) (fun h d l => congrFun (harg11.read_unread xs0) (ix3 h d l)) VO0_6 VO0_6.junk _ (le_of_eq rfl)
    n hn h i' l
  · intro r c
    exact (read_write_whole arg12.view _ ![0, 0] (fun a => by fin_cases a <;> rfl) inb_S512x1024_S512x1024_0_0 _ [] (ix2 r c)).trans
      ((congrFun (dec_read harg6 harg7 harg8 x3 x4 x5) (ix2 r c)).trans (pay173_apply x3 x4 x5 r c))

set_option maxHeartbeats 1000000 in
/-- The scratch after a point: the state after its eight chunks. -/
theorem out_s_B (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : ¬cond0_1 i) (x0 : Vec Ideal S512x1024 .f32) (x1 : Vec Ideal S512x1024 .f32) (x2 : Vec Ideal S512x2048 .f32) (x3 : Vec Ideal S512x128 .f32) (x4 : Vec Ideal S128x1024 .bf16) (x5 : Vec Ideal S1x1024 .f32) (xs0 : Vec Ideal S4x256x512 .f32) (h : Fin 4) (d : Fin 256) (l : Fin 512) :
    sout0_B_0 (F := Ideal) c i arg3 harg3 arg4 harg4 arg5 harg5 arg6 harg6 arg7 harg7 arg8 harg8 arg9 harg9 arg10 harg10 arg11 harg11 arg12 harg12 hc0 hc1 x0 x1 x2 x3 x4 x5 xs0 (ix3 h d l) = stP (co2 x1) (decP x3 x4 x5) (co2 x2) (co3 xs0) 8 h d l := by
  unfold sout0_B_0 kernelRun0_B
  refine loop_state_only Variants.none c none i arg3 harg3 arg4 harg4 arg5 harg5 arg6 harg6 arg7 harg7 arg8 harg8 arg9 harg9 arg10 harg10 arg11 harg11 arg12 harg12 _ _ _ _ _ _ _ _ _ (co2 x1) (decP x3 x4 x5) (co2 x2) (fun r c => congrFun (harg4.read_unread x1) (ix2 r c)) ?_
    (fun r c => congrFun (harg5.read_unread x2) (ix2 r c)) _ _ (co3 xs0) (fun h d l => congrFun (harg11.read_unread xs0) (ix3 h d l)) VS0_0 VS0_0.junk _ rfl h d l
  · intro r c
    exact (read_write_whole arg12.view _ ![0, 0] (fun a => by fin_cases a <;> rfl) inb_S512x1024_S512x1024_0_0 _ [] (ix2 r c)).trans
      ((congrFun (dec_read harg6 harg7 harg8 x3 x4 x5) (ix2 r c)).trans (pay173_apply x3 x4 x5 r c))

set_option maxHeartbeats 1000000 in
/-- The output block of a point (the last of a batch row), chunk by chunk. -/
theorem out6_C (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : cond0_1 i) (x0 : Vec Ideal S512x1024 .f32) (x1 : Vec Ideal S512x1024 .f32) (x2 : Vec Ideal S512x2048 .f32) (x3 : Vec Ideal S512x128 .f32) (x4 : Vec Ideal S128x1024 .bf16) (x5 : Vec Ideal S1x1024 .f32) (xs0 : Vec Ideal S4x256x512 .f32)
    (hx : ∀ r c, logitP x3 x4 x5 r c ≠ ⊥) (n : ℕ) (hn : n < 8) (h : Fin 4) (i' : Fin 64) (l : Fin 512) :
    out0_C_6 (F := Ideal) c i arg3 harg3 arg4 harg4 arg5 harg5 arg6 harg6 arg7 harg7 arg8 harg8 arg9 harg9 arg10 harg10 arg11 harg11 arg12 harg12 hc0 hc1 x0 x1 x2 x3 x4 x5 xs0 (ix2 (rowP n i'.val) (⟨512 * h.val + l.val, by omega⟩ : Fin 2048))
      = outH (qP (co2 x0) n h) (colsP (co2 x1) n h) (colsP (decP x3 x4 x5) n h) (valsP (co2 x2) n h)
          (stP (co2 x1) (decP x3 x4 x5) (co2 x2) (co3 xs0) n h) i' l := by
  unfold out0_C_6 kernelRun0_C
  refine loop_out Variants.none c none i arg3 harg3 arg4 harg4 arg5 harg5 arg6 harg6 arg7 harg7 arg8 harg8 arg9 harg9 arg10 harg10 arg11 harg11 arg12 harg12 _ _ _ _ _ _ _ _ _ (co2 x0) (co2 x1) (decP x3 x4 x5) (co2 x2) (fun r c => congrFun (harg3.read_unread x0) (ix2 r c)) (fun r c => congrFun (harg4.read_unread x1) (ix2 r c)) ?_
    (fun r c => congrFun (harg5.read_unread x2) (ix2 r c)) (decP_real x3 x4 x5 hx) _ _ (co3 xs0) (fun h d l => congrFun (harg11.read_unread xs0) (ix3 h d l)) VO0_6 VO0_6.junk _ (le_of_eq rfl)
    n hn h i' l
  · intro r c
    exact (read_write_whole arg12.view _ ![0, 0] (fun a => by fin_cases a <;> rfl) inb_S512x1024_S512x1024_0_0 _ [] (ix2 r c)).trans
      ((congrFun (dec_read harg6 harg7 harg8 x3 x4 x5) (ix2 r c)).trans (pay173_apply x3 x4 x5 r c))

set_option maxHeartbeats 1000000 in
/-- The scratch after a point: the state after its eight chunks. -/
theorem out_s_C (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : cond0_1 i) (x0 : Vec Ideal S512x1024 .f32) (x1 : Vec Ideal S512x1024 .f32) (x2 : Vec Ideal S512x2048 .f32) (x3 : Vec Ideal S512x128 .f32) (x4 : Vec Ideal S128x1024 .bf16) (x5 : Vec Ideal S1x1024 .f32) (xs0 : Vec Ideal S4x256x512 .f32) (h : Fin 4) (d : Fin 256) (l : Fin 512) :
    sout0_C_0 (F := Ideal) c i arg3 harg3 arg4 harg4 arg5 harg5 arg6 harg6 arg7 harg7 arg8 harg8 arg9 harg9 arg10 harg10 arg11 harg11 arg12 harg12 hc0 hc1 x0 x1 x2 x3 x4 x5 xs0 (ix3 h d l) = stP (co2 x1) (decP x3 x4 x5) (co2 x2) (co3 xs0) 8 h d l := by
  unfold sout0_C_0 kernelRun0_C
  refine loop_state_only Variants.none c none i arg3 harg3 arg4 harg4 arg5 harg5 arg6 harg6 arg7 harg7 arg8 harg8 arg9 harg9 arg10 harg10 arg11 harg11 arg12 harg12 _ _ _ _ _ _ _ _ _ (co2 x1) (decP x3 x4 x5) (co2 x2) (fun r c => congrFun (harg4.read_unread x1) (ix2 r c)) ?_
    (fun r c => congrFun (harg5.read_unread x2) (ix2 r c)) _ _ (co3 xs0) (fun h d l => congrFun (harg11.read_unread xs0) (ix3 h d l)) VS0_0 VS0_0.junk _ rfl h d l
  · intro r c
    exact (read_write_whole arg12.view _ ![0, 0] (fun a => by fin_cases a <;> rfl) inb_S512x1024_S512x1024_0_0 _ [] (ix2 r c)).trans
      ((congrFun (dec_read harg6 harg7 harg8 x3 x4 x5) (ix2 r c)).trans (pay173_apply x3 x4 x5 r c))

/-- The scratch moved to the state output. -/
theorem pay1_apply (y : Vec Ideal S4x256x512 .f32) (h : Fin 4) (d : Fin 256) (l : Fin 512) :
    k0_pay1 (F := Ideal) y (ix4 (0 : Fin 1) h d l) = y (ix3 h d l) := by
  pointwise [k0_pay1]

set_option maxHeartbeats 1000000 in
/-- The state output of the last point of a batch row. -/
theorem out7_C (c : Dev nD) (i : grid0.Coords) (arg3 : Memref sig .tc .vmem S512x1024 .f32) (harg3 : arg3.IsWhole) (arg4 : Memref sig .tc .vmem S512x1024 .f32) (harg4 : arg4.IsWhole) (arg5 : Memref sig .tc .vmem S512x2048 .f32) (harg5 : arg5.IsWhole) (arg6 : Memref sig .tc .vmem S512x128 .f32) (harg6 : arg6.IsWhole) (arg7 : Memref sig .tc .vmem S128x1024 .bf16) (harg7 : arg7.IsWhole) (arg8 : Memref sig .tc .vmem S1x1024 .f32) (harg8 : arg8.IsWhole) (arg9 : Memref sig .tc .vmem S512x2048 .f32) (harg9 : arg9.IsWhole) (arg10 : Memref sig .tc .vmem S1x4x256x512 .f32) (harg10 : arg10.IsWhole) (arg11 : Memref sig .tc .vmem S4x256x512 .f32) (harg11 : arg11.IsWhole) (arg12 : Memref sig .tc .vmem S512x1024 .f32) (harg12 : arg12.IsWhole) (hc0 : ¬cond0_0 i) (hc1 : cond0_1 i) (x0 : Vec Ideal S512x1024 .f32) (x1 : Vec Ideal S512x1024 .f32) (x2 : Vec Ideal S512x2048 .f32) (x3 : Vec Ideal S512x128 .f32) (x4 : Vec Ideal S128x1024 .bf16) (x5 : Vec Ideal S1x1024 .f32) (xs0 : Vec Ideal S4x256x512 .f32) (h : Fin 4) (d : Fin 256) (l : Fin 512) :
    out0_C_7 (F := Ideal) c i arg3 harg3 arg4 harg4 arg5 harg5 arg6 harg6 arg7 harg7 arg8 harg8 arg9 harg9 arg10 harg10 arg11 harg11 arg12 harg12 hc0 hc1 x0 x1 x2 x3 x4 x5 xs0 (ix4 (0 : Fin 1) h d l) = stP (co2 x1) (decP x3 x4 x5) (co2 x2) (co3 xs0) 8 h d l := by
  unfold out0_C_7 kernelRun0_C
  refine (read_write_whole VO0_7 VO0_7.junk ![0, 0, 0, 0] (fun a => by fin_cases a <;> rfl) inb_S1x4x256x512_S1x4x256x512_0_0_0_0 _ [] (ix4 (0 : Fin 1) h d l)).trans ?_
  refine (pay1_apply _ h d l).trans ?_
  refine (readAt_whole arg11.view _ ![0, 0, 0] (fun a => by fin_cases a <;> rfl) inb_S4x256x512_S4x256x512_0_0_0 (ix3 h d l)).trans ?_
  refine loop_state_8 Variants.none c none i arg3 harg3 arg4 harg4 arg5 harg5 arg6 harg6 arg7 harg7 arg8 harg8 arg9 harg9 arg10 harg10 arg11 harg11 arg12 harg12 _ _ _ _ _ _ _ _ _ (co2 x1) (decP x3 x4 x5) (co2 x2) (fun r c => congrFun (harg4.read_unread x1) (ix2 r c)) ?_
    (fun r c => congrFun (harg5.read_unread x2) (ix2 r c)) _ _ (co3 xs0) (fun h d l => congrFun (harg11.read_unread xs0) (ix3 h d l)) _ rfl h d l
  · intro r c
    exact (read_write_whole arg12.view _ ![0, 0] (fun a => by fin_cases a <;> rfl) inb_S512x1024_S512x1024_0_0 _ [] (ix2 r c)).trans
      ((congrFun (dec_read harg6 harg7 harg8 x3 x4 x5) (ix2 r c)).trans (pay173_apply x3 x4 x5 r c))

end Cert.KernelIdeal.Own

end
-- ==== Proof.Whole.lean ====
/- The two arrays the kernel leaves, in terms of the specification: by recursion over the grid's points. -/
module

public import proofs.«01_k».proof.Proof.IdealValue
public import proofs.«01_k».proof.Proof.Points

@[expose] public section

set_option maxRecDepth 16384

noncomputable section

namespace Cert.Gla

open Idealize.ShloMosaic

/-- A matrix by its two coordinates. -/
def arr2 {n0 n1 : ℕ} {φ : FTy} (x : FVec Ideal ⟨2, ![n0, n1]⟩ φ) (R : Fin n0) (C : Fin n1) : EReal := x (ix2 R C)

/-- The decay logits, from the low-rank activations, the second factor and the bias. -/
def logitA (a : FVec Ideal ⟨2, ![8192, 128]⟩ .f32) (w : FVec Ideal ⟨2, ![128, 1024]⟩ .bf16) (b : FVec Ideal ⟨2, ![1, 1024]⟩ .f32)
    (R : Fin 8192) (C : Fin 1024) : EReal :=
  ∑ e : Fin 128, a (ix2 R e) * w (ix2 e C) + b (ix2 0 C)

end Cert.Gla

namespace Cert.KernelIdeal.Own

open Cert.KernelIdeal Cert.KernelIdeal.Gen Cert.Gla

open Idealize.ShloMosaic Idealize.ShloMosaic.TcCoe Idealize.SL.Sem

variable (m : (ℓ : Loc nD τ sig) → Buf (Elt Ideal) ℓ)

/-- The projections on device `c`. -/
abbrev inP (c : Dev nD) : Fin 8192 → Fin 8192 → EReal := arr2 (φ := .f32) (m ((c : Thread nD τ).loc main_arg0))
/-- The decay logits on device `c`. -/
abbrev inX (c : Dev nD) : Fin 8192 → Fin 1024 → EReal :=
  logitA (m ((c : Thread nD τ).loc main_arg1)) (m ((c : Thread nD τ).loc main_arg2)) (m ((c : Thread nD τ).loc main_arg3))

/-! ## The blocks of a point -/

theorem index0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem index1 : ∀ t : Fin cfg0.N, win0_1.index t (0 : Fin 2) = t.val ∧ win0_1.index t (1 : Fin 2) = 1 :=
  (by decide +kernel : ∀ t : Fin grid0.N, win0_1.index t (0 : Fin 2) = t.val ∧ win0_1.index t (1 : Fin 2) = 1)
theorem index2 : ∀ t : Fin cfg0.N, win0_2.index t (0 : Fin 2) = t.val ∧ win0_2.index t (1 : Fin 2) = 1 :=
  (by decide +kernel : ∀ t : Fin grid0.N, win0_2.index t (0 : Fin 2) = t.val ∧ win0_2.index t (1 : Fin 2) = 1)
theorem index3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem index4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem pt_lt (t : Fin cfg0.N) : t.val < 16 := lt_of_lt_of_eq t.isLt (show cfg0.N = 16 from N_0)

theorem blk0 (c : Dev nD) (t : Fin cfg0.N) (r : Fin 512) (C : Fin 1024) :
    (iblk m c 0 t : Vec Ideal S512x1024 .f32) (ix2 r C) = inP m c ⟨512 * t.val + r.val, by have := pt_lt t; omega⟩ ⟨C.val, by omega⟩ := by
  obtain ⟨e0, e1⟩ := index0 t
  show m ((c : Thread nD τ).loc main_arg0) _ = m ((c : Thread nD τ).loc main_arg0) _
  refine congrArg _ (funext (Fin.forall_fin_two.mpr ⟨Fin.ext ?_, Fin.ext ?_⟩))
  · show win0_0.index t (0 : Fin 2) * 512 + 1 * r.val = 512 * t.val + r.val
    rw [e0]; omega
  · show win0_0.index t (1 : Fin 2) * 1024 + 1 * C.val = C.val
    rw [e1]; omega

theorem blk1 (c : Dev nD) (t : Fin cfg0.N) (r : Fin 512) (C : Fin 1024) :
    (iblk m c 1 t : Vec Ideal S512x1024 .f32) (ix2 r C) = inP m c ⟨512 * t.val + r.val, by have := pt_lt t; omega⟩ ⟨1024 + C.val, by omega⟩ := by
  obtain ⟨e0, e1⟩ := index1 t
  show m ((c : Thread nD τ).loc main_arg0) _ = m ((c : Thread nD τ).loc main_arg0) _
  refine congrArg _ (funext (Fin.forall_fin_two.mpr ⟨Fin.ext ?_, Fin.ext ?_⟩))
  · show win0_1.index t (0 : Fin 2) * 512 + 1 * r.val = 512 * t.val + r.val
    rw [e0]; omega
  · show win0_1.index t (1 : Fin 2) * 1024 + 1 * C.val = 1024 + C.val
    rw [e1]; omega

theorem blk2 (c : Dev nD) (t : Fin cfg0.N) (r : Fin 512) (C : Fin 2048) :
    (iblk m c 2 t : Vec Ideal S512x2048 .f32) (ix2 r C) = inP m c ⟨512 * t.val + r.val, by have := pt_lt t; omega⟩ ⟨2048 + C.val, by omega⟩ := by
  obtain ⟨e0, e1⟩ := index2 t
  show m ((c : Thread nD τ).loc main_arg0) _ = m ((c : Thread nD τ).loc main_arg0) _
  refine congrArg _ (funext (Fin.forall_fin_two.mpr ⟨Fin.ext ?_, Fin.ext ?_⟩))
  · show win0_2.index t (0 : Fin 2) * 512 + 1 * r.val = 512 * t.val + r.val
    rw [e0]; omega
  · show win0_2.index t (1 : Fin 2) * 2048 + 1 * C.val = 2048 + C.val
    rw [e1]; omega

theorem blk3 (c : Dev nD) (t : Fin cfg0.N) (r : Fin 512) (C : Fin 128) :
    (iblk m c 3 t : Vec Ideal S512x128 .f32) (ix2 r C)
      = (m ((c : Thread nD τ).loc main_arg1) : FVec Ideal S8192x128 .f32) (ix2 (⟨512 * t.val + r.val, by have := pt_lt t; omega⟩ : Fin 8192) C) := by
  obtain ⟨e0, e1⟩ := index3 t
  show m ((c : Thread nD τ).loc main_arg1) _ = m ((c : Thread nD τ).loc main_arg1) _
  refine congrArg _ (funext (Fin.forall_fin_two.mpr ⟨Fin.ext ?_, Fin.ext ?_⟩))
  · show win0_3.index t (0 : Fin 2) * 512 + 1 * r.val = 512 * t.val + r.val
    rw [e0]; omega
  · show win0_3.index t (1 : Fin 2) * 128 + 1 * C.val = C.val
    rw [e1]; omega

theorem blk4 (c : Dev nD) (t : Fin cfg0.N) (r : Fin 128) (C : Fin 1024) :
    (iblk m c 4 t : Vec Ideal S128x1024 .bf16) (ix2 r C) = (m ((c : Thread nD τ).loc main_arg2) : FVec Ideal S128x1024 .bf16) (ix2 r C) := by
  obtain ⟨e0, e1⟩ := index4 t
  show m ((c : Thread nD τ).loc main_arg2) _ = m ((c : Thread nD τ).loc main_arg2) _
  refine congrArg _ (funext (Fin.forall_fin_two.mpr ⟨Fin.ext ?_, Fin.ext ?_⟩))
  · show win0_4.index t (0 : Fin 2) * 128 + 1 * r.val = r.val
    rw [e0]; omega
  · show win0_4.index t (1 : Fin 2) * 1024 + 1 * C.val = C.val
    rw [e1]; omega

theorem blk5 (c : Dev nD) (t : Fin cfg0.N) (r : Fin 1) (C : Fin 1024) :
    (iblk m c 5 t : Vec Ideal S1x1024 .f32) (ix2 r C) = (m ((c : Thread nD τ).loc main_arg3) : FVec Ideal S1x1024 .f32) (ix2 r C) := by
  obtain ⟨e0, e1⟩ := index5 t
  show m ((c : Thread nD τ).loc main_arg3) _ = m ((c : Thread nD τ).loc main_arg3) _
  refine congrArg _ (funext (Fin.forall_fin_two.mpr ⟨Fin.ext ?_, Fin.ext ?_⟩))
  · show win0_5.index t (0 : Fin 2) * 1 + 1 * r.val = r.val
    rw [e0]; omega
  · show win0_5.index t (1 : Fin 2) * 1024 + 1 * C.val = C.val
    rw [e1]; omega

/-- The decay logits of a point's rows. -/
theorem logit_blk (c : Dev nD) (t : Fin cfg0.N) (r : Fin 512) (C : Fin 1024) :
    logitP (iblk m c 3 t) (iblk m c 4 t) (iblk m c 5 t) r C = inX m c ⟨512 * t.val + r.val, by have := pt_lt t; omega⟩ C := by
  unfold logitP inX logitA
  refine congrArg₂ (· + ·) (Finset.sum_congr rfl fun e _ => congrArg₂ (· * ·) (blk3 m c t r e) (blk4 m c t e C)) (blk5 m c t 0 C)

/-! ## A point's chunks are the sequence's -/

theorem row_pt (t : Fin cfg0.N) (n i : ℕ) (hn : n < 8) (hi : i < 64) :
    (⟨512 * t.val + (rowP n i).val, by have := pt_lt t; omega⟩ : Fin 8192) = rowOf (t.val / 4) (8 * (t.val % 4) + n) i := by
  have := pt_lt t
  refine Fin.ext ?_
  show 512 * t.val + (64 * n + i) % 512 = (2048 * (t.val / 4) + 64 * (8 * (t.val % 4) + n) + i) % 8192
  omega

theorem q_pt (c : Dev nD) (t : Fin cfg0.N) (n : ℕ) (hn : n < 8) (h : Fin 4) :
    qP (co2 (iblk m c 0 t : Vec Ideal S512x1024 .f32)) n h = qH (inP m c) (t.val / 4) (8 * (t.val % 4) + n) h := by
  funext i d
  exact congrArg (· * Ideal.ofBits .f32 0x3D800000#32) ((blk0 m c t (rowP n i.val) ⟨256 * h.val + d.val, by omega⟩).trans
    (congrArg₂ (inP m c) (row_pt t n i.val hn i.isLt) (Fin.ext rfl)))

theorem k_pt (c : Dev nD) (t : Fin cfg0.N) (n : ℕ) (hn : n < 8) (h : Fin 4) :
    colsP (co2 (iblk m c 1 t : Vec Ideal S512x1024 .f32)) n h = kH (inP m c) (t.val / 4) (8 * (t.val % 4) + n) h := by
  funext i d
  exact (blk1 m c t (rowP n i.val) ⟨256 * h.val + d.val, by omega⟩).trans
    (congrArg₂ (inP m c) (row_pt t n i.val hn i.isLt) (Fin.ext (Nat.add_assoc _ _ _).symm))

theorem v_pt (c : Dev nD) (t : Fin cfg0.N) (n : ℕ) (hn : n < 8) (h : Fin 4) :
    valsP (co2 (iblk m c 2 t : Vec Ideal S512x2048 .f32)) n h = vH (inP m c) (t.val / 4) (8 * (t.val % 4) + n) h := by
  funext i d
  exact (blk2 m c t (rowP n i.val) ⟨512 * h.val + d.val, by omega⟩).trans
    (congrArg₂ (inP m c) (row_pt t n i.val hn i.isLt) (Fin.ext (Nat.add_assoc _ _ _).symm))

theorem b_pt (c : Dev nD) (t : Fin cfg0.N) (n : ℕ) (hn : n < 8) (h : Fin 4) :
    colsP (decP (iblk m c 3 t) (iblk m c 4 t) (iblk m c 5 t)) n h = bH (inX m c) (t.val / 4) (8 * (t.val % 4) + n) h := by
  funext i d
  unfold colsP decP bH
  have hi : (rowP n i.val).val = 64 * n + i.val := Nat.mod_eq_of_lt (by omega)
  have h1 : (rowP n i.val).val % 64 = i.val := by rw [hi]; omega
  have h2 : (rowP n i.val).val / 64 = n := by rw [hi]; omega
  rw [h1]
  refine Finset.sum_congr rfl fun s hs => ?_
  rw [Finset.mem_range] at hs
  refine congrArg gOf ((logit_blk m c t _ _).trans (congrArg (fun R => inX m c R _) (Eq.trans (Fin.ext ?_) (row_pt t n s hn (by omega)))))
  show 512 * t.val + (64 * ((rowP n i.val).val / 64) + s) % 512 = 512 * t.val + (64 * n + s) % 512
  rw [h2]

/-- The states within a point follow the sequence's. -/
theorem st_pt (c : Dev nD) (t : Fin cfg0.N) (S : Fin 4 → Fin 256 → Fin 512 → EReal)
    (hS : ∀ h, S h = stH (inP m c) (inX m c) (t.val / 4) h (8 * (t.val % 4))) (n : ℕ) (hn : n ≤ 8) (h : Fin 4) :
    stP (co2 (iblk m c 1 t : Vec Ideal S512x1024 .f32)) (decP (iblk m c 3 t) (iblk m c 4 t) (iblk m c 5 t))
        (co2 (iblk m c 2 t : Vec Ideal S512x2048 .f32)) S n h
      = stH (inP m c) (inX m c) (t.val / 4) h (8 * (t.val % 4) + n) := by
  induction n with
  | zero => exact hS h
  | succ n ih =>
    unfold stP
    rw [k_pt m c t n hn h, b_pt m c t n hn h, v_pt m c t n hn h, ih (by omega)]
    rfl

/-! ## The points in turn -/

/-- The state in the scratch after a point. -/
theorem scratch_at (c : Dev nD) (n : ℕ) (hn : n < cfg0.N) (h : Fin 4) (d : Fin 256) (l : Fin 512) :
    (outsAt0 m c n hn).2.2 (ix3 h d l) = stH (inP m c) (inX m c) (n / 4) h (8 * (n % 4) + 8) d l := by
  induction n generalizing h d l with
  | zero =>
    rw [show outsAt0 m c 0 hn = _ from outsAt0_A m c ⟨0, hn⟩ (Nat.zero_mod _) (by dsimp only; omega)]
    dsimp only
    rw [out_s_A]
    exact congrFun (congrFun (st_pt m c ⟨0, hn⟩ (fun _ _ _ => 0) (fun h => rfl) 8 le_rfl h) d) l
  | succ n ih =>
    by_cases h0 : (n + 1) % 4 = 0
    · rw [show outsAt0 m c (n + 1) hn = _ from outsAt0_A m c ⟨n + 1, hn⟩ h0 (by dsimp only; omega)]
      dsimp only
      rw [out_s_A]
      exact congrFun (congrFun (st_pt m c ⟨n + 1, hn⟩ (fun _ _ _ => 0) (fun h => by dsimp only; rw [h0]; rfl) 8 le_rfl h) d) l
    · have hS : ∀ h, co3 (outsAt0 m c n (Nat.lt_of_succ_lt hn)).2.2 h
          = stH (inP m c) (inX m c) ((n + 1) / 4) h (8 * ((n + 1) % 4)) := by
        intro h
        funext d l
        refine (ih (Nat.lt_of_succ_lt hn) h d l).trans ?_
        rw [show n / 4 = (n + 1) / 4 from by omega, show 8 * (n % 4) + 8 = 8 * ((n + 1) % 4) from by omega]
      by_cases h1 : (n + 1) % 4 = 3
      · rw [show outsAt0 m c (n + 1) hn = _ from outsAt0_C m c ⟨n + 1, hn⟩ h0 h1]
        dsimp only
        rw [out_s_C]
        exact congrFun (congrFun (st_pt m c ⟨n + 1, hn⟩ _ hS 8 le_rfl h) d) l
      · rw [show outsAt0 m c (n + 1) hn = _ from outsAt0_B m c ⟨n + 1, hn⟩ h0 h1]
        dsimp only
        rw [out_s_B]
        exact congrFun (congrFun (st_pt m c ⟨n + 1, hn⟩ _ hS 8 le_rfl h) d) l

/-- The state a point that is not the first of its sequence begins with. -/
theorem scratch_before (c : Dev nD) (t : Fin cfg0.N) (h0 : ¬t.val % 4 = 0) (h : Fin 4) :
    co3 (outsAt0 m c (t.val - 1) (Nat.lt_of_le_of_lt (Nat.sub_le _ _) t.isLt)).2.2 h
      = stH (inP m c) (inX m c) (t.val / 4) h (8 * (t.val % 4)) := by
  funext d l
  refine (scratch_at m c _ _ h d l).trans ?_
  rw [show (t.val - 1) / 4 = t.val / 4 from by omega, show 8 * ((t.val - 1) % 4) + 8 = 8 * (t.val % 4) from by omega]

variable (hx : ∀ c R C, inX m c R C ≠ ⊥)

include hx in
/-- A point's output block. -/
theorem block_at (c : Dev nD) (t : Fin cfg0.N) (n : ℕ) (hn : n < 8) (h : Fin 4) (i : Fin 64) (l : Fin 512) :
    (outsAt0 m c t.val t.isLt).1 (ix2 (rowP n i.val) (⟨512 * h.val + l.val, by omega⟩ : Fin 2048))
      = oH (inP m c) (inX m c) (t.val / 4) (8 * (t.val % 4) + n) h i l := by
  have hl : ∀ r C, logitP (iblk m c 3 t) (iblk m c 4 t) (iblk m c 5 t) r C ≠ ⊥ := fun r C => by rw [logit_blk]; exact hx c _ _
  unfold oH
  by_cases h0 : t.val % 4 = 0
  · rw [outsAt0_A m c t h0 (by omega)]
    dsimp only
    rw [out6_A _ _ _ _ _ _ _ _ _ _ _ _ _ _ _ _ _ _ _ _ _ _ _ _ _ _ _ _ _ _ hl n hn h i l, q_pt m c t n hn h, k_pt m c t n hn h, b_pt m c t n hn h, v_pt m c t n hn h,
      st_pt m c t _ (fun h => by rw [h0]; rfl) n hn.le h]
  · by_cases h1 : t.val % 4 = 3
    · rw [outsAt0_C m c t h0 h1]
      dsimp only
      rw [out6_C _ _ _ _ _ _ _ _ _ _ _ _ _ _ _ _ _ _ _ _ _ _ _ _ _ _ _ _ _ _ _ hl n hn h i l, q_pt m c t n hn h, k_pt m c t n hn h, b_pt m c t n hn h, v_pt m c t n hn h,
        st_pt m c t _ (scratch_before m c t h0) n hn.le h]
    · rw [outsAt0_B m c t h0 h1]
      dsimp only
      rw [out6_B _ _ _ _ _ _ _ _ _ _ _ _ _ _ _ _ _ _ _ _ _ _ _ _ _ _ _ _ _ _ _ hl n hn h i l, q_pt m c t n hn h, k_pt m c t n hn h, b_pt m c t n hn h, v_pt m c t n hn h,
        st_pt m c t _ (scratch_before m c t h0) n hn.le h]

/-- The last point of a sequence gives out its state. -/
theorem state_at (c : Dev nD) (t : Fin cfg0.N) (h1 : t.val % 4 = 3) (h : Fin 4) (d : Fin 256) (l : Fin 512) :
    (outsAt0 m c t.val t.isLt).2.1 (ix4 (0 : Fin 1) h d l) = stH (inP m c) (inX m c) (t.val / 4) h 32 d l := by
  have h0 : ¬t.val % 4 = 0 := by omega
  rw [outsAt0_C m c t h0 h1]
  dsimp only
  rw [out7_C, st_pt m c t _ (scratch_before m c t h0) 8 le_rfl h, h1]

/-! ## The arrays -/

include hx in
/-- The output array. -/
theorem G6_apply (c : Dev nD) (R : Fin 8192) (C : Fin 2048) :
    (Value.G6 m c : FVec Ideal S8192x2048 .f32) (ix2 R C)
      = oH (inP m c) (inX m c) (R.val / 2048) (R.val % 2048 / 64) ⟨C.val / 512, by omega⟩ ⟨R.val % 64, by omega⟩ ⟨C.val % 512, by omega⟩ := by
  have hp : Value.pt6Of (ix2 R C : S8192x2048.Idx) = R.val / 512 := by
    show 1 * (R.val / 512 - 0) + 1 * (C.val / 2048 - 0) = _
    omega
  have hlt : R.val / 512 < cfg0.N := by rw [show cfg0.N = 16 from N_0]; omega
  have key := block_at m hx c ⟨R.val / 512, hlt⟩ (R.val % 512 / 64) (by omega) ⟨C.val / 512, by omega⟩ ⟨R.val % 64, by omega⟩ ⟨C.val % 512, by omega⟩
  dsimp only at key
  rw [show R.val / 512 / 4 = R.val / 2048 from by omega, show 8 * (R.val / 512 % 4) + R.val % 512 / 64 = R.val % 2048 / 64 from by omega] at key
  refine Eq.trans ?_ key
  unfold Value.G6
  rw [dif_pos (by rw [hp]; exact hlt), Value.fold0_congr m c _ _ _ (by omega) hp, ← Value.outsAt0_sweep m c _ hlt]
  refine congrArg _ (funext (Fin.forall_fin_two.mpr ⟨Fin.ext ?_, Fin.ext ?_⟩))
  · show R.val % 512 = (64 * (R.val % 512 / 64) + R.val % 64) % 512
    omega
  · show C.val % 2048 = 512 * (C.val / 512) + C.val % 512
    omega

/-- The array of states. -/
theorem G7_apply (c : Dev nD) (bt : Fin 4) (h : Fin 4) (d : Fin 256) (l : Fin 512) :
    (Value.G7 m c : FVec Ideal S4x4x256x512 .f32) (ix4 bt h d l) = stH (inP m c) (inX m c) bt.val h 32 d l := by
  have hp : Value.pt7Of (ix4 bt h d l : S4x4x256x512.Idx) = 4 * bt.val + 3 := by
    show 4 * (1 * (bt.val / 1 - 0) + 1 * (h.val / 4 - 0) + 1 * (d.val / 256 - 0) + 1 * (l.val / 512 - 0)) + 3 = _
    omega
  have hlt : 4 * bt.val + 3 < cfg0.N := by rw [show cfg0.N = 16 from N_0]; omega
  have key := state_at m c ⟨4 * bt.val + 3, hlt⟩ (by dsimp only; omega) h d l
  dsimp only at key
  rw [show (4 * bt.val + 3) / 4 = bt.val from by omega] at key
  refine Eq.trans ?_ key
  unfold Value.G7
  rw [dif_pos (by rw [hp]; exact hlt), Value.fold0_congr m c _ _ _ (by omega) hp, ← Value.outsAt0_sweep m c _ hlt]
  refine congrArg _ (funext fun a => ?_)
  match a with
  | ⟨0, _⟩ => exact Fin.ext (Nat.mod_one _)
  | ⟨1, _⟩ => exact Fin.ext (Nat.mod_eq_of_lt h.isLt)
  | ⟨2, _⟩ => exact Fin.ext (Nat.mod_eq_of_lt d.isLt)
  | ⟨3, _⟩ => exact Fin.ext (Nat.mod_eq_of_lt l.isLt)

end Cert.KernelIdeal.Own

end
-- ==== Proof.RefTrip.lean ====
/- One trip of the reference's loop, read at an index: the chunk of the specification. -/
module

public import proofs.«01_k».proof.Proof.Gen.ReferenceIdeal.Step
public import proofs.«01_k».proof.Proof.Attn
public import proofs.«01_k».proof.Proof.Spec
public import Idealize.ShloMosaic.Lib.Pointwise
public import Idealize.ShloMosaic.Lib.DynamicIndex
public import Idealize.ShloMosaic.Lib.WordCmp

@[expose] public section

set_option maxRecDepth 16384

noncomputable section

namespace Cert.ReferenceIdeal.Trip

open Idealize.ShloMosaic Cert.ReferenceIdeal Cert.ReferenceIdeal.Gen Cert.ReferenceIdeal.Step Cert.Gla
open Cert.KernelIdeal.Own (minus_inf toInt_small)
open scoped BigOperators

/-! ## The running sum -/

/-- Adding up a list from the left, started at `a`. -/
theorem fold_add {ι : Type} (g : ι → EReal) : ∀ (l : List ι) (a : EReal), l.foldl (fun r n => r + g n) a = a + (l.map g).sum
  | [], a => by simp
  | n :: l, a => by rw [List.foldl_cons, fold_add g l, List.map_cons, List.sum_cons, add_assoc]

/-- A window of 64 whose last entry is at `i`, padded with zeros below. -/
theorem window_sum (f : ℕ → EReal) (i : ℕ) (hi : i < 64) :
    ∑ t : Fin 64, (if 63 ≤ i + t.val then f (i + t.val - 63) else 0) = ∑ t ∈ Finset.range (i + 1), f t := by
  rw [Fin.sum_univ_eq_sum_range (fun t => if 63 ≤ i + t then f (i + t - 63) else 0) 64]
  have e : 64 = (63 - i) + (i + 1) := by omega
  rw [e, Finset.sum_range_add, Finset.sum_eq_zero fun t ht => ?_, zero_add]
  · refine Finset.sum_congr rfl fun t _ => ?_
    rw [if_pos (by omega)]
    exact congrArg f (by omega)
  · have := Finset.mem_range.1 ht
    exact if_neg (by omega)

/-- The running sum along a chunk's rows. -/
theorem cumsum_at (x : FVec Ideal S4x4x64x256 .f32) (z : FVec Ideal S_ .f32) (hz : z (Shape.Idx.first h_S_) = (0 : EReal))
    (h : S4x4x64x256.ReduceWindows (![1, 1, 64, 1] : Fin 4 → ℕ) ![1, 1, 1, 1] ![0, 0, 63, 0] ![0, 0, 0, 0] S4x4x64x256)
    (f : ℕ → EReal) (b hh : Fin 4) (i : Fin 64) (d : Fin 256) (hx : ∀ t : Fin 64, x (ix4 b hh t d) = f t.val) :
    Host.reduceWindowAdd ![1, 1, 64, 1] ![1, 1, 1, 1] ![0, 0, 63, 0] ![0, 0, 0, 0] x z h h_S_ (ix4 b hh i d)
      = ∑ t ∈ Finset.range (i.val + 1), f t := by
  rw [← window_sum f i.val i.isLt]
  show Host.reduceWindow (fun a b : EReal => a + b) ![1, 1, 64, 1] ![1, 1, 1, 1] ![0, 0, 63, 0] ![0, 0, 0, 0] x
    (fun _ : S_.Idx => z (Shape.Idx.first h_S_)) h h_S_ (ix4 b hh i d) = _
  unfold Host.reduceWindow
  dsimp only
  rw [fold_add, ← Fin.sum_univ_def, hz, zero_add]
  have key : ∀ w : (⟨4, ![1, 1, 64, 1]⟩ : Shape).Idx, ∀ (hd : Decidable (∀ a : Fin 4,
      (![0, 0, 63, 0] : Fin 4 → ℕ) a ≤ (ix4 b hh i d a).val * (![1, 1, 1, 1] : Fin 4 → ℕ) a + (w a).val
        ∧ (ix4 b hh i d a).val * (![1, 1, 1, 1] : Fin 4 → ℕ) a + (w a).val - (![0, 0, 63, 0] : Fin 4 → ℕ) a < S4x4x64x256.size a)),
      (@dite EReal _ hd (fun hin => x (fun a => ⟨(ix4 b hh i d a).val * (![1, 1, 1, 1] : Fin 4 → ℕ) a + (w a).val - (![0, 0, 63, 0] : Fin 4 → ℕ) a, (hin a).2⟩))
        fun _ => 0) = if 63 ≤ i.val + (w 2).val then f (i.val + (w 2).val - 63) else 0 := by
    intro w hd
    have w0 : (w 0).val < 1 := (w 0).isLt
    have w1 : (w 1).val < 1 := (w 1).isLt
    have w2 : (w 2).val < 64 := (w 2).isLt
    have w3 : (w 3).val < 1 := (w 3).isLt
    by_cases ht : 63 ≤ i.val + (w 2).val
    · rw [if_pos ht, dif_pos]
      · rw [← hx ⟨i.val + (w 2).val - 63, by omega⟩]
        refine congrArg x (funext fun a => Fin.ext ?_)
        match a with
        | ⟨0, _⟩ => show b.val * 1 + (w 0).val - 0 = b.val; omega
        | ⟨1, _⟩ => show hh.val * 1 + (w 1).val - 0 = hh.val; omega
        | ⟨2, _⟩ => show i.val * 1 + (w 2).val - 63 = i.val + (w 2).val - 63; omega
        | ⟨3, _⟩ => show d.val * 1 + (w 3).val - 0 = d.val; omega
      · intro a
        match a with
        | ⟨0, _⟩ => show 0 ≤ b.val * 1 + (w 0).val ∧ b.val * 1 + (w 0).val - 0 < 4; omega
        | ⟨1, _⟩ => show 0 ≤ hh.val * 1 + (w 1).val ∧ hh.val * 1 + (w 1).val - 0 < 4; omega
        | ⟨2, _⟩ => show 63 ≤ i.val * 1 + (w 2).val ∧ i.val * 1 + (w 2).val - 63 < 64; omega
        | ⟨3, _⟩ => show 0 ≤ d.val * 1 + (w 3).val ∧ d.val * 1 + (w 3).val - 0 < 256; omega
    · rw [if_neg ht, dif_neg]
      intro hin
      have := (hin 2).1
      change 63 ≤ i.val * 1 + (w 2).val at this
      omega
  refine ((Finset.sum_congr rfl fun n _ => key _ _).trans (Equiv.sum_comp (Shape.rowMajor (⟨4, ![1, 1, 64, 1]⟩ : Shape)).symm
    (fun w : (⟨4, ![1, 1, 64, 1]⟩ : Shape).Idx => if 63 ≤ i.val + (w 2).val then f (i.val + (w 2).val - 63) else 0))).trans ?_
  rw [sum_idx4]
  simp only [Fin.sum_univ_one]
  rfl

/-! ## The chunk's rows -/

/-- The corner a trip's slices are taken at. -/
theorem offs (j : Fin 32) : ∀ k : Fin 5, (((![constantI S_ 32 (BitVec.ofNat 32 j.val), constantI S_ 32 0#32, constantI S_ 32 0#32,
    constantI S_ 32 0#32, constantI S_ 32 0#32] : Fin 5 → IVec S_ 32) k (Shape.Idx.first h_S_)).toInt)
      = (((![j.val, 0, 0, 0, 0] : Fin 5 → ℕ) k : ℕ) : Int) := by
  intro k
  match k with
  | ⟨0, _⟩ => exact toInt_small j.val (by omega)
  | ⟨1, _⟩ => rfl
  | ⟨2, _⟩ => rfl
  | ⟨3, _⟩ => rfl
  | ⟨4, _⟩ => rfl

/-- A trip's slice lies in the stack of chunks. -/
theorem fits256 (j : Fin 32) : S32x4x4x64x256.Slices (![j.val, 0, 0, 0, 0] : Fin 5 → ℕ) S1x4x4x64x256 :=
  ⟨rfl, fun a => by
    match a with
    | ⟨0, _⟩ => show j.val + 1 ≤ 32; omega
    | ⟨1, _⟩ => show 0 + 4 ≤ 4; omega
    | ⟨2, _⟩ => show 0 + 4 ≤ 4; omega
    | ⟨3, _⟩ => show 0 + 64 ≤ 64; omega
    | ⟨4, _⟩ => show 0 + 256 ≤ 256; omega⟩

/-- A trip's slice lies in the stack of chunks. -/
theorem fits512 (j : Fin 32) : S32x4x4x64x512.Slices (![j.val, 0, 0, 0, 0] : Fin 5 → ℕ) S1x4x4x64x512 :=
  ⟨rfl, fun a => by
    match a with
    | ⟨0, _⟩ => show j.val + 1 ≤ 32; omega
    | ⟨1, _⟩ => show 0 + 4 ≤ 4; omega
    | ⟨2, _⟩ => show 0 + 4 ≤ 4; omega
    | ⟨3, _⟩ => show 0 + 64 ≤ 64; omega
    | ⟨4, _⟩ => show 0 + 512 ≤ 512; omega⟩

/-- A chunk of the stack. -/
theorem cut256 (x : FVec Ideal S32x4x4x64x256 .f32) (j : Fin 32) (b h : Fin 4) (i : Fin 64) (d : Fin 256) :
    shapeCast S4x4x64x256 (extractStridedSlice S1x4x4x64x256 ![j.val, 0, 0, 0, 0] x (fits256 j)) shapeCasts_S1x4x4x64x256_S4x4x64x256
      (ix4 b h i d) = x (ix5 j b h i d) := by
  pointwise []
  try rfl

/-- A chunk of the stack. -/
theorem cut512 (x : FVec Ideal S32x4x4x64x512 .f32) (j : Fin 32) (b h : Fin 4) (i : Fin 64) (d : Fin 512) :
    shapeCast S4x4x64x512 (extractStridedSlice S1x4x4x64x512 ![j.val, 0, 0, 0, 0] x (fits512 j)) shapeCasts_S1x4x4x64x512_S4x4x64x512
      (ix4 b h i d) = x (ix5 j b h i d) := by
  pointwise []
  try rfl

variable (s : State Ideal) (j : Fin 32) (b h : Fin 4)

/-- The trip's queries. -/
def Q (i : Fin 64) (d : Fin 256) : EReal := s.main_v30_0 (ix5 j b h i d)
/-- The trip's keys. -/
def K (i : Fin 64) (d : Fin 256) : EReal := s.main_v30_1 (ix5 j b h i d)
/-- The trip's values. -/
def V (i : Fin 64) (l : Fin 512) : EReal := s.main_v30_2 (ix5 j b h i l)
/-- The trip's log-decays, added up from the chunk's start. -/
def B (i : Fin 64) (d : Fin 256) : EReal :=
  ∑ t ∈ Finset.range (i.val + 1), s.main_v30_3 (ix5 j b h ⟨t % 64, Nat.mod_lt _ (by norm_num)⟩ d)
/-- The state before the trip. -/
def S (d : Fin 256) (l : Fin 512) : EReal := s.main_v30_6 (ix4 b h d l)

theorem q_at (i : Fin 64) (d : Fin 256) : b5 j.val s (ix4 b h i d) = Q s j b h i d :=
  (congrFun (congrArg (fun y => shapeCast S4x4x64x256 y shapeCasts_S1x4x4x64x256_S4x4x64x256)
    (Host.dynamicSlice_eq_extractStridedSlice S1x4x4x64x256 s.main_v30_0 _ ![j.val, 0, 0, 0, 0] _ (fits256 j) (offs j))) _).trans
    (cut256 s.main_v30_0 j b h i d)

theorem k_at (i : Fin 64) (d : Fin 256) : b11 j.val s (ix4 b h i d) = K s j b h i d :=
  (congrFun (congrArg (fun y => shapeCast S4x4x64x256 y shapeCasts_S1x4x4x64x256_S4x4x64x256)
    (Host.dynamicSlice_eq_extractStridedSlice S1x4x4x64x256 s.main_v30_1 _ ![j.val, 0, 0, 0, 0] _ (fits256 j) (offs j))) _).trans
    (cut256 s.main_v30_1 j b h i d)

theorem v_at (i : Fin 64) (l : Fin 512) : b17 j.val s (ix4 b h i l) = V s j b h i l :=
  (congrFun (congrArg (fun y => shapeCast S4x4x64x512 y shapeCasts_S1x4x4x64x512_S4x4x64x512)
    (Host.dynamicSlice_eq_extractStridedSlice S1x4x4x64x512 s.main_v30_2 _ ![j.val, 0, 0, 0, 0] _ (fits512 j) (offs j))) _).trans
    (cut512 s.main_v30_2 j b h i l)

theorem g_at (i : Fin 64) (d : Fin 256) : b23 j.val s (ix4 b h i d) = s.main_v30_3 (ix5 j b h i d) :=
  (congrFun (congrArg (fun y => shapeCast S4x4x64x256 y shapeCasts_S1x4x4x64x256_S4x4x64x256)
    (Host.dynamicSlice_eq_extractStridedSlice S1x4x4x64x256 s.main_v30_3 _ ![j.val, 0, 0, 0, 0] _ (fits256 j) (offs j))) _).trans
    (cut256 s.main_v30_3 j b h i d)

theorem b_at (i : Fin 64) (d : Fin 256) : b26 j.val s (ix4 b h i d) = B s j b h i d :=
  cumsum_at (b23 j.val s) (b25 j.val s) (Ideal.ofBits_zero .f32) _
    (fun t => s.main_v30_3 (ix5 j b h ⟨t % 64, Nat.mod_lt _ (by norm_num)⟩ d)) b h i d fun t =>
      (g_at s j b h t d).trans (congrArg (fun t' => s.main_v30_3 (ix5 j b h t' d)) (Fin.ext (Nat.mod_eq_of_lt t.isLt).symm))

/-! ## The trip's scores, output and new state -/

/-- The causal mask. -/
theorem mask_at (i t : Fin 64) : K_main_v27 (F := Ideal) (ix2 i t) = if t.val ≤ i.val then 1#1 else 0#1 := by
  have hi := i.isLt
  have ht := t.isLt
  pointwise [K_main_v27, K_main_call1_v4, K_main_call1_v2, K_main_call1_v0, K_main_call1_v1, K_main_call1_c, K_main_call1_v3,
    K_main_v26, K_main_c, K_main_call1_v5, K_main_call1_c_0]
  have hz : IntOp.addi (BitVec.ofNat 32 i.val) 0#32 = BitVec.ofNat 32 i.val := BitVec.add_zero _
  rw [hz]
  have hc : IntOp.cmpi CmpIPredicate.sge (BitVec.ofNat 32 i.val) (BitVec.ofNat 32 t.val) = if t.val ≤ i.val then 1#1 else 0#1 := by
    show BitVec.ofBool ((BitVec.ofNat 32 t.val).sle (BitVec.ofNat 32 i.val)) = _
    rw [BitVec.sle, toInt_small t.val (by omega), toInt_small i.val (by omega)]
    by_cases h : t.val ≤ i.val
    · rw [if_pos h, decide_eq_true (by exact_mod_cast h)]; rfl
    · rw [if_neg h, decide_eq_false (by exact_mod_cast h)]; rfl
  rw [hc]
  by_cases h : t.val ≤ i.val
  · rw [if_pos h]; rfl
  · rw [if_neg h]; rfl

/-- The masked decays. -/
theorem decay_at (i t : Fin 64) (d : Fin 256) : b38 j.val s (ix5 b h i t d)
    = if t.val ≤ i.val then Ideal.exp (B s j b h i d - B s j b h t d) else 0 := by
  have e : b38 j.val s (ix5 b h i t d)
      = Ideal.exp (Scalar.select (K_main_v27 (F := Ideal) (ix2 i t)) (b26 j.val s (ix4 b h i d) - b26 j.val s (ix4 b h t d)) (Ideal.ofBits .f32 0xFF800000#32)) := by
    pointwise [b38, b37, b35, b32, b31, b29, b27, b30, b28, b36, b34, b33]
    try rfl
  rw [e, b_at, b_at, minus_inf, mask_at]
  by_cases hm : t.val ≤ i.val
  · rw [if_pos hm, if_pos hm]; rfl
  · rw [if_neg hm, if_neg hm]; exact Ideal.exp_bot

theorem score_at (i t : Fin 64) : b46 j.val s (ix4 b h i t) = scoreH (Q s j b h) (K s j b h) (B s j b h) i t := by
  have e : b46 j.val s (ix4 b h i t)
      = ∑ d : Fin 256, b5 j.val s (ix4 b h i d) * b11 j.val s (ix4 b h t d) * b38 j.val s (ix5 b h i t d) := by
    pointwise [b46, b45, b44, b43, b41, b39, b42, b40]
    try rfl
  rw [e, scoreH, dotH]
  by_cases hm : t.val ≤ i.val
  · rw [if_pos hm]
    refine Finset.sum_congr rfl fun d _ => ?_
    rw [q_at, k_at, decay_at, if_pos hm]
  · rw [if_neg hm]
    refine Finset.sum_eq_zero fun d _ => ?_
    rw [decay_at, if_neg hm, mul_zero]

theorem o_at (i : Fin 64) (l : Fin 512) : b51 j.val s (ix4 b h i l)
    = outH (Q s j b h) (K s j b h) (B s j b h) (V s j b h) (S s b h) i l := by
  have e : b51 j.val s (ix4 b h i l) = ∑ t : Fin 64, b46 j.val s (ix4 b h i t) * b17 j.val s (ix4 b h t l)
      + ∑ d : Fin 256, b5 j.val s (ix4 b h i d) * Ideal.exp (b26 j.val s (ix4 b h i d)) * s.main_v30_6 (ix4 b h d l) := by
    pointwise [b51, b50, b49, b48, b47]
    try rfl
  rw [e, outH, add_comm]
  refine congrArg₂ (· + ·) (Finset.sum_congr rfl fun d _ => ?_) (Finset.sum_congr rfl fun t _ => ?_)
  · rw [q_at, b_at]; rfl
  · rw [score_at, v_at]

theorem s_at (d : Fin 256) (l : Fin 512) : b63 j.val s (ix4 b h d l)
    = newH (K s j b h) (B s j b h) (V s j b h) (S s b h) d l := by
  have e : b63 j.val s (ix4 b h d l) = Ideal.exp (b26 j.val s (ix4 b h (63 : Fin 64) d)) * s.main_v30_6 (ix4 b h d l)
      + ∑ t : Fin 64, b11 j.val s (ix4 b h t d) * Ideal.exp (b26 j.val s (ix4 b h (63 : Fin 64) d) - b26 j.val s (ix4 b h t d))
          * b17 j.val s (ix4 b h t l) := by
    pointwise [b63, b62, b61, b60, b59, b58, b57, b56, b55, b54, b53, b52]
    try rfl
  rw [e, newH]
  refine congrArg₂ (· + ·) ?_ (Finset.sum_congr rfl fun t _ => ?_)
  · rw [b_at]; rfl
  · rw [k_at, b_at, b_at, v_at]

/-- The outputs kept so far: the trip's own at its place, the others as they were. -/
theorem stack_at (n : Fin 32) (i : Fin 64) (l : Fin 512) : b69 j.val s (ix5 n b h i l)
    = if n = j then b51 j.val s (ix4 b h i l) else s.main_v30_7 (ix5 n b h i l) := by
  have e : b69 j.val s = updateSlice s.main_v30_7 (b64 j.val s) ![j.val, 0, 0, 0, 0] (fits512 j) :=
    WordCmp.dynamicUpdateSlice_eq_update s.main_v30_7 (b64 j.val s) _ _ _ (fits512 j) (offs j)
  rw [e]
  have e2 : b64 j.val s (ix5 (0 : Fin 1) b h i l) = b51 j.val s (ix4 b h i l) := by
    pointwise [b64]
    try rfl
  by_cases hn : n = j
  · subst hn
    rw [if_pos rfl, ← e2]
    unfold updateSlice
    rw [dif_pos fun a => by
      match a with
      | ⟨0, _⟩ => show n.val ≤ n.val ∧ n.val < n.val + 1; omega
      | ⟨1, _⟩ => show 0 ≤ b.val ∧ b.val < 0 + 4; omega
      | ⟨2, _⟩ => show 0 ≤ h.val ∧ h.val < 0 + 4; omega
      | ⟨3, _⟩ => show 0 ≤ i.val ∧ i.val < 0 + 64; omega
      | ⟨4, _⟩ => show 0 ≤ l.val ∧ l.val < 0 + 512; omega]
    refine congrArg (b64 n.val s) (funext fun a => Fin.ext ?_)
    match a with
    | ⟨0, _⟩ => show n.val - n.val = 0; omega
    | ⟨1, _⟩ => show b.val - 0 = b.val; omega
    | ⟨2, _⟩ => show h.val - 0 = h.val; omega
    | ⟨3, _⟩ => show i.val - 0 = i.val; omega
    | ⟨4, _⟩ => show l.val - 0 = l.val; omega
  · rw [if_neg hn]
    unfold updateSlice
    rw [dif_neg]
    intro hin
    have h0 := hin 0
    change j.val ≤ n.val ∧ n.val < j.val + 1 at h0
    exact hn (Fin.ext (by omega))

end Cert.ReferenceIdeal.Trip

end
-- ==== Proof.RefMath.lean ====
/- The reference's results read at an index: the output and the final state of the specification. -/
module

public import proofs.«01_k».proof.Proof.RefTrip
public import proofs.«01_k».proof.Proof.Whole

@[expose] public section

set_option maxRecDepth 16384

noncomputable section

namespace Cert.ReferenceIdeal.Trip

open Idealize.ShloMosaic Cert.ReferenceIdeal Cert.ReferenceIdeal.Gen Cert.ReferenceIdeal.Step Cert.Gla
open scoped BigOperators

/-! ## The log-decay -/

/-- Dividing by 16 is multiplying by 1/16. -/
theorem div_sixteen (y : EReal) : Ideal.div y (Ideal.ofBits .f32 0x41800000#32) = y * Ideal.ofBits .f32 0x3D800000#32 := by
  have h16 : ((16 : ℝ) : EReal) ≠ 0 := by exact_mod_cast (by norm_num : (16 : ℝ) ≠ 0)
  rw [sixteen, sixteenth, Ideal.div, if_neg h16, ← EReal.coe_inv]
  norm_num

/-- The reference's log-decay of a logit. -/
theorem gOf_eq (x : EReal) :
    Ideal.div (-(max (-x) 0 + Ideal.log1p (Ideal.exp (-(max (-x - 0) (-(-x - 0))))))) (Ideal.ofBits .f32 0x41800000#32) = gOf x := by
  rw [div_sixteen, gOf, zero_sub, zero_sub, zero_sub, sub_zero, neg_neg, max_comm x (-x)]

variable (a0 : FVec Ideal S8192x8192 .f32) (a1 : FVec Ideal S8192x128 .f32) (a2 : FVec Ideal S128x1024 .bf16) (a3 : FVec Ideal S1x1024 .f32)

/-- The logits. -/
theorem logit_at (R : Fin 8192) (C : Fin 1024) : A_main_v3 (F := Ideal) a0 a1 a2 a3 (ix2 R C) = logitA a1 a2 a3 R C := by
  unfold logitA
  pointwise [A_main_v3, A_main_v2, A_main_v1, A_main_v0]
  try rfl

/-- The log-decays. -/
theorem loga_at (R : Fin 8192) (C : Fin 1024) : A_main_v8 (F := Ideal) a0 a1 a2 a3 (ix2 R C) = gOf (logitA a1 a2 a3 R C) := by
  rw [← logit_at a0, ← gOf_eq]
  generalize hv : A_main_v3 (F := Ideal) a0 a1 a2 a3 = v3
  have e3 : A_main_call0_v3 (F := Ideal) a0 a1 a2 a3 (ix2 R C) = -(v3 (ix2 R C) : EReal) - 0 := by
    subst hv
    pointwise [A_main_call0_v3, A_main_v4, K_main_call0_v2, K_main_call0_cst]
    try rfl
  have hne : A_main_call0_v4 (F := Ideal) a0 a1 a2 a3 (ix2 R C) = 0#1 := by
    pointwise [A_main_call0_v4]
    rw [decide_eq_false (fun hne => hne rfl)]
    rfl
  have e5 : A_main_v5 (F := Ideal) a0 a1 a2 a3 (ix2 R C) = A_main_call0_v11 (F := Ideal) a0 a1 a2 a3 (ix2 R C) := by
    show Scalar.select (A_main_call0_v4 (F := Ideal) a0 a1 a2 a3 (ix2 R C)) _ _ = _
    rw [hne]; rfl
  have e8 : A_main_v8 (F := Ideal) a0 a1 a2 a3 (ix2 R C) = Ideal.div (-(A_main_v5 (F := Ideal) a0 a1 a2 a3 (ix2 R C) : EReal)) (Ideal.ofBits .f32 0x41800000#32) := by
    pointwise [A_main_v8, A_main_v6, K_main_v7, K_main_cst]
    try rfl
  have e11 : A_main_call0_v11 (F := Ideal) a0 a1 a2 a3 (ix2 R C) = max (-(v3 (ix2 R C) : EReal)) 0
      + Ideal.log1p (Ideal.exp (-(max (A_main_call0_v3 (F := Ideal) a0 a1 a2 a3 (ix2 R C) : EReal) (-(A_main_call0_v3 (F := Ideal) a0 a1 a2 a3 (ix2 R C)))))) := by
    subst hv
    pointwise [A_main_call0_v11, A_main_call0_v10, A_main_call0_v9, A_main_call0_v8, A_main_call0_v7, A_main_call0_v1, A_main_v4, K_main_call0_v0, K_main_call0_cst]
    try rfl
  rw [e8, e5, e11, e3]

/-! ## The chunks -/

theorem q0_at (n : Fin 32) (b h : Fin 4) (i : Fin 64) (d : Fin 256) : A_main_v19 (F := Ideal) a0 a1 a2 a3 (ix5 n b h i d)
    = qH (arr2 (φ := .f32) a0) b.val n.val h i d := by
  unfold qH arr2
  pointwise [A_main_v19, A_main_v18, A_main_v12, A_main_v10, A_main_v9, K_main_v11, K_main_cst_0]
  refine congrArg (fun r : EReal => r * Ideal.ofBits .f32 0x3D800000#32) (congrArg a0 (congrArg₂ ix2 (Fin.ext ?_) (Fin.ext ?_)))
  · show b.val * 2048 + (n.val * 64 + i.val) = (2048 * b.val + 64 * n.val + i.val) % 8192
    omega
  · show h.val * 256 + d.val = 256 * h.val + d.val
    omega

theorem k0_at (n : Fin 32) (b h : Fin 4) (i : Fin 64) (d : Fin 256) : A_main_v21 (F := Ideal) a0 a1 a2 a3 (ix5 n b h i d)
    = kH (arr2 (φ := .f32) a0) b.val n.val h i d := by
  unfold kH arr2
  pointwise [A_main_v21, A_main_v20, A_main_v14, A_main_v13]
  refine congrArg a0 (congrArg₂ ix2 (Fin.ext ?_) (Fin.ext ?_))
  · show b.val * 2048 + n.val * 64 + i.val = (2048 * b.val + 64 * n.val + i.val) % 8192
    omega
  · show 1024 + (h.val * 256 + d.val) = 1024 + 256 * h.val + d.val
    omega

theorem v0_at (n : Fin 32) (b h : Fin 4) (i : Fin 64) (l : Fin 512) : A_main_v23 (F := Ideal) a0 a1 a2 a3 (ix5 n b h i l)
    = vH (arr2 (φ := .f32) a0) b.val n.val h i l := by
  unfold vH arr2
  pointwise [A_main_v23, A_main_v22, A_main_v16, A_main_v15]
  refine congrArg a0 (congrArg₂ ix2 (Fin.ext ?_) (Fin.ext ?_))
  · show b.val * 2048 + n.val * 64 + i.val = (2048 * b.val + 64 * n.val + i.val) % 8192
    omega
  · show 2048 + (h.val * 512 + l.val) = 2048 + 512 * h.val + l.val
    omega

theorem g0_at (n : Fin 32) (b h : Fin 4) (i : Fin 64) (d : Fin 256) : A_main_v25 (F := Ideal) a0 a1 a2 a3 (ix5 n b h i d)
    = gOf (logitA a1 a2 a3 (rowOf b.val n.val i.val) ⟨256 * h.val + d.val, by omega⟩) := by
  rw [← loga_at a0]
  generalize hv : A_main_v8 (F := Ideal) a0 a1 a2 a3 = v8
  have e : A_main_v25 (F := Ideal) a0 a1 a2 a3 = transpose S32x4x4x64x256 [1, 0, 3, 2, 4]
      (shapeCast S4x32x64x4x256 (shapeCast S4x2048x4x256 v8 shapeCasts_S8192x1024_S4x2048x4x256) shapeCasts_S4x2048x4x256_S4x32x64x4x256)
      transposes_S4x32x64x4x256_S32x4x4x64x256_1_0_3_2_4 := by
    subst hv; rfl
  rw [e]
  pointwise []
  refine congrArg v8 (congrArg₂ ix2 (Fin.ext ?_) (Fin.ext ?_))
  · show b.val * 2048 + n.val * 64 + i.val = (2048 * b.val + 64 * n.val + i.val) % 8192
    omega
  · show h.val * 256 + d.val = 256 * h.val + d.val
    omega

/-! ## The loop -/

/-- The state before trip `n`. -/
def iter : ℕ → State Ideal
  | 0 => init a0 a1 a2 a3
  | n + 1 => step n (iter n)

theorem iter_q (n : ℕ) : (iter a0 a1 a2 a3 n).main_v30_0 = A_main_v19 a0 a1 a2 a3 := by
  induction n with
  | zero => rfl
  | succ n ih => exact ih

theorem iter_k (n : ℕ) : (iter a0 a1 a2 a3 n).main_v30_1 = A_main_v21 a0 a1 a2 a3 := by
  induction n with
  | zero => rfl
  | succ n ih => exact ih

theorem iter_v (n : ℕ) : (iter a0 a1 a2 a3 n).main_v30_2 = A_main_v23 a0 a1 a2 a3 := by
  induction n with
  | zero => rfl
  | succ n ih => exact ih

theorem iter_g (n : ℕ) : (iter a0 a1 a2 a3 n).main_v30_3 = A_main_v25 a0 a1 a2 a3 := by
  induction n with
  | zero => rfl
  | succ n ih => exact ih

theorem Q_eq (n : Fin 32) (b h : Fin 4) : Q (iter a0 a1 a2 a3 n.val) n b h = qH (arr2 (φ := .f32) a0) b.val n.val h := by
  funext i d
  exact (congrFun (iter_q a0 a1 a2 a3 n.val) _).trans (q0_at a0 a1 a2 a3 n b h i d)

theorem K_eq (n : Fin 32) (b h : Fin 4) : K (iter a0 a1 a2 a3 n.val) n b h = kH (arr2 (φ := .f32) a0) b.val n.val h := by
  funext i d
  exact (congrFun (iter_k a0 a1 a2 a3 n.val) _).trans (k0_at a0 a1 a2 a3 n b h i d)

theorem V_eq (n : Fin 32) (b h : Fin 4) : V (iter a0 a1 a2 a3 n.val) n b h = vH (arr2 (φ := .f32) a0) b.val n.val h := by
  funext i l
  exact (congrFun (iter_v a0 a1 a2 a3 n.val) _).trans (v0_at a0 a1 a2 a3 n b h i l)

theorem B_eq (n : Fin 32) (b h : Fin 4) : B (iter a0 a1 a2 a3 n.val) n b h = bH (logitA a1 a2 a3) b.val n.val h := by
  funext i d
  refine Finset.sum_congr rfl fun t ht => ?_
  have hlt : t < 64 := by have := Finset.mem_range.1 ht; have := i.isLt; omega
  refine (congrFun (iter_g a0 a1 a2 a3 n.val) _).trans ((g0_at a0 a1 a2 a3 n b h ⟨t % 64, Nat.mod_lt _ (by norm_num)⟩ d).trans ?_)
  dsimp only
  rw [Nat.mod_eq_of_lt hlt]

/-- The state after `n` trips. -/
theorem iter_S (b h : Fin 4) (n : ℕ) (hn : n ≤ 32) :
    S (iter a0 a1 a2 a3 n) b h = stH (arr2 (φ := .f32) a0) (logitA a1 a2 a3) b.val h n := by
  induction n with
  | zero =>
    funext d l
    exact Ideal.ofBits_zero .f32
  | succ n ih =>
    funext d l
    refine (s_at (iter a0 a1 a2 a3 n) ⟨n, hn⟩ b h d l).trans ?_
    rw [K_eq a0 a1 a2 a3 ⟨n, hn⟩, B_eq a0 a1 a2 a3 ⟨n, hn⟩, V_eq a0 a1 a2 a3 ⟨n, hn⟩, ih (Nat.le_of_succ_le hn)]
    rfl

/-- The outputs kept after `n` trips. -/
theorem iter_O (b h : Fin 4) (n : ℕ) (hn : n ≤ 32) (t : Fin 32) (ht : t.val < n) (i : Fin 64) (l : Fin 512) :
    (iter a0 a1 a2 a3 n).main_v30_7 (ix5 t b h i l) = oH (arr2 (φ := .f32) a0) (logitA a1 a2 a3) b.val t.val h i l := by
  induction n with
  | zero => exact absurd ht (Nat.not_lt_zero _)
  | succ n ih =>
    refine (stack_at (iter a0 a1 a2 a3 n) ⟨n, hn⟩ b h t i l).trans ?_
    by_cases e : t = ⟨n, hn⟩
    · subst e
      rw [if_pos rfl, o_at, Q_eq a0 a1 a2 a3 ⟨n, hn⟩, K_eq a0 a1 a2 a3 ⟨n, hn⟩, B_eq a0 a1 a2 a3 ⟨n, hn⟩, V_eq a0 a1 a2 a3 ⟨n, hn⟩,
        iter_S a0 a1 a2 a3 b h n (Nat.le_of_succ_le hn)]
      rfl
    · rw [if_neg e]
      exact ih (Nat.le_of_succ_le hn) (by
        have : t.val ≠ n := fun q => e (Fin.ext q)
        omega)

/-! ## The results -/

/-- The output array. -/
theorem out_at (R : Fin 8192) (C : Fin 2048) : R_main_v32 (iter a0 a1 a2 a3 32) (ix2 R C)
    = oH (arr2 (φ := .f32) a0) (logitA a1 a2 a3) (R.val / 2048) (R.val % 2048 / 64) ⟨C.val / 512, by omega⟩ ⟨R.val % 64, by omega⟩ ⟨C.val % 512, by omega⟩ := by
  rw [← iter_O a0 a1 a2 a3 ⟨R.val / 2048, by omega⟩ ⟨C.val / 512, by omega⟩ 32 le_rfl ⟨R.val % 2048 / 64, by omega⟩ (by dsimp only; omega)
    ⟨R.val % 64, by omega⟩ ⟨C.val % 512, by omega⟩]
  generalize (iter a0 a1 a2 a3 32) = s
  pointwise [R_main_v32]
  refine congrArg (fun n => s.main_v30_7 (ix5 n _ _ _ _)) (Fin.ext ?_)
  show R.val / 64 % 32 = R.val % 2048 / 64
  omega

/-- The array of final states. -/
theorem fin_at (b h : Fin 4) (d : Fin 256) (l : Fin 512) : (iter a0 a1 a2 a3 32).main_v30_6 (ix4 b h d l)
    = stH (arr2 (φ := .f32) a0) (logitA a1 a2 a3) b.val h 32 d l :=
  congrFun (congrFun (iter_S a0 a1 a2 a3 b h 32 le_rfl) d) l

end Cert.ReferenceIdeal.Trip

end
-- ==== Proof.InSpec.lean ====
/- What the projection kernel computes, as mathematics: the rows normalised by their root mean square and scaled, and
   their products with the columns of the weights. -/
module

public import Idealize.ShloMosaic.Lib.Pointwise

@[expose] public section

noncomputable section

namespace Cert.Inproj

open Idealize.ShloMosaic
open scoped BigOperators

/-- Entry `(R, k)` of the normalised rows. -/
def nrm (x : Fin 8192 → Fin 2048 → EReal) (g : Fin 2048 → EReal) (R : Fin 8192) (k : Fin 2048) : EReal :=
  x R k * Ideal.rsqrt (Ideal.div (∑ j, x R j * x R j) (Ideal.ofBits .f32 0x45000000#32) + Ideal.ofBits .f32 0x358637BD#32) * g k

/-- Entry `(R, C)` of the normalised rows times the weights. -/
def prj (x : Fin 8192 → Fin 2048 → EReal) (g : Fin 2048 → EReal) (w : Fin 2048 → Fin 16400 → EReal) (R : Fin 8192) (C : Fin 16400) : EReal :=
  ∑ k, nrm x g R k * w k C

/-- The weights' column that column `d` of the first result takes. -/
def col9 (d : Fin 8192) : Fin 16400 := ⟨if d.val < 4096 then d.val else d.val + 4112, by have := d.isLt; split <;> omega⟩

/-- The weights' column that column `d` of the second result takes. -/
def col10 (d : Fin 8192) : Fin 16400 :=
  ⟨if d.val < 2048 then d.val + 4096 else if d.val < 4096 then d.val + 4112 else d.val + 8208, by have := d.isLt; split <;> [skip; split] <;> omega⟩

end Cert.Inproj

end
-- ==== Proof.Whole2.lean ====
/- Whole buffers loaded and stored from their first element. -/
module

public import Idealize.ShloMosaic.Lib.WholeRead
public import Idealize.ShloMosaic.Lib.WritesUnit
public import Idealize.ShloMosaic.Lib.Claim

@[expose] public section

set_option maxRecDepth 16384

noncomputable section

namespace Cert.Whole

open Idealize.ShloMosaic Idealize.SL.Sem

variable {F : FTy → Type} [FloatOps F]

/-- The offsets of a rectangle at the origin. -/
theorem zero2 : ∀ a : Fin 2, (![0, 0] : Fin 2 → ℕ) a = 0 := fun a => by fin_cases a <;> rfl

/-- A whole buffer read from its first element is what it holds. -/
theorem read_all {sg : RefSig} {κ : Kind} {sp : Space} {n0 n1 : ℕ} {e : EltTy} {m : Memref sg κ sp ⟨2, ![n0, n1]⟩ e} (h : m.IsWhole)
    (X : Shape.Idx ⟨2, ![n0, n1]⟩ → Elt F e) (off : Fin 2 → ℕ) (h0 : ∀ a, off a = 0)
    (inb : ∀ a, off a + Shape.size ⟨2, ![n0, n1]⟩ a ≤ Shape.size ⟨2, ![n0, n1]⟩ a) :
    View.readAt (Elt F) m.view (Rect.unit (s := ⟨2, ![n0, n1]⟩) off (Shape.size ⟨2, ![n0, n1]⟩) inb).toLoadRect (h.unread X) = X := by
  funext x
  rw [h.readAt_unread]
  refine congrArg X (funext fun a => Fin.ext ?_)
  show off a + 1 * (x a).val = (x a).val
  rw [h0 a, Nat.zero_add, Nat.one_mul]

/-- A store of a whole buffer read back is what was stored. -/
theorem read_write_all {sg : RefSig} {κ : Kind} {sp : Space} {n0 n1 : ℕ} {e : EltTy} (V : View sg κ sp ⟨2, ![n0, n1]⟩ e)
    (f : V.ty.Contents (Elt F)) (off : Fin 2 → ℕ) (h0 : ∀ a, off a = 0)
    (inb : ∀ a, off a + Shape.size ⟨2, ![n0, n1]⟩ a ≤ Shape.size ⟨2, ![n0, n1]⟩ a) (w : Shape.Idx ⟨2, ![n0, n1]⟩ → Elt F e) :
    V.read (Elt F) (V.writes (Elt F) f [⟨Rect.unit (s := ⟨2, ![n0, n1]⟩) off (Shape.size ⟨2, ![n0, n1]⟩) inb, w⟩]) = w :=
  funext fun y => View.read_writes_cons_unit_of_mem V f inb w [] y y rfl fun a => by rw [h0 a, Nat.zero_add]

/-- A whole buffer loaded after a store of all of it is what was stored. -/
theorem read_write_read_all {sg : RefSig} {κ : Kind} {sp : Space} {n0 n1 : ℕ} {e : EltTy} (V : View sg κ sp ⟨2, ![n0, n1]⟩ e)
    (f : V.ty.Contents (Elt F)) (off : Fin 2 → ℕ) (h0 : ∀ a, off a = 0)
    (inb inb' : ∀ a, off a + Shape.size ⟨2, ![n0, n1]⟩ a ≤ Shape.size ⟨2, ![n0, n1]⟩ a) (w : Shape.Idx ⟨2, ![n0, n1]⟩ → Elt F e) :
    View.readAt (Elt F) V (Rect.unit (s := ⟨2, ![n0, n1]⟩) off (Shape.size ⟨2, ![n0, n1]⟩) inb').toLoadRect
        (V.writes (Elt F) f [⟨Rect.unit (s := ⟨2, ![n0, n1]⟩) off (Shape.size ⟨2, ![n0, n1]⟩) inb, w⟩]) = w := by
  funext y
  show V.read (Elt F) (V.writes (Elt F) f [⟨Rect.unit (s := ⟨2, ![n0, n1]⟩) off (Shape.size ⟨2, ![n0, n1]⟩) inb, w⟩]) _ = w y
  rw [read_write_all V f off h0 inb w]
  refine congrArg w (funext fun a => Fin.ext ?_)
  show off a + 1 * (y a).val = (y a).val
  rw [h0 a, Nat.zero_add, Nat.one_mul]

end Cert.Whole

end
-- ==== Proof.InIdealRun.lean ====
/- The body of the projection kernel run at each kind of grid point: what it leaves in its staging buffers and in the
   carried normalised rows, from what it finds there. -/
module

public import proofs.«01_k».proof.Proof.Gen.Kernel2Ideal.Frame
public import proofs.«01_k».proof.Proof.Gen.Kernel2Ideal.Skeleton
public import proofs.«01_k».proof.Proof.Gen.Kernel2Ideal.Points
public import proofs.«01_k».proof.Proof.Whole2
public import Idealize.ShloMosaic.Lib.Claim

@[expose] public section

set_option maxRecDepth 16384

noncomputable section

namespace Cert.Kernel2Ideal.Own

open Cert.Kernel2Ideal.Gen Cert.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first column block of a row block: the normalised rows are computed, and the block of the first output is theirs. -/
theorem run_A (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S16x2048 .f32) (harg9 : arg9.IsWhole) (arg10 : Memref sig .tc .vmem S16x2048 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x2048 .bf16) (harg14 : arg14.IsWhole) (arg15 : Memref sig .tc .vmem S128x2048 .bf16) (harg15 : arg15.IsWhole) (arg16 : Memref sig .tc .vmem S16x2048 .bf16) (harg16 : arg16.IsWhole) (arg17 : Memref sig .tc .vmem S16x2048 .bf16) (harg17 : arg17.IsWhole) (arg18 : Memref sig .tc .vmem S1024x2048 .bf16) (harg18 : arg18.IsWhole) (hc1 : k0_cond1 i = 1#1) (hc2 : k0_cond2 i = 1#1) (hc3 : ¬k0_cond3 i = 1#1) (hc4 : ¬k0_cond4 i = 1#1) (hc5 : ¬k0_cond5 i = 1#1)
    (x0 : Vec F S1x2048 .f32) (x1 : Vec F S1024x2048 .f32) (x2 : Vec F S2048x1024 .bf16) (x3 : Vec F S2048x1024 .bf16) (x4 : Vec F S2048x128 .bf16) (x5 : Vec F S128x2048 .f32) (x6 : Vec F S128x2048 .f32) (x7 : Vec F S16x2048 .f32) (x8 : Vec F S16x2048 .f32) (y9 : Vec F S1024x1024 .f32) (y10 : Vec F S1024x1024 .bf16) (y11 : Vec F S1024x128 .f32) (y12 : Vec F S128x2048 .bf16) (y13 : Vec F S128x2048 .bf16) (y14 : Vec F S16x2048 .bf16) (y15 : Vec F S16x2048 .bf16) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay6 (k0_pay4 x1 x0) x2) ∗ owns (c : Thread nD τ) arg12 fullShare y10 ∗ owns (c : Thread nD τ) arg13 fullShare (k0_pay5 x1 x0 x4) ∗ owns (c : Thread nD τ) arg14 fullShare (k0_pay10 x5) ∗ owns (c : Thread nD τ) arg15 fullShare (k0_pay11 x6) ∗ owns (c : Thread nD τ) arg16 fullShare (k0_pay1 x7) ∗ owns (c : Thread nD τ) arg17 fullShare (k0_pay2 x8) ∗ owns (c : Thread nD τ) arg18 fullShare (k0_pay4 x1 x0)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_inproj_eq_skeleton]; unfold cc0_inproj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; refine (read_write_all _ _ _ zero2 _ _).trans ?_
    exact congrArg₂ k0_pay6 ((read_write_read_all _ _ _ zero2 _ _ _).trans (congrArg₂ k0_pay4 (read_all harg3 x1 _ zero2 _) (read_all harg2 x0 _ zero2 _))) (read_all harg4 x2 _ zero2 _)
  isplitl [H10]
  · iexists _; isplitr; · ipureintro; exact harg12.read_unread _
    iexact H10
  isplitl [H11]
  · iexists _; isplitr; swap; · iexact H11
    ipureintro; refine (read_write_all _ _ _ zero2 _ _).trans ?_; simp only [read_all _ _ _ zero2, read_write_read_all _ _ _ zero2]
  isplitl [H12]
  · iexists _; isplitr; swap; · iexact H12
    ipureintro; refine (read_write_all _ _ _ zero2 _ _).trans ?_; simp only [read_all _ _ _ zero2, read_write_read_all _ _ _ zero2]
  isplitl [H13]
  · iexists _; isplitr; swap; · iexact H13
    ipureintro; refine (read_write_all _ _ _ zero2 _ _).trans ?_; exact congrArg k0_pay11 (read_all harg8 x6 _ zero2 _)
  isplitl [H14]
  · iexists _; isplitr; swap; · iexact H14
    ipureintro; refine (read_write_all _ _ _ zero2 _ _).trans ?_; simp only [read_all _ _ _ zero2, read_write_read_all _ _ _ zero2]
  isplitl [H15]
  · iexists _; isplitr; swap; · iexact H15
    ipureintro; refine (read_write_all _ _ _ zero2 _ _).trans ?_; simp only [read_all _ _ _ zero2, read_write_read_all _ _ _ zero2]
  iexists _; isplitr; swap; · iexact H16
  ipureintro; refine (read_write_all _ _ _ zero2 _ _).trans ?_; simp only [read_all _ _ _ zero2, read_write_read_all _ _ _ zero2]

set_option maxHeartbeats 4000000 in
/-- The body at the other blocks of the first quarter. -/
theorem run_B (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S16x2048 .f32) (harg9 : arg9.IsWhole) (arg10 : Memref sig .tc .vmem S16x2048 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x2048 .bf16) (harg14 : arg14.IsWhole) (arg15 : Memref sig .tc .vmem S128x2048 .bf16) (harg15 : arg15.IsWhole) (arg16 : Memref sig .tc .vmem S16x2048 .bf16) (harg16 : arg16.IsWhole) (arg17 : Memref sig .tc .vmem S16x2048 .bf16) (harg17 : arg17.IsWhole) (arg18 : Memref sig .tc .vmem S1024x2048 .bf16) (harg18 : arg18.IsWhole) (hc1 : ¬k0_cond1 i = 1#1) (hc2 : k0_cond2 i = 1#1) (hc3 : ¬k0_cond3 i = 1#1) (hc4 : ¬k0_cond4 i = 1#1) (hc5 : ¬k0_cond5 i = 1#1)
    (x0 : Vec F S1x2048 .f32) (x1 : Vec F S1024x2048 .f32) (x2 : Vec F S2048x1024 .bf16) (x3 : Vec F S2048x1024 .bf16) (x4 : Vec F S2048x128 .bf16) (x5 : Vec F S128x2048 .f32) (x6 : Vec F S128x2048 .f32) (x7 : Vec F S16x2048 .f32) (x8 : Vec F S16x2048 .f32) (y9 : Vec F S1024x1024 .f32) (y10 : Vec F S1024x1024 .bf16) (y11 : Vec F S1024x128 .f32) (y12 : Vec F S128x2048 .bf16) (y13 : Vec F S128x2048 .bf16) (y14 : Vec F S16x2048 .bf16) (y15 : Vec F S16x2048 .bf16) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay6 xs x2) ∗ owns (c : Thread nD τ) arg12 fullShare y10 ∗ owns (c : Thread nD τ) arg13 fullShare y11 ∗ owns (c : Thread nD τ) arg14 fullShare (k0_pay10 x5) ∗ owns (c : Thread nD τ) arg15 fullShare (k0_pay11 x6) ∗ owns (c : Thread nD τ) arg16 fullShare (k0_pay1 x7) ∗ owns (c : Thread nD τ) arg17 fullShare (k0_pay2 x8) ∗ owns (c : Thread nD τ) arg18 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_inproj_eq_skeleton]; unfold cc0_inproj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; refine (read_write_all _ _ _ zero2 _ _).trans ?_; simp only [read_all _ _ _ zero2, read_write_read_all _ _ _ zero2]
  isplitl [H10]
  · iexists _; isplitr; · ipureintro; exact harg12.read_unread _
    iexact H10
  isplitl [H11]
  · iexists _; isplitr; · ipureintro; exact harg13.read_unread _
    iexact H11
  isplitl [H12]
  · iexists _; isplitr; swap; · iexact H12
    ipureintro; refine (read_write_all _ _ _ zero2 _ _).trans ?_; simp only [read_all _ _ _ zero2, read_write_read_all _ _ _ zero2]
  isplitl [H13]
  · iexists _; isplitr; swap; · iexact H13
    ipureintro; refine (read_write_all _ _ _ zero2 _ _).trans ?_; exact congrArg k0_pay11 (read_all harg8 x6 _ zero2 _)
  isplitl [H14]
  · iexists _; isplitr; swap; · iexact H14
    ipureintro; refine (read_write_all _ _ _ zero2 _ _).trans ?_; simp only [read_all _ _ _ zero2, read_write_read_all _ _ _ zero2]
  isplitl [H15]
  · iexists _; isplitr; swap; · iexact H15
    ipureintro; refine (read_write_all _ _ _ zero2 _ _).trans ?_; simp only [read_all _ _ _ zero2, read_write_read_all _ _ _ zero2]
  iexists _; isplitr; · ipureintro; exact harg18.read_unread _
  iexact H16

set_option maxHeartbeats 4000000 in
/-- The body at the first two blocks of the second quarter. -/
theorem run_C (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S16x2048 .f32) (harg9 : arg9.IsWhole) (arg10 : Memref sig .tc .vmem S16x2048 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x2048 .bf16) (harg14 : arg14.IsWhole) (arg15 : Memref sig .tc .vmem S128x2048 .bf16) (harg15 : arg15.IsWhole) (arg16 : Memref sig .tc .vmem S16x2048 .bf16) (harg16 : arg16.IsWhole) (arg17 : Memref sig .tc .vmem S16x2048 .bf16) (harg17 : arg17.IsWhole) (arg18 : Memref sig .tc .vmem S1024x2048 .bf16) (harg18 : arg18.IsWhole) (hc1 : ¬k0_cond1 i = 1#1) (hc2 : ¬k0_cond2 i = 1#1) (hc3 : k0_cond3 i = 1#1) (hc4 : ¬k0_cond4 i = 1#1) (hc5 : ¬k0_cond5 i = 1#1)
    (x0 : Vec F S1x2048 .f32) (x1 : Vec F S1024x2048 .f32) (x2 : Vec F S2048x1024 .bf16) (x3 : Vec F S2048x1024 .bf16) (x4 : Vec F S2048x128 .bf16) (x5 : Vec F S128x2048 .f32) (x6 : Vec F S128x2048 .f32) (x7 : Vec F S16x2048 .f32) (x8 : Vec F S16x2048 .f32) (y9 : Vec F S1024x1024 .f32) (y10 : Vec F S1024x1024 .bf16) (y11 : Vec F S1024x128 .f32) (y12 : Vec F S128x2048 .bf16) (y13 : Vec F S128x2048 .bf16) (y14 : Vec F S16x2048 .bf16) (y15 : Vec F S16x2048 .bf16) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare (k0_pay7 xs x2) ∗ owns (c : Thread nD τ) arg13 fullShare y11 ∗ owns (c : Thread nD τ) arg14 fullShare (k0_pay10 x5) ∗ owns (c : Thread nD τ) arg15 fullShare (k0_pay11 x6) ∗ owns (c : Thread nD τ) arg16 fullShare (k0_pay1 x7) ∗ owns (c : Thread nD τ) arg17 fullShare (k0_pay2 x8) ∗ owns (c : Thread nD τ) arg18 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_inproj_eq_skeleton]; unfold cc0_inproj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro; refine (read_write_all _ _ _ zero2 _ _).trans ?_; simp only [read_all _ _ _ zero2, read_write_read_all _ _ _ zero2]
  isplitl [H11]
  · iexists _; isplitr; · ipureintro; exact harg13.read_unread _
    iexact H11
  isplitl [H12]
  · iexists _; isplitr; swap; · iexact H12
    ipureintro; refine (read_write_all _ _ _ zero2 _ _).trans ?_; simp only [read_all _ _ _ zero2, read_write_read_all _ _ _ zero2]
  isplitl [H13]
  · iexists _; isplitr; swap; · iexact H13
    ipureintro; refine (read_write_all _ _ _ zero2 _ _).trans ?_; exact congrArg k0_pay11 (read_all harg8 x6 _ zero2 _)
  isplitl [H14]
  · iexists _; isplitr; swap; · iexact H14
    ipureintro; refine (read_write_all _ _ _ zero2 _ _).trans ?_; simp only [read_all _ _ _ zero2, read_write_read_all _ _ _ zero2]
  isplitl [H15]
  · iexists _; isplitr; swap; · iexact H15
    ipureintro; refine (read_write_all _ _ _ zero2 _ _).trans ?_; simp only [read_all _ _ _ zero2, read_write_read_all _ _ _ zero2]
  iexists _; isplitr; · ipureintro; exact harg18.read_unread _
  iexact H16

set_option maxHeartbeats 4000000 in
/-- The body at the last two blocks of the second quarter and those of the fourth. -/
theorem run_D (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S16x2048 .f32) (harg9 : arg9.IsWhole) (arg10 : Memref sig .tc .vmem S16x2048 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x2048 .bf16) (harg14 : arg14.IsWhole) (arg15 : Memref sig .tc .vmem S128x2048 .bf16) (harg15 : arg15.IsWhole) (arg16 : Memref sig .tc .vmem S16x2048 .bf16) (harg16 : arg16.IsWhole) (arg17 : Memref sig .tc .vmem S16x2048 .bf16) (harg17 : arg17.IsWhole) (arg18 : Memref sig .tc .vmem S1024x2048 .bf16) (harg18 : arg18.IsWhole) (hc1 : ¬k0_cond1 i = 1#1) (hc2 : ¬k0_cond2 i = 1#1) (hc3 : ¬k0_cond3 i = 1#1) (hc4 : ¬k0_cond4 i = 1#1) (hc5 : k0_cond5 i = 1#1)
    (x0 : Vec F S1x2048 .f32) (x1 : Vec F S1024x2048 .f32) (x2 : Vec F S2048x1024 .bf16) (x3 : Vec F S2048x1024 .bf16) (x4 : Vec F S2048x128 .bf16) (x5 : Vec F S128x2048 .f32) (x6 : Vec F S128x2048 .f32) (x7 : Vec F S16x2048 .f32) (x8 : Vec F S16x2048 .f32) (y9 : Vec F S1024x1024 .f32) (y10 : Vec F S1024x1024 .bf16) (y11 : Vec F S1024x128 .f32) (y12 : Vec F S128x2048 .bf16) (y13 : Vec F S128x2048 .bf16) (y14 : Vec F S16x2048 .bf16) (y15 : Vec F S16x2048 .bf16) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare (k0_pay9 xs x3) ∗ owns (c : Thread nD τ) arg13 fullShare y11 ∗ owns (c : Thread nD τ) arg14 fullShare (k0_pay10 x5) ∗ owns (c : Thread nD τ) arg15 fullShare (k0_pay11 x6) ∗ owns (c : Thread nD τ) arg16 fullShare (k0_pay1 x7) ∗ owns (c : Thread nD τ) arg17 fullShare (k0_pay2 x8) ∗ owns (c : Thread nD τ) arg18 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_inproj_eq_skeleton]; unfold cc0_inproj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro; refine (read_write_all _ _ _ zero2 _ _).trans ?_; simp only [read_all _ _ _ zero2, read_write_read_all _ _ _ zero2]
  isplitl [H11]
  · iexists _; isplitr; · ipureintro; exact harg13.read_unread _
    iexact H11
  isplitl [H12]
  · iexists _; isplitr; swap; · iexact H12
    ipureintro; refine (read_write_all _ _ _ zero2 _ _).trans ?_; simp only [read_all _ _ _ zero2, read_write_read_all _ _ _ zero2]
  isplitl [H13]
  · iexists _; isplitr; swap; · iexact H13
    ipureintro; refine (read_write_all _ _ _ zero2 _ _).trans ?_; exact congrArg k0_pay11 (read_all harg8 x6 _ zero2 _)
  isplitl [H14]
  · iexists _; isplitr; swap; · iexact H14
    ipureintro; refine (read_write_all _ _ _ zero2 _ _).trans ?_; simp only [read_all _ _ _ zero2, read_write_read_all _ _ _ zero2]
  isplitl [H15]
  · iexists _; isplitr; swap; · iexact H15
    ipureintro; refine (read_write_all _ _ _ zero2 _ _).trans ?_; simp only [read_all _ _ _ zero2, read_write_read_all _ _ _ zero2]
  iexists _; isplitr; · ipureintro; exact harg18.read_unread _
  iexact H16

set_option maxHeartbeats 4000000 in
/-- The body at the blocks of the third quarter. -/
theorem run_E (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S2048x128 .bf16) (harg6 : arg6.IsWhole) (arg7 : Memref sig .tc .vmem S128x2048 .f32) (harg7 : arg7.IsWhole) (arg8 : Memref sig .tc .vmem S128x2048 .f32) (harg8 : arg8.IsWhole) (arg9 : Memref sig .tc .vmem S16x2048 .f32) (harg9 : arg9.IsWhole) (arg10 : Memref sig .tc .vmem S16x2048 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x128 .f32) (harg13 : arg13.IsWhole) (arg14 : Memref sig .tc .vmem S128x2048 .bf16) (harg14 : arg14.IsWhole) (arg15 : Memref sig .tc .vmem S128x2048 .bf16) (harg15 : arg15.IsWhole) (arg16 : Memref sig .tc .vmem S16x2048 .bf16) (harg16 : arg16.IsWhole) (arg17 : Memref sig .tc .vmem S16x2048 .bf16) (harg17 : arg17.IsWhole) (arg18 : Memref sig .tc .vmem S1024x2048 .bf16) (harg18 : arg18.IsWhole) (hc1 : ¬k0_cond1 i = 1#1) (hc2 : ¬k0_cond2 i = 1#1) (hc3 : ¬k0_cond3 i = 1#1) (hc4 : k0_cond4 i = 1#1) (hc5 : ¬k0_cond5 i = 1#1)
    (x0 : Vec F S1x2048 .f32) (x1 : Vec F S1024x2048 .f32) (x2 : Vec F S2048x1024 .bf16) (x3 : Vec F S2048x1024 .bf16) (x4 : Vec F S2048x128 .bf16) (x5 : Vec F S128x2048 .f32) (x6 : Vec F S128x2048 .f32) (x7 : Vec F S16x2048 .f32) (x8 : Vec F S16x2048 .f32) (y9 : Vec F S1024x1024 .f32) (y10 : Vec F S1024x1024 .bf16) (y11 : Vec F S1024x128 .f32) (y12 : Vec F S128x2048 .bf16) (y13 : Vec F S128x2048 .bf16) (y14 : Vec F S16x2048 .bf16) (y15 : Vec F S16x2048 .bf16) (xs : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare y9 ∗ owns (c : Thread nD τ) arg12 fullShare y10 ∗ owns (c : Thread nD τ) arg13 fullShare y11 ∗ owns (c : Thread nD τ) arg14 fullShare y12 ∗ owns (c : Thread nD τ) arg15 fullShare y13 ∗ owns (c : Thread nD τ) arg16 fullShare y14 ∗ owns (c : Thread nD τ) arg17 fullShare y15 ∗ owns (c : Thread nD τ) arg18 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay8 xs x3) ∗ owns (c : Thread nD τ) arg12 fullShare y10 ∗ owns (c : Thread nD τ) arg13 fullShare y11 ∗ owns (c : Thread nD τ) arg14 fullShare (k0_pay10 x5) ∗ owns (c : Thread nD τ) arg15 fullShare (k0_pay11 x6) ∗ owns (c : Thread nD τ) arg16 fullShare (k0_pay1 x7) ∗ owns (c : Thread nD τ) arg17 fullShare (k0_pay2 x8) ∗ owns (c : Thread nD τ) arg18 fullShare xs) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_inproj_eq_skeleton]; unfold cc0_inproj_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
  sl_exec (disch := first | sl_exact hc1 | sl_exact hc2 | sl_exact hc3 | sl_exact hc4 | sl_exact hc5)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; refine (read_write_all _ _ _ zero2 _ _).trans ?_; simp only [read_all _ _ _ zero2, read_write_read_all _ _ _ zero2]
  isplitl [H10]
  · iexists _; isplitr; · ipureintro; exact harg12.read_unread _
    iexact H10
  isplitl [H11]
  · iexists _; isplitr; · ipureintro; exact harg13.read_unread _
    iexact H11
  isplitl [H12]
  · iexists _; isplitr; swap; · iexact H12
    ipureintro; refine (read_write_all _ _ _ zero2 _ _).trans ?_; simp only [read_all _ _ _ zero2, read_write_read_all _ _ _ zero2]
  isplitl [H13]
  · iexists _; isplitr; swap; · iexact H13
    ipureintro; refine (read_write_all _ _ _ zero2 _ _).trans ?_; exact congrArg k0_pay11 (read_all harg8 x6 _ zero2 _)
  isplitl [H14]
  · iexists _; isplitr; swap; · iexact H14
    ipureintro; refine (read_write_all _ _ _ zero2 _ _).trans ?_; simp only [read_all _ _ _ zero2, read_write_read_all _ _ _ zero2]
  isplitl [H15]
  · iexists _; isplitr; swap; · iexact H15
    ipureintro; refine (read_write_all _ _ _ zero2 _ _).trans ?_; simp only [read_all _ _ _ zero2, read_write_read_all _ _ _ zero2]
  iexists _; isplitr; · ipureintro; exact harg18.read_unread _
  iexact H16

end Cert.Kernel2Ideal.Own

end
-- ==== Proof.InIdealFrame.lean ====
/- The frame of the projection kernel: what each staging buffer and the carried normalised rows hold point by point, the
   obligation of the body at each point, the run of the whole program and its frame. -/
module

public import proofs.«01_k».proof.Proof.InIdealRun

@[expose] public section

set_option maxRecDepth 16384

noncomputable section

namespace Cert.Kernel2Ideal.Own

open Cert.Kernel2Ideal.Gen Cert.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid points -/

theorem cond1_iff : ∀ t : Fin grid0.N, k0_cond1 (grid0.coords t) = 1#1 ↔ t.val % 16 = 0 := by decide +kernel
theorem cond2_iff : ∀ t : Fin grid0.N, k0_cond2 (grid0.coords t) = 1#1 ↔ t.val % 16 < 4 := by decide +kernel
theorem cond3_iff : ∀ t : Fin grid0.N, k0_cond3 (grid0.coords t) = 1#1 ↔ (4 ≤ t.val % 16 ∧ t.val % 16 < 6) := by decide +kernel
theorem cond4_iff : ∀ t : Fin grid0.N, k0_cond4 (grid0.coords t) = 1#1 ↔ (8 ≤ t.val % 16 ∧ t.val % 16 < 12) := by decide +kernel
theorem cond5_iff : ∀ t : Fin grid0.N, k0_cond5 (grid0.coords t) = 1#1 ↔ (6 ≤ t.val % 16 ∧ 4 ≤ t.val % 8) := by decide +kernel

theorem idle9_iff : ∀ t : Fin grid0.N, idle0 9 (grid0.coords t) = true ↔ 4 ≤ t.val % 8 := by decide +kernel
theorem idle10_iff : ∀ t : Fin grid0.N, idle0 10 (grid0.coords t) = true ↔ t.val % 8 < 4 := by decide +kernel
theorem idle11_iff : ∀ t : Fin grid0.N, idle0 11 (grid0.coords t) = true ↔ t.val % 16 ≠ 0 := by decide +kernel
theorem flush9_iff : ∀ t : Fin grid0.N, win0_9.flush t = true ↔ (t.val % 8 < 3 ∨ t.val % 8 = 7) := by decide +kernel
theorem flush10_iff : ∀ t : Fin grid0.N, win0_10.flush t = true ↔ ((4 ≤ t.val % 16 ∧ t.val % 16 < 7) ∨ 11 ≤ t.val % 16) := by decide +kernel

/-- The first point of a point's row block. -/
def row (t : Fin cfg0.N) : Fin cfg0.N := ⟨16 * (t.val / 16), by have := t.isLt; omega⟩
theorem row_of {t : Fin cfg0.N} (h : t.val % 16 = 0) : row t = t := Fin.ext (by show 16 * (t.val / 16) = t.val; omega)
theorem row_eq {t s : Fin cfg0.N} (h : s.val / 16 = t.val / 16) : row s = row t := Fin.ext (by show 16 * (s.val / 16) = 16 * (t.val / 16); rw [h])
/-- The point at which the first output's block held at `t` was stored. -/
def last9 (t : Fin cfg0.N) : Fin cfg0.N := ⟨t.val - (t.val % 8 - 3), by have := t.isLt; omega⟩
/-- The point at which the second output's block held at `t` was stored. -/
def last10 (t : Fin cfg0.N) : Fin cfg0.N := if t.val % 8 < 4 then ⟨t.val - (t.val % 8 + 1), by have := t.isLt; omega⟩ else t

theorem last9_live {t : Fin cfg0.N} (h : t.val % 8 < 4) : last9 t = t := Fin.ext (by show t.val - (t.val % 8 - 3) = t.val; omega)
theorem last10_live {t : Fin cfg0.N} (h : 4 ≤ t.val % 8) : last10 t = t := if_neg (by omega)

/-! ## What the buffers hold -/

/-- The carried normalised rows after point `t`: those of its row block. -/
def hAt (c : Dev nD) (t : Fin cfg0.N) : Vec F S1024x2048 .bf16 := k0_pay4 (iblk m c 1 (row t)) (iblk m c 0 (row t))
/-- What a point that stores the first output's block stores. -/
def v9 (c : Dev nD) (t : Fin cfg0.N) : Vec F S1024x1024 .f32 :=
  if t.val % 16 < 6 then k0_pay6 (hAt m c t) (X0_2 m c t) else k0_pay8 (hAt m c t) (iblk m c 3 t)
/-- What a point that stores the second output's block stores. -/
def v10 (c : Dev nD) (t : Fin cfg0.N) : Vec F S1024x1024 .bf16 :=
  if t.val % 16 < 6 then k0_pay7 (hAt m c t) (X0_2 m c t) else k0_pay9 (hAt m c t) (iblk m c 3 t)
/-- The third output's block of a row block. -/
def v11 (c : Dev nD) (t : Fin cfg0.N) : Vec F S1024x128 .f32 := k0_pay5 (iblk m c 1 (row t)) (iblk m c 0 (row t)) (iblk m c 4 (row t))

theorem hAt_first (c : Dev nD) {t : Fin cfg0.N} (h : t.val % 16 = 0) : hAt m c t = k0_pay4 (iblk m c 1 t) (iblk m c 0 t) :=
  congrArg (fun s => (k0_pay4 (iblk m c 1 s) (iblk m c 0 s) : Vec F S1024x2048 .bf16)) (row_of h)
theorem v11_first (c : Dev nD) {t : Fin cfg0.N} (h : t.val % 16 = 0) : v11 m c t = k0_pay5 (iblk m c 1 t) (iblk m c 0 t) (iblk m c 4 t) :=
  congrArg (fun s => (k0_pay5 (iblk m c 1 s) (iblk m c 0 s) (iblk m c 4 s) : Vec F S1024x128 .f32)) (row_of h)
theorem hAt_row (c : Dev nD) {t s : Fin cfg0.N} (h : s.val / 16 = t.val / 16) : hAt m c s = hAt m c t :=
  congrArg (fun s => (k0_pay4 (iblk m c 1 s) (iblk m c 0 s) : Vec F S1024x2048 .bf16)) (row_eq h)
theorem v11_row (c : Dev nD) {t s : Fin cfg0.N} (h : s.val / 16 = t.val / 16) : v11 m c s = v11 m c t :=
  congrArg (fun s => (k0_pay5 (iblk m c 1 s) (iblk m c 0 s) (iblk m c 4 s) : Vec F S1024x128 .f32)) (row_eq h)

/-- The carried rows as a buffer. -/
abbrev scM : Memref sig .tc .vmem S1024x2048 .bf16 := Memref.whole cc0_scratch0

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- The invariant before point `n`: the carried rows those of the point before (anything before the first point), and the
    generator register at some state. -/
def PhiS (c : Dev nD) : (n : ℕ) → n ≤ cfg0.N → sProp 𝕄
  | 0, _ => Pipeline.ΦA spec0 c
  | n + 1, hn => iprop(owns (c : Thread nD τ) scM fullShare (hAt m c ⟨n, hn⟩) ∗ (∃ r, prngReg c r))

/-- Before any point the carried rows are at some contents. -/
theorem PhiS_any (c : Dev nD) (n : ℕ) (h : n ≤ cfg0.N) :
    PhiS m c n h ⊢ iprop((∃ d, owns (c : Thread nD τ) scM fullShare d) ∗ (∃ r, prngReg c r)) := by
  cases n with
  | zero => rw [show PhiS m c 0 h = Pipeline.ΦA spec0 c from rfl, PhiA0_eq]
  | succ n =>
    rw [show PhiS m c (n + 1) h = iprop(owns (c : Thread nD τ) scM fullShare (hAt m c ⟨n, h⟩) ∗ (∃ r, prngReg c r)) from rfl]
    iintro ⟨HS, Hg⟩
    isplitl [HS]
    · iexists _; iexact HS
    iexact Hg

/-- Before a point that is not the first of its row block the carried rows are that row block's. -/
theorem PhiS_same (c : Dev nD) (t : Fin cfg0.N) (h : t.val % 16 ≠ 0) :
    PhiS m c t.val (Nat.le_of_lt t.isLt) = iprop(owns (c : Thread nD τ) scM fullShare (hAt m c t) ∗ (∃ r, prngReg c r)) := by
  obtain ⟨n, hn⟩ := t
  cases n with
  | zero => exact absurd rfl h
  | succ n =>
    rw [← hAt_row m c (t := ⟨n + 1, hn⟩) (s := ⟨n, Nat.lt_of_succ_lt hn⟩) (by dsimp only at h ⊢; omega)]
    rfl

/-! ## The proof data -/

/-- The proof data of the pipeline on core `c`: the arrays as the region finds them; after the body at point `t` each
    input's buffer at its block, the first two outputs' at what the last storing point stored, the third's at its row
    block's, the others' at the point's; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => v9 m c (last9 t)
    | ⟨10, _⟩ => v10 m c (last10 t)
    | ⟨11, _⟩ => v11 m c t
    | ⟨12, _⟩ => (k0_pay10 (iblk m c 5 t) : Vec F S128x2048 .bf16)
    | ⟨13, _⟩ => (k0_pay11 (iblk m c 6 t) : Vec F S128x2048 .bf16)
    | ⟨14, _⟩ => (k0_pay1 (iblk m c 7 t) : Vec F S16x2048 .bf16)
    | ⟨15, _⟩ => (k0_pay2 (iblk m c 8 t) : Vec F S16x2048 .bf16)
    | ⟨_ + 16, h⟩ => absurd h (Nat.not_lt.2 (Nat.le_add_left _ _))
  Φ t := PhiS m c t.val (Nat.le_of_lt_succ t.isLt)
  q w := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = X0_2 m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = v9 m c (last9 t) := by dsimp only [dats]
theorem after_10 (c : Dev nD) (t : Fin cfg0.N) : (dats m 0 c).after 10 t = v10 m c (last10 t) := by dsimp only [dats]
theorem after_11 (c : Dev nD) (t : Fin cfg0.N) : (dats m 0 c).after 11 t = v11 m c t := by dsimp only [dats]
theorem after_12 (c : Dev nD) (t : Fin cfg0.N) : (dats m 0 c).after 12 t = k0_pay10 (iblk m c 5 t) := by dsimp only [dats]
theorem after_13 (c : Dev nD) (t : Fin cfg0.N) : (dats m 0 c).after 13 t = k0_pay11 (iblk m c 6 t) := by dsimp only [dats]
theorem after_14 (c : Dev nD) (t : Fin cfg0.N) : (dats m 0 c).after 14 t = k0_pay1 (iblk m c 7 t) := by dsimp only [dats]
theorem after_15 (c : Dev nD) (t : Fin cfg0.N) : (dats m 0 c).after 15 t = k0_pay2 (iblk m c 8 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = X0_2 m c t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- A buffer of an output that no transfer cuts, held through points that store nothing into it and do not write it back,
    holds at the next of them what the last storing point stored. -/
theorem held {c : Dev nD} (dat : Dat τ (Elt F) Unit ℕ (UR sig nD τ) ℕ cfg0 c) (w : Fin cfg0.W) (S : Fin cfg0.N → Prop)
    (hfetch : ∀ t, (cfg0.win w).fetch t = false) (hclip : ∀ t a, (cfg0.win w).clip (cfg0.grid.coords t) a = none)
    (hS : ∀ t, S t → t.val ≠ 0 ∧ ∀ h : t.val - 1 < cfg0.N, (cfg0.win w).flush ⟨t.val - 1, h⟩ = false
      ∧ dat.after w ⟨t.val - 1, h⟩ = dat.after w t ∧ (cfg0.idle w (cfg0.grid.coords ⟨t.val - 1, h⟩) = true → S ⟨t.val - 1, h⟩))
    (n : ℕ) : ∀ t : Fin cfg0.N, t.val = n → S t → ∀ d, dat.before w t d = dat.after w t := by
  induction n with
  | zero => intro t ht hs; exact absurd ht (hS t hs).1
  | succ n ih =>
    intro t ht hs d
    obtain ⟨h0, hrest⟩ := hS t hs
    obtain ⟨hfl, haf, hid⟩ := hrest (Nat.lt_of_le_of_lt (Nat.sub_le _ _) t.isLt)
    rw [dat.before_of_pos w t h0 (hfetch t) d, hfl, if_neg Bool.false_ne_true, ← haf]
    unfold Dat.left
    cases hi : cfg0.idle w (cfg0.grid.coords ⟨t.val - 1, Nat.lt_of_le_of_lt (Nat.sub_le _ _) t.isLt⟩)
    · dsimp only
      unfold Dat.kept
      funext j
      unfold Window.fill
      rw [dif_pos (((cfg0.win w).moved_iff _ j).mpr fun a => by
        have := (j a).isLt; unfold Window.xsize; rw [hclip _ a]; exact this)]
    · exact ih _ (by show t.val - 1 = n; omega) (hid hi) d

theorem before_9 (c : Dev nD) (t : Fin cfg0.N) (h : 4 ≤ t.val % 8) (d) : (dats m 0 c).before 9 t d = (dats m 0 c).after 9 t :=
  held (dats m 0 c) 9 (fun t => 4 ≤ t.val % 8) (fun _ => rfl) (fun _ _ => rfl)
    (fun t ht => ⟨by omega, fun hl => ⟨by
        have := (flush9_iff ⟨t.val - 1, hl⟩)
        show win0_9.flush ⟨t.val - 1, hl⟩ = false
        rw [Bool.eq_false_iff]; intro hc; have := this.mp hc; dsimp only at this; omega,
      by rw [after_9, after_9, show last9 ⟨t.val - 1, hl⟩ = last9 t from Fin.ext (by
          show t.val - 1 - ((t.val - 1) % 8 - 3) = t.val - (t.val % 8 - 3); omega)],
      fun hi => (idle9_iff ⟨t.val - 1, hl⟩).mp hi⟩⟩) t.val t rfl h d

theorem before_10 (c : Dev nD) (t : Fin cfg0.N) (h : t.val % 8 < 4 ∧ 8 ≤ t.val % 16) (d) :
    (dats m 0 c).before 10 t d = (dats m 0 c).after 10 t :=
  held (dats m 0 c) 10 (fun t => t.val % 8 < 4 ∧ 8 ≤ t.val % 16) (fun _ => rfl) (fun _ _ => rfl)
    (fun t ht => ⟨by omega, fun hl => ⟨by
        have := (flush10_iff ⟨t.val - 1, hl⟩)
        show win0_10.flush ⟨t.val - 1, hl⟩ = false
        rw [Bool.eq_false_iff]; intro hc; have := this.mp hc; dsimp only at this; omega,
      by rw [after_10, after_10, show last10 ⟨t.val - 1, hl⟩ = last10 t from Fin.ext (by
          unfold last10; rw [if_pos ht.1]; dsimp only; split <;> dsimp only <;> omega)],
      fun hi => ⟨(idle10_iff ⟨t.val - 1, hl⟩).mp hi, by
        have := (idle10_iff ⟨t.val - 1, hl⟩).mp hi; dsimp only at this ⊢; omega⟩⟩⟩) t.val t rfl h d

theorem before_11 (c : Dev nD) (t : Fin cfg0.N) (h : t.val % 16 ≠ 0) (d) : (dats m 0 c).before 11 t d = (dats m 0 c).after 11 t :=
  held (dats m 0 c) 11 (fun t => t.val % 16 ≠ 0) (fun _ => rfl) (fun _ _ => rfl)
    (fun t ht => ⟨by omega, fun hl => ⟨by
        have := (flush0_11 ⟨t.val - 1, hl⟩)
        rw [Bool.eq_false_iff]; intro hc; have := this.mp hc; dsimp only at this; omega,
      by rw [after_11, after_11, v11_row m c (t := t) (s := ⟨t.val - 1, hl⟩) (by dsimp only; omega)],
      fun hi => (idle11_iff ⟨t.val - 1, hl⟩).mp hi⟩⟩) t.val t rfl h d

/-- A buffer handed back as found, at a point that stores nothing into it. -/
theorem idle_leaves {c : Dev nD} (dat : Dat τ (Elt F) Unit ℕ (UR sig nD τ) ℕ cfg0 c) (w : Fin cfg0.W) (t : Fin cfg0.N)
    (hi : cfg0.idle w (cfg0.grid.coords t) = true) (hb : (cfg0.win w).flush t = true → ∀ d, dat.before w t d = dat.after w t) (d) :
    owns (c : Thread nD τ) ((cfg0.win w).stage (cfg0.slots t w)) fullShare (dat.before w t d) ⊢ dat.leavesExact w t := by
  unfold Dat.leavesExact
  cases hf : (cfg0.win w).flush t
  · rw [hi]; dsimp only; iintro H; iexists d; iexact H
  · rw [hi, hb hf d]

/-- A buffer handed back as the proof data says, at a point that stores into it. -/
theorem live_leaves {c : Dev nD} (dat : Dat τ (Elt F) Unit ℕ (UR sig nD τ) ℕ cfg0 c) (w : Fin cfg0.W) (t : Fin cfg0.N)
    (hi : cfg0.idle w (cfg0.grid.coords t) = false) :
    owns (c : Thread nD τ) ((cfg0.win w).stage (cfg0.slots t w)) fullShare (dat.after w t) ⊢ dat.leavesExact w t := by
  unfold Dat.leavesExact; rw [hi]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 4000000 in
theorem sound_A (c : Dev nD) (t : Fin cfg0.N) (h : t.val % 16 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = iprop(owns (c : Thread nD τ) scM fullShare (hAt m c t) ∗ (∃ r, prngReg c r)) from rfl]
  have e9 : (dats m 0 c).after 9 t = k0_pay6 (hAt m c t) (X0_2 m c t) := by
    rw [after_9, last9_live (by omega)]; unfold v9; rw [if_pos (by omega)]
  have e11 : (dats m 0 c).after 11 t = k0_pay5 (iblk m c 1 t) (iblk m c 0 t) (iblk m c 4 t) := by rw [after_11, v11_first m c h]
  rw [hAt_first m c h] at e9 ⊢
  rw [PhiS_castSucc]
  suffices hh : iprop(iprop((∃ d, owns (c : Thread nD τ) scM fullShare d) ∗ (∃ r, prngReg c r)) ∗ (dats m 0 c).owesAt () t.castSucc
      ∗ (∃ d : (cfg0.win 0).block.Idx → Elt F (cfg0.win 0).elt, owns (c : Thread nD τ) (win0_0.stage (cfg0.slots t 0)) fullShare (iblk m c 0 t))
      ∗ (∃ d : (cfg0.win 1).block.Idx → Elt F (cfg0.win 1).elt, owns (c : Thread nD τ) (win0_1.stage (cfg0.slots t 1)) fullShare (iblk m c 1 t))
      ∗ (∃ d : (cfg0.win 2).block.Idx → Elt F (cfg0.win 2).elt, owns (c : Thread nD τ) (win0_2.stage (cfg0.slots t 2)) fullShare (X0_2 m c t))
      ∗ (∃ d : (cfg0.win 3).block.Idx → Elt F (cfg0.win 3).elt, owns (c : Thread nD τ) (win0_3.stage (cfg0.slots t 3)) fullShare (iblk m c 3 t))
      ∗ (∃ d : (cfg0.win 4).block.Idx → Elt F (cfg0.win 4).elt, owns (c : Thread nD τ) (win0_4.stage (cfg0.slots t 4)) fullShare (iblk m c 4 t))
      ∗ (∃ d : (cfg0.win 5).block.Idx → Elt F (cfg0.win 5).elt, owns (c : Thread nD τ) (win0_5.stage (cfg0.slots t 5)) fullShare (iblk m c 5 t))
      ∗ (∃ d : (cfg0.win 6).block.Idx → Elt F (cfg0.win 6).elt, owns (c : Thread nD τ) (win0_6.stage (cfg0.slots t 6)) fullShare (iblk m c 6 t))
      ∗ (∃ d : (cfg0.win 7).block.Idx → Elt F (cfg0.win 7).elt, owns (c : Thread nD τ) (win0_7.stage (cfg0.slots t 7)) fullShare (iblk m c 7 t))
      ∗ (∃ d : (cfg0.win 8).block.Idx → Elt F (cfg0.win 8).elt, owns (c : Thread nD τ) (win0_8.stage (cfg0.slots t 8)) fullShare (iblk m c 8 t))
      ∗ (∃ d : (cfg0.win 9).block.Idx → Elt F (cfg0.win 9).elt, owns (c : Thread nD τ) (win0_9.stage (cfg0.slots t 9)) fullShare ((dats m 0 c).before 9 t d))
      ∗ (∃ d : (cfg0.win 10).block.Idx → Elt F (cfg0.win 10).elt, owns (c : Thread nD τ) (win0_10.stage (cfg0.slots t 10)) fullShare ((dats m 0 c).before 10 t d))
      ∗ (∃ d : (cfg0.win 11).block.Idx → Elt F (cfg0.win 11).elt, owns (c : Thread nD τ) (win0_11.stage (cfg0.slots t 11)) fullShare ((dats m 0 c).before 11 t d))
      ∗ (∃ d : (cfg0.win 12).block.Idx → Elt F (cfg0.win 12).elt, owns (c : Thread nD τ) (win0_12.stage (cfg0.slots t 12)) fullShare ((dats m 0 c).before 12 t d))
      ∗ (∃ d : (cfg0.win 13).block.Idx → Elt F (cfg0.win 13).elt, owns (c : Thread nD τ) (win0_13.stage (cfg0.slots t 13)) fullShare ((dats m 0 c).before 13 t d))
      ∗ (∃ d : (cfg0.win 14).block.Idx → Elt F (cfg0.win 14).elt, owns (c : Thread nD τ) (win0_14.stage (cfg0.slots t 14)) fullShare ((dats m 0 c).before 14 t d))
      ∗ (∃ d : (cfg0.win 15).block.Idx → Elt F (cfg0.win 15).elt, owns (c : Thread nD τ) (win0_15.stage (cfg0.slots t 15)) fullShare ((dats m 0 c).before 15 t d))) ⊢ _ from
    (sep_mono_l (PhiS_any m c _ _)).trans hh
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_A c (grid0.coords t) _ _ _ _ _ _ _ _ _ _ _ _ _ _ _ _ _ _ _ _ _ _ _ _ _ _ _ _ _ _ _ _ _ _ ((cond1_iff t).mpr (by omega)) ((cond2_iff t).mpr (by omega)) (fun h => absurd ((cond3_iff t).mp h) (by omega)) (fun h => absurd ((cond4_iff t).mp h) (by omega)) (fun h => absurd ((cond5_iff t).mp h) (by omega)) _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS]; · iexact HS
  iintro ⟨H0, H1, H2, H3, H4, H5, H6, H7, H8, H9, H10, H11, H12, H13, H14, H15, HS⟩
  isplitl [HS Hg]
  · isplitl [HS]; · iexact HS
    iexact Hg
  isplitl [Ho]; · iexact Ho
  isplitl [H0]; · iapply (live_leaves (dats m 0 c) 0 t rfl); rw [after_0 m c t]; iexact H0
  isplitl [H1]; · iapply (live_leaves (dats m 0 c) 1 t rfl); rw [after_1 m c t]; iexact H1
  isplitl [H2]; · iapply (live_leaves (dats m 0 c) 2 t rfl); rw [after_2 m c t]; iexact H2
  isplitl [H3]; · iapply (live_leaves (dats m 0 c) 3 t rfl); rw [after_3 m c t]; iexact H3
  isplitl [H4]; · iapply (live_leaves (dats m 0 c) 4 t rfl); rw [after_4 m c t]; iexact H4
  isplitl [H5]; · iapply (live_leaves (dats m 0 c) 5 t rfl); rw [after_5 m c t]; iexact H5
  isplitl [H6]; · iapply (live_leaves (dats m 0 c) 6 t rfl); rw [after_6 m c t]; iexact H6
  isplitl [H7]; · iapply (live_leaves (dats m 0 c) 7 t rfl); rw [after_7 m c t]; iexact H7
  isplitl [H8]; · iapply (live_leaves (dats m 0 c) 8 t rfl); rw [after_8 m c t]; iexact H8
  isplitl [H9]; · iapply (live_leaves (dats m 0 c) 9 t (Bool.eq_false_iff.mpr fun hc => absurd ((idle9_iff t).mp hc) (by omega))); rw [e9]; iexact H9
  isplitl [H10]; · iapply (idle_leaves (dats m 0 c) 10 t ((idle10_iff t).mpr (by omega)) (fun hf d => before_10 m c t (by have := (flush10_iff t).mp hf; omega) d) d10); iexact H10
  isplitl [H11]; · iapply (live_leaves (dats m 0 c) 11 t (Bool.eq_false_iff.mpr fun hc => absurd ((idle11_iff t).mp hc) (by omega))); rw [e11]; iexact H11
  isplitl [H12]; · iapply (live_leaves (dats m 0 c) 12 t rfl); rw [after_12 m c t]; iexact H12
  isplitl [H13]; · iapply (live_leaves (dats m 0 c) 13 t rfl); rw [after_13 m c t]; iexact H13
  isplitl [H14]; · iapply (live_leaves (dats m 0 c) 14 t rfl); rw [after_14 m c t]; iexact H14
  iapply (live_leaves (dats m 0 c) 15 t rfl); rw [after_15 m c t]; iexact H15

set_option maxHeartbeats 4000000 in
theorem sound_B (c : Dev nD) (t : Fin cfg0.N) (h : 0 < t.val % 16 ∧ t.val % 16 < 4) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = iprop(owns (c : Thread nD τ) scM fullShare (hAt m c t) ∗ (∃ r, prngReg c r)) from rfl]
  have e9 : (dats m 0 c).after 9 t = k0_pay6 (hAt m c t) (X0_2 m c t) := by
    rw [after_9, last9_live (by omega)]; unfold v9; rw [if_pos (by omega)]
  rw [PhiS_castSucc, PhiS_same m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_B c (grid0.coords t) _ _ _ _ _ _ _ _ _ _ _ _ _ _ _ _ _ _ _ _ _ _ _ _ _ _ _ _ _ _ _ _ _ _ (fun h => absurd ((cond1_iff t).mp h) (by omega)) ((cond2_iff t).mpr (by omega)) (fun h => absurd ((cond3_iff t).mp h) (by omega)) (fun h => absurd ((cond4_iff t).mp h) (by omega)) (fun h => absurd ((cond5_iff t).mp h) (by omega)) _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS]; · iexact HS
  iintro ⟨H0, H1, H2, H3, H4, H5, H6, H7, H8, H9, H10, H11, H12, H13, H14, H15, HS⟩
  isplitl [HS Hg]
  · isplitl [HS]; · iexact HS
    iexact Hg
  isplitl [Ho]; · iexact Ho
  isplitl [H0]; · iapply (live_leaves (dats m 0 c) 0 t rfl); rw [after_0 m c t]; iexact H0
  isplitl [H1]; · iapply (live_leaves (dats m 0 c) 1 t rfl); rw [after_1 m c t]; iexact H1
  isplitl [H2]; · iapply (live_leaves (dats m 0 c) 2 t rfl); rw [after_2 m c t]; iexact H2
  isplitl [H3]; · iapply (live_leaves (dats m 0 c) 3 t rfl); rw [after_3 m c t]; iexact H3
  isplitl [H4]; · iapply (live_leaves (dats m 0 c) 4 t rfl); rw [after_4 m c t]; iexact H4
  isplitl [H5]; · iapply (live_leaves (dats m 0 c) 5 t rfl); rw [after_5 m c t]; iexact H5
  isplitl [H6]; · iapply (live_leaves (dats m 0 c) 6 t rfl); rw [after_6 m c t]; iexact H6
  isplitl [H7]; · iapply (live_leaves (dats m 0 c) 7 t rfl); rw [after_7 m c t]; iexact H7
  isplitl [H8]; · iapply (live_leaves (dats m 0 c) 8 t rfl); rw [after_8 m c t]; iexact H8
  isplitl [H9]; · iapply (live_leaves (dats m 0 c) 9 t (Bool.eq_false_iff.mpr fun hc => absurd ((idle9_iff t).mp hc) (by omega))); rw [e9]; iexact H9
  isplitl [H10]; · iapply (idle_leaves (dats m 0 c) 10 t ((idle10_iff t).mpr (by omega)) (fun hf d => before_10 m c t (by have := (flush10_iff t).mp hf; omega) d) d10); iexact H10
  isplitl [H11]; · iapply (idle_leaves (dats m 0 c) 11 t ((idle11_iff t).mpr (by omega)) (fun _ d => before_11 m c t (by omega) d) d11); iexact H11
  isplitl [H12]; · iapply (live_leaves (dats m 0 c) 12 t rfl); rw [after_12 m c t]; iexact H12
  isplitl [H13]; · iapply (live_leaves (dats m 0 c) 13 t rfl); rw [after_13 m c t]; iexact H13
  isplitl [H14]; · iapply (live_leaves (dats m 0 c) 14 t rfl); rw [after_14 m c t]; iexact H14
  iapply (live_leaves (dats m 0 c) 15 t rfl); rw [after_15 m c t]; iexact H15

set_option maxHeartbeats 4000000 in
theorem sound_C (c : Dev nD) (t : Fin cfg0.N) (h : 4 ≤ t.val % 16 ∧ t.val % 16 < 6) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = iprop(owns (c : Thread nD τ) scM fullShare (hAt m c t) ∗ (∃ r, prngReg c r)) from rfl]
  have e10 : (dats m 0 c).after 10 t = k0_pay7 (hAt m c t) (X0_2 m c t) := by
    rw [after_10, last10_live (by omega)]; unfold v10; rw [if_pos (by omega)]
  rw [PhiS_castSucc, PhiS_same m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_C c (grid0.coords t) _ _ _ _ _ _ _ _ _ _ _ _ _ _ _ _ _ _ _ _ _ _ _ _ _ _ _ _ _ _ _ _ _ _ (fun h => absurd ((cond1_iff t).mp h) (by omega)) (fun h => absurd ((cond2_iff t).mp h) (by omega)) ((cond3_iff t).mpr (by omega)) (fun h => absurd ((cond4_iff t).mp h) (by omega)) (fun h => absurd ((cond5_iff t).mp h) (by omega)) _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS]; · iexact HS
  iintro ⟨H0, H1, H2, H3, H4, H5, H6, H7, H8, H9, H10, H11, H12, H13, H14, H15, HS⟩
  isplitl [HS Hg]
  · isplitl [HS]; · iexact HS
    iexact Hg
  isplitl [Ho]; · iexact Ho
  isplitl [H0]; · iapply (live_leaves (dats m 0 c) 0 t rfl); rw [after_0 m c t]; iexact H0
  isplitl [H1]; · iapply (live_leaves (dats m 0 c) 1 t rfl); rw [after_1 m c t]; iexact H1
  isplitl [H2]; · iapply (live_leaves (dats m 0 c) 2 t rfl); rw [after_2 m c t]; iexact H2
  isplitl [H3]; · iapply (live_leaves (dats m 0 c) 3 t rfl); rw [after_3 m c t]; iexact H3
  isplitl [H4]; · iapply (live_leaves (dats m 0 c) 4 t rfl); rw [after_4 m c t]; iexact H4
  isplitl [H5]; · iapply (live_leaves (dats m 0 c) 5 t rfl); rw [after_5 m c t]; iexact H5
  isplitl [H6]; · iapply (live_leaves (dats m 0 c) 6 t rfl); rw [after_6 m c t]; iexact H6
  isplitl [H7]; · iapply (live_leaves (dats m 0 c) 7 t rfl); rw [after_7 m c t]; iexact H7
  isplitl [H8]; · iapply (live_leaves (dats m 0 c) 8 t rfl); rw [after_8 m c t]; iexact H8
  isplitl [H9]; · iapply (idle_leaves (dats m 0 c) 9 t ((idle9_iff t).mpr (by omega)) (fun _ d => before_9 m c t (by omega) d) d9); iexact H9
  isplitl [H10]; · iapply (live_leaves (dats m 0 c) 10 t (Bool.eq_false_iff.mpr fun hc => absurd ((idle10_iff t).mp hc) (by omega))); rw [e10]; iexact H10
  isplitl [H11]; · iapply (idle_leaves (dats m 0 c) 11 t ((idle11_iff t).mpr (by omega)) (fun _ d => before_11 m c t (by omega) d) d11); iexact H11
  isplitl [H12]; · iapply (live_leaves (dats m 0 c) 12 t rfl); rw [after_12 m c t]; iexact H12
  isplitl [H13]; · iapply (live_leaves (dats m 0 c) 13 t rfl); rw [after_13 m c t]; iexact H13
  isplitl [H14]; · iapply (live_leaves (dats m 0 c) 14 t rfl); rw [after_14 m c t]; iexact H14
  iapply (live_leaves (dats m 0 c) 15 t rfl); rw [after_15 m c t]; iexact H15

set_option maxHeartbeats 4000000 in
theorem sound_D (c : Dev nD) (t : Fin cfg0.N) (h : 6 ≤ t.val % 16 ∧ 4 ≤ t.val % 8) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = iprop(owns (c : Thread nD τ) scM fullShare (hAt m c t) ∗ (∃ r, prngReg c r)) from rfl]
  have e10 : (dats m 0 c).after 10 t = k0_pay9 (hAt m c t) (iblk m c 3 t) := by
    rw [after_10, last10_live (by omega)]; unfold v10; rw [if_neg (by omega)]
  rw [PhiS_castSucc, PhiS_same m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_D c (grid0.coords t) _ _ _ _ _ _ _ _ _ _ _ _ _ _ _ _ _ _ _ _ _ _ _ _ _ _ _ _ _ _ _ _ _ _ (fun h => absurd ((cond1_iff t).mp h) (by omega)) (fun h => absurd ((cond2_iff t).mp h) (by omega)) (fun h => absurd ((cond3_iff t).mp h) (by omega)) (fun h => absurd ((cond4_iff t).mp h) (by omega)) ((cond5_iff t).mpr (by omega)) _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS]; · iexact HS
  iintro ⟨H0, H1, H2, H3, H4, H5, H6, H7, H8, H9, H10, H11, H12, H13, H14, H15, HS⟩
  isplitl [HS Hg]
  · isplitl [HS]; · iexact HS
    iexact Hg
  isplitl [Ho]; · iexact Ho
  isplitl [H0]; · iapply (live_leaves (dats m 0 c) 0 t rfl); rw [after_0 m c t]; iexact H0
  isplitl [H1]; · iapply (live_leaves (dats m 0 c) 1 t rfl); rw [after_1 m c t]; iexact H1
  isplitl [H2]; · iapply (live_leaves (dats m 0 c) 2 t rfl); rw [after_2 m c t]; iexact H2
  isplitl [H3]; · iapply (live_leaves (dats m 0 c) 3 t rfl); rw [after_3 m c t]; iexact H3
  isplitl [H4]; · iapply (live_leaves (dats m 0 c) 4 t rfl); rw [after_4 m c t]; iexact H4
  isplitl [H5]; · iapply (live_leaves (dats m 0 c) 5 t rfl); rw [after_5 m c t]; iexact H5
  isplitl [H6]; · iapply (live_leaves (dats m 0 c) 6 t rfl); rw [after_6 m c t]; iexact H6
  isplitl [H7]; · iapply (live_leaves (dats m 0 c) 7 t rfl); rw [after_7 m c t]; iexact H7
  isplitl [H8]; · iapply (live_leaves (dats m 0 c) 8 t rfl); rw [after_8 m c t]; iexact H8
  isplitl [H9]; · iapply (idle_leaves (dats m 0 c) 9 t ((idle9_iff t).mpr (by omega)) (fun _ d => before_9 m c t (by omega) d) d9); iexact H9
  isplitl [H10]; · iapply (live_leaves (dats m 0 c) 10 t (Bool.eq_false_iff.mpr fun hc => absurd ((idle10_iff t).mp hc) (by omega))); rw [e10]; iexact H10
  isplitl [H11]; · iapply (idle_leaves (dats m 0 c) 11 t ((idle11_iff t).mpr (by omega)) (fun _ d => before_11 m c t (by omega) d) d11); iexact H11
  isplitl [H12]; · iapply (live_leaves (dats m 0 c) 12 t rfl); rw [after_12 m c t]; iexact H12
  isplitl [H13]; · iapply (live_leaves (dats m 0 c) 13 t rfl); rw [after_13 m c t]; iexact H13
  isplitl [H14]; · iapply (live_leaves (dats m 0 c) 14 t rfl); rw [after_14 m c t]; iexact H14
  iapply (live_leaves (dats m 0 c) 15 t rfl); rw [after_15 m c t]; iexact H15

set_option maxHeartbeats 4000000 in
theorem sound_E (c : Dev nD) (t : Fin cfg0.N) (h : 8 ≤ t.val % 16 ∧ t.val % 16 < 12) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = iprop(owns (c : Thread nD τ) scM fullShare (hAt m c t) ∗ (∃ r, prngReg c r)) from rfl]
  have e9 : (dats m 0 c).after 9 t = k0_pay8 (hAt m c t) (iblk m c 3 t) := by
    rw [after_9, last9_live (by omega)]; unfold v9; rw [if_neg (by omega)]
  rw [PhiS_castSucc, PhiS_same m c t (by omega)]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_E c (grid0.coords t) _ _ _ _ _ _ _ _ _ _ _ _ _ _ _ _ _ _ _ _ _ _ _ _ _ _ _ _ _ _ _ _ _ _ (fun h => absurd ((cond1_iff t).mp h) (by omega)) (fun h => absurd ((cond2_iff t).mp h) (by omega)) (fun h => absurd ((cond3_iff t).mp h) (by omega)) ((cond4_iff t).mpr (by omega)) (fun h => absurd ((cond5_iff t).mp h) (by omega)) _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS]; · iexact HS
  iintro ⟨H0, H1, H2, H3, H4, H5, H6, H7, H8, H9, H10, H11, H12, H13, H14, H15, HS⟩
  isplitl [HS Hg]
  · isplitl [HS]; · iexact HS
    iexact Hg
  isplitl [Ho]; · iexact Ho
  isplitl [H0]; · iapply (live_leaves (dats m 0 c) 0 t rfl); rw [after_0 m c t]; iexact H0
  isplitl [H1]; · iapply (live_leaves (dats m 0 c) 1 t rfl); rw [after_1 m c t]; iexact H1
  isplitl [H2]; · iapply (live_leaves (dats m 0 c) 2 t rfl); rw [after_2 m c t]; iexact H2
  isplitl [H3]; · iapply (live_leaves (dats m 0 c) 3 t rfl); rw [after_3 m c t]; iexact H3
  isplitl [H4]; · iapply (live_leaves (dats m 0 c) 4 t rfl); rw [after_4 m c t]; iexact H4
  isplitl [H5]; · iapply (live_leaves (dats m 0 c) 5 t rfl); rw [after_5 m c t]; iexact H5
  isplitl [H6]; · iapply (live_leaves (dats m 0 c) 6 t rfl); rw [after_6 m c t]; iexact H6
  isplitl [H7]; · iapply (live_leaves (dats m 0 c) 7 t rfl); rw [after_7 m c t]; iexact H7
  isplitl [H8]; · iapply (live_leaves (dats m 0 c) 8 t rfl); rw [after_8 m c t]; iexact H8
  isplitl [H9]; · iapply (live_leaves (dats m 0 c) 9 t (Bool.eq_false_iff.mpr fun hc => absurd ((idle9_iff t).mp hc) (by omega))); rw [e9]; iexact H9
  isplitl [H10]; · iapply (idle_leaves (dats m 0 c) 10 t ((idle10_iff t).mpr (by omega)) (fun hf d => before_10 m c t (by have := (flush10_iff t).mp hf; omega) d) d10); iexact H10
  isplitl [H11]; · iapply (idle_leaves (dats m 0 c) 11 t ((idle11_iff t).mpr (by omega)) (fun _ d => before_11 m c t (by omega) d) d11); iexact H11
  isplitl [H12]; · iapply (live_leaves (dats m 0 c) 12 t rfl); rw [after_12 m c t]; iexact H12
  isplitl [H13]; · iapply (live_leaves (dats m 0 c) 13 t rfl); rw [after_13 m c t]; iexact H13
  isplitl [H14]; · iapply (live_leaves (dats m 0 c) 14 t rfl); rw [after_14 m c t]; iexact H14
  iapply (live_leaves (dats m 0 c) 15 t rfl); rw [after_15 m c t]; iexact H15

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hA : t.val % 16 = 0
  · exact sound_A m c t hA
  by_cases hB : t.val % 16 < 4
  · exact sound_B m c t ⟨by omega, hB⟩
  by_cases hC : t.val % 16 < 6
  · exact sound_C m c t ⟨by omega, hC⟩
  by_cases hE : t.val % 8 < 4
  · exact sound_E m c t (by omega)
  · exact sound_D m c t (by omega)

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [PhiA0_eq, show (dats m 0 c).Φ (Fin.last cfg0.N) = PhiS m c (Fin.last cfg0.N).val (Nat.le_of_lt_succ (Fin.last cfg0.N).isLt) from rfl]
  exact PhiS_any m c _ _

/-! ## The run and the frame -/

set_option backward.isDefEq.respectTransparency.types false in
/-- The run, every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun _ _ => by unfold Dat.share; exact ite_self _)
    (howed := fun _ _ => rfl) (V := V m) (hmain := hmain m Variants.none) (hA := A_eq m) (hin := hin m) (hout := hout m)

/-- Every execution ends, with every array of the pipeline as the proof data says and every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel2Ideal.Own

end
-- ==== Proof.InValue.lean ====
/- The seven arrays the projection kernel leaves, entry by entry. -/
module

public import proofs.«01_k».proof.Proof.InSpec
public import proofs.«01_k».proof.Proof.InIdealFrame

@[expose] public section

set_option maxRecDepth 16384

noncomputable section

namespace Cert.Kernel2Ideal.Own

open Cert.Kernel2Ideal.Gen Cert.Inproj

open Idealize.ShloMosaic Idealize.ShloMosaic.TcCoe Idealize.ShloMosaic.Tactic Idealize.SL.Sem Idealize.ShloMosaic.Rounds
open Idealize.ShloMosaic.Pipeline (Dat Cfg Window)
open scoped BigOperators

/-! ## The values the body computes, at an index -/

/-- The normalised rows of a block. -/
theorem pay3_at (a : Vec Ideal S1024x2048 .f32) (b : Vec Ideal S1x2048 .f32) (r : Fin 1024) (k : Fin 2048) :
    k0_pay3 (F := Ideal) a b (ix2 r k)
      = a (ix2 r k) * Ideal.rsqrt (Ideal.div (∑ j, a (ix2 r j) * a (ix2 r j)) (Ideal.ofBits .f32 0x45000000#32) + Ideal.ofBits .f32 0x358637BD#32) * b (ix2 0 k) := by
  pointwise [k0_pay3]

theorem pay6_at (a : Vec Ideal S1024x2048 .bf16) (b : Vec Ideal S2048x1024 .bf16) (r y : Fin 1024) :
    k0_pay6 (F := Ideal) a b (ix2 r y) = ∑ k, a (ix2 r k) * b (ix2 k y) := by
  pointwise [k0_pay6]

theorem pay7_at (a : Vec Ideal S1024x2048 .bf16) (b : Vec Ideal S2048x1024 .bf16) : k0_pay7 (F := Ideal) a b = k0_pay6 (F := Ideal) a b := rfl
theorem pay8_at (a : Vec Ideal S1024x2048 .bf16) (b : Vec Ideal S2048x1024 .bf16) : k0_pay8 (F := Ideal) a b = k0_pay6 (F := Ideal) a b := rfl
theorem pay9_at (a : Vec Ideal S1024x2048 .bf16) (b : Vec Ideal S2048x1024 .bf16) : k0_pay9 (F := Ideal) a b = k0_pay6 (F := Ideal) a b := rfl
theorem pay4_at (a : Vec Ideal S1024x2048 .f32) (b : Vec Ideal S1x2048 .f32) (r : Fin 1024) (k : Fin 2048) :
    k0_pay4 (F := Ideal) a b (ix2 r k) = k0_pay3 (F := Ideal) a b (ix2 r k) := by
  pointwise [k0_pay4]

theorem pay5_at (a : Vec Ideal S1024x2048 .f32) (b : Vec Ideal S1x2048 .f32) (w : Vec Ideal S2048x128 .bf16) (r : Fin 1024) (y : Fin 128) :
    k0_pay5 (F := Ideal) a b w (ix2 r y) = ∑ k, k0_pay3 (F := Ideal) a b (ix2 r k) * w (ix2 k y) := by
  pointwise [k0_pay5]

theorem pay10_at (a : Vec Ideal S128x2048 .f32) (j : S128x2048.Idx) :
    k0_pay10 (F := Ideal) a j = a j * Ideal.ofBits .f32 0x3F3504F3#32 := by
  pointwise [k0_pay10]

variable (m : (ℓ : Loc nD τ sig) → Buf (Elt Ideal) ℓ) (c : Dev nD)

/-! ## What the host leaves before the region -/

theorem V_v0 : V m c main_v0 = (m ((c : Thread nD τ).loc main_arg2) : S2048x16400.Idx → EReal) := by
  unfold V
  simp only [hostOps0, hostOps0_1, hostOps0_2, List.flatten_cons, List.flatten_nil, List.append_nil, List.cons_append, List.nil_append]
  after_results_simp
  rfl

theorem V_v4 (k : Fin 2048) : V m c main_v4 (ix2 0 k) = (m ((c : Thread nD τ).loc main_arg1) : S2048.Idx → EReal) (ix1 k) := by
  unfold V
  simp only [hostOps0, hostOps0_1, hostOps0_2, List.flatten_cons, List.flatten_nil, List.append_nil, List.cons_append, List.nil_append]
  after_results_simp
  pointwise []

theorem V_v1 (k : Fin 2048) (y : Fin 10240) : V m c main_v1 (ix2 k y) = (m ((c : Thread nD τ).loc main_arg2) : S2048x16400.Idx → EReal) (ix2 k ⟨6160 + y.val, by omega⟩) := by
  unfold V
  simp only [hostOps0, hostOps0_1, hostOps0_2, List.flatten_cons, List.flatten_nil, List.append_nil, List.cons_append, List.nil_append]
  after_results_simp
  pointwise []

theorem V_v3 (k : Fin 2048) (y : Fin 128) : V m c main_v3 (ix2 k y)
    = if h : y.val < 16 then (m ((c : Thread nD τ).loc main_arg2) : S2048x16400.Idx → EReal) (ix2 k ⟨6144 + y.val, by omega⟩) else (0 : EReal) := by
  unfold V
  simp only [hostOps0, hostOps0_1, hostOps0_2, StableHlo.TRef.binary, StableHlo.TRef.unary, StableHlo.TRef.toBuf, StableHlo.TRef.ofBuf, cast_eq,
    List.flatten_cons, List.flatten_nil, List.append_nil, List.cons_append, List.nil_append]
  after_results_simp
  pointwise []
  split
  · rfl
  · show (((0#32 : BitVec 32).toInt : ℝ) : EReal) = 0
    simp

/-! ## The blocks read -/

/-- The input rows, the scale and the weights. -/
abbrev xs : Fin 8192 → Fin 2048 → EReal := fun R k => (m ((c : Thread nD τ).loc main_arg0) : S8192x2048.Idx → EReal) (ix2 R k)
abbrev gs : Fin 2048 → EReal := fun k => (m ((c : Thread nD τ).loc main_arg1) : S2048.Idx → EReal) (ix1 k)
abbrev ws : Fin 2048 → Fin 16400 → EReal := fun k C => (m ((c : Thread nD τ).loc main_arg2) : S2048x16400.Idx → EReal) (ix2 k C)

theorem idx0 : ∀ t : Fin grid0.N, win0_0.index t (0 : Fin 2) = 0 ∧ win0_0.index t (1 : Fin 2) = 0 := by decide +kernel
theorem idx1 : ∀ t : Fin grid0.N, win0_1.index t (0 : Fin 2) = t.val / 16 ∧ win0_1.index t (1 : Fin 2) = 0 := by decide +kernel
theorem idx2 : ∀ t : Fin grid0.N, t.val % 16 < 6 → win0_2.index t (0 : Fin 2) = 0 ∧ win0_2.index t (1 : Fin 2) = t.val % 16 := by decide +kernel
theorem idx3 : ∀ t : Fin grid0.N, 6 ≤ t.val % 16 → win0_3.index t (0 : Fin 2) = 0 ∧ win0_3.index t (1 : Fin 2) = t.val % 16 - 6 := by decide +kernel
theorem idx4 : ∀ t : Fin grid0.N, win0_4.index t (0 : Fin 2) = 0 ∧ win0_4.index t (1 : Fin 2) = 0 := by decide +kernel

/-- The row of the arrays that row `r` of point `t`'s block is. -/
def rowAt (t : Fin cfg0.N) (r : Fin 1024) : Fin 8192 := ⟨t.val / 16 * 1024 + r.val, by have h : t.val < 128 := lt_of_lt_of_eq t.isLt N_0; have := r.isLt; omega⟩

theorem iblk0_at (t : Fin cfg0.N) (k : Fin 2048) : iblk m c 0 t (ix2 0 k) = gs m c k := by
  unfold gs; rw [← V_v4 m c]
  refine congrArg (V m c main_v4) (funext fun a => Fin.ext ?_)
  match a with
  | ⟨0, _⟩ => show win0_0.index t (0 : Fin 2) * 1 + 1 * 0 = 0; rw [(idx0 t).1]
  | ⟨1, _⟩ => show win0_0.index t (1 : Fin 2) * 2048 + 1 * k.val = k.val; rw [(idx0 t).2]; omega

theorem iblk1_at (t : Fin cfg0.N) (r : Fin 1024) (k : Fin 2048) : iblk m c 1 t (ix2 r k) = xs m c (rowAt t r) k := by
  unfold xs; rw [← V_main_arg0 m c]
  refine congrArg (V m c main_arg0) (funext fun a => Fin.ext ?_)
  match a with
  | ⟨0, _⟩ => show win0_1.index t (0 : Fin 2) * 1024 + 1 * r.val = t.val / 16 * 1024 + r.val; rw [(idx1 t).1]; omega
  | ⟨1, _⟩ => show win0_1.index t (1 : Fin 2) * 2048 + 1 * k.val = k.val; rw [(idx1 t).2]; omega

theorem X2_at (t : Fin cfg0.N) (h : t.val % 16 < 6) (k : Fin 2048) (y : Fin 1024) :
    X0_2 m c t (ix2 k y) = ws m c k ⟨1024 * (t.val % 16) + y.val, by omega⟩ := by
  unfold ws; rw [← V_v0 m c]
  unfold X0_2 Pipeline.Window.fill
  rw [dif_pos (moved0_2 t _)]
  refine congrArg (V m c main_v0) (funext fun a => Fin.ext ?_)
  match a with
  | ⟨0, _⟩ => show win0_2.index t (0 : Fin 2) * 2048 + 1 * k.val = k.val; rw [(idx2 t h).1]; omega
  | ⟨1, _⟩ => show win0_2.index t (1 : Fin 2) * 1024 + 1 * y.val = 1024 * (t.val % 16) + y.val; rw [(idx2 t h).2]; omega

theorem iblk3_at (t : Fin cfg0.N) (h : 6 ≤ t.val % 16) (k : Fin 2048) (y : Fin 1024) :
    iblk m c 3 t (ix2 k y) = ws m c k ⟨1024 * (t.val % 16) + 16 + y.val, by omega⟩ := by
  have e : iblk m c 3 t (ix2 k y) = V m c main_v1 (ix2 k ⟨1024 * (t.val % 16 - 6) + y.val, by omega⟩) := by
    refine congrArg (V m c main_v1) (funext fun a => Fin.ext ?_)
    match a with
    | ⟨0, _⟩ => show win0_3.index t (0 : Fin 2) * 2048 + 1 * k.val = k.val; rw [(idx3 t h).1]; omega
    | ⟨1, _⟩ => show win0_3.index t (1 : Fin 2) * 1024 + 1 * y.val = 1024 * (t.val % 16 - 6) + y.val; rw [(idx3 t h).2]; omega
  rw [e, V_v1]
  exact congrArg (ws m c k) (Fin.ext (by show 6160 + (1024 * (t.val % 16 - 6) + y.val) = 1024 * (t.val % 16) + 16 + y.val; omega))

theorem iblk4_at (t : Fin cfg0.N) (k : Fin 2048) (y : Fin 128) :
    iblk m c 4 t (ix2 k y) = if h : y.val < 16 then ws m c k ⟨6144 + y.val, by omega⟩ else (0 : EReal) := by
  rw [← V_v3 m c]
  refine congrArg (V m c main_v3) (funext fun a => Fin.ext ?_)
  match a with
  | ⟨0, _⟩ => show win0_4.index t (0 : Fin 2) * 2048 + 1 * k.val = k.val; rw [(idx4 t).1]; omega
  | ⟨1, _⟩ => show win0_4.index t (1 : Fin 2) * 128 + 1 * y.val = y.val; rw [(idx4 t).2]; omega

/-! ## The stored values -/

/-- The normalised rows of a point's row block. -/
theorem pay3_blk (t : Fin cfg0.N) (r : Fin 1024) (k : Fin 2048) :
    k0_pay3 (F := Ideal) (iblk m c 1 (row t)) (iblk m c 0 (row t)) (ix2 r k) = nrm (xs m c) (gs m c) (rowAt t r) k := by
  have e : rowAt (row t) r = rowAt t r := Fin.ext (by show 16 * (t.val / 16) / 16 * 1024 + r.val = t.val / 16 * 1024 + r.val; omega)
  rw [pay3_at]; unfold nrm
  simp only [iblk1_at, iblk0_at, e]

theorem hAt_at (t : Fin cfg0.N) (r : Fin 1024) (k : Fin 2048) : hAt m c t (ix2 r k) = nrm (xs m c) (gs m c) (rowAt t r) k := by
  unfold hAt; rw [pay4_at, pay3_blk]

/-- The weights' column that column `y` of the product at point `t` takes. -/
def colAt (t : Fin cfg0.N) (y : Fin 1024) : Fin 16400 :=
  ⟨1024 * (t.val % 16) + (if t.val % 16 < 6 then 0 else 16) + y.val, by have := y.isLt; split <;> omega⟩

/-- The product stored at a point. -/
theorem v9_at (t : Fin cfg0.N) (r y : Fin 1024) : v9 m c t (ix2 r y) = prj (xs m c) (gs m c) (ws m c) (rowAt t r) (colAt t y) := by
  unfold v9 prj
  by_cases h : t.val % 16 < 6
  · rw [if_pos h, pay6_at]
    refine Finset.sum_congr rfl fun k _ => ?_
    rw [hAt_at, X2_at m c t h]
    exact congrArg (fun C => nrm (xs m c) (gs m c) (rowAt t r) k * ws m c k C) (Fin.ext (by simp only [colAt, if_pos h]; omega))
  · rw [if_neg h, pay8_at, pay6_at]
    refine Finset.sum_congr rfl fun k _ => ?_
    rw [hAt_at, iblk3_at m c t (by omega)]
    exact congrArg (fun C => nrm (xs m c) (gs m c) (rowAt t r) k * ws m c k C) (Fin.ext (by simp only [colAt, if_neg h]))

theorem v10_at (t : Fin cfg0.N) (r y : Fin 1024) : v10 m c t (ix2 r y) = prj (xs m c) (gs m c) (ws m c) (rowAt t r) (colAt t y) := by
  rw [← v9_at]; unfold v9 v10; rw [pay7_at, pay8_at, pay9_at]

theorem v11_at (t : Fin cfg0.N) (r : Fin 1024) (y : Fin 128) : v11 m c t (ix2 r y)
    = if h : y.val < 16 then prj (xs m c) (gs m c) (ws m c) (rowAt t r) ⟨6144 + y.val, by omega⟩ else 0 := by
  unfold v11; rw [pay5_at]
  by_cases h : y.val < 16
  · rw [dif_pos h]
    refine Finset.sum_congr rfl fun k _ => ?_
    rw [pay3_blk, iblk4_at, dif_pos h]
  · rw [dif_neg h]
    refine Finset.sum_eq_zero fun k _ => ?_
    rw [iblk4_at, dif_neg h, mul_zero]

/-! ## The arrays left -/

/-- The first result. -/
def G9 : S8192x8192.Idx → EReal := fun i => prj (xs m c) (gs m c) (ws m c) (i 0) (col9 (i 1))
/-- The second result. -/
def G10 : S8192x8192.Idx → EReal := fun i => prj (xs m c) (gs m c) (ws m c) (i 0) (col10 (i 1))
/-- The third result. -/
def G11 : S8192x128.Idx → EReal := fun i =>
  if h : (i 1).val < 16 then prj (xs m c) (gs m c) (ws m c) (i 0) ⟨6144 + (i 1).val, by omega⟩ else 0
/-- The other four: each table cast, the first one scaled. -/
abbrev us : S16384x2048.Idx → EReal := (m ((c : Thread nD τ).loc main_arg3) : S16384x2048.Idx → EReal)
def G12 : S16384x2048.Idx → EReal := fun i => us m c i * Ideal.ofBits .f32 0x3F3504F3#32
def G13 : S16384x2048.Idx → EReal := (m ((c : Thread nD τ).loc main_arg4) : S16384x2048.Idx → EReal)
def G14 : S2048x2048.Idx → EReal := (m ((c : Thread nD τ).loc main_arg5) : S2048x2048.Idx → EReal)
def G15 : S2048x2048.Idx → EReal := (m ((c : Thread nD τ).loc main_arg6) : S2048x2048.Idx → EReal)

theorem idx9 : ∀ t : Fin grid0.N, win0_9.flush t = true → win0_9.index t (0 : Fin 2) = t.val / 16
    ∧ win0_9.index t (1 : Fin 2) = (if t.val % 16 < 8 then t.val % 16 - (t.val % 8 - 3) else t.val % 16 - (t.val % 8 - 3) - 4) := by decide +kernel
theorem idx10 : ∀ t : Fin grid0.N, win0_10.flush t = true → win0_10.index t (0 : Fin 2) = t.val / 16
    ∧ win0_10.index t (1 : Fin 2) = (if t.val % 16 < 8 then t.val % 16 - 4 else if t.val % 16 = 11 then 3 else t.val % 16 - 8) := by decide +kernel
theorem idx11 : ∀ t : Fin grid0.N, win0_11.index t (0 : Fin 2) = t.val / 16 ∧ win0_11.index t (1 : Fin 2) = 0 := by decide +kernel

theorem lt128 (t : Fin cfg0.N) : t.val < 128 := lt_of_lt_of_eq t.isLt N_0

theorem flushed9_eq (t : Fin cfg0.N) (hf : (cfg0.win 9).flush t = true) :
    (dats m 0 c).flushed 9 t = ((cfg0.win 9).blk t).view.read (Elt Ideal) (G9 m c) := by
  have ht := lt128 t
  have hg := (flush9_iff t).1 hf
  obtain ⟨e0, e1⟩ := idx9 t hf
  show (cfg0.win 9).cut (grid0.coords t) ((dats m 0 c).after 9 t) = _
  rw [after_9]
  funext y
  have hy0 : (y 0).val < 1024 := (y 0).isLt
  have hy1 : (y 1).val < 1024 := (y 1).isLt
  have ex : (cfg0.win 9).xinj (grid0.coords t) y = ix2 ⟨(y 0).val, hy0⟩ ⟨(y 1).val, hy1⟩ := by
    funext a; apply Fin.ext
    match a with
    | ⟨0, _⟩ => rfl
    | ⟨1, _⟩ => rfl
  show v9 m c (last9 t) ((cfg0.win 9).xinj (grid0.coords t) y) = G9 m c (((cfg0.win 9).blk t).view.emb y)
  rw [ex, v9_at]
  refine congrArg₂ (prj (xs m c) (gs m c) (ws m c)) (Fin.ext ?_) (Fin.ext ?_)
  · show (t.val - (t.val % 8 - 3)) / 16 * 1024 + (y 0).val = win0_9.index t (0 : Fin 2) * 1024 + 1 * (y 0).val
    rw [e0]; omega
  · show 1024 * ((t.val - (t.val % 8 - 3)) % 16) + (if (t.val - (t.val % 8 - 3)) % 16 < 6 then 0 else 16) + (y 1).val
      = if win0_9.index t (1 : Fin 2) * 1024 + 1 * (y 1).val < 4096 then win0_9.index t (1 : Fin 2) * 1024 + 1 * (y 1).val
        else win0_9.index t (1 : Fin 2) * 1024 + 1 * (y 1).val + 4112
    rw [e1]
    have h16 : (t.val - (t.val % 8 - 3)) % 16 = t.val % 16 - (t.val % 8 - 3) := by omega
    rw [h16]
    by_cases h8 : t.val % 16 < 8
    · rw [if_pos h8, if_pos (by omega), if_pos (by omega)]; omega
    · rw [if_neg h8, if_neg (by omega), if_neg (by omega)]; omega

/-- The point that writes back the block at row `R` and column `q`. -/
abbrev pt9 (R q : Fin 8) : Fin grid0.N :=
  ⟨16 * R.val + (q.val / 4 * 8 + (if q.val % 4 = 3 then 7 else q.val % 4)), lt_of_lt_of_eq (by have := R.isLt; have := q.isLt; split <;> omega) N_0.symm⟩
theorem onto9 : ∀ R q : Fin 8, win0_9.flush (pt9 R q) = true ∧ win0_9.index (pt9 R q) (0 : Fin 2) = R.val ∧ win0_9.index (pt9 R q) (1 : Fin 2) = q.val := by decide +kernel

/-- An entry is in a point's block iff its coordinates are in the block's ranges. -/
theorem mem9 (t : Fin cfg0.N) (i : S8192x8192.Idx) : i ∈ ((cfg0.win 9).blk t).view.set ↔ ∀ a : Fin 2,
    win0_9.index t a * S1024x1024.size a ≤ (i a).val ∧ (i a).val < win0_9.index t a * S1024x1024.size a + S1024x1024.size a := by
  show i ∈ ((View.whole main_v5_0).slice (win0_9.rect t)).set ↔ _
  rw [View.set_slice_whole, Rect.mem_set_unit]
  exact Iff.rfl

theorem final9 : (dats m 0 c).arrAt 9 cfg0.N = G9 m c :=
  (dats m 0 c).arrAt_eq_of_cover 9 _ (fun t hf => flushed9_eq m c t hf) fun (i : S8192x8192.Idx) => by
    have hi0 : (i 0).val < 8192 := (i 0).isLt
    have hi1 : (i 1).val < 8192 := (i 1).isLt
    obtain ⟨hf, q0, q1⟩ := onto9 ⟨(i 0).val / 1024, by omega⟩ ⟨(i 1).val / 1024, by omega⟩
    refine ⟨_, hf, ?_⟩
    rw [mem9]
    intro a
    match a with
    | ⟨0, _⟩ =>
      show win0_9.index _ (0 : Fin 2) * 1024 ≤ (i 0).val ∧ (i 0).val < win0_9.index _ (0 : Fin 2) * 1024 + 1024
      rw [q0]; dsimp only; omega
    | ⟨1, _⟩ =>
      show win0_9.index _ (1 : Fin 2) * 1024 ≤ (i 1).val ∧ (i 1).val < win0_9.index _ (1 : Fin 2) * 1024 + 1024
      rw [q1]; dsimp only; omega

theorem last10_mod (t : Fin cfg0.N) (h : t.val % 16 < 8 ∧ 4 ≤ t.val % 16 ∨ 11 ≤ t.val % 16) :
    (last10 t).val = if t.val % 16 = 11 then t.val - 4 else t.val := by
  unfold last10
  by_cases h8 : t.val % 8 < 4
  · rw [if_pos h8, if_pos (by omega)]
    show t.val - (t.val % 8 + 1) = t.val - 4; omega
  · rw [if_neg h8, if_neg (by omega)]

theorem flushed10_eq (t : Fin cfg0.N) (hf : (cfg0.win 10).flush t = true) :
    (dats m 0 c).flushed 10 t = ((cfg0.win 10).blk t).view.read (Elt Ideal) (G10 m c) := by
  have ht := lt128 t
  have hg := (flush10_iff t).1 hf
  obtain ⟨e0, e1⟩ := idx10 t hf
  have hl := last10_mod t (by omega)
  show (cfg0.win 10).cut (grid0.coords t) ((dats m 0 c).after 10 t) = _
  rw [after_10]
  funext y
  have hy0 : (y 0).val < 1024 := (y 0).isLt
  have hy1 : (y 1).val < 1024 := (y 1).isLt
  have ex : (cfg0.win 10).xinj (grid0.coords t) y = ix2 ⟨(y 0).val, hy0⟩ ⟨(y 1).val, hy1⟩ := by
    funext a; apply Fin.ext
    match a with
    | ⟨0, _⟩ => rfl
    | ⟨1, _⟩ => rfl
  show v10 m c (last10 t) ((cfg0.win 10).xinj (grid0.coords t) y) = G10 m c (((cfg0.win 10).blk t).view.emb y)
  rw [ex, v10_at]
  refine congrArg₂ (prj (xs m c) (gs m c) (ws m c)) (Fin.ext ?_) (Fin.ext ?_)
  · show (last10 t).val / 16 * 1024 + (y 0).val = win0_10.index t (0 : Fin 2) * 1024 + 1 * (y 0).val
    rw [e0, hl]; split <;> omega
  · show 1024 * ((last10 t).val % 16) + (if (last10 t).val % 16 < 6 then 0 else 16) + (y 1).val
      = if win0_10.index t (1 : Fin 2) * 1024 + 1 * (y 1).val < 2048 then win0_10.index t (1 : Fin 2) * 1024 + 1 * (y 1).val + 4096
        else if win0_10.index t (1 : Fin 2) * 1024 + 1 * (y 1).val < 4096 then win0_10.index t (1 : Fin 2) * 1024 + 1 * (y 1).val + 4112
        else win0_10.index t (1 : Fin 2) * 1024 + 1 * (y 1).val + 8208
    rw [e1, hl]
    by_cases h8 : t.val % 16 < 8
    · simp only [if_pos h8, if_neg (show ¬ t.val % 16 = 11 by omega)]
      by_cases h6 : t.val % 16 < 6
      · rw [if_pos h6, if_pos (by omega)]; omega
      · rw [if_neg h6, if_neg (by omega), if_pos (by omega)]; omega
    · by_cases h11 : t.val % 16 = 11
      · simp only [if_neg h8, if_pos h11]
        rw [if_neg (by omega), if_neg (by omega), if_pos (by omega)]; omega
      · simp only [if_neg h8, if_neg h11]
        rw [if_neg (by omega), if_neg (by omega), if_neg (by omega)]; omega

/-- The point that writes back the block at row `R` and column `q`. -/
abbrev pt10 (R q : Fin 8) : Fin grid0.N :=
  ⟨16 * R.val + (if q.val < 3 then q.val + 4 else q.val + 8), lt_of_lt_of_eq (by have := R.isLt; have := q.isLt; split <;> omega) N_0.symm⟩
theorem onto10 : ∀ R q : Fin 8, win0_10.flush (pt10 R q) = true ∧ win0_10.index (pt10 R q) (0 : Fin 2) = R.val ∧ win0_10.index (pt10 R q) (1 : Fin 2) = q.val := by decide +kernel

/-- An entry is in a point's block iff its coordinates are in the block's ranges. -/
theorem mem10 (t : Fin cfg0.N) (i : S8192x8192.Idx) : i ∈ ((cfg0.win 10).blk t).view.set ↔ ∀ a : Fin 2,
    win0_10.index t a * S1024x1024.size a ≤ (i a).val ∧ (i a).val < win0_10.index t a * S1024x1024.size a + S1024x1024.size a := by
  show i ∈ ((View.whole main_v5_1).slice (win0_10.rect t)).set ↔ _
  rw [View.set_slice_whole, Rect.mem_set_unit]
  exact Iff.rfl

theorem final10 : (dats m 0 c).arrAt 10 cfg0.N = G10 m c :=
  (dats m 0 c).arrAt_eq_of_cover 10 _ (fun t hf => flushed10_eq m c t hf) fun (i : S8192x8192.Idx) => by
    have hi0 : (i 0).val < 8192 := (i 0).isLt
    have hi1 : (i 1).val < 8192 := (i 1).isLt
    obtain ⟨hf, q0, q1⟩ := onto10 ⟨(i 0).val / 1024, by omega⟩ ⟨(i 1).val / 1024, by omega⟩
    refine ⟨_, hf, ?_⟩
    rw [mem10]
    intro a
    match a with
    | ⟨0, _⟩ =>
      show win0_10.index _ (0 : Fin 2) * 1024 ≤ (i 0).val ∧ (i 0).val < win0_10.index _ (0 : Fin 2) * 1024 + 1024
      rw [q0]; dsimp only; omega
    | ⟨1, _⟩ =>
      show win0_10.index _ (1 : Fin 2) * 1024 ≤ (i 1).val ∧ (i 1).val < win0_10.index _ (1 : Fin 2) * 1024 + 1024
      rw [q1]; dsimp only; omega

theorem flushed11_eq (t : Fin cfg0.N) :
    (dats m 0 c).flushed 11 t = ((cfg0.win 11).blk t).view.read (Elt Ideal) (G11 m c) := by
  have ht := lt128 t
  obtain ⟨e0, e1⟩ := idx11 t
  show (cfg0.win 11).cut (grid0.coords t) ((dats m 0 c).after 11 t) = _
  rw [after_11]
  funext y
  have hy0 : (y 0).val < 1024 := (y 0).isLt
  have hy1 : (y 1).val < 128 := (y 1).isLt
  have ex : (cfg0.win 11).xinj (grid0.coords t) y = ix2 ⟨(y 0).val, hy0⟩ ⟨(y 1).val, hy1⟩ := by
    funext a; apply Fin.ext
    match a with
    | ⟨0, _⟩ => rfl
    | ⟨1, _⟩ => rfl
  have em : ((cfg0.win 11).blk t).view.emb y = ix2 (rowAt t ⟨(y 0).val, hy0⟩) (⟨(y 1).val, hy1⟩ : Fin 128) := by
    funext a; apply Fin.ext
    match a with
    | ⟨0, _⟩ => show win0_11.index t (0 : Fin 2) * 1024 + 1 * (y 0).val = t.val / 16 * 1024 + (y 0).val; rw [e0]; omega
    | ⟨1, _⟩ => show win0_11.index t (1 : Fin 2) * 128 + 1 * (y 1).val = (y 1).val; rw [e1]; omega
  show v11 m c t ((cfg0.win 11).xinj (grid0.coords t) y) = G11 m c (((cfg0.win 11).blk t).view.emb y)
  rw [ex, em, v11_at]
  rfl

abbrev pt11 (R : Fin 8) : Fin grid0.N := ⟨16 * R.val + 15, lt_of_lt_of_eq (by have := R.isLt; omega) N_0.symm⟩
theorem onto11 : ∀ R : Fin 8, win0_11.flush (pt11 R) = true ∧ win0_11.index (pt11 R) (0 : Fin 2) = R.val ∧ win0_11.index (pt11 R) (1 : Fin 2) = 0 := by decide +kernel

/-- An entry is in a point's block iff its coordinates are in the block's ranges. -/
theorem mem11 (t : Fin cfg0.N) (i : S8192x128.Idx) : i ∈ ((cfg0.win 11).blk t).view.set ↔ ∀ a : Fin 2,
    win0_11.index t a * S1024x128.size a ≤ (i a).val ∧ (i a).val < win0_11.index t a * S1024x128.size a + S1024x128.size a := by
  show i ∈ ((View.whole main_v5_2).slice (win0_11.rect t)).set ↔ _
  rw [View.set_slice_whole, Rect.mem_set_unit]
  exact Iff.rfl

theorem final11 : (dats m 0 c).arrAt 11 cfg0.N = G11 m c :=
  (dats m 0 c).arrAt_eq_of_cover 11 _ (fun t _ => flushed11_eq m c t) fun (i : S8192x128.Idx) => by
    have hi0 : (i 0).val < 8192 := (i 0).isLt
    have hi1 : (i 1).val < 128 := (i 1).isLt
    obtain ⟨hf, q0, q1⟩ := onto11 ⟨(i 0).val / 1024, by omega⟩
    refine ⟨_, hf, ?_⟩
    rw [mem11]
    intro a
    match a with
    | ⟨0, _⟩ =>
      show win0_11.index _ (0 : Fin 2) * 1024 ≤ (i 0).val ∧ (i 0).val < win0_11.index _ (0 : Fin 2) * 1024 + 1024
      rw [q0]; dsimp only; omega
    | ⟨1, _⟩ =>
      show win0_11.index _ (1 : Fin 2) * 128 ≤ (i 1).val ∧ (i 1).val < win0_11.index _ (1 : Fin 2) * 128 + 128
      rw [q1]; omega

/-! The first table: at every point a block of rows, cast and scaled, at the place it was read from. -/

theorem idx12 : ∀ t : Fin grid0.N, win0_12.flush t = true ∧ (win0_5.index t (0 : Fin 2) = t.val ∧ win0_5.index t (1 : Fin 2) = 0)
    ∧ win0_12.index t (0 : Fin 2) = t.val ∧ win0_12.index t (1 : Fin 2) = 0 := by decide +kernel

theorem flushed12_eq (t : Fin cfg0.N) :
    (dats m 0 c).flushed 12 t = ((cfg0.win 12).blk t).view.read (Elt Ideal) (G12 m c) := by
  obtain ⟨-, ⟨i0, i1⟩, e0, e1⟩ := idx12 t
  show (cfg0.win 12).cut (grid0.coords t) ((dats m 0 c).after 12 t) = _
  rw [after_12]
  funext y
  show k0_pay10 (F := Ideal) (iblk m c 5 t) ((cfg0.win 12).xinj (grid0.coords t) y) = G12 m c (((cfg0.win 12).blk t).view.emb y)
  rw [pay10_at]; unfold G12 us; rw [← V_main_arg3 m c]
  refine congrArg (fun v : EReal => v * Ideal.ofBits .f32 0x3F3504F3#32) (congrArg (V m c main_arg3) (funext fun a => Fin.ext ?_))
  match a with
  | ⟨0, _⟩ => show win0_5.index t (0 : Fin 2) * 128 + 1 * (y 0).val = win0_12.index t (0 : Fin 2) * 128 + 1 * (y 0).val; rw [e0, i0]
  | ⟨1, _⟩ => show win0_5.index t (1 : Fin 2) * 2048 + 1 * (y 1).val = win0_12.index t (1 : Fin 2) * 2048 + 1 * (y 1).val; rw [e1, i1]

/-- An entry is in a point's block iff its coordinates are in the block's ranges. -/
theorem mem12 (t : Fin cfg0.N) (i : S16384x2048.Idx) : i ∈ ((cfg0.win 12).blk t).view.set ↔ ∀ a : Fin 2,
    win0_12.index t a * S128x2048.size a ≤ (i a).val ∧ (i a).val < win0_12.index t a * S128x2048.size a + S128x2048.size a := by
  show i ∈ ((View.whole main_v5_3).slice (win0_12.rect t)).set ↔ _
  rw [View.set_slice_whole, Rect.mem_set_unit]
  exact Iff.rfl

theorem final12 : (dats m 0 c).arrAt 12 cfg0.N = G12 m c :=
  (dats m 0 c).arrAt_eq_of_cover 12 _ (fun t _ => flushed12_eq m c t) fun (i : S16384x2048.Idx) => by
    have hi0 : (i 0).val < 16384 := (i 0).isLt
    have hi1 : (i 1).val < 2048 := (i 1).isLt
    obtain ⟨hf, -, q0, q1⟩ := idx12 ⟨(i 0).val / 128, lt_of_lt_of_eq (by omega) N_0.symm⟩
    refine ⟨_, hf, ?_⟩
    rw [mem12]
    intro a
    match a with
    | ⟨0, _⟩ =>
      show win0_12.index _ (0 : Fin 2) * 128 ≤ (i 0).val ∧ (i 0).val < win0_12.index _ (0 : Fin 2) * 128 + 128
      rw [q0]; dsimp only; omega
    | ⟨1, _⟩ =>
      show win0_12.index _ (1 : Fin 2) * 2048 ≤ (i 1).val ∧ (i 1).val < win0_12.index _ (1 : Fin 2) * 2048 + 2048
      rw [q1]; omega

/-! The second table. -/

theorem idx13 : ∀ t : Fin grid0.N, win0_13.flush t = true ∧ (win0_6.index t (0 : Fin 2) = t.val ∧ win0_6.index t (1 : Fin 2) = 0)
    ∧ win0_13.index t (0 : Fin 2) = t.val ∧ win0_13.index t (1 : Fin 2) = 0 := by decide +kernel

theorem flushed13_eq (t : Fin cfg0.N) :
    (dats m 0 c).flushed 13 t = ((cfg0.win 13).blk t).view.read (Elt Ideal) (G13 m c) := by
  obtain ⟨-, ⟨i0, i1⟩, e0, e1⟩ := idx13 t
  show (cfg0.win 13).cut (grid0.coords t) ((dats m 0 c).after 13 t) = _
  rw [after_13]
  funext y
  show iblk m c 6 t ((cfg0.win 13).xinj (grid0.coords t) y) = G13 m c (((cfg0.win 13).blk t).view.emb y)
  unfold G13; rw [← V_main_arg4 m c]
  refine congrArg (V m c main_arg4) (funext fun a => Fin.ext ?_)
  match a with
  | ⟨0, _⟩ => show win0_6.index t (0 : Fin 2) * 128 + 1 * (y 0).val = win0_13.index t (0 : Fin 2) * 128 + 1 * (y 0).val; rw [e0, i0]
  | ⟨1, _⟩ => show win0_6.index t (1 : Fin 2) * 2048 + 1 * (y 1).val = win0_13.index t (1 : Fin 2) * 2048 + 1 * (y 1).val; rw [e1, i1]

/-- An entry is in a point's block iff its coordinates are in the block's ranges. -/
theorem mem13 (t : Fin cfg0.N) (i : S16384x2048.Idx) : i ∈ ((cfg0.win 13).blk t).view.set ↔ ∀ a : Fin 2,
    win0_13.index t a * S128x2048.size a ≤ (i a).val ∧ (i a).val < win0_13.index t a * S128x2048.size a + S128x2048.size a := by
  show i ∈ ((View.whole main_v5_4).slice (win0_13.rect t)).set ↔ _
  rw [View.set_slice_whole, Rect.mem_set_unit]
  exact Iff.rfl

theorem final13 : (dats m 0 c).arrAt 13 cfg0.N = G13 m c :=
  (dats m 0 c).arrAt_eq_of_cover 13 _ (fun t _ => flushed13_eq m c t) fun (i : S16384x2048.Idx) => by
    have hi0 : (i 0).val < 16384 := (i 0).isLt
    have hi1 : (i 1).val < 2048 := (i 1).isLt
    obtain ⟨hf, -, q0, q1⟩ := idx13 ⟨(i 0).val / 128, lt_of_lt_of_eq (by omega) N_0.symm⟩
    refine ⟨_, hf, ?_⟩
    rw [mem13]
    intro a
    match a with
    | ⟨0, _⟩ =>
      show win0_13.index _ (0 : Fin 2) * 128 ≤ (i 0).val ∧ (i 0).val < win0_13.index _ (0 : Fin 2) * 128 + 128
      rw [q0]; dsimp only; omega
    | ⟨1, _⟩ =>
      show win0_13.index _ (1 : Fin 2) * 2048 ≤ (i 1).val ∧ (i 1).val < win0_13.index _ (1 : Fin 2) * 2048 + 2048
      rw [q1]; omega

/-! The third table. -/

theorem idx14 : ∀ t : Fin grid0.N, win0_14.flush t = true ∧ (win0_7.index t (0 : Fin 2) = t.val ∧ win0_7.index t (1 : Fin 2) = 0)
    ∧ win0_14.index t (0 : Fin 2) = t.val ∧ win0_14.index t (1 : Fin 2) = 0 := by decide +kernel

theorem flushed14_eq (t : Fin cfg0.N) :
    (dats m 0 c).flushed 14 t = ((cfg0.win 14).blk t).view.read (Elt Ideal) (G14 m c) := by
  obtain ⟨-, ⟨i0, i1⟩, e0, e1⟩ := idx14 t
  show (cfg0.win 14).cut (grid0.coords t) ((dats m 0 c).after 14 t) = _
  rw [after_14]
  funext y
  show iblk m c 7 t ((cfg0.win 14).xinj (grid0.coords t) y) = G14 m c (((cfg0.win 14).blk t).view.emb y)
  unfold G14; rw [← V_main_arg5 m c]
  refine congrArg (V m c main_arg5) (funext fun a => Fin.ext ?_)
  match a with
  | ⟨0, _⟩ => show win0_7.index t (0 : Fin 2) * 16 + 1 * (y 0).val = win0_14.index t (0 : Fin 2) * 16 + 1 * (y 0).val; rw [e0, i0]
  | ⟨1, _⟩ => show win0_7.index t (1 : Fin 2) * 2048 + 1 * (y 1).val = win0_14.index t (1 : Fin 2) * 2048 + 1 * (y 1).val; rw [e1, i1]

/-- An entry is in a point's block iff its coordinates are in the block's ranges. -/
theorem mem14 (t : Fin cfg0.N) (i : S2048x2048.Idx) : i ∈ ((cfg0.win 14).blk t).view.set ↔ ∀ a : Fin 2,
    win0_14.index t a * S16x2048.size a ≤ (i a).val ∧ (i a).val < win0_14.index t a * S16x2048.size a + S16x2048.size a := by
  show i ∈ ((View.whole main_v5_5).slice (win0_14.rect t)).set ↔ _
  rw [View.set_slice_whole, Rect.mem_set_unit]
  exact Iff.rfl

theorem final14 : (dats m 0 c).arrAt 14 cfg0.N = G14 m c :=
  (dats m 0 c).arrAt_eq_of_cover 14 _ (fun t _ => flushed14_eq m c t) fun (i : S2048x2048.Idx) => by
    have hi0 : (i 0).val < 2048 := (i 0).isLt
    have hi1 : (i 1).val < 2048 := (i 1).isLt
    obtain ⟨hf, -, q0, q1⟩ := idx14 ⟨(i 0).val / 16, lt_of_lt_of_eq (by omega) N_0.symm⟩
    refine ⟨_, hf, ?_⟩
    rw [mem14]
    intro a
    match a with
    | ⟨0, _⟩ =>
      show win0_14.index _ (0 : Fin 2) * 16 ≤ (i 0).val ∧ (i 0).val < win0_14.index _ (0 : Fin 2) * 16 + 16
      rw [q0]; dsimp only; omega
    | ⟨1, _⟩ =>
      show win0_14.index _ (1 : Fin 2) * 2048 ≤ (i 1).val ∧ (i 1).val < win0_14.index _ (1 : Fin 2) * 2048 + 2048
      rw [q1]; omega

/-! The fourth table. -/

theorem idx15 : ∀ t : Fin grid0.N, win0_15.flush t = true ∧ (win0_8.index t (0 : Fin 2) = t.val ∧ win0_8.index t (1 : Fin 2) = 0)
    ∧ win0_15.index t (0 : Fin 2) = t.val ∧ win0_15.index t (1 : Fin 2) = 0 := by decide +kernel

theorem flushed15_eq (t : Fin cfg0.N) :
    (dats m 0 c).flushed 15 t = ((cfg0.win 15).blk t).view.read (Elt Ideal) (G15 m c) := by
  obtain ⟨-, ⟨i0, i1⟩, e0, e1⟩ := idx15 t
  show (cfg0.win 15).cut (grid0.coords t) ((dats m 0 c).after 15 t) = _
  rw [after_15]
  funext y
  show iblk m c 8 t ((cfg0.win 15).xinj (grid0.coords t) y) = G15 m c (((cfg0.win 15).blk t).view.emb y)
  unfold G15; rw [← V_main_arg6 m c]
  refine congrArg (V m c main_arg6) (funext fun a => Fin.ext ?_)
  match a with
  | ⟨0, _⟩ => show win0_8.index t (0 : Fin 2) * 16 + 1 * (y 0).val = win0_15.index t (0 : Fin 2) * 16 + 1 * (y 0).val; rw [e0, i0]
  | ⟨1, _⟩ => show win0_8.index t (1 : Fin 2) * 2048 + 1 * (y 1).val = win0_15.index t (1 : Fin 2) * 2048 + 1 * (y 1).val; rw [e1, i1]

/-- An entry is in a point's block iff its coordinates are in the block's ranges. -/
theorem mem15 (t : Fin cfg0.N) (i : S2048x2048.Idx) : i ∈ ((cfg0.win 15).blk t).view.set ↔ ∀ a : Fin 2,
    win0_15.index t a * S16x2048.size a ≤ (i a).val ∧ (i a).val < win0_15.index t a * S16x2048.size a + S16x2048.size a := by
  show i ∈ ((View.whole main_v5_6).slice (win0_15.rect t)).set ↔ _
  rw [View.set_slice_whole, Rect.mem_set_unit]
  exact Iff.rfl

theorem final15 : (dats m 0 c).arrAt 15 cfg0.N = G15 m c :=
  (dats m 0 c).arrAt_eq_of_cover 15 _ (fun t _ => flushed15_eq m c t) fun (i : S2048x2048.Idx) => by
    have hi0 : (i 0).val < 2048 := (i 0).isLt
    have hi1 : (i 1).val < 2048 := (i 1).isLt
    obtain ⟨hf, -, q0, q1⟩ := idx15 ⟨(i 0).val / 16, lt_of_lt_of_eq (by omega) N_0.symm⟩
    refine ⟨_, hf, ?_⟩
    rw [mem15]
    intro a
    match a with
    | ⟨0, _⟩ =>
      show win0_15.index _ (0 : Fin 2) * 16 ≤ (i 0).val ∧ (i 0).val < win0_15.index _ (0 : Fin 2) * 16 + 16
      rw [q0]; dsimp only; omega
    | ⟨1, _⟩ =>
      show win0_15.index _ (1 : Fin 2) * 2048 ≤ (i 1).val ∧ (i 1).val < win0_15.index _ (1 : Fin 2) * 2048 + 2048
      rw [q1]; omega

/-! ## The run -/

/-- Every execution ends with the seven results as above and the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v5_0) = G9 m c
      ∧ r.2.mem ((c.tc : Thread nD τ).loc main_v5_1) = G10 m c
      ∧ r.2.mem ((c.tc : Thread nD τ).loc main_v5_2) = G11 m c
      ∧ r.2.mem ((c.tc : Thread nD τ).loc main_v5_3) = G12 m c
      ∧ r.2.mem ((c.tc : Thread nD τ).loc main_v5_4) = G13 m c
      ∧ r.2.mem ((c.tc : Thread nD τ).loc main_v5_5) = G14 m c
      ∧ r.2.mem ((c.tc : Thread nD τ).loc main_v5_6) = G15 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(((h.1 c).1 9).trans (final9 m c)), (((h.1 c).1 10).trans (final10 m c)), (((h.1 c).1 11).trans (final11 m c)), (((h.1 c).1 12).trans (final12 m c)), (((h.1 c).1 13).trans (final13 m c)), (((h.1 c).1 14).trans (final14 m c)), (((h.1 c).1 15).trans (final15 m c)), h.2.1 c⟩)
    (θ_run_and (run_main m ρ) (frame m ρ))

end Cert.Kernel2Ideal.Own

end
-- ==== Proof.InRef.lean ====
/- The reference of the projection, entry by entry: the same normalised rows times the same columns of the weights. -/
module

public import proofs.«01_k».proof.Proof.InSpec
public import proofs.«01_k».proof.Proof.Gen.Reference2Ideal.Run

@[expose] public section

set_option maxRecDepth 16384

noncomputable section

namespace Cert.Reference2Ideal.Own

open Cert.Reference2Ideal Cert.Reference2Ideal.Gen Cert.Inproj
open Idealize.ShloMosaic Idealize.ShloMosaic.TcCoe Idealize.SL.Sem
open scoped BigOperators

variable (x : FVec Ideal S8192x2048 .f32) (g : FVec Ideal S2048 .f32) (w : FVec Ideal S2048x16400 .f32)

/-- The normalised rows. -/
def hRef : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g))

/-- The normalised rows times the weights. -/
def pRef : FVec Ideal S8192x16400 .f32 := Host.dotGeneral dot_S8192x2048_S2048x16400_S8192x16400_1_0_0_1_n_n none (hRef x g) w

theorem hRef_at (R : Fin 8192) (k : Fin 2048) : hRef x g (ix2 R k) = nrm (fun R k => x (ix2 R k)) (fun k => g (ix1 k)) R k := by
  unfold nrm
  pointwise [hRef]

theorem pRef_at (R : Fin 8192) (C : Fin 16400) :
    pRef x g w (ix2 R C) = prj (fun R k => x (ix2 R k)) (fun k => g (ix1 k)) (fun k C => w (ix2 k C)) R C := by
  have e : pRef x g w (ix2 R C) = ∑ k, hRef x g (ix2 R k) * w (ix2 k C) := by pointwise [pRef]
  rw [e]; unfold prj
  exact Finset.sum_congr rfl fun k _ => congrArg (· * w (ix2 k C)) (hRef_at x g R k)

/-- The pieces side by side that the first result is. -/
theorem cat9 (P : FVec Ideal S8192x16400 .f32) (R d : Fin 8192) :
    (concatenate S8192x8192 1 [⟨S8192x1024, extractStridedSlice S8192x1024 ![0, 0] P slices_S8192x16400_S8192x1024_0_0⟩,
      ⟨S8192x1024, extractStridedSlice S8192x1024 ![0, 1024] P slices_S8192x16400_S8192x1024_0_1024⟩,
      ⟨S8192x2048, extractStridedSlice S8192x2048 ![0, 2048] P slices_S8192x16400_S8192x2048_0_2048⟩,
      ⟨S8192x2048, extractStridedSlice S8192x2048 ![0, 8208] P slices_S8192x16400_S8192x2048_0_8208⟩,
      ⟨S8192x2048, extractStridedSlice S8192x2048 ![0, 10256] P slices_S8192x16400_S8192x2048_0_10256⟩]
      concatenates_S8192x1024_S8192x1024_S8192x2048_S8192x2048_S8192x2048_S8192x8192_d1 : FVec Ideal S8192x8192 .f32) (ix2 R d) = P (ix2 R (col9 d)) := by
  pointwise []
  split_ifs <;> exact congrArg (fun C => P (ix2 R C)) (Fin.ext (by simp only [col9]; split_ifs <;> omega))

/-- The pieces side by side that the second result is. -/
theorem cat10 (P : FVec Ideal S8192x16400 .f32) (R d : Fin 8192) :
    (concatenate S8192x8192 1 [⟨S8192x2048, extractStridedSlice S8192x2048 ![0, 4096] P slices_S8192x16400_S8192x2048_0_4096⟩,
      ⟨S8192x2048, extractStridedSlice S8192x2048 ![0, 6160] P slices_S8192x16400_S8192x2048_0_6160⟩,
      ⟨S8192x2048, extractStridedSlice S8192x2048 ![0, 12304] P slices_S8192x16400_S8192x2048_0_12304⟩,
      ⟨S8192x2048, extractStridedSlice S8192x2048 ![0, 14352] P slices_S8192x16400_S8192x2048_0_14352⟩]
      concatenates_S8192x2048_S8192x2048_S8192x2048_S8192x2048_S8192x8192_d1 : FVec Ideal S8192x8192 .f32) (ix2 R d) = P (ix2 R (col10 d)) := by
  pointwise []
  split_ifs <;> exact congrArg (fun C => P (ix2 R C)) (Fin.ext (by simp only [col10]; split_ifs <;> omega))

/-- The padded piece that the third result is. -/
theorem pad11 (P : FVec Ideal S8192x16400 .f32) (R : Fin 8192) (d : Fin 128) :
    (pad S8192x128 ![0, 0] ![0, 112] ![0, 0] (extractStridedSlice S8192x16 ![0, 6144] P slices_S8192x16400_S8192x16_0_6144)
      (sitofp .f32 (constantI S_ 32 0#32)) pads_S8192x16_S8192x128_000_01120 h_S_ : FVec Ideal S8192x128 .f32) (ix2 R d)
      = if h : d.val < 16 then P (ix2 R ⟨6144 + d.val, by omega⟩) else (0 : EReal) := by
  pointwise []
  split
  · rfl
  · show (((0#32 : BitVec 32).toInt : ℝ) : EReal) = 0
    simp

/-! ## The results of the run -/

variable (m : (ℓ : Loc nD τ sig) → Buf (Elt Ideal) ℓ) (c : Dev nD)

/-- Entry `(R, C)` of the product, of the arguments. -/
abbrev pOf (R : Fin 8192) (C : Fin 16400) : EReal :=
  prj (fun R k => (m ((c.tc : Thread nD τ).loc main_arg0) : S8192x2048.Idx → EReal) (ix2 R k)) (fun k => (m ((c.tc : Thread nD τ).loc main_arg1) : S2048.Idx → EReal) (ix1 k))
    (fun k C => (m ((c.tc : Thread nD τ).loc main_arg2) : S2048x16400.Idx → EReal) (ix2 k C)) R C

/-- The first table, scaled. -/
abbrev uOf (i : S16384x2048.Idx) : EReal := HMul.hMul (α := EReal) (β := EReal) (m ((c.tc : Thread nD τ).loc main_arg3) i) (Ideal.ofBits .f32 0x3F3504F3#32)

theorem run (ρ : Dev nD → PrngReg) : θ_run defs (onTc (τ := τ) (main (F := Ideal))) ⟨m, fun _ => 0, ρ⟩ fun r => ∀ c : Dev nD,
      r.2.mem ((c.tc : Thread nD τ).loc main_v24) = (fun i : S8192x8192.Idx => pOf m c (i 0) (col9 (i 1)))
      ∧ r.2.mem ((c.tc : Thread nD τ).loc main_v26) = (fun i : S8192x8192.Idx => pOf m c (i 0) (col10 (i 1)))
      ∧ r.2.mem ((c.tc : Thread nD τ).loc main_v27) = (fun i : S8192x128.Idx => if h : (i 1).val < 16 then pOf m c (i 0) ⟨6144 + (i 1).val, by omega⟩ else 0)
      ∧ r.2.mem ((c.tc : Thread nD τ).loc main_v30) = (fun i : S16384x2048.Idx => uOf m c i)
      ∧ r.2.mem ((c.tc : Thread nD τ).loc main_v31) = m ((c.tc : Thread nD τ).loc main_arg4)
      ∧ r.2.mem ((c.tc : Thread nD τ).loc main_v32) = m ((c.tc : Thread nD τ).loc main_arg5)
      ∧ r.2.mem ((c.tc : Thread nD τ).loc main_v33) = m ((c.tc : Thread nD τ).loc main_arg6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Cert.Reference2Ideal.Value.run (F := Ideal) m ρ)
  obtain ⟨h0, h1, h2, h3, h4, h5, h6, hrest⟩ := h c
  refine ⟨h0.trans (funext fun i => ?_), h1.trans (funext fun i => ?_), h2.trans (funext fun i => ?_), h3.trans (funext fun i => ?_),
    h4, h5, h6, hrest⟩
  · rw [eq_ix2 (n0 := 8192) (n1 := 8192) i]
    exact (cat9 (pRef _ _ _) (i 0) (i 1)).trans (pRef_at _ _ _ _ _)
  · rw [eq_ix2 (n0 := 8192) (n1 := 8192) i]
    exact (cat10 (pRef _ _ _) (i 0) (i 1)).trans (pRef_at _ _ _ _ _)
  · rw [eq_ix2 (n0 := 8192) (n1 := 128) i]
    refine (pad11 (pRef _ _ _) (i 0) (i 1)).trans ?_
    show _ = if h : (i 1).val < 16 then _ else _
    by_cases hd : (i 1).val < 16
    · rw [dif_pos hd, dif_pos hd]; exact pRef_at _ _ _ _ _
    · rw [dif_neg hd, dif_neg hd]
  · rfl

end Cert.Reference2Ideal.Own

end
-- ==== Proof.MixSpec.lean ====
/- What the mixing kernel computes, as mathematics: the gated short convolution and the gated, normalised attention output,
   mixed, projected and added to the residual rows; then the rows' normalisation and their query projection. -/
module

public import Idealize.ShloMosaic.Lib.Pointwise

@[expose] public section

noncomputable section

namespace Cert.Mix

open Idealize.ShloMosaic
open scoped BigOperators

variable (O X : Fin 8192 → Fin 2048 → EReal) (P Q : Fin 8192 → Fin 8192 → EReal) (gg cb g2 : Fin 2048 → EReal)
  (cw : Fin 3 → Fin 2048 → EReal) (wo wq : Fin 2048 → Fin 2048 → EReal)

/-- Column `C` of the `k`-th quarter of the projected columns. -/
def qcol (k : Fin 4) (C : Fin 2048) : Fin 8192 := ⟨k.val * 2048 + C.val, by omega⟩

/-- Column `y` of head `h`. -/
def hcol (h : Fin 4) (y : Fin 512) : Fin 2048 := ⟨512 * h.val + y.val, by omega⟩

/-- The head of a column. -/
def headOf (C : Fin 2048) : Fin 4 := ⟨C.val / 512, by omega⟩

theorem headOf_hcol (h : Fin 4) (y : Fin 512) : headOf (hcol h y) = h := Fin.ext (by simp only [headOf, hcol]; omega)

/-- The row `d` before row `R`. -/
def before (R : Fin 8192) (d : ℕ) : Fin 8192 := ⟨R.val - d, by omega⟩

/-- The convolution's input. -/
def u (R : Fin 8192) (C : Fin 2048) : EReal := P R (qcol 2 C) * P R (qcol 3 C)

/-- The convolution's input `d` positions earlier in its sequence, zero before the sequence's start. -/
def ub (d : ℕ) (R : Fin 8192) (C : Fin 2048) : EReal := if R.val % 2048 < d then 0 else u P (before R d) C

/-- The gated convolution. -/
def yb (R : Fin 8192) (C : Fin 2048) : EReal :=
  Q R (qcol 1 C) * (cb C + ub P 2 R C * cw 0 C + ub P 1 R C * cw 1 C + u P R C * cw 2 C)

/-- The attention output normalised by its head's root mean square and scaled. -/
def on (R : Fin 8192) (C : Fin 2048) : EReal :=
  O R C * Ideal.rsqrt (Ideal.div (∑ j, O R (hcol (headOf C) j) * O R (hcol (headOf C) j)) (Ideal.ofBits .f32 0x44000000#32)
    + Ideal.ofBits .f32 0x358637BD#32) * gg C

/-- The two branches mixed. -/
def mm (R : Fin 8192) (C : Fin 2048) : EReal :=
  Ideal.logistic (Q R (qcol 3 C)) * yb P Q cb cw R C
    + Ideal.logistic (Q R (qcol 2 C)) * (Q R (qcol 0 C) * Ideal.logistic (Q R (qcol 0 C)) * on O gg R C)

/-- The rows after the mixer. -/
def xm (R : Fin 8192) (C : Fin 2048) : EReal := X R C + ∑ k, mm O P Q gg cb cw R k * wo k C

/-- A row normalised by its root mean square and scaled. -/
def nrm (x : Fin 8192 → Fin 2048 → EReal) (R : Fin 8192) (C : Fin 2048) : EReal :=
  x R C * Ideal.rsqrt (Ideal.div (∑ j, x R j * x R j) (Ideal.ofBits .f32 0x45000000#32) + Ideal.ofBits .f32 0x358637BD#32) * g2 C

/-- The query projection of normalised rows. -/
def qp (h : Fin 8192 → Fin 2048 → EReal) (R : Fin 8192) (C : Fin 2048) : EReal := ∑ k, h R k * wq k C

end Cert.Mix

end
-- ==== Proof.MixValue.lean ====
/- The mixed rows of a block, entry by entry. -/
module

public import proofs.«01_k».proof.Proof.MixSpec
public import proofs.«01_k».proof.Proof.Gen.Kernel3Ideal.Frame
public import Idealize.ShloMosaic.Lib.WholeRead

@[expose] public section

set_option maxRecDepth 16384

noncomputable section

namespace Cert.Kernel3Ideal.Own

open Cert.Kernel3Ideal.Gen Cert.Mix

open Idealize.ShloMosaic Idealize.ShloMosaic.TcCoe Idealize.ShloMosaic.Tactic Idealize.SL.Sem Idealize.ShloMosaic.Rounds
open Idealize.ShloMosaic.Pipeline (Dat Cfg Window)
open scoped BigOperators

/-! ## The values the body computes, at an index -/

/-- One head's slice of the mixed rows, from the slices of the blocks it is computed from. -/
def headM (i : grid0.Coords) (a12 a13 : Vec Ideal S256x512 .f32) (a15 a16 : Vec Ideal S8x512 .f32) (b w0 w1 w2 : Vec Ideal S1x512 .f32)
    (cb r : Vec Ideal S256x512 .bf16) (o : Vec Ideal S256x512 .f32) (gg : Vec Ideal S1x512 .f32) (gb ga : Vec Ideal S256x512 .bf16) : Vec Ideal S256x512 .bf16 :=
  k0_pay15 (F := Ideal) (k0_pay11 (k0_pay4 a12 a13) (k0_pay6 i a12 a13 a15 a16) k0_pay7 (k0_pay8 i a12 a13 a15 a16) (k0_pay9 i a15 a16) b w0 w1 w2 cb)
    (k0_pay12 r) o (k0_pay13 gg) (k0_pay14 o) gb ga

theorem startW : ∀ t : Fin grid0.N, Scalar.cmpi .eq (kernelRun0_A.sl.v9 (grid0.coords t)) 0#32 = if t.val % 8 = 0 then 1#1 else 0#1 := by decide +kernel

theorem row0W : ∀ r : Fin 256, IntOp.cmpi .eq (BitVec.ofNat 32 r.val) 0#32 = if r.val = 0 then 1#1 else 0#1 := by decide +kernel
theorem row1W : ∀ r : Fin 256, IntOp.cmpi .eq (BitVec.ofNat 32 r.val) 1#32 = if r.val = 1 then 1#1 else 0#1 := by decide +kernel

theorem select_ite {α : Type} (p : Prop) [Decidable p] (a b : α) : Scalar.select (if p then 1#1 else 0#1) a b = if p then a else b := by
  split <;> rfl

theorem pay5_at (t : Fin grid0.N) (a b : Vec Ideal S8x512 .f32) (r : Fin 8) (y : Fin 512) :
    k0_pay5 (F := Ideal) (grid0.coords t) a b (ix2 r y) = if t.val % 8 = 0 then (0 : EReal) else a (ix2 r y) * b (ix2 r y) := by
  have h : k0_pay5 (F := Ideal) (grid0.coords t) a b = k0_pay36 (Scalar.cmpi .eq (kernelRun0_A.sl.v9 (grid0.coords t)) 0#32) a b := rfl
  rw [h, startW]
  split <;> pointwise [k0_pay36]

/-- The convolution's input one row earlier: the previous block's last row before the first. -/
theorem pay6_at (i : grid0.Coords) (a b : Vec Ideal S256x512 .f32) (p q : Vec Ideal S8x512 .f32) (r : Fin 256) (y : Fin 512) :
    k0_pay6 (F := Ideal) i a b p q (ix2 r y) = if r.val = 0 then k0_pay5 (F := Ideal) i p q (ix2 7 y)
      else (a (ix2 ⟨(r.val + 256 - 1) % 256, Nat.mod_lt _ (by omega)⟩ y) * b (ix2 ⟨(r.val + 256 - 1) % 256, Nat.mod_lt _ (by omega)⟩ y) : EReal) := by
  rw [← select_ite, ← row0W]
  pointwise [k0_pay6, k0_pay4]

/-- The convolution's input two rows earlier, after the first row. -/
theorem pay8_at (i : grid0.Coords) (a b : Vec Ideal S256x512 .f32) (p q : Vec Ideal S8x512 .f32) (r : Fin 256) (y : Fin 512) :
    k0_pay8 (F := Ideal) i a b p q (ix2 r y) = if r.val = 1 then k0_pay5 (F := Ideal) i p q (ix2 7 y)
      else (a (ix2 ⟨(r.val + 256 - 2) % 256, Nat.mod_lt _ (by omega)⟩ y) * b (ix2 ⟨(r.val + 256 - 2) % 256, Nat.mod_lt _ (by omega)⟩ y) : EReal) := by
  rw [← select_ite, ← row1W]
  pointwise [k0_pay8, k0_pay4]

theorem pay9_at (i : grid0.Coords) (a b : Vec Ideal S8x512 .f32) (y : Fin 512) :
    k0_pay9 (F := Ideal) i a b (ix2 0 y) = k0_pay5 (F := Ideal) i a b (ix2 6 y) := by
  pointwise [k0_pay9]

theorem pay11_at (v14 v26 v36 : FVec Ideal S256x512 .f32) (v37 b w0 w1 w2 : Vec Ideal S1x512 .f32) (cb : Vec Ideal S256x512 .bf16) (r : Fin 256) (y : Fin 512) :
    k0_pay11 (F := Ideal) v14 v26 k0_pay7 v36 v37 b w0 w1 w2 cb (ix2 r y) = cb (ix2 r y) * (b (ix2 0 y) + (if r.val = 0 then v37 (ix2 0 y) else v36 (ix2 r y)) * w0 (ix2 0 y)
      + v26 (ix2 r y) * w1 (ix2 0 y) + v14 (ix2 r y) * w2 (ix2 0 y)) := by
  rw [← select_ite, ← row0W]
  pointwise [k0_pay11, k0_pay7]

theorem pay15_at (v61 : FVec Ideal S256x512 .f32) (o : Vec Ideal S256x512 .f32) (gg : Vec Ideal S1x512 .f32) (rr gb ga : Vec Ideal S256x512 .bf16) (r : Fin 256) (y : Fin 512) :
    k0_pay15 (F := Ideal) v61 (k0_pay12 rr) o (k0_pay13 gg) (k0_pay14 o) gb ga (ix2 r y) =
      Ideal.logistic (gb (ix2 r y)) * v61 (ix2 r y) + Ideal.logistic (ga (ix2 r y)) * (rr (ix2 r y) * Ideal.logistic (rr (ix2 r y)) *
        (o (ix2 r y) * Ideal.rsqrt (Ideal.div (∑ j, o (ix2 r j) * o (ix2 r j)) (Ideal.ofBits .f32 0x44000000#32) + Ideal.ofBits .f32 0x358637BD#32) * gg (ix2 0 y))) := by
  pointwise [k0_pay15, k0_pay12, k0_pay13, k0_pay14]

theorem pay4_at (a b : Vec Ideal S256x512 .f32) (j : S256x512.Idx) : k0_pay4 (F := Ideal) a b j = a j * b j := rfl

theorem pay10_at (a : Vec Ideal S256x512 .f32) (r : Fin 8) (y : Fin 512) :
    k0_pay10 (F := Ideal) a (ix3 0 r y) = a (ix2 ⟨248 + r.val, by omega⟩ y) := by
  pointwise [k0_pay10]

theorem pay41_at (x : Vec Ideal S256x2048 .f32) (a : Vec Ideal S256x2048 .bf16) (w : Vec Ideal S2048x2048 .bf16) (r : Fin 256) (y : Fin 2048) :
    k0_pay41 (F := Ideal) x a w (ix2 r y) = x (ix2 r y) + ∑ k, a (ix2 r k) * w (ix2 k y) := by
  pointwise [k0_pay41]

theorem pay1_at (a : Vec Ideal S256x2048 .f32) (b : Vec Ideal S1x2048 .f32) (r : Fin 256) (k : Fin 2048) :
    k0_pay1 (F := Ideal) a b (ix2 r k)
      = a (ix2 r k) * Ideal.rsqrt (Ideal.div (∑ j, a (ix2 r j) * a (ix2 r j)) (Ideal.ofBits .f32 0x45000000#32) + Ideal.ofBits .f32 0x358637BD#32) * b (ix2 0 k) := by
  pointwise [k0_pay1]

theorem pay2_at (a : Vec Ideal S256x2048 .f32) (b : Vec Ideal S1x2048 .f32) (k : Fin 2048) (r : Fin 256) :
    k0_pay2 (F := Ideal) a b (ix2 k r) = k0_pay1 (F := Ideal) a b (ix2 r k) := by
  pointwise [k0_pay2]

theorem pay3_at (a : Vec Ideal S256x2048 .f32) (b : Vec Ideal S1x2048 .f32) (w : Vec Ideal S2048x2048 .bf16) (r : Fin 256) (y : Fin 2048) :
    k0_pay3 (F := Ideal) a b w (ix2 r y) = ∑ k, k0_pay1 (F := Ideal) a b (ix2 r k) * w (ix2 k y) := by
  pointwise [k0_pay3]

/-! ## The mixed rows of a block, head by head -/

theorem inbH (h : Fin 4) : ∀ a, (![0, 512 * h.val] : Fin 2 → ℕ) a + S256x512.size a ≤ S256x2048.size a := by revert h; decide
theorem inbP (h : Fin 4) : ∀ a, (![0, 512 * h.val] : Fin 2 → ℕ) a + S8x512.size a ≤ S8x2048.size a := by revert h; decide
theorem inbR (h : Fin 4) : ∀ a, (![0, 512 * h.val] : Fin 2 → ℕ) a + S1x512.size a ≤ S1x2048.size a := by revert h; decide
theorem inbW (r : Fin 3) (h : Fin 4) : ∀ a, (![r.val, 512 * h.val] : Fin 2 → ℕ) a + S1x512.size a ≤ S3x2048.size a := by revert r h; decide

/-- Head `h`'s slice of the mixed rows, from the blocks the body is given. -/
def headB (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S8x2048 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S3x2048 .f32) (harg11 : arg11.IsWhole) (arg12 : Memref sig .tc .vmem S1x2048 .f32) (harg12 : arg12.IsWhole) (x0 : Vec Ideal S256x2048 .f32) (x1 : Vec Ideal S256x2048 .bf16) (x2 : Vec Ideal S256x2048 .bf16) (x3 : Vec Ideal S256x2048 .f32) (x4 : Vec Ideal S256x2048 .f32) (x5 : Vec Ideal S256x2048 .bf16) (x6 : Vec Ideal S256x2048 .bf16) (x7 : Vec Ideal S8x2048 .f32) (x8 : Vec Ideal S8x2048 .f32) (x9 : Vec Ideal S1x2048 .f32) (x10 : Vec Ideal S3x2048 .f32) (x11 : Vec Ideal S1x2048 .f32) (h : Fin 4) : Vec Ideal S256x512 .bf16 :=
  headM i (View.readAt (Elt Ideal) arg4.view (Rect.unit (s := S256x2048) ![0, 512 * h.val] S256x512.size (inbH h)).toLoadRect (harg4.unread x3)) (View.readAt (Elt Ideal) arg5.view (Rect.unit (s := S256x2048) ![0, 512 * h.val] S256x512.size (inbH h)).toLoadRect (harg5.unread x4)) (View.readAt (Elt Ideal) arg8.view (Rect.unit (s := S8x2048) ![0, 512 * h.val] S8x512.size (inbP h)).toLoadRect (harg8.unread x7)) (View.readAt (Elt Ideal) arg9.view (Rect.unit (s := S8x2048) ![0, 512 * h.val] S8x512.size (inbP h)).toLoadRect (harg9.unread x8)) (View.readAt (Elt Ideal) arg12.view (Rect.unit (s := S1x2048) ![0, 512 * h.val] S1x512.size (inbR h)).toLoadRect (harg12.unread x11)) (View.readAt (Elt Ideal) arg11.view (Rect.unit (s := S3x2048) ![0, 512 * h.val] S1x512.size (inbW 0 h)).toLoadRect (harg11.unread x10)) (View.readAt (Elt Ideal) arg11.view (Rect.unit (s := S3x2048) ![1, 512 * h.val] S1x512.size (inbW 1 h)).toLoadRect (harg11.unread x10)) (View.readAt (Elt Ideal) arg11.view (Rect.unit (s := S3x2048) ![2, 512 * h.val] S1x512.size (inbW 2 h)).toLoadRect (harg11.unread x10)) (View.readAt (Elt Ideal) arg3.view (Rect.unit (s := S256x2048) ![0, 512 * h.val] S256x512.size (inbH h)).toLoadRect (harg3.unread x2)) (View.readAt (Elt Ideal) arg2.view (Rect.unit (s := S256x2048) ![0, 512 * h.val] S256x512.size (inbH h)).toLoadRect (harg2.unread x1)) (View.readAt (Elt Ideal) arg1.view (Rect.unit (s := S256x2048) ![0, 512 * h.val] S256x512.size (inbH h)).toLoadRect (harg1.unread x0)) (View.readAt (Elt Ideal) arg10.view (Rect.unit (s := S1x2048) ![0, 512 * h.val] S1x512.size (inbR h)).toLoadRect (harg10.unread x9)) (View.readAt (Elt Ideal) arg7.view (Rect.unit (s := S256x2048) ![0, 512 * h.val] S256x512.size (inbH h)).toLoadRect (harg7.unread x6)) (View.readAt (Elt Ideal) arg6.view (Rect.unit (s := S256x2048) ![0, 512 * h.val] S256x512.size (inbH h)).toLoadRect (harg6.unread x5))

/-- The stores that fill the scratch with the mixed rows: one per head, the last first. -/
theorem mixed_pieces (c : Dev nD) (i : grid0.Coords) (arg1 : Memref sig .tc .vmem S256x2048 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S8x2048 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S3x2048 .f32) (harg11 : arg11.IsWhole) (arg12 : Memref sig .tc .vmem S1x2048 .f32) (harg12 : arg12.IsWhole) (x0 : Vec Ideal S256x2048 .f32) (x1 : Vec Ideal S256x2048 .bf16) (x2 : Vec Ideal S256x2048 .bf16) (x3 : Vec Ideal S256x2048 .f32) (x4 : Vec Ideal S256x2048 .f32) (x5 : Vec Ideal S256x2048 .bf16) (x6 : Vec Ideal S256x2048 .bf16) (x7 : Vec Ideal S8x2048 .f32) (x8 : Vec Ideal S8x2048 .f32) (x9 : Vec Ideal S1x2048 .f32) (x10 : Vec Ideal S3x2048 .f32) (x11 : Vec Ideal S1x2048 .f32) :
    kernelRun0_A.sl.HS0_4 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 = [⟨Rect.unit (s := S256x2048) ![0, 1536] S256x512.size inb_S256x2048_S256x512_0_1536, headB c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 3⟩, ⟨Rect.unit (s := S256x2048) ![0, 1024] S256x512.size inb_S256x2048_S256x512_0_1024, headB c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 2⟩, ⟨Rect.unit (s := S256x2048) ![0, 512] S256x512.size inb_S256x2048_S256x512_0_512, headB c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 1⟩, ⟨Rect.unit (s := S256x2048) ![0, 0] S256x512.size inb_S256x2048_S256x512_0_0, headB c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 0⟩] := by
  unfold kernelRun0_A.sl.HS0_4
  rfl

/-! ## The blocks in terms of the arrays -/

theorem ld256 {e : EltTy} {m : Memref sig .tc .vmem S256x2048 e} (hm : m.IsWhole) (X : S256x2048.Idx → Elt Ideal e) (h : Fin 4)
    (inb : ∀ a, (![0, 512 * h.val] : Fin 2 → ℕ) a + (![256, 512] : Fin 2 → ℕ) a ≤ S256x2048.size a) (r : Fin 256) (y : Fin 512) :
    View.readAt (Elt Ideal) m.view (Rect.unit (s := S256x2048) ![0, 512 * h.val] ![256, 512] inb).toLoadRect (hm.unread X) (ix2 r y) = X (ix2 r (hcol h y)) := by
  rw [hm.readAt_unread]
  refine congrArg X (funext fun a => Fin.ext ?_)
  match a with
  | ⟨0, _⟩ => show 0 + 1 * r.val = r.val; omega
  | ⟨1, _⟩ => show 512 * h.val + 1 * y.val = 512 * h.val + y.val; omega

theorem ld8 {e : EltTy} {m : Memref sig .tc .vmem S8x2048 e} (hm : m.IsWhole) (X : S8x2048.Idx → Elt Ideal e) (h : Fin 4)
    (inb : ∀ a, (![0, 512 * h.val] : Fin 2 → ℕ) a + (![8, 512] : Fin 2 → ℕ) a ≤ S8x2048.size a) (r : Fin 8) (y : Fin 512) :
    View.readAt (Elt Ideal) m.view (Rect.unit (s := S8x2048) ![0, 512 * h.val] ![8, 512] inb).toLoadRect (hm.unread X) (ix2 r y) = X (ix2 r (hcol h y)) := by
  rw [hm.readAt_unread]
  refine congrArg X (funext fun a => Fin.ext ?_)
  match a with
  | ⟨0, _⟩ => show 0 + 1 * r.val = r.val; omega
  | ⟨1, _⟩ => show 512 * h.val + 1 * y.val = 512 * h.val + y.val; omega

theorem ld1 {e : EltTy} {m : Memref sig .tc .vmem S1x2048 e} (hm : m.IsWhole) (X : S1x2048.Idx → Elt Ideal e) (h : Fin 4)
    (inb : ∀ a, (![0, 512 * h.val] : Fin 2 → ℕ) a + (![1, 512] : Fin 2 → ℕ) a ≤ S1x2048.size a) (r : Fin 1) (y : Fin 512) :
    View.readAt (Elt Ideal) m.view (Rect.unit (s := S1x2048) ![0, 512 * h.val] ![1, 512] inb).toLoadRect (hm.unread X) (ix2 r y) = X (ix2 r (hcol h y)) := by
  rw [hm.readAt_unread]
  refine congrArg X (funext fun a => Fin.ext ?_)
  match a with
  | ⟨0, _⟩ => show 0 + 1 * r.val = r.val; omega
  | ⟨1, _⟩ => show 512 * h.val + 1 * y.val = 512 * h.val + y.val; omega

theorem ldW {e : EltTy} {m : Memref sig .tc .vmem S3x2048 e} (hm : m.IsWhole) (X : S3x2048.Idx → Elt Ideal e) (n : ℕ) (k : Fin 3) (hk : k.val = n) (h : Fin 4)
    (inb : ∀ a, (![n, 512 * h.val] : Fin 2 → ℕ) a + (![1, 512] : Fin 2 → ℕ) a ≤ S3x2048.size a) (y : Fin 512) :
    View.readAt (Elt Ideal) m.view (Rect.unit (s := S3x2048) ![n, 512 * h.val] ![1, 512] inb).toLoadRect (hm.unread X) (ix2 0 y) = X (ix2 k (hcol h y)) := by
  rw [hm.readAt_unread]
  refine congrArg X (funext fun a => Fin.ext ?_)
  match a with
  | ⟨0, _⟩ => show n + 1 * 0 = k.val; omega
  | ⟨1, _⟩ => show 512 * h.val + 1 * y.val = 512 * h.val + y.val; omega

/-- A whole buffer read from its first element is what it holds. -/
theorem ldAll {n k : ℕ} {e : EltTy} {m : Memref sig .tc .vmem ⟨2, ![n, k]⟩ e} (hm : m.IsWhole) (X : (⟨2, ![n, k]⟩ : Shape).Idx → Elt Ideal e)
    (inb : ∀ a, (![0, 0] : Fin 2 → ℕ) a + (![n, k] : Fin 2 → ℕ) a ≤ (![n, k] : Fin 2 → ℕ) a) :
    View.readAt (Elt Ideal) m.view (Rect.unit (s := ⟨2, ![n, k]⟩) ![0, 0] ![n, k] inb).toLoadRect (hm.unread X) = X := by
  funext x
  rw [hm.readAt_unread]
  refine congrArg X (funext fun a => Fin.ext ?_)
  match a with
  | ⟨0, _⟩ => show 0 + 1 * (x 0).val = (x 0).val; omega
  | ⟨1, _⟩ => show 0 + 1 * (x 1).val = (x 1).val; omega

/-- The row of the arrays that row `r` of point `t`'s block is, and the one that row `r` of the eight before it is. -/
def rowAt (t : Fin grid0.N) (r : Fin 256) : Fin 8192 := ⟨256 * t.val + r.val, by have h : t.val < 32 := lt_of_lt_of_eq t.isLt N_0; have := r.isLt; omega⟩
def rowBefore (t : Fin grid0.N) (r : Fin 8) : Fin 8192 := ⟨256 * t.val - 8 + r.val, by have h : t.val < 32 := lt_of_lt_of_eq t.isLt N_0; have := r.isLt; omega⟩

variable (O X : Fin 8192 → Fin 2048 → EReal) (P Q : Fin 8192 → Fin 8192 → EReal) (gg cb g2 : Fin 2048 → EReal)
  (cw : Fin 3 → Fin 2048 → EReal) (wo wq : Fin 2048 → Fin 2048 → EReal)

/-- The blocks point `t` is given are the arrays' entries. -/
structure Given (t : Fin grid0.N) (x0 : Vec Ideal S256x2048 .f32) (x1 : Vec Ideal S256x2048 .bf16) (x2 : Vec Ideal S256x2048 .bf16) (x3 : Vec Ideal S256x2048 .f32) (x4 : Vec Ideal S256x2048 .f32) (x5 : Vec Ideal S256x2048 .bf16) (x6 : Vec Ideal S256x2048 .bf16) (x7 : Vec Ideal S8x2048 .f32) (x8 : Vec Ideal S8x2048 .f32) (x9 : Vec Ideal S1x2048 .f32) (x10 : Vec Ideal S3x2048 .f32) (x11 : Vec Ideal S1x2048 .f32) : Prop where
  o : ∀ r k, x0 (ix2 r k) = O (rowAt t r) k
  r : ∀ r k, x1 (ix2 r k) = Q (rowAt t r) (qcol 0 k)
  c : ∀ r k, x2 (ix2 r k) = Q (rowAt t r) (qcol 1 k)
  p : ∀ r k, x3 (ix2 r k) = P (rowAt t r) (qcol 2 k)
  q : ∀ r k, x4 (ix2 r k) = P (rowAt t r) (qcol 3 k)
  a : ∀ r k, x5 (ix2 r k) = Q (rowAt t r) (qcol 2 k)
  b : ∀ r k, x6 (ix2 r k) = Q (rowAt t r) (qcol 3 k)
  pp : t.val % 8 ≠ 0 → ∀ r k, x7 (ix2 r k) = P (rowBefore t r) (qcol 2 k)
  qq : t.val % 8 ≠ 0 → ∀ r k, x8 (ix2 r k) = P (rowBefore t r) (qcol 3 k)
  gg : ∀ k, x9 (ix2 0 k) = gg k
  cw : ∀ i k, x10 (ix2 i k) = cw i k
  cb : ∀ k, x11 (ix2 0 k) = cb k

/-- The convolution's input `d` rows before the block's first, from the eight rows before it. -/
theorem start_at (t : Fin grid0.N) (x7 x8 : Vec Ideal S8x2048 .f32) (R : Fin 8192) (d : ℕ) (r : Fin 8) (C : Fin 2048)
    (hp : t.val % 8 ≠ 0 → x7 (ix2 r C) = P (rowBefore t r) (qcol 2 C)) (hq : t.val % 8 ≠ 0 → x8 (ix2 r C) = P (rowBefore t r) (qcol 3 C))
    (hR : 256 * t.val ≤ R.val) (hd : R.val + 8 = 256 * t.val + r.val + d) (h2 : d ≤ 2) :
    (if t.val % 8 = 0 then (0 : EReal) else x7 (ix2 r C) * x8 (ix2 r C)) = ub P d R C := by
  have hr := r.isLt
  unfold ub u
  by_cases h : t.val % 8 = 0
  · rw [if_pos h, if_pos (by omega)]
  · have e : rowBefore t r = before R d := Fin.ext (by simp only [rowBefore, before]; omega)
    rw [if_neg h, if_neg (by omega), hp h, hq h, e]

/-- The convolution's input earlier in the block. -/
theorem inner_at (t : Fin grid0.N) (x3 x4 : Vec Ideal S256x2048 .f32) (r : Fin 256) (d : ℕ) (s : Fin 256) (C : Fin 2048)
    (hp : x3 (ix2 s C) = P (rowAt t s) (qcol 2 C)) (hq : x4 (ix2 s C) = P (rowAt t s) (qcol 3 C)) (hd : r.val = s.val + d) :
    (x3 (ix2 s C) * x4 (ix2 s C) : EReal) = ub P d (rowAt t r) C := by
  have e : rowAt t s = before (rowAt t r) d := Fin.ext (by simp only [rowAt, before]; omega)
  have n : ¬ (rowAt t r).val % 2048 < d := by simp only [rowAt]; omega
  unfold ub u
  rw [if_neg n, hp, hq, e]

set_option maxHeartbeats 1000000 in
/-- Head `h`'s slice of the mixed rows. -/
theorem headB_at (c : Dev nD) (arg1 : Memref sig .tc .vmem S256x2048 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S8x2048 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S3x2048 .f32) (harg11 : arg11.IsWhole) (arg12 : Memref sig .tc .vmem S1x2048 .f32) (harg12 : arg12.IsWhole) (x0 : Vec Ideal S256x2048 .f32) (x1 : Vec Ideal S256x2048 .bf16) (x2 : Vec Ideal S256x2048 .bf16) (x3 : Vec Ideal S256x2048 .f32) (x4 : Vec Ideal S256x2048 .f32) (x5 : Vec Ideal S256x2048 .bf16) (x6 : Vec Ideal S256x2048 .bf16) (x7 : Vec Ideal S8x2048 .f32) (x8 : Vec Ideal S8x2048 .f32) (x9 : Vec Ideal S1x2048 .f32) (x10 : Vec Ideal S3x2048 .f32) (x11 : Vec Ideal S1x2048 .f32) (t : Fin grid0.N) (hg : Given O P Q gg cb cw t x0 x1 x2 x3 x4 x5 x6 x7 x8 x9 x10 x11) (h : Fin 4) (r : Fin 256) (y : Fin 512) :
    headB c (grid0.coords t) arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 h (ix2 r y) = mm O P Q gg cb cw (rowAt t r) (hcol h y) := by
  have hr := r.isLt
  unfold headB headM mm yb on
  rw [pay15_at, pay11_at, pay9_at, pay8_at, pay6_at]
  simp only [pay4_at, pay5_at, ld256, ld8, ld1]
  rw [ldW _ _ 0 0 rfl, ldW _ _ 1 1 rfl, ldW _ _ 2 2 rfl, headOf_hcol]
  have e1 : (if r.val = 0 then (if t.val % 8 = 0 then (0 : EReal) else x7 (ix2 7 (hcol h y)) * x8 (ix2 7 (hcol h y)))
      else x3 (ix2 ⟨(r.val + 256 - 1) % 256, Nat.mod_lt _ (by omega)⟩ (hcol h y)) * x4 (ix2 ⟨(r.val + 256 - 1) % 256, Nat.mod_lt _ (by omega)⟩ (hcol h y)))
      = ub P 1 (rowAt t r) (hcol h y) := by
    split
    · exact start_at P t x7 x8 _ 1 7 _ (fun n => hg.pp n 7 _) (fun n => hg.qq n 7 _) (by simp only [rowAt]; omega) (by simp only [rowAt]; show _ = _ + 7 + 1; omega) (by omega)
    · exact inner_at P t x3 x4 r 1 _ _ (hg.p _ _) (hg.q _ _) (by show _ = _ % 256 + 1; omega)
  have e2 : (if r.val = 0 then (if t.val % 8 = 0 then (0 : EReal) else x7 (ix2 6 (hcol h y)) * x8 (ix2 6 (hcol h y)))
      else if r.val = 1 then (if t.val % 8 = 0 then (0 : EReal) else x7 (ix2 7 (hcol h y)) * x8 (ix2 7 (hcol h y)))
      else x3 (ix2 ⟨(r.val + 256 - 2) % 256, Nat.mod_lt _ (by omega)⟩ (hcol h y)) * x4 (ix2 ⟨(r.val + 256 - 2) % 256, Nat.mod_lt _ (by omega)⟩ (hcol h y)))
      = ub P 2 (rowAt t r) (hcol h y) := by
    split
    · exact start_at P t x7 x8 _ 2 6 _ (fun n => hg.pp n 6 _) (fun n => hg.qq n 6 _) (by simp only [rowAt]; omega) (by simp only [rowAt]; show _ = _ + 6 + 2; omega) le_rfl
    split
    · exact start_at P t x7 x8 _ 2 7 _ (fun n => hg.pp n 7 _) (fun n => hg.qq n 7 _) (by simp only [rowAt]; omega) (by simp only [rowAt]; show _ = _ + 7 + 2; omega) le_rfl
    · exact inner_at P t x3 x4 r 2 _ _ (hg.p _ _) (hg.q _ _) (by show _ = _ % 256 + 2; omega)
  rw [e1, e2]
  simp only [hg.o, hg.r, hg.c, hg.p, hg.q, hg.a, hg.b, hg.gg, hg.cw, hg.cb, u]

/-- The mixed rows as the projection reads them. -/
theorem mixed_at (c : Dev nD) (arg1 : Memref sig .tc .vmem S256x2048 .f32) (harg1 : arg1.IsWhole) (arg2 : Memref sig .tc .vmem S256x2048 .bf16) (harg2 : arg2.IsWhole) (arg3 : Memref sig .tc .vmem S256x2048 .bf16) (harg3 : arg3.IsWhole) (arg4 : Memref sig .tc .vmem S256x2048 .f32) (harg4 : arg4.IsWhole) (arg5 : Memref sig .tc .vmem S256x2048 .f32) (harg5 : arg5.IsWhole) (arg6 : Memref sig .tc .vmem S256x2048 .bf16) (harg6 : arg6.IsWhole) (arg7 : Memref sig .tc .vmem S256x2048 .bf16) (harg7 : arg7.IsWhole) (arg8 : Memref sig .tc .vmem S8x2048 .f32) (harg8 : arg8.IsWhole) (arg9 : Memref sig .tc .vmem S8x2048 .f32) (harg9 : arg9.IsWhole) (arg10 : Memref sig .tc .vmem S1x2048 .f32) (harg10 : arg10.IsWhole) (arg11 : Memref sig .tc .vmem S3x2048 .f32) (harg11 : arg11.IsWhole) (arg12 : Memref sig .tc .vmem S1x2048 .f32) (harg12 : arg12.IsWhole) (x0 : Vec Ideal S256x2048 .f32) (x1 : Vec Ideal S256x2048 .bf16) (x2 : Vec Ideal S256x2048 .bf16) (x3 : Vec Ideal S256x2048 .f32) (x4 : Vec Ideal S256x2048 .f32) (x5 : Vec Ideal S256x2048 .bf16) (x6 : Vec Ideal S256x2048 .bf16) (x7 : Vec Ideal S8x2048 .f32) (x8 : Vec Ideal S8x2048 .f32) (x9 : Vec Ideal S1x2048 .f32) (x10 : Vec Ideal S3x2048 .f32) (x11 : Vec Ideal S1x2048 .f32) (arg21 : Memref sig .tc .vmem S256x2048 .bf16) (t : Fin grid0.N) (hg : Given O P Q gg cb cw t x0 x1 x2 x3 x4 x5 x6 x7 x8 x9 x10 x11) (r : Fin 256) (C : Fin 2048) :
    kernelRun0_A.sl.v345 (F := Ideal) c (grid0.coords t) arg1 harg1 arg2 harg2 arg3 harg3 arg4 harg4 arg5 harg5 arg6 harg6 arg7 harg7 arg8 harg8 arg9 harg9 arg10 harg10 arg11 harg11 arg12 harg12 arg21 x0 x1 x2 x3 x4 x5 x6 x7 x8 x9 x10 x11 (ix2 r C) = mm O P Q gg cb cw (rowAt t r) C := by
  unfold kernelRun0_A.sl.v345
  rw [mixed_pieces]
  show View.read (Elt Ideal) arg21.view (arg21.view.writes (Elt Ideal) arg21.view.junk _) _ = _
  have e : (Rect.unit (s := S256x2048) ![0, 0] S256x2048.size inb_S256x2048_S256x2048_0_0).toLoadRect.idx (ix2 r C) = ix2 r C :=
    funext fun a => Fin.ext (by
      match a with
      | ⟨0, _⟩ => show 0 + 1 * r.val = r.val; omega
      | ⟨1, _⟩ => show 0 + 1 * C.val = C.val; omega)
  rw [e]
  have k (h : Fin 4) (o : ℕ) (ho : o = 512 * h.val) (x : S256x512.Idx) (y : S256x2048.Idx) (y0 : (y 0).val = 0 + 1 * (x 0).val) (y1 : (y 1).val = o + 1 * (x 1).val) :
      headB c (grid0.coords t) arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 h x = mm O P Q gg cb cw (rowAt t (y 0)) (y 1) := by
    have ex : x = ix2 (x 0) (x 1) := funext fun a => by fin_cases a <;> rfl
    have e0 : y 0 = x 0 := Fin.ext (by omega)
    have e1 : y 1 = hcol h (x 1) := Fin.ext (by simp only [hcol]; omega)
    rw [e0, e1, ex]
    exact headB_at O P Q gg cb cw c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 t hg h (x 0) (x 1)
  refine View.read_writes_apply_of_pieces (Val := Elt Ideal) arg21.view _ (show S256x2048.Idx → Elt Ideal .bf16 from fun y => mm O P Q gg cb cw (rowAt t (y 0)) (y 1)) _ ?_ (ix2 r C) ?_
  · intro p hp x
    simp only [List.mem_cons, List.not_mem_nil, or_false] at hp
    rcases hp with rfl | rfl | rfl | rfl
    · exact k 3 1536 rfl x _ rfl rfl
    · exact k 2 1024 rfl x _ rfl rfl
    · exact k 1 512 rfl x _ rfl rfl
    · exact k 0 0 rfl x _ rfl rfl
  · exact View.cover_of_tiledL (s := S256x2048) _ S256x512.size (by sl_kernel_rfl) (ix2 r C)

end Cert.Kernel3Ideal.Own

end
-- ==== Proof.MixTail.lean ====
/- What the body writes back at a grid point of the mixing, taken over from the generated proofs for a program without host lines
   after the call, and what the program leaves: the call's first three arrays and the slice of the fourth. -/
module

public import proofs.«01_k».proof.Proof.Gen.Kernel3Ideal.Frame
public import Idealize.ShloMosaic.Lib.Pipeline.Value
public import Idealize.ShloMosaic.Lib.Pointwise

@[expose] public section

set_option maxRecDepth 16384

noncomputable section

namespace Cert.Kernel3Ideal.Value

open Cert.Kernel3Ideal Cert.Kernel3Ideal.Gen Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-! ## What a point writes back -/

theorem flushed16 (c : Dev nD) (t : Fin cfg0.N) :
    (dats m 0 c).flushed 16 t = (cfg0.win 16).cut (grid0.coords t) ((outsAt0 m c t).1) := by
  show (cfg0.win 16).cut (grid0.coords t) ((dats m 0 c).after 16 t) = _
  rw [after0_16]

theorem flushed16_A (c : Dev nD) (t : Fin cfg0.N) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed16, outsAt0]

theorem flushed17 (c : Dev nD) (t : Fin cfg0.N) :
    (dats m 0 c).flushed 17 t = (cfg0.win 17).cut (grid0.coords t) ((outsAt0 m c t).2.1) := by
  show (cfg0.win 17).cut (grid0.coords t) ((dats m 0 c).after 17 t) = _
  rw [after0_17]

theorem flushed17_A (c : Dev nD) (t : Fin cfg0.N) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed17, outsAt0]

theorem flushed18 (c : Dev nD) (t : Fin cfg0.N) :
    (dats m 0 c).flushed 18 t = (cfg0.win 18).cut (grid0.coords t) ((outsAt0 m c t).2.2.1) := by
  show (cfg0.win 18).cut (grid0.coords t) ((dats m 0 c).after 18 t) = _
  rw [after0_18]

theorem flushed18_A (c : Dev nD) (t : Fin cfg0.N) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed18, outsAt0]

theorem flushed19 (c : Dev nD) (t : Fin cfg0.N) :
    (dats m 0 c).flushed 19 t = (cfg0.win 19).cut (grid0.coords t) ((outsAt0 m c t).2.2.2) := by
  show (cfg0.win 19).cut (grid0.coords t) ((dats m 0 c).after 19 t) = _
  rw [after0_19]

theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  simp only [flushed19, outsAt0]

/-! ## The host's lines after the call -/

/-- The last two of the eight rows of each sequence's last block. -/
def lastRows (x : FVec F S32x8x2048 .f32) : FVec F S4x2x2048 .f32 :=
  shapeCast _ (extractStridedSlice S4x1x2x2048 ![0, 7, 6, 0] (shapeCast _ x shapeCasts_S32x8x2048_S4x8x8x2048) slices_S4x8x8x2048_S4x1x2x2048_0_7_6_0)
    shapeCasts_S4x1x2x2048_S4x2x2048

theorem tail_eq (c : Dev nD) : Pipeline.afterTail₀ cfgs (dats m) 0 (V0 m) [hostOps1] c main_v6 = lastRows ((dats m 0 c).arrAt 19 cfg0.N) := by
  have e := Dat.withArrays_arrAt (dats m 0 c) sharedIn0 (V0 m c) (A_eq m c) 19
  unfold Pipeline.afterTail₀
  simp only [hostOps1, List.flatten_cons, List.flatten_nil, List.append_nil]
  after_results_simp
  exact congrArg lastRows e

theorem lastRows_at (x : FVec Ideal S32x8x2048 .f32) (b : Fin 4) (r : Fin 2) (C : Fin 2048) :
    lastRows x (ix3 b r C) = x (ix3 ⟨8 * b.val + 7, by omega⟩ ⟨6 + r.val, by omega⟩ C) := by
  pointwise [lastRows]
  exact congrArg₂ (fun a d => x (ix3 a d C)) (Fin.ext (by first | rfl | (dsimp only; omega))) (Fin.ext (by first | rfl | (dsimp only; omega)))

theorem run_results : θ_run defs (onTc (τ := τ) (main (F := F))) ⟨m, fun _ => 0, ρ⟩ fun r => ∀ c : Dev nD,
      r.2.mem ((c : Thread nD τ).loc main_v3_0) = (dats m 0 c).arrAt 16 cfg0.N
      ∧ r.2.mem ((c : Thread nD τ).loc main_v3_1) = (dats m 0 c).arrAt 17 cfg0.N
      ∧ r.2.mem ((c : Thread nD τ).loc main_v3_2) = (dats m 0 c).arrAt 18 cfg0.N
      ∧ r.2.mem ((c : Thread nD τ).loc main_v6) = lastRows ((dats m 0 c).arrAt 19 cfg0.N) :=
  (θ_run defs _ _).mono (fun r h c => ⟨(h c).1 16, (h c).1 17, (h c).1 18,
      ((h c).2 main_v6 (Pipeline.mem_restRefs_of main_v6 (by decide) (by decide))).trans (tail_eq m c)⟩) (run_main m ρ)

end Cert.Kernel3Ideal.Value

end
-- ==== Proof.MixArrays.lean ====
/- The four arrays the mixing kernel leaves, entry by entry. -/
module

public import proofs.«01_k».proof.Proof.MixValue
public import proofs.«01_k».proof.Proof.MixTail

@[expose] public section

set_option maxRecDepth 16384

noncomputable section

namespace Cert.Kernel3Ideal.Own

open Cert.Kernel3Ideal.Gen Cert.Mix

open Idealize.ShloMosaic Idealize.ShloMosaic.TcCoe Idealize.ShloMosaic.Tactic Idealize.SL.Sem Idealize.ShloMosaic.Rounds
open Idealize.ShloMosaic.Pipeline (Dat Cfg Window)
open scoped BigOperators

/-! ## What a point leaves in each output's block -/

section Blocks

variable (O X : Fin 8192 → Fin 2048 → EReal) (P Q : Fin 8192 → Fin 8192 → EReal) (gg cb g2 : Fin 2048 → EReal)
  (cw : Fin 3 → Fin 2048 → EReal) (wo wq : Fin 2048 → Fin 2048 → EReal)

/-- A buffer filled whole reads as what filled it. -/
theorem read_filled {n k : ℕ} {e : EltTy} {κ : Kind} {sp : Space} (V : View sig κ sp ⟨2, ![n, k]⟩ e) (f : V.ty.Contents (Elt Ideal))
    (inb : ∀ a, (![0, 0] : Fin 2 → ℕ) a + (![n, k] : Fin 2 → ℕ) a ≤ (![n, k] : Fin 2 → ℕ) a) (w : (⟨2, ![n, k]⟩ : Shape).Idx → Elt Ideal e)
    (y : (⟨2, ![n, k]⟩ : Shape).Idx) :
    V.read (Elt Ideal) (V.writes (Elt Ideal) f [⟨Rect.unit (s := ⟨2, ![n, k]⟩) ![0, 0] ![n, k] inb, w⟩]) y = w y := by
  have e : (Rect.unit (s := ⟨2, ![n, k]⟩) ![0, 0] ![n, k] inb).emb y = y := funext fun a => Fin.ext (by
    match a with
    | ⟨0, _⟩ => show 0 + 1 * (y 0).val = (y 0).val; omega
    | ⟨1, _⟩ => show 0 + 1 * (y 1).val = (y 1).val; omega)
  exact (congrArg _ e.symm).trans (View.read_writes_cons_emb V f (Rect.unit (s := ⟨2, ![n, k]⟩) ![0, 0] ![n, k] inb) w [] y)

section Body

/- The body's references, each whole, and what the sixteen inputs' buffers hold. -/
variable {c : Dev nD} {arg1 : Memref sig .tc .vmem S256x2048 .f32} {harg1 : arg1.IsWhole} {arg2 : Memref sig .tc .vmem S256x2048 .bf16} {harg2 : arg2.IsWhole} {arg3 : Memref sig .tc .vmem S256x2048 .bf16} {harg3 : arg3.IsWhole} {arg4 : Memref sig .tc .vmem S256x2048 .f32} {harg4 : arg4.IsWhole} {arg5 : Memref sig .tc .vmem S256x2048 .f32} {harg5 : arg5.IsWhole} {arg6 : Memref sig .tc .vmem S256x2048 .bf16} {harg6 : arg6.IsWhole} {arg7 : Memref sig .tc .vmem S256x2048 .bf16} {harg7 : arg7.IsWhole} {arg8 : Memref sig .tc .vmem S8x2048 .f32} {harg8 : arg8.IsWhole} {arg9 : Memref sig .tc .vmem S8x2048 .f32} {harg9 : arg9.IsWhole} {arg10 : Memref sig .tc .vmem S1x2048 .f32} {harg10 : arg10.IsWhole} {arg11 : Memref sig .tc .vmem S3x2048 .f32} {harg11 : arg11.IsWhole} {arg12 : Memref sig .tc .vmem S1x2048 .f32} {harg12 : arg12.IsWhole} {arg13 : Memref sig .tc .vmem S256x2048 .f32} {harg13 : arg13.IsWhole} {arg14 : Memref sig .tc .vmem S2048x2048 .bf16} {harg14 : arg14.IsWhole} {arg15 : Memref sig .tc .vmem S1x2048 .f32} {harg15 : arg15.IsWhole} {arg16 : Memref sig .tc .vmem S2048x2048 .bf16} {harg16 : arg16.IsWhole} {arg17 : Memref sig .tc .vmem S256x2048 .f32} {harg17 : arg17.IsWhole} {arg18 : Memref sig .tc .vmem S2048x256 .bf16} {harg18 : arg18.IsWhole} {arg19 : Memref sig .tc .vmem S256x2048 .f32} {harg19 : arg19.IsWhole} {arg20 : Memref sig .tc .vmem S1x8x2048 .f32} {harg20 : arg20.IsWhole} {arg21 : Memref sig .tc .vmem S256x2048 .bf16} {harg21 : arg21.IsWhole} {x0 : Vec Ideal S256x2048 .f32} {x1 : Vec Ideal S256x2048 .bf16} {x2 : Vec Ideal S256x2048 .bf16} {x3 : Vec Ideal S256x2048 .f32} {x4 : Vec Ideal S256x2048 .f32} {x5 : Vec Ideal S256x2048 .bf16} {x6 : Vec Ideal S256x2048 .bf16} {x7 : Vec Ideal S8x2048 .f32} {x8 : Vec Ideal S8x2048 .f32} {x9 : Vec Ideal S1x2048 .f32} {x10 : Vec Ideal S3x2048 .f32} {x11 : Vec Ideal S1x2048 .f32} {x12 : Vec Ideal S256x2048 .f32} {x13 : Vec Ideal S2048x2048 .bf16} {x14 : Vec Ideal S1x2048 .f32} {x15 : Vec Ideal S2048x2048 .bf16}

/-- The rows after the mixer, as the body computes them. -/
theorem xm_at (t : Fin grid0.N) (hg : Given O P Q gg cb cw t x0 x1 x2 x3 x4 x5 x6 x7 x8 x9 x10 x11)
    (hx : ∀ r k, x12 (ix2 r k) = X (rowAt t r) k) (hw : ∀ k y, x13 (ix2 k y) = wo k y) (r : Fin 256) (C : Fin 2048) :
    kernelRun0_A.sl.r_27 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg21 x0 x1 x2 x3 x4 x5 x6 x7 x8 x9 x10 x11 x12 x13 (ix2 r C) = xm O X P Q gg cb cw wo (rowAt t r) C := by
  unfold kernelRun0_A.sl.r_27
  rw [pay41_at]
  have e12 := congrFun (ldAll harg13 x12 inb_S256x2048_S256x2048_0_0) (ix2 r C)
  have e13 := ldAll harg14 x13 inb_S2048x2048_S2048x2048_0_0
  unfold xm
  refine congrArg₂ (· + ·) (e12.trans (hx r C)) (Finset.sum_congr rfl fun k _ => ?_)
  exact congrArg₂ (HMul.hMul (α := EReal)) (mixed_at O P Q gg cb cw c arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 x11 arg21 t hg r k) ((congrFun e13 (ix2 k C)).trans (hw k C))

theorem out16_at (t : Fin grid0.N) (hg : Given O P Q gg cb cw t x0 x1 x2 x3 x4 x5 x6 x7 x8 x9 x10 x11)
    (hx : ∀ r k, x12 (ix2 r k) = X (rowAt t r) k) (hw : ∀ k y, x13 (ix2 k y) = wo k y) (r : Fin 256) (C : Fin 2048) :
    out0_A_16 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 (ix2 r C) = xm O X P Q gg cb cw wo (rowAt t r) C := by
  unfold out0_A_16 kernelRun0_A
  refine (read_filled VO0_16 _ _ _ (ix2 r C)).trans ?_
  exact xm_at O X P Q gg cb cw wo t hg hx hw r C

/-- The normalised rows, as the body computes them. -/
theorem nrm_at (t : Fin grid0.N) (hg : Given O P Q gg cb cw t x0 x1 x2 x3 x4 x5 x6 x7 x8 x9 x10 x11)
    (hx : ∀ r k, x12 (ix2 r k) = X (rowAt t r) k) (hw : ∀ k y, x13 (ix2 k y) = wo k y) (v : Vec Ideal S1x2048 .f32) (hv : ∀ k, v (ix2 0 k) = g2 k) (r : Fin 256) (C : Fin 2048) :
    k0_pay1 (F := Ideal) (kernelRun0_A.sl.r_27 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg21 x0 x1 x2 x3 x4 x5 x6 x7 x8 x9 x10 x11 x12 x13) v (ix2 r C)
      = nrm g2 (xm O X P Q gg cb cw wo) (rowAt t r) C := by
  rw [pay1_at]
  simp only [xm_at O X P Q gg cb cw wo t hg hx hw]
  unfold nrm
  exact congrArg (HMul.hMul (α := EReal) _) (hv C)

theorem out17_at (t : Fin grid0.N) (hg : Given O P Q gg cb cw t x0 x1 x2 x3 x4 x5 x6 x7 x8 x9 x10 x11)
    (hx : ∀ r k, x12 (ix2 r k) = X (rowAt t r) k) (hw : ∀ k y, x13 (ix2 k y) = wo k y) (h2 : ∀ k, x14 (ix2 0 k) = g2 k) (r : Fin 256) (C : Fin 2048) :
    out0_A_17 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 (ix2 C r) = nrm g2 (xm O X P Q gg cb cw wo) (rowAt t r) C := by
  unfold out0_A_17 kernelRun0_A
  refine (read_filled VO0_17 _ _ _ (ix2 C r)).trans ?_
  rw [pay2_at]
  exact nrm_at O X P Q gg cb g2 cw wo t hg hx hw _ (fun k => (congrFun (ldAll harg15 x14 inb_S1x2048_S1x2048_0_0) (ix2 0 k)).trans (h2 k)) r C

theorem out18_at (t : Fin grid0.N) (hg : Given O P Q gg cb cw t x0 x1 x2 x3 x4 x5 x6 x7 x8 x9 x10 x11)
    (hx : ∀ r k, x12 (ix2 r k) = X (rowAt t r) k) (hw : ∀ k y, x13 (ix2 k y) = wo k y) (h2 : ∀ k, x14 (ix2 0 k) = g2 k)
    (hq : ∀ k y, x15 (ix2 k y) = wq k y) (r : Fin 256) (C : Fin 2048) :
    out0_A_18 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 (ix2 r C) = qp wq (nrm g2 (xm O X P Q gg cb cw wo)) (rowAt t r) C := by
  unfold out0_A_18 kernelRun0_A
  refine (read_filled VO0_18 _ _ _ (ix2 r C)).trans ?_
  rw [pay3_at]
  unfold qp
  refine Finset.sum_congr rfl fun k _ => ?_
  exact congrArg₂ (HMul.hMul (α := EReal)) (nrm_at O X P Q gg cb g2 cw wo t hg hx hw _ (fun k => (congrFun (ldAll harg15 x14 inb_S1x2048_S1x2048_0_0) (ix2 0 k)).trans (h2 k)) r k)
    ((congrFun (ldAll harg16 x15 inb_S2048x2048_S2048x2048_0_0) (ix2 k C)).trans (hq k C))

end Body

/-- One head's slice of the block's last eight rows of the convolution's input. -/
theorem tail_at {arg4 : Memref sig .tc .vmem S256x2048 .f32} (harg4 : arg4.IsWhole) {arg5 : Memref sig .tc .vmem S256x2048 .f32} (harg5 : arg5.IsWhole)
    (x3 x4 : Vec Ideal S256x2048 .f32) (t : Fin grid0.N) (hp : ∀ r k, x3 (ix2 r k) = P (rowAt t r) (qcol 2 k)) (hq : ∀ r k, x4 (ix2 r k) = P (rowAt t r) (qcol 3 k))
    (h : Fin 4) (o : ℕ) (ho : o = 512 * h.val) (x : S1x8x512.Idx) (y : S1x8x2048.Idx) (y1 : (y 1).val = 0 + 1 * (x 1).val) (y2 : (y 2).val = o + 1 * (x 2).val) :
    k0_pay10 (F := Ideal) (k0_pay4 (View.readAt (Elt Ideal) arg4.view (Rect.unit (s := S256x2048) ![0, 512 * h.val] S256x512.size (inbH h)).toLoadRect (harg4.unread x3))
      (View.readAt (Elt Ideal) arg5.view (Rect.unit (s := S256x2048) ![0, 512 * h.val] S256x512.size (inbH h)).toLoadRect (harg5.unread x4))) x
      = u P (rowAt t ⟨248 + (y 1).val, by have : (y 1).val < 8 := (y 1).isLt; omega⟩) (y 2) := by
  have ex : x = (show S1x8x512.Idx from ix3 (n0 := 1) (n1 := 8) (n2 := 512) 0 (x 1) (x 2)) := funext fun a => by
    match a with
    | ⟨0, _⟩ => exact Fin.ext (by have : (x 0).val < 1 := (x 0).isLt; show (x 0).val = 0; omega)
    | ⟨1, _⟩ => rfl
    | ⟨2, _⟩ => rfl
  have hx1 : (x 1).val < 8 := (x 1).isLt
  have e2 : y 2 = hcol h (x 2) := Fin.ext (by simp only [hcol]; omega)
  have e : u P (rowAt t ⟨248 + (y 1).val, by have : (y 1).val < 8 := (y 1).isLt; omega⟩) (y 2) = u P (rowAt t ⟨248 + (x 1).val, by omega⟩) (hcol h (x 2)) :=
    congrArg₂ (u P) (Fin.ext (by show 256 * t.val + (248 + (y 1).val) = 256 * t.val + (248 + (x 1).val); omega)) e2
  refine Eq.trans ?_ e.symm
  refine (congrArg _ ex).trans ((pay10_at _ _ _).trans ?_)
  rw [pay4_at]
  unfold u
  exact congrArg₂ (HMul.hMul (α := EReal)) ((ld256 harg4 x3 h (inbH h) _ _).trans (hp _ _)) ((ld256 harg5 x4 h (inbH h) _ _).trans (hq _ _))

theorem out19_at {c : Dev nD} {arg1 : Memref sig .tc .vmem S256x2048 .f32} {harg1 : arg1.IsWhole} {arg2 : Memref sig .tc .vmem S256x2048 .bf16} {harg2 : arg2.IsWhole} {arg3 : Memref sig .tc .vmem S256x2048 .bf16} {harg3 : arg3.IsWhole} {arg4 : Memref sig .tc .vmem S256x2048 .f32} {harg4 : arg4.IsWhole} {arg5 : Memref sig .tc .vmem S256x2048 .f32} {harg5 : arg5.IsWhole} {arg6 : Memref sig .tc .vmem S256x2048 .bf16} {harg6 : arg6.IsWhole} {arg7 : Memref sig .tc .vmem S256x2048 .bf16} {harg7 : arg7.IsWhole} {arg8 : Memref sig .tc .vmem S8x2048 .f32} {harg8 : arg8.IsWhole} {arg9 : Memref sig .tc .vmem S8x2048 .f32} {harg9 : arg9.IsWhole} {arg10 : Memref sig .tc .vmem S1x2048 .f32} {harg10 : arg10.IsWhole} {arg11 : Memref sig .tc .vmem S3x2048 .f32} {harg11 : arg11.IsWhole} {arg12 : Memref sig .tc .vmem S1x2048 .f32} {harg12 : arg12.IsWhole} {arg13 : Memref sig .tc .vmem S256x2048 .f32} {harg13 : arg13.IsWhole} {arg14 : Memref sig .tc .vmem S2048x2048 .bf16} {harg14 : arg14.IsWhole} {arg15 : Memref sig .tc .vmem S1x2048 .f32} {harg15 : arg15.IsWhole} {arg16 : Memref sig .tc .vmem S2048x2048 .bf16} {harg16 : arg16.IsWhole} {arg17 : Memref sig .tc .vmem S256x2048 .f32} {harg17 : arg17.IsWhole} {arg18 : Memref sig .tc .vmem S2048x256 .bf16} {harg18 : arg18.IsWhole} {arg19 : Memref sig .tc .vmem S256x2048 .f32} {harg19 : arg19.IsWhole} {arg20 : Memref sig .tc .vmem S1x8x2048 .f32} {harg20 : arg20.IsWhole} {arg21 : Memref sig .tc .vmem S256x2048 .bf16} {harg21 : arg21.IsWhole} {x0 : Vec Ideal S256x2048 .f32} {x1 : Vec Ideal S256x2048 .bf16} {x2 : Vec Ideal S256x2048 .bf16} {x3 : Vec Ideal S256x2048 .f32} {x4 : Vec Ideal S256x2048 .f32} {x5 : Vec Ideal S256x2048 .bf16} {x6 : Vec Ideal S256x2048 .bf16} {x7 : Vec Ideal S8x2048 .f32} {x8 : Vec Ideal S8x2048 .f32} {x9 : Vec Ideal S1x2048 .f32} {x10 : Vec Ideal S3x2048 .f32} {x11 : Vec Ideal S1x2048 .f32} {x12 : Vec Ideal S256x2048 .f32} {x13 : Vec Ideal S2048x2048 .bf16} {x14 : Vec Ideal S1x2048 .f32} {x15 : Vec Ideal S2048x2048 .bf16} (t : Fin grid0.N) (hp : ∀ r k, x3 (ix2 r k) = P (rowAt t r) (qcol 2 k)) (hq : ∀ r k, x4 (ix2 r k) = P (rowAt t r) (qcol 3 k))
    (y : S1x8x2048.Idx) :
    out0_A_19 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 y = u P (rowAt t ⟨248 + (y 1).val, by have : (y 1).val < 8 := (y 1).isLt; omega⟩) (y 2) := by
  refine View.read_writes_apply_of_pieces (Val := Elt Ideal) VO0_19 _
    (show S1x8x2048.Idx → Elt Ideal .f32 from fun y => u P (rowAt t ⟨248 + (y 1).val, by have : (y 1).val < 8 := (y 1).isLt; omega⟩) (y 2)) _ ?_ y
    (cover0_A_19 (F := Ideal) c (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 y)
  unfold kernelRun0_A
  intro p hm x
  simp only [List.mem_cons, List.not_mem_nil, or_false] at hm
  rcases hm with rfl | rfl | rfl | rfl
  · exact tail_at P harg4 harg5 x3 x4 t hp hq 3 1536 rfl x _ rfl rfl
  · exact tail_at P harg4 harg5 x3 x4 t hp hq 2 1024 rfl x _ rfl rfl
  · exact tail_at P harg4 harg5 x3 x4 t hp hq 1 512 rfl x _ rfl rfl
  · exact tail_at P harg4 harg5 x3 x4 t hp hq 0 0 rfl x _ rfl rfl

end Blocks

variable (m : (ℓ : Loc nD τ sig) → Buf (Elt Ideal) ℓ) (c : Dev nD)

/-! ## The blocks read -/

/-- The arguments' entries. -/
abbrev Os : Fin 8192 → Fin 2048 → EReal := fun R k => (m ((c : Thread nD τ).loc main_arg0) : S8192x2048.Idx → EReal) (ix2 R k)
abbrev Ps : Fin 8192 → Fin 8192 → EReal := fun R k => (m ((c : Thread nD τ).loc main_arg1) : S8192x8192.Idx → EReal) (ix2 R k)
abbrev Qs : Fin 8192 → Fin 8192 → EReal := fun R k => (m ((c : Thread nD τ).loc main_arg2) : S8192x8192.Idx → EReal) (ix2 R k)
abbrev Xs : Fin 8192 → Fin 2048 → EReal := fun R k => (m ((c : Thread nD τ).loc main_arg3) : S8192x2048.Idx → EReal) (ix2 R k)
abbrev ggs : Fin 2048 → EReal := fun k => (m ((c : Thread nD τ).loc main_arg4) : S2048.Idx → EReal) (ix1 k)
abbrev cws : Fin 3 → Fin 2048 → EReal := fun i k => (m ((c : Thread nD τ).loc main_arg5) : S3x2048.Idx → EReal) (ix2 i k)
abbrev cbs : Fin 2048 → EReal := fun k => (m ((c : Thread nD τ).loc main_arg6) : S2048.Idx → EReal) (ix1 k)
abbrev g2s : Fin 2048 → EReal := fun k => (m ((c : Thread nD τ).loc main_arg7) : S2048.Idx → EReal) (ix1 k)
abbrev wos : Fin 2048 → Fin 2048 → EReal := fun k y => (m ((c : Thread nD τ).loc main_arg8) : S2048x2048.Idx → EReal) (ix2 k y)
abbrev wqs : Fin 2048 → Fin 2048 → EReal := fun k y => (m ((c : Thread nD τ).loc main_arg9) : S2048x2048.Idx → EReal) (ix2 k y)

theorem V_v0 (k : Fin 2048) : V m c main_v0 (ix2 0 k) = ggs m c k := by
  unfold V V0
  simp only [hostOps0, List.flatten_cons, List.flatten_nil, List.append_nil]
  after_results_simp
  pointwise []

theorem V_v1 (k : Fin 2048) : V m c main_v1 (ix2 0 k) = cbs m c k := by
  unfold V V0
  simp only [hostOps0, List.flatten_cons, List.flatten_nil, List.append_nil]
  after_results_simp
  pointwise []

theorem V_v2 (k : Fin 2048) : V m c main_v2 (ix2 0 k) = g2s m c k := by
  unfold V V0
  simp only [hostOps0, List.flatten_cons, List.flatten_nil, List.append_nil]
  after_results_simp
  pointwise []

theorem idx0 : ∀ t : Fin grid0.N, win0_0.index t (0 : Fin 2) = t.val ∧ win0_0.index t (1 : Fin 2) = 0 := by decide +kernel
theorem iblk0_at (t : Fin cfg0.N) (r : Fin 256) (k : Fin 2048) : iblk m c 0 t (ix2 r k) = Os m c (rowAt t r) k := by
  unfold Os; rw [← V_main_arg0 m c]
  refine congrArg (V m c main_arg0) (funext fun a => Fin.ext ?_)
  match a with
  | ⟨0, _⟩ => show win0_0.index t (0 : Fin 2) * 256 + 1 * r.val = 256 * t.val + r.val; rw [(idx0 t).1]; omega
  | ⟨1, _⟩ => show win0_0.index t (1 : Fin 2) * 2048 + 1 * k.val = k.val; rw [(idx0 t).2]; omega

theorem idx12 : ∀ t : Fin grid0.N, win0_12.index t (0 : Fin 2) = t.val ∧ win0_12.index t (1 : Fin 2) = 0 := by decide +kernel
theorem iblk12_at (t : Fin cfg0.N) (r : Fin 256) (k : Fin 2048) : iblk m c 12 t (ix2 r k) = Xs m c (rowAt t r) k := by
  unfold Xs; rw [← V_main_arg3 m c]
  refine congrArg (V m c main_arg3) (funext fun a => Fin.ext ?_)
  match a with
  | ⟨0, _⟩ => show win0_12.index t (0 : Fin 2) * 256 + 1 * r.val = 256 * t.val + r.val; rw [(idx12 t).1]; omega
  | ⟨1, _⟩ => show win0_12.index t (1 : Fin 2) * 2048 + 1 * k.val = k.val; rw [(idx12 t).2]; omega

theorem idx1 : ∀ t : Fin grid0.N, win0_1.index t (0 : Fin 2) = t.val ∧ win0_1.index t (1 : Fin 2) = 0 := by decide +kernel
theorem iblk1_at (t : Fin cfg0.N) (r : Fin 256) (k : Fin 2048) : iblk m c 1 t (ix2 r k) = Qs m c (rowAt t r) (qcol 0 k) := by
  unfold Qs; rw [← V_main_arg2 m c]
  refine congrArg (V m c main_arg2) (funext fun a => Fin.ext ?_)
  match a with
  | ⟨0, _⟩ => show win0_1.index t (0 : Fin 2) * 256 + 1 * r.val = 256 * t.val + r.val; rw [(idx1 t).1]; omega
  | ⟨1, _⟩ => show win0_1.index t (1 : Fin 2) * 2048 + 1 * k.val = 0 * 2048 + k.val; rw [(idx1 t).2]; omega

theorem idx2 : ∀ t : Fin grid0.N, win0_2.index t (0 : Fin 2) = t.val ∧ win0_2.index t (1 : Fin 2) = 1 := by decide +kernel
theorem iblk2_at (t : Fin cfg0.N) (r : Fin 256) (k : Fin 2048) : iblk m c 2 t (ix2 r k) = Qs m c (rowAt t r) (qcol 1 k) := by
  unfold Qs; rw [← V_main_arg2 m c]
  refine congrArg (V m c main_arg2) (funext fun a => Fin.ext ?_)
  match a with
  | ⟨0, _⟩ => show win0_2.index t (0 : Fin 2) * 256 + 1 * r.val = 256 * t.val + r.val; rw [(idx2 t).1]; omega
  | ⟨1, _⟩ => show win0_2.index t (1 : Fin 2) * 2048 + 1 * k.val = 1 * 2048 + k.val; rw [(idx2 t).2]; omega

theorem idx3 : ∀ t : Fin grid0.N, win0_3.index t (0 : Fin 2) = t.val ∧ win0_3.index t (1 : Fin 2) = 2 := by decide +kernel
theorem iblk3_at (t : Fin cfg0.N) (r : Fin 256) (k : Fin 2048) : iblk m c 3 t (ix2 r k) = Ps m c (rowAt t r) (qcol 2 k) := by
  unfold Ps; rw [← V_main_arg1 m c]
  refine congrArg (V m c main_arg1) (funext fun a => Fin.ext ?_)
  match a with
  | ⟨0, _⟩ => show win0_3.index t (0 : Fin 2) * 256 + 1 * r.val = 256 * t.val + r.val; rw [(idx3 t).1]; omega
  | ⟨1, _⟩ => show win0_3.index t (1 : Fin 2) * 2048 + 1 * k.val = 2 * 2048 + k.val; rw [(idx3 t).2]; omega

theorem idx4 : ∀ t : Fin grid0.N, win0_4.index t (0 : Fin 2) = t.val ∧ win0_4.index t (1 : Fin 2) = 3 := by decide +kernel
theorem iblk4_at (t : Fin cfg0.N) (r : Fin 256) (k : Fin 2048) : iblk m c 4 t (ix2 r k) = Ps m c (rowAt t r) (qcol 3 k) := by
  unfold Ps; rw [← V_main_arg1 m c]
  refine congrArg (V m c main_arg1) (funext fun a => Fin.ext ?_)
  match a with
  | ⟨0, _⟩ => show win0_4.index t (0 : Fin 2) * 256 + 1 * r.val = 256 * t.val + r.val; rw [(idx4 t).1]; omega
  | ⟨1, _⟩ => show win0_4.index t (1 : Fin 2) * 2048 + 1 * k.val = 3 * 2048 + k.val; rw [(idx4 t).2]; omega

theorem idx5 : ∀ t : Fin grid0.N, win0_5.index t (0 : Fin 2) = t.val ∧ win0_5.index t (1 : Fin 2) = 2 := by decide +kernel
theorem iblk5_at (t : Fin cfg0.N) (r : Fin 256) (k : Fin 2048) : iblk m c 5 t (ix2 r k) = Qs m c (rowAt t r) (qcol 2 k) := by
  unfold Qs; rw [← V_main_arg2 m c]
  refine congrArg (V m c main_arg2) (funext fun a => Fin.ext ?_)
  match a with
  | ⟨0, _⟩ => show win0_5.index t (0 : Fin 2) * 256 + 1 * r.val = 256 * t.val + r.val; rw [(idx5 t).1]; omega
  | ⟨1, _⟩ => show win0_5.index t (1 : Fin 2) * 2048 + 1 * k.val = 2 * 2048 + k.val; rw [(idx5 t).2]; omega

theorem idx6 : ∀ t : Fin grid0.N, win0_6.index t (0 : Fin 2) = t.val ∧ win0_6.index t (1 : Fin 2) = 3 := by decide +kernel
theorem iblk6_at (t : Fin cfg0.N) (r : Fin 256) (k : Fin 2048) : iblk m c 6 t (ix2 r k) = Qs m c (rowAt t r) (qcol 3 k) := by
  unfold Qs; rw [← V_main_arg2 m c]
  refine congrArg (V m c main_arg2) (funext fun a => Fin.ext ?_)
  match a with
  | ⟨0, _⟩ => show win0_6.index t (0 : Fin 2) * 256 + 1 * r.val = 256 * t.val + r.val; rw [(idx6 t).1]; omega
  | ⟨1, _⟩ => show win0_6.index t (1 : Fin 2) * 2048 + 1 * k.val = 3 * 2048 + k.val; rw [(idx6 t).2]; omega

theorem idx7 : ∀ t : Fin grid0.N, win0_7.index t (0 : Fin 2) = 32 * t.val - 1 ∧ win0_7.index t (1 : Fin 2) = 2 := by decide +kernel
theorem iblk7_at (t : Fin cfg0.N) (h : t.val % 8 ≠ 0) (r : Fin 8) (k : Fin 2048) : iblk m c 7 t (ix2 r k) = Ps m c (rowBefore t r) (qcol 2 k) := by
  unfold Ps; rw [← V_main_arg1 m c]
  refine congrArg (V m c main_arg1) (funext fun a => Fin.ext ?_)
  match a with
  | ⟨0, _⟩ => show win0_7.index t (0 : Fin 2) * 8 + 1 * r.val = 256 * t.val - 8 + r.val; rw [(idx7 t).1]; omega
  | ⟨1, _⟩ => show win0_7.index t (1 : Fin 2) * 2048 + 1 * k.val = 2 * 2048 + k.val; rw [(idx7 t).2]; omega

theorem idx8 : ∀ t : Fin grid0.N, win0_8.index t (0 : Fin 2) = 32 * t.val - 1 ∧ win0_8.index t (1 : Fin 2) = 3 := by decide +kernel
theorem iblk8_at (t : Fin cfg0.N) (h : t.val % 8 ≠ 0) (r : Fin 8) (k : Fin 2048) : iblk m c 8 t (ix2 r k) = Ps m c (rowBefore t r) (qcol 3 k) := by
  unfold Ps; rw [← V_main_arg1 m c]
  refine congrArg (V m c main_arg1) (funext fun a => Fin.ext ?_)
  match a with
  | ⟨0, _⟩ => show win0_8.index t (0 : Fin 2) * 8 + 1 * r.val = 256 * t.val - 8 + r.val; rw [(idx8 t).1]; omega
  | ⟨1, _⟩ => show win0_8.index t (1 : Fin 2) * 2048 + 1 * k.val = 3 * 2048 + k.val; rw [(idx8 t).2]; omega

theorem idx9 : ∀ t : Fin grid0.N, win0_9.index t (0 : Fin 2) = 0 ∧ win0_9.index t (1 : Fin 2) = 0 := by decide +kernel
theorem iblk9_at (t : Fin cfg0.N) (k : Fin 2048) : iblk m c 9 t (ix2 0 k) = ggs m c k := by
  rw [← V_v0 m c]
  refine congrArg (V m c main_v0) (funext fun a => Fin.ext ?_)
  match a with
  | ⟨0, _⟩ => show win0_9.index t (0 : Fin 2) * 1 + 1 * 0 = 0; rw [(idx9 t).1]
  | ⟨1, _⟩ => show win0_9.index t (1 : Fin 2) * 2048 + 1 * k.val = k.val; rw [(idx9 t).2]; omega

theorem idx11 : ∀ t : Fin grid0.N, win0_11.index t (0 : Fin 2) = 0 ∧ win0_11.index t (1 : Fin 2) = 0 := by decide +kernel
theorem iblk11_at (t : Fin cfg0.N) (k : Fin 2048) : iblk m c 11 t (ix2 0 k) = cbs m c k := by
  rw [← V_v1 m c]
  refine congrArg (V m c main_v1) (funext fun a => Fin.ext ?_)
  match a with
  | ⟨0, _⟩ => show win0_11.index t (0 : Fin 2) * 1 + 1 * 0 = 0; rw [(idx11 t).1]
  | ⟨1, _⟩ => show win0_11.index t (1 : Fin 2) * 2048 + 1 * k.val = k.val; rw [(idx11 t).2]; omega

theorem idx14 : ∀ t : Fin grid0.N, win0_14.index t (0 : Fin 2) = 0 ∧ win0_14.index t (1 : Fin 2) = 0 := by decide +kernel
theorem iblk14_at (t : Fin cfg0.N) (k : Fin 2048) : iblk m c 14 t (ix2 0 k) = g2s m c k := by
  rw [← V_v2 m c]
  refine congrArg (V m c main_v2) (funext fun a => Fin.ext ?_)
  match a with
  | ⟨0, _⟩ => show win0_14.index t (0 : Fin 2) * 1 + 1 * 0 = 0; rw [(idx14 t).1]
  | ⟨1, _⟩ => show win0_14.index t (1 : Fin 2) * 2048 + 1 * k.val = k.val; rw [(idx14 t).2]; omega

theorem idx10 : ∀ t : Fin grid0.N, win0_10.index t (0 : Fin 2) = 0 ∧ win0_10.index t (1 : Fin 2) = 0 := by decide +kernel
theorem iblk10_at (t : Fin cfg0.N) (i : Fin 3) (k : Fin 2048) : iblk m c 10 t (ix2 i k) = cws m c i k := by
  unfold cws; rw [← V_main_arg5 m c]
  refine congrArg (V m c main_arg5) (funext fun a => Fin.ext ?_)
  match a with
  | ⟨0, _⟩ => show win0_10.index t (0 : Fin 2) * 3 + 1 * i.val = i.val; rw [(idx10 t).1]; omega
  | ⟨1, _⟩ => show win0_10.index t (1 : Fin 2) * 2048 + 1 * k.val = k.val; rw [(idx10 t).2]; omega

theorem idx13 : ∀ t : Fin grid0.N, win0_13.index t (0 : Fin 2) = 0 ∧ win0_13.index t (1 : Fin 2) = 0 := by decide +kernel
theorem iblk13_at (t : Fin cfg0.N) (i : Fin 2048) (k : Fin 2048) : iblk m c 13 t (ix2 i k) = wos m c i k := by
  unfold wos; rw [← V_main_arg8 m c]
  refine congrArg (V m c main_arg8) (funext fun a => Fin.ext ?_)
  match a with
  | ⟨0, _⟩ => show win0_13.index t (0 : Fin 2) * 2048 + 1 * i.val = i.val; rw [(idx13 t).1]; omega
  | ⟨1, _⟩ => show win0_13.index t (1 : Fin 2) * 2048 + 1 * k.val = k.val; rw [(idx13 t).2]; omega

theorem idx15 : ∀ t : Fin grid0.N, win0_15.index t (0 : Fin 2) = 0 ∧ win0_15.index t (1 : Fin 2) = 0 := by decide +kernel
theorem iblk15_at (t : Fin cfg0.N) (i : Fin 2048) (k : Fin 2048) : iblk m c 15 t (ix2 i k) = wqs m c i k := by
  unfold wqs; rw [← V_main_arg9 m c]
  refine congrArg (V m c main_arg9) (funext fun a => Fin.ext ?_)
  match a with
  | ⟨0, _⟩ => show win0_15.index t (0 : Fin 2) * 2048 + 1 * i.val = i.val; rw [(idx15 t).1]; omega
  | ⟨1, _⟩ => show win0_15.index t (1 : Fin 2) * 2048 + 1 * k.val = k.val; rw [(idx15 t).2]; omega

/-- What every point is given. -/
theorem given_at (t : Fin cfg0.N) : Given (Os m c) (Ps m c) (Qs m c) (ggs m c) (cbs m c) (cws m c) t (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) :=
  ⟨iblk0_at m c t, iblk1_at m c t, iblk2_at m c t, iblk3_at m c t, iblk4_at m c t, iblk5_at m c t, iblk6_at m c t, iblk7_at m c t, iblk8_at m c t,
    iblk9_at m c t, iblk10_at m c t, iblk11_at m c t⟩

/-! ## The arrays left -/

/-- The rows after the mixer, and those rows normalised. -/
abbrev xmV : Fin 8192 → Fin 2048 → EReal := xm (Os m c) (Xs m c) (Ps m c) (Qs m c) (ggs m c) (cbs m c) (cws m c) (wos m c)
abbrev h2V : Fin 8192 → Fin 2048 → EReal := nrm (g2s m c) (xmV m c)

def G16 : S8192x2048.Idx → EReal := fun i => xmV m c (i 0) (i 1)
def G17 : S2048x8192.Idx → EReal := fun i => h2V m c (i 1) (i 0)
def G18 : S8192x2048.Idx → EReal := fun i => qp (wqs m c) (h2V m c) (i 0) (i 1)
def G19 : S32x8x2048.Idx → EReal := fun i => u (Ps m c) ⟨256 * (i 0).val + 248 + (i 1).val, by have h0 : (i 0).val < 32 := (i 0).isLt; have h1 : (i 1).val < 8 := (i 1).isLt; omega⟩ (i 2)

theorem lt32 (t : Fin cfg0.N) : t.val < 32 := lt_of_lt_of_eq t.isLt N_0

theorem idx16 : ∀ t : Fin grid0.N, win0_16.index t (0 : Fin 2) = t.val ∧ win0_16.index t (1 : Fin 2) = 0 := by decide +kernel
theorem flush16 : ∀ t : Fin grid0.N, win0_16.flush t = true := by decide +kernel

theorem cut16 (t : Fin cfg0.N) (f : Vec Ideal S256x2048 .f32) (hf : ∀ (r : Fin 256) (C : Fin 2048), f (ix2 r C) = xmV m c (rowAt t r) C) :
    (cfg0.win 16).cut (grid0.coords t) f = ((cfg0.win 16).blk t).view.read (Elt Ideal) (G16 m c) := by
  funext y
  have hy0 : (y 0).val < 256 := (y 0).isLt
  have hy1 : (y 1).val < 2048 := (y 1).isLt
  have ex : (cfg0.win 16).xinj (grid0.coords t) y = ix2 ⟨(y 0).val, hy0⟩ ⟨(y 1).val, hy1⟩ := by
    funext a; apply Fin.ext
    match a with
    | ⟨0, _⟩ => rfl
    | ⟨1, _⟩ => rfl
  show f ((cfg0.win 16).xinj (grid0.coords t) y) = G16 m c (((cfg0.win 16).blk t).view.emb y)
  rw [ex]
  refine (hf ⟨(y 0).val, hy0⟩ ⟨(y 1).val, hy1⟩).trans ?_
  refine congrArg₂ (xmV m c) (Fin.ext ?_) (Fin.ext ?_)
  · show 256 * t.val + (y 0).val = win0_16.index t (0 : Fin 2) * 256 + 1 * (y 0).val
    rw [(idx16 t).1]; omega
  · show (y 1).val = win0_16.index t (1 : Fin 2) * 2048 + 1 * (y 1).val
    rw [(idx16 t).2]; omega

theorem flushed16_eq (t : Fin cfg0.N) : (dats m 0 c).flushed 16 t = ((cfg0.win 16).blk t).view.read (Elt Ideal) (G16 m c) := by
  rw [Value.flushed16_A]
  exact cut16 m c t _ (out16_at (Os m c) (Xs m c) (Ps m c) (Qs m c) (ggs m c) (cbs m c) (cws m c) (wos m c) t (given_at m c t) (iblk12_at m c t) (iblk13_at m c t))

/-- An entry is in a point's block iff its coordinates are in the block's ranges. -/
theorem mem16 (t : Fin cfg0.N) (i : S8192x2048.Idx) : i ∈ ((cfg0.win 16).blk t).view.set ↔ ∀ a : Fin 2,
    win0_16.index t a * S256x2048.size a ≤ (i a).val ∧ (i a).val < win0_16.index t a * S256x2048.size a + S256x2048.size a := by
  show i ∈ ((View.whole main_v3_0).slice (win0_16.rect t)).set ↔ _
  rw [View.set_slice_whole, Rect.mem_set_unit]
  exact Iff.rfl

theorem final16 : (dats m 0 c).arrAt 16 cfg0.N = G16 m c :=
  (dats m 0 c).arrAt_eq_of_cover 16 _ (fun t _ => flushed16_eq m c t) fun (i : S8192x2048.Idx) => by
    have hi0 : (i 0).val < 8192 := (i 0).isLt
    have hi1 : (i 1).val < 2048 := (i 1).isLt
    refine ⟨⟨(i 0).val / 256, lt_of_lt_of_eq (by omega) N_0.symm⟩, flush16 _, ?_⟩
    rw [mem16]
    intro a
    match a with
    | ⟨0, _⟩ =>
      show win0_16.index _ (0 : Fin 2) * 256 ≤ (i 0).val ∧ (i 0).val < win0_16.index _ (0 : Fin 2) * 256 + 256
      rw [(idx16 _).1]; dsimp only; omega
    | ⟨1, _⟩ =>
      show win0_16.index _ (1 : Fin 2) * 2048 ≤ (i 1).val ∧ (i 1).val < win0_16.index _ (1 : Fin 2) * 2048 + 2048
      rw [(idx16 _).2]; dsimp only; omega

theorem idx17 : ∀ t : Fin grid0.N, win0_17.index t (0 : Fin 2) = 0 ∧ win0_17.index t (1 : Fin 2) = t.val := by decide +kernel
theorem flush17 : ∀ t : Fin grid0.N, win0_17.flush t = true := by decide +kernel

theorem cut17 (t : Fin cfg0.N) (f : Vec Ideal S2048x256 .bf16) (hf : ∀ (r : Fin 256) (C : Fin 2048), f (ix2 C r) = h2V m c (rowAt t r) C) :
    (cfg0.win 17).cut (grid0.coords t) f = ((cfg0.win 17).blk t).view.read (Elt Ideal) (G17 m c) := by
  funext y
  have hy0 : (y 0).val < 2048 := (y 0).isLt
  have hy1 : (y 1).val < 256 := (y 1).isLt
  have ex : (cfg0.win 17).xinj (grid0.coords t) y = ix2 ⟨(y 0).val, hy0⟩ ⟨(y 1).val, hy1⟩ := by
    funext a; apply Fin.ext
    match a with
    | ⟨0, _⟩ => rfl
    | ⟨1, _⟩ => rfl
  show f ((cfg0.win 17).xinj (grid0.coords t) y) = G17 m c (((cfg0.win 17).blk t).view.emb y)
  rw [ex]
  refine (hf ⟨(y 1).val, hy1⟩ ⟨(y 0).val, hy0⟩).trans ?_
  refine congrArg₂ (h2V m c) (Fin.ext ?_) (Fin.ext ?_)
  · show 256 * t.val + (y 1).val = win0_17.index t (1 : Fin 2) * 256 + 1 * (y 1).val
    rw [(idx17 t).2]; omega
  · show (y 0).val = win0_17.index t (0 : Fin 2) * 2048 + 1 * (y 0).val
    rw [(idx17 t).1]; omega

theorem flushed17_eq (t : Fin cfg0.N) : (dats m 0 c).flushed 17 t = ((cfg0.win 17).blk t).view.read (Elt Ideal) (G17 m c) := by
  rw [Value.flushed17_A]
  exact cut17 m c t _ (out17_at (Os m c) (Xs m c) (Ps m c) (Qs m c) (ggs m c) (cbs m c) (g2s m c) (cws m c) (wos m c) t (given_at m c t) (iblk12_at m c t) (iblk13_at m c t) (iblk14_at m c t))

/-- An entry is in a point's block iff its coordinates are in the block's ranges. -/
theorem mem17 (t : Fin cfg0.N) (i : S2048x8192.Idx) : i ∈ ((cfg0.win 17).blk t).view.set ↔ ∀ a : Fin 2,
    win0_17.index t a * S2048x256.size a ≤ (i a).val ∧ (i a).val < win0_17.index t a * S2048x256.size a + S2048x256.size a := by
  show i ∈ ((View.whole main_v3_1).slice (win0_17.rect t)).set ↔ _
  rw [View.set_slice_whole, Rect.mem_set_unit]
  exact Iff.rfl

theorem final17 : (dats m 0 c).arrAt 17 cfg0.N = G17 m c :=
  (dats m 0 c).arrAt_eq_of_cover 17 _ (fun t _ => flushed17_eq m c t) fun (i : S2048x8192.Idx) => by
    have hi0 : (i 0).val < 2048 := (i 0).isLt
    have hi1 : (i 1).val < 8192 := (i 1).isLt
    refine ⟨⟨(i 1).val / 256, lt_of_lt_of_eq (by omega) N_0.symm⟩, flush17 _, ?_⟩
    rw [mem17]
    intro a
    match a with
    | ⟨0, _⟩ =>
      show win0_17.index _ (0 : Fin 2) * 2048 ≤ (i 0).val ∧ (i 0).val < win0_17.index _ (0 : Fin 2) * 2048 + 2048
      rw [(idx17 _).1]; dsimp only; omega
    | ⟨1, _⟩ =>
      show win0_17.index _ (1 : Fin 2) * 256 ≤ (i 1).val ∧ (i 1).val < win0_17.index _ (1 : Fin 2) * 256 + 256
      rw [(idx17 _).2]; dsimp only; omega

theorem idx18 : ∀ t : Fin grid0.N, win0_18.index t (0 : Fin 2) = t.val ∧ win0_18.index t (1 : Fin 2) = 0 := by decide +kernel
theorem flush18 : ∀ t : Fin grid0.N, win0_18.flush t = true := by decide +kernel

theorem cut18 (t : Fin cfg0.N) (f : Vec Ideal S256x2048 .f32) (hf : ∀ (r : Fin 256) (C : Fin 2048), f (ix2 r C) = qp (wqs m c) (h2V m c) (rowAt t r) C) :
    (cfg0.win 18).cut (grid0.coords t) f = ((cfg0.win 18).blk t).view.read (Elt Ideal) (G18 m c) := by
  funext y
  have hy0 : (y 0).val < 256 := (y 0).isLt
  have hy1 : (y 1).val < 2048 := (y 1).isLt
  have ex : (cfg0.win 18).xinj (grid0.coords t) y = ix2 ⟨(y 0).val, hy0⟩ ⟨(y 1).val, hy1⟩ := by
    funext a; apply Fin.ext
    match a with
    | ⟨0, _⟩ => rfl
    | ⟨1, _⟩ => rfl
  show f ((cfg0.win 18).xinj (grid0.coords t) y) = G18 m c (((cfg0.win 18).blk t).view.emb y)
  rw [ex]
  refine (hf ⟨(y 0).val, hy0⟩ ⟨(y 1).val, hy1⟩).trans ?_
  refine congrArg₂ (qp (wqs m c) (h2V m c)) (Fin.ext ?_) (Fin.ext ?_)
  · show 256 * t.val + (y 0).val = win0_18.index t (0 : Fin 2) * 256 + 1 * (y 0).val
    rw [(idx18 t).1]; omega
  · show (y 1).val = win0_18.index t (1 : Fin 2) * 2048 + 1 * (y 1).val
    rw [(idx18 t).2]; omega

theorem flushed18_eq (t : Fin cfg0.N) : (dats m 0 c).flushed 18 t = ((cfg0.win 18).blk t).view.read (Elt Ideal) (G18 m c) := by
  rw [Value.flushed18_A]
  exact cut18 m c t _ (out18_at (Os m c) (Xs m c) (Ps m c) (Qs m c) (ggs m c) (cbs m c) (g2s m c) (cws m c) (wos m c) (wqs m c) t (given_at m c t) (iblk12_at m c t) (iblk13_at m c t) (iblk14_at m c t) (iblk15_at m c t))

/-- An entry is in a point's block iff its coordinates are in the block's ranges. -/
theorem mem18 (t : Fin cfg0.N) (i : S8192x2048.Idx) : i ∈ ((cfg0.win 18).blk t).view.set ↔ ∀ a : Fin 2,
    win0_18.index t a * S256x2048.size a ≤ (i a).val ∧ (i a).val < win0_18.index t a * S256x2048.size a + S256x2048.size a := by
  show i ∈ ((View.whole main_v3_2).slice (win0_18.rect t)).set ↔ _
  rw [View.set_slice_whole, Rect.mem_set_unit]
  exact Iff.rfl

theorem final18 : (dats m 0 c).arrAt 18 cfg0.N = G18 m c :=
  (dats m 0 c).arrAt_eq_of_cover 18 _ (fun t _ => flushed18_eq m c t) fun (i : S8192x2048.Idx) => by
    have hi0 : (i 0).val < 8192 := (i 0).isLt
    have hi1 : (i 1).val < 2048 := (i 1).isLt
    refine ⟨⟨(i 0).val / 256, lt_of_lt_of_eq (by omega) N_0.symm⟩, flush18 _, ?_⟩
    rw [mem18]
    intro a
    match a with
    | ⟨0, _⟩ =>
      show win0_18.index _ (0 : Fin 2) * 256 ≤ (i 0).val ∧ (i 0).val < win0_18.index _ (0 : Fin 2) * 256 + 256
      rw [(idx18 _).1]; dsimp only; omega
    | ⟨1, _⟩ =>
      show win0_18.index _ (1 : Fin 2) * 2048 ≤ (i 1).val ∧ (i 1).val < win0_18.index _ (1 : Fin 2) * 2048 + 2048
      rw [(idx18 _).2]; dsimp only; omega

theorem idx19 : ∀ t : Fin grid0.N, win0_19.index t (0 : Fin 3) = t.val ∧ win0_19.index t (1 : Fin 3) = 0 ∧ win0_19.index t (2 : Fin 3) = 0 := by decide +kernel
theorem flush19 : ∀ t : Fin grid0.N, win0_19.flush t = true := by decide +kernel

theorem cut19 (t : Fin cfg0.N) (f : Vec Ideal S1x8x2048 .f32)
    (hf : ∀ y : S1x8x2048.Idx, f y = u (Ps m c) (rowAt t ⟨248 + (y 1).val, by have : (y 1).val < 8 := (y 1).isLt; omega⟩) (y 2)) :
    (cfg0.win 19).cut (grid0.coords t) f = ((cfg0.win 19).blk t).view.read (Elt Ideal) (G19 m c) := by
  funext y
  have hy0 : (y 0).val < 1 := (y 0).isLt
  have hy1 : (y 1).val < 8 := (y 1).isLt
  show f ((cfg0.win 19).xinj (grid0.coords t) y) = G19 m c (((cfg0.win 19).blk t).view.emb y)
  refine (hf _).trans ?_
  refine congrArg₂ (u (Ps m c)) (Fin.ext ?_) (Fin.ext ?_)
  · show 256 * t.val + (248 + (y 1).val) = 256 * (win0_19.index t (0 : Fin 3) * 1 + 1 * (y 0).val) + 248 + (win0_19.index t (1 : Fin 3) * 8 + 1 * (y 1).val)
    rw [(idx19 t).1, (idx19 t).2.1]; omega
  · show (y 2).val = win0_19.index t (2 : Fin 3) * 2048 + 1 * (y 2).val
    rw [(idx19 t).2.2]; omega

theorem flushed19_eq (t : Fin cfg0.N) : (dats m 0 c).flushed 19 t = ((cfg0.win 19).blk t).view.read (Elt Ideal) (G19 m c) := by
  rw [Value.flushed19_A]
  exact cut19 m c t _ (out19_at (Ps m c) t (iblk3_at m c t) (iblk4_at m c t))

/-- An entry is in a point's block iff its coordinates are in the block's ranges. -/
theorem mem19 (t : Fin cfg0.N) (i : S32x8x2048.Idx) : i ∈ ((cfg0.win 19).blk t).view.set ↔ ∀ a : Fin 3,
    win0_19.index t a * S1x8x2048.size a ≤ (i a).val ∧ (i a).val < win0_19.index t a * S1x8x2048.size a + S1x8x2048.size a := by
  show i ∈ ((View.whole main_v3_3).slice (win0_19.rect t)).set ↔ _
  rw [View.set_slice_whole, Rect.mem_set_unit]
  exact Iff.rfl

theorem final19 : (dats m 0 c).arrAt 19 cfg0.N = G19 m c :=
  (dats m 0 c).arrAt_eq_of_cover 19 _ (fun t _ => flushed19_eq m c t) fun (i : S32x8x2048.Idx) => by
    have hi0 : (i 0).val < 32 := (i 0).isLt
    have hi1 : (i 1).val < 8 := (i 1).isLt
    have hi2 : (i 2).val < 2048 := (i 2).isLt
    refine ⟨⟨(i 0).val, lt_of_lt_of_eq (by omega) N_0.symm⟩, flush19 _, ?_⟩
    rw [mem19]
    intro a
    match a with
    | ⟨0, _⟩ =>
      show win0_19.index _ (0 : Fin 3) * 1 ≤ (i 0).val ∧ (i 0).val < win0_19.index _ (0 : Fin 3) * 1 + 1
      rw [(idx19 _).1]; dsimp only; omega
    | ⟨1, _⟩ =>
      show win0_19.index _ (1 : Fin 3) * 8 ≤ (i 1).val ∧ (i 1).val < win0_19.index _ (1 : Fin 3) * 8 + 8
      rw [(idx19 _).2.1]; omega
    | ⟨2, _⟩ =>
      show win0_19.index _ (2 : Fin 3) * 2048 ≤ (i 2).val ∧ (i 2).val < win0_19.index _ (2 : Fin 3) * 2048 + 2048
      rw [(idx19 _).2.2]; omega

variable (ρ : Dev nD → PrngReg)

/-- The host's last slice of the fourth array. -/
def G6 : S4x2x2048.Idx → EReal := fun i => u (Ps m c) ⟨2048 * (i 0).val + 2046 + (i 1).val, by have h0 : (i 0).val < 4 := (i 0).isLt; have h1 : (i 1).val < 2 := (i 1).isLt; omega⟩ (i 2)

theorem last_eq : Value.lastRows (F := Ideal) (G19 m c) = G6 m c := funext fun i => by
  rw [eq_ix3 (n0 := 4) (n1 := 2) (n2 := 2048) i]
  refine (Value.lastRows_at (G19 m c) (i 0) (i 1) (i 2)).trans ?_
  refine congrArg (fun a => u (Ps m c) a (i 2)) (Fin.ext ?_)
  show 256 * (8 * (i 0).val + 7) + 248 + (6 + (i 1).val) = 2048 * (i 0).val + 2046 + (i 1).val
  omega

/-- What the kernel leaves, entry by entry. -/
theorem run : θ_run defs (onTc (τ := τ) (main (F := Ideal))) ⟨m, fun _ => 0, ρ⟩ fun r => ∀ c : Dev nD,
      (r.2.mem ((c : Thread nD τ).loc main_v3_0) : S8192x2048.Idx → EReal) = G16 m c
      ∧ (r.2.mem ((c : Thread nD τ).loc main_v3_1) : S2048x8192.Idx → EReal) = G17 m c
      ∧ (r.2.mem ((c : Thread nD τ).loc main_v3_2) : S8192x2048.Idx → EReal) = G18 m c
      ∧ (r.2.mem ((c : Thread nD τ).loc main_v6) : S4x2x2048.Idx → EReal) = G6 m c :=
  (θ_run defs _ _).mono (fun r h c => ⟨(h c).1.trans (final16 m c), (h c).2.1.trans (final17 m c), (h c).2.2.1.trans (final18 m c),
      (h c).2.2.2.trans ((congrArg (Value.lastRows (F := Ideal)) (final19 m c)).trans (last_eq m c))⟩)
    (Value.run_results m ρ)

end Cert.Kernel3Ideal.Own

end
-- ==== Proof.MixRef.lean ====
/- The reference of the mixing, entry by entry. -/
module

public import proofs.«01_k».proof.Proof.MixSpec
public import proofs.«01_k».proof.Proof.Gen.Reference3Ideal.Run

@[expose] public section

set_option maxRecDepth 16384

noncomputable section

namespace Cert.Reference3Ideal.Own

open Cert.Reference3Ideal Cert.Reference3Ideal.Gen Cert.Mix
open Idealize.ShloMosaic Idealize.ShloMosaic.TcCoe Idealize.SL.Sem
open scoped BigOperators

variable (o x : FVec Ideal S8192x2048 .f32) (p : FVec Ideal S8192x8192 .f32) (q : FVec Ideal S8192x8192 .bf16) (gg cb g2 : FVec Ideal S2048 .f32)
  (cw : FVec Ideal S3x2048 .f32) (wo wq : FVec Ideal S2048x2048 .bf16)

/-- The logistic function, as a quotient. -/
def sigR (x : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf x)))

theorem sigR_at (x : FVec Ideal S8192x2048 .f32) (i : S8192x2048.Idx) : sigR x i = Ideal.logistic (x i) := by
  have e : sigR x i = Ideal.div (Ideal.ofBits .f32 0x3F800000#32) (Ideal.ofBits .f32 0x3F800000#32 + Ideal.exp (-(x i))) := by pointwise [sigR]
  rw [e, Idealize.ShloMosaic.Ideal.ofBits_one_f32, Ideal.logistic]

/-- The normalised heads. -/
def onR : FVec Ideal S8192x2048 .f32 :=
  shapeCast _ (mulf (mulf (shapeCast _ o shapeCasts_S8192x2048_S8192x4x512) (broadcastInDim S8192x4x512 ![0, 1, 2] bcast_S8192x4x1_S8192x4x512_0_1_2 (Host.rsqrt (addf
    (Host.divf (broadcastInDim S8192x4x1 ![0, 1] bcast_S8192x4_S8192x4x1_0_1 (Host.reduceAdd (mulf (shapeCast _ o shapeCasts_S8192x2048_S8192x4x512)
      (shapeCast _ o shapeCasts_S8192x2048_S8192x4x512)) (constant S_ .f32 0x00000000#32) reducesTo_S8192x4x512_S8192x4_d2 h_S_))
      (broadcastInDim S8192x4x1 ![] bcast_S_S8192x4x1 (constant S_ .f32 0x44000000#32))) (broadcastInDim S8192x4x1 ![] bcast_S_S8192x4x1 (constant S_ .f32 0x358637BD#32))))))
    (broadcastInDim S8192x4x512 ![0, 1, 2] bcast_S1x4x512_S8192x4x512_0_1_2 (broadcastInDim S1x4x512 ![1, 2] bcast_S4x512_S1x4x512_1_2
      (shapeCast _ gg shapeCasts_S2048_S4x512)))) shapeCasts_S8192x4x512_S8192x2048

theorem onR_at (R : Fin 8192) (C : Fin 2048) : onR o gg (ix2 R C) = on (fun R k => o (ix2 R k)) (fun k => gg (ix1 k)) R C := by
  unfold on
  pointwise [onR]
  have e : ∀ j : Fin 512, (⟨C.val / 512 * 512 + j.val, by omega⟩ : Fin 2048) = hcol (headOf C) j := fun j => Fin.ext (by simp only [hcol, headOf]; omega)
  simp only [e]

/-- The convolution's input. -/
def uR : FVec Ideal S8192x2048 .f32 :=
  mulf (extractStridedSlice S8192x2048 ![0, 4096] p slices_S8192x8192_S8192x2048_0_4096) (extractStridedSlice S8192x2048 ![0, 6144] p slices_S8192x8192_S8192x2048_0_6144)

theorem uR_at (R : Fin 8192) (C : Fin 2048) : uR p (ix2 R C) = u (fun R k => p (ix2 R k)) R C := by
  unfold u
  pointwise [uR]
  exact congrArg₂ (fun a b => HMul.hMul (α := EReal) (p (ix2 R a)) (p (ix2 R b))) (Fin.ext rfl) (Fin.ext rfl)

/-- The convolution's input, two rows of zeros before each sequence. -/
def padR : FVec Ideal S4x2050x2048 .f32 :=
  pad S4x2050x2048 ![0, 2, 0] ![0, 0, 0] ![0, 0, 0] (shapeCast _ (uR p) shapeCasts_S8192x2048_S4x2048x2048) (sitofp .f32 (constantI S_ 32 0#32)) pads_S4x2048x2048_S4x2050x2048_000_200_000 h_S_

theorem padR_at (b : Fin 4) (s : Fin 2050) (C : Fin 2048) :
    padR p (ix3 b s C) = if h : s.val < 2 then 0 else uR p (ix2 ⟨2048 * b.val + (s.val - 2), by omega⟩ C) := by
  pointwise [padR]
  have hs := s.isLt
  by_cases h : s.val < 2
  · rw [dif_neg (by omega), dif_pos h]
    show (((0#32 : BitVec 32).toInt : ℝ) : EReal) = 0
    simp
  · rw [dif_pos (by omega), dif_neg h]
    exact congrArg (fun a => uR p (ix2 a C)) (Fin.ext (by show b.val * 2048 + (s.val - 2) = 2048 * b.val + (s.val - 2); omega))

/-- The last two rows of each sequence of the padded input. -/
def tailR : FVec Ideal S4x2x2048 .f32 := extractStridedSlice S4x2x2048 ![0, 2048, 0] (padR p) slices_S4x2050x2048_S4x2x2048_0_2048_0

theorem tailR_at (b : Fin 4) (r : Fin 2) (C : Fin 2048) : tailR p (ix3 b r C) = uR p (ix2 ⟨2048 * b.val + 2046 + r.val, by omega⟩ C) := by
  have e : tailR p (ix3 b r C) = padR p (ix3 b ⟨2048 + r.val, by omega⟩ C) := by pointwise [tailR]
  rw [e, padR_at, dif_neg (by show ¬ 2048 + r.val < 2; omega)]
  exact congrArg (fun a => uR p (ix2 a C)) (Fin.ext (by show 2048 * b.val + (2048 + r.val - 2) = 2048 * b.val + 2046 + r.val; omega))

/-- The convolution of an input padded before. -/
def zR (v : FVec Ideal S4x2050x2048 .f32) : FVec Ideal S8192x2048 .f32 :=
  shapeCast _ (addf (addf (addf (broadcastInDim S4x2048x2048 ![0, 1, 2] bcast_S1x1x2048_S4x2048x2048_0_1_2 (broadcastInDim S1x1x2048 ![2] bcast_S2048_S1x1x2048_2 cb))
    (mulf (extractStridedSlice S4x2048x2048 ![0, 0, 0] v slices_S4x2050x2048_S4x2048x2048_0_0_0) (broadcastInDim S4x2048x2048 ![0, 1, 2] bcast_S1x1x2048_S4x2048x2048_0_1_2
      (broadcastInDim S1x1x2048 ![2] bcast_S2048_S1x1x2048_2 (shapeCast _ (extractStridedSlice S1x2048 ![0, 0] cw slices_S3x2048_S1x2048_0_0) shapeCasts_S1x2048_S2048)))))
    (mulf (extractStridedSlice S4x2048x2048 ![0, 1, 0] v slices_S4x2050x2048_S4x2048x2048_0_1_0) (broadcastInDim S4x2048x2048 ![0, 1, 2] bcast_S1x1x2048_S4x2048x2048_0_1_2
      (broadcastInDim S1x1x2048 ![2] bcast_S2048_S1x1x2048_2 (shapeCast _ (extractStridedSlice S1x2048 ![1, 0] cw slices_S3x2048_S1x2048_1_0) shapeCasts_S1x2048_S2048)))))
    (mulf (extractStridedSlice S4x2048x2048 ![0, 2, 0] v slices_S4x2050x2048_S4x2048x2048_0_2_0) (broadcastInDim S4x2048x2048 ![0, 1, 2] bcast_S1x1x2048_S4x2048x2048_0_1_2
      (broadcastInDim S1x1x2048 ![2] bcast_S2048_S1x1x2048_2 (shapeCast _ (extractStridedSlice S1x2048 ![2, 0] cw slices_S3x2048_S1x2048_2_0) shapeCasts_S1x2048_S2048)))))
    shapeCasts_S4x2048x2048_S8192x2048

theorem zR_at (v : FVec Ideal S4x2050x2048 .f32) (R : Fin 8192) (C : Fin 2048) :
    zR cb cw v (ix2 R C) = cb (ix1 C) + v (ix3 ⟨R.val / 2048, by omega⟩ ⟨R.val % 2048, by omega⟩ C) * cw (ix2 0 C)
      + v (ix3 ⟨R.val / 2048, by omega⟩ ⟨R.val % 2048 + 1, by omega⟩ C) * cw (ix2 1 C) + v (ix3 ⟨R.val / 2048, by omega⟩ ⟨R.val % 2048 + 2, by omega⟩ C) * cw (ix2 2 C) := by
  pointwise [zR]
  have e1 : (⟨1 + R.val % 2048, by omega⟩ : Fin 2050) = ⟨R.val % 2048 + 1, by omega⟩ := Fin.ext (by show 1 + R.val % 2048 = R.val % 2048 + 1; omega)
  have e2 : (⟨2 + R.val % 2048, by omega⟩ : Fin 2050) = ⟨R.val % 2048 + 2, by omega⟩ := Fin.ext (by show 2 + R.val % 2048 = R.val % 2048 + 2; omega)
  simp only [e1, e2]

/-- The padded input at a row's place plus `k` is the input `d` rows earlier, or zero before the sequence's start. -/
theorem padR_shift (R : Fin 8192) (C : Fin 2048) (k d : ℕ) (hk : k + d = 2) :
    padR p (ix3 ⟨R.val / 2048, by omega⟩ ⟨R.val % 2048 + k, by omega⟩ C) = ub (fun R k => p (ix2 R k)) d R C := by
  rw [padR_at]
  unfold ub
  by_cases h : R.val % 2048 < d
  · rw [if_pos h, dif_pos (by show R.val % 2048 + k < 2; omega)]
  · rw [if_neg h, dif_neg (by show ¬ R.val % 2048 + k < 2; omega), uR_at]
    refine congrArg (fun a => u _ a C) (Fin.ext ?_)
    show 2048 * (R.val / 2048) + (R.val % 2048 + k - 2) = R.val - d
    omega

/-- One quarter of the columns of the projection kept in half precision. -/
def qR (a : ℕ) (h : S8192x8192.Slices ![0, a] S8192x2048) : FVec Ideal S8192x2048 .f32 :=
  extf .f32 (extractStridedSlice S8192x2048 ![0, a] q h) bitsLt_bf16_f32

theorem qR_at (k : Fin 4) (a : ℕ) (ha : a = 2048 * k.val) (h) (R : Fin 8192) (C : Fin 2048) : qR q a h (ix2 R C) = q (ix2 R (qcol k C)) := by
  have e : qR q a h (ix2 R C) = q (ix2 R ⟨a + C.val, by omega⟩) := by pointwise [qR]
  rw [e]
  exact congrArg (fun b => q (ix2 R b)) (Fin.ext (by show a + C.val = k.val * 2048 + C.val; omega))

/-- The two branches mixed. -/
def mR : FVec Ideal S8192x2048 .f32 :=
  addf (mulf (sigR (qR q 4096 slices_S8192x8192_S8192x2048_0_4096)) (mulf (mulf (qR q 0 slices_S8192x8192_S8192x2048_0_0) (sigR (qR q 0 slices_S8192x8192_S8192x2048_0_0))) (onR o gg)))
    (mulf (sigR (qR q 6144 slices_S8192x8192_S8192x2048_0_6144)) (mulf (qR q 2048 slices_S8192x8192_S8192x2048_0_2048) (zR cb cw (padR p))))

theorem mR_at (R : Fin 8192) (C : Fin 2048) : mR o p q gg cb cw (ix2 R C) = mm (fun R k => o (ix2 R k)) (fun R k => p (ix2 R k)) (fun R k => q (ix2 R k))
    (fun k => gg (ix1 k)) (fun k => cb (ix1 k)) (fun i k => cw (ix2 i k)) R C := by
  pointwise [mR]
  rw [sigR_at, sigR_at, sigR_at, onR_at, zR_at, qR_at q 2 4096 rfl, qR_at q 0 0 rfl, qR_at q 3 6144 rfl, qR_at q 1 2048 rfl]
  have e0 := padR_shift p R C 0 2 rfl
  have e1 := padR_shift p R C 1 1 rfl
  have e2 := padR_shift p R C 2 0 rfl
  have e3 : ub (fun R k => p (ix2 R k)) 0 R C = u (fun R k => p (ix2 R k)) R C := by
    unfold ub
    rw [if_neg (Nat.not_lt_zero _)]
    exact congrArg (fun a => u _ a C) (Fin.ext (Nat.sub_zero _))
  unfold mm yb
  rw [add_comm]
  refine congrArg₂ (HAdd.hAdd (α := EReal)) (congrArg (HMul.hMul (α := EReal) _) (congrArg (HMul.hMul (α := EReal) _) ?_)) rfl
  exact congrArg₂ (HAdd.hAdd (α := EReal)) (congrArg₂ (HAdd.hAdd (α := EReal)) (congrArg (HAdd.hAdd (α := EReal) _) (congrArg₂ (HMul.hMul (α := EReal)) e0 rfl))
    (congrArg₂ (HMul.hMul (α := EReal)) e1 rfl)) (congrArg₂ (HMul.hMul (α := EReal)) (e2.trans e3) rfl)

/-- The rows after the mixer. -/
def xmR : FVec Ideal S8192x2048 .f32 :=
  addf x (Host.dotGeneral dot_S8192x2048_S2048x2048_S8192x2048_1_0_0_1_n_n none (mR o p q gg cb cw) (extf .f32 wo bitsLt_bf16_f32))

theorem xmR_at (R : Fin 8192) (C : Fin 2048) : xmR o x p q gg cb cw wo (ix2 R C) = xm (fun R k => o (ix2 R k)) (fun R k => x (ix2 R k)) (fun R k => p (ix2 R k))
    (fun R k => q (ix2 R k)) (fun k => gg (ix1 k)) (fun k => cb (ix1 k)) (fun i k => cw (ix2 i k)) (fun k y => wo (ix2 k y)) R C := by
  have e : xmR o x p q gg cb cw wo (ix2 R C) = x (ix2 R C) + ∑ k, mR o p q gg cb cw (ix2 R k) * wo (ix2 k C) := by pointwise [xmR]
  rw [e]
  unfold xm
  simp only [mR_at]

/-- Rows normalised. -/
def hR (x : FVec Ideal S8192x2048 .f32) : FVec Ideal S8192x2048 .f32 :=
  mulf (mulf x (broadcastInDim S8192x2048 ![0, 1] bcast_S8192x1_S8192x2048_0_1 (Host.rsqrt (addf (Host.divf (broadcastInDim S8192x1 ![0] bcast_S8192_S8192x1_0
    (Host.reduceAdd (mulf x x) (constant S_ .f32 0x00000000#32) reducesTo_S8192x2048_S8192_d1 h_S_)) (broadcastInDim S8192x1 ![] bcast_S_S8192x1 (constant S_ .f32 0x45000000#32)))
    (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 g2))

theorem hR_at (x : FVec Ideal S8192x2048 .f32) (R : Fin 8192) (k : Fin 2048) : hR g2 x (ix2 R k) = nrm (fun k => g2 (ix1 k)) (fun R k => x (ix2 R k)) R k := by
  unfold nrm
  pointwise [hR]

/-- The normalised rows, transposed. -/
def hT : FVec Ideal S2048x8192 .bf16 :=
  truncf .bf16 (transpose S2048x8192 [1, 0] (hR g2 x) transposes_S8192x2048_S2048x8192_1_0) bitsLt_bf16_f32

theorem hT_at (R : Fin 8192) (k : Fin 2048) : hT x g2 (ix2 k R) = hR g2 x (ix2 R k) := by pointwise [hT]

/-- The query projection of the normalised rows. -/
def qpR : FVec Ideal S8192x2048 .f32 :=
  Host.dotGeneral dot_S8192x2048_S2048x2048_S8192x2048_1_0_0_1_n_n none (hR g2 x) (extf .f32 wq bitsLt_bf16_f32)

theorem qpR_at (R : Fin 8192) (C : Fin 2048) : qpR x g2 wq (ix2 R C) = qp (fun k y => wq (ix2 k y)) (fun R k => hR g2 x (ix2 R k)) R C := by
  unfold qp
  pointwise [qpR]

/-! ## The results of the run -/

variable (m : (ℓ : Loc nD τ sig) → Buf (Elt Ideal) ℓ) (c : Dev nD)

/-- The rows after the mixer, of the arguments. -/
abbrev xmOf : Fin 8192 → Fin 2048 → EReal :=
  xm (fun R k => (m ((c.tc : Thread nD τ).loc main_arg0) : S8192x2048.Idx → EReal) (ix2 R k)) (fun R k => (m ((c.tc : Thread nD τ).loc main_arg3) : S8192x2048.Idx → EReal) (ix2 R k))
    (fun R k => (m ((c.tc : Thread nD τ).loc main_arg1) : S8192x8192.Idx → EReal) (ix2 R k)) (fun R k => (m ((c.tc : Thread nD τ).loc main_arg2) : S8192x8192.Idx → EReal) (ix2 R k))
    (fun k => (m ((c.tc : Thread nD τ).loc main_arg4) : S2048.Idx → EReal) (ix1 k)) (fun k => (m ((c.tc : Thread nD τ).loc main_arg6) : S2048.Idx → EReal) (ix1 k))
    (fun R k => (m ((c.tc : Thread nD τ).loc main_arg5) : S3x2048.Idx → EReal) (ix2 R k)) (fun R k => (m ((c.tc : Thread nD τ).loc main_arg8) : S2048x2048.Idx → EReal) (ix2 R k))

/-- Those rows normalised. -/
abbrev hOf : Fin 8192 → Fin 2048 → EReal := nrm (fun k => (m ((c.tc : Thread nD τ).loc main_arg7) : S2048.Idx → EReal) (ix1 k)) (xmOf m c)

theorem res0 : Value.res_main_v73 (F := Ideal) m c = xmR (m ((c.tc : Thread nD τ).loc main_arg0)) (m ((c.tc : Thread nD τ).loc main_arg3)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg5)) (m ((c.tc : Thread nD τ).loc main_arg8)) := rfl
theorem res1 : Value.res_main_v88 (F := Ideal) m c = hT (xmR (m ((c.tc : Thread nD τ).loc main_arg0)) (m ((c.tc : Thread nD τ).loc main_arg3)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg5)) (m ((c.tc : Thread nD τ).loc main_arg8))) (m ((c.tc : Thread nD τ).loc main_arg7)) := rfl
theorem res2 : Value.res_main_v90 (F := Ideal) m c = qpR (xmR (m ((c.tc : Thread nD τ).loc main_arg0)) (m ((c.tc : Thread nD τ).loc main_arg3)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg5)) (m ((c.tc : Thread nD τ).loc main_arg8))) (m ((c.tc : Thread nD τ).loc main_arg7)) (m ((c.tc : Thread nD τ).loc main_arg9)) := rfl

theorem hOf_at (R : Fin 8192) (k : Fin 2048) : hR (m ((c.tc : Thread nD τ).loc main_arg7)) (xmR (m ((c.tc : Thread nD τ).loc main_arg0)) (m ((c.tc : Thread nD τ).loc main_arg3)) (m ((c.tc : Thread nD τ).loc main_arg1)) (m ((c.tc : Thread nD τ).loc main_arg2)) (m ((c.tc : Thread nD τ).loc main_arg4)) (m ((c.tc : Thread nD τ).loc main_arg6)) (m ((c.tc : Thread nD τ).loc main_arg5)) (m ((c.tc : Thread nD τ).loc main_arg8))) (ix2 R k) = hOf m c R k := by
  rw [hR_at]
  exact congrArg (fun x => nrm _ x R k) (funext fun R => funext fun k => xmR_at _ _ _ _ _ _ _ _ R k)

theorem run (ρ : Dev nD → PrngReg) : θ_run defs (onTc (τ := τ) (main (F := Ideal))) ⟨m, fun _ => 0, ρ⟩ fun r => ∀ c : Dev nD,
      r.2.mem ((c.tc : Thread nD τ).loc main_v73) = (fun i : S8192x2048.Idx => xmOf m c (i 0) (i 1))
      ∧ r.2.mem ((c.tc : Thread nD τ).loc main_v88) = (fun i : S2048x8192.Idx => hOf m c (i 1) (i 0))
      ∧ r.2.mem ((c.tc : Thread nD τ).loc main_v90) = (fun i : S8192x2048.Idx => qp (fun R k => (m ((c.tc : Thread nD τ).loc main_arg9) : S2048x2048.Idx → EReal) (ix2 R k)) (hOf m c) (i 0) (i 1))
      ∧ r.2.mem ((c.tc : Thread nD τ).loc main_v91) = (fun i : S4x2x2048.Idx => u (fun R k => (m ((c.tc : Thread nD τ).loc main_arg1) : S8192x8192.Idx → EReal) (ix2 R k))
          ⟨2048 * (i 0).val + 2046 + (i 1).val, by have h0 : (i 0).val < 4 := (i 0).isLt; have h1 : (i 1).val < 2 := (i 1).isLt; omega⟩ (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ?_) (Value.run (F := Ideal) m ρ)
  obtain ⟨h0, h1, h2, h3, hrest⟩ := h c
  refine ⟨(h0.trans (res0 m c)).trans (funext fun i => ?_), (h1.trans (res1 m c)).trans (funext fun i => ?_), (h2.trans (res2 m c)).trans (funext fun i => ?_),
    h3.trans (funext fun i => ?_), hrest⟩
  · rw [eq_ix2 (n0 := 8192) (n1 := 2048) i]
    exact xmR_at _ _ _ _ _ _ _ _ (i 0) (i 1)
  · rw [eq_ix2 (n0 := 2048) (n1 := 8192) i]
    exact (hT_at _ _ (i 1) (i 0)).trans (hOf_at m c (i 1) (i 0))
  · rw [eq_ix2 (n0 := 8192) (n1 := 2048) i]
    refine (qpR_at _ _ _ (i 0) (i 1)).trans ?_
    exact congrArg (fun h => qp _ h (i 0) (i 1)) (funext fun R => funext fun k => hOf_at m c R k)
  · rw [eq_ix3 (n0 := 4) (n1 := 2) (n2 := 2048) i]
    exact (tailR_at (m ((c.tc : Thread nD τ).loc main_arg1)) (i 0) (i 1) (i 2)).trans (uR_at _ _ _)

end Cert.Reference3Ideal.Own

end
-- ==== Proof.SampleSpec.lean ====
/- One step of the attention for each sequence of the sample, entry by entry: what the kernel and the reference are both shown to
   compute. -/
module

public import proofs.«01_k».proof.Proof.Spec

@[expose] public section

noncomputable section

namespace Cert.Sample

open Idealize.ShloMosaic Cert.Gla
open scoped BigOperators

/-- The columns of a head in the queries, the keys and the values. -/
def qc (h : Fin 4) (d : Fin 256) : Fin 8192 := ⟨256 * h.val + d.val, by omega⟩
def kc (h : Fin 4) (d : Fin 256) : Fin 8192 := ⟨1024 + 256 * h.val + d.val, by omega⟩
def vc (h : Fin 4) (l : Fin 512) : Fin 8192 := ⟨2048 + 512 * h.val + l.val, by omega⟩

/-- The column of a head in the decays. -/
def gc (h : Fin 4) (d : Fin 256) : Fin 1024 := ⟨256 * h.val + d.val, by omega⟩

/-- The head a column of the output is of, and its place there. -/
def hd (C : Fin 2048) : Fin 4 := ⟨C.val / 512, by omega⟩
def pl (C : Fin 2048) : Fin 512 := ⟨C.val % 512, by omega⟩

variable (p : Fin 128 → Fin 8192 → EReal) (a : Fin 128 → Fin 128 → EReal) (w : Fin 128 → Fin 1024 → EReal) (b : Fin 1024 → EReal)
  (s : Fin 128 → Fin 4 → Fin 256 → Fin 512 → EReal)

/-- The decay logits. -/
def lg (R : Fin 128) (C : Fin 1024) : EReal := ∑ e, a R e * w e C + b C

/-- The log-decays. -/
def gg (R : Fin 128) (h : Fin 4) (d : Fin 256) : EReal := gOf (lg a w b R (gc h d))

/-- The scaled queries. -/
def qs (R : Fin 128) (h : Fin 4) (d : Fin 256) : EReal := p R (qc h d) * Ideal.ofBits .f32 0x3D800000#32

/-- The step's output: the score of the query against the step's key times the value, and what the state gives to the query. -/
def oS (R : Fin 128) (h : Fin 4) (l : Fin 512) : EReal :=
  (∑ d, qs p R h d * p R (kc h d)) * p R (vc h l) + ∑ d, qs p R h d * Ideal.exp (gg a w b R h d) * s R h d l

/-- The state after the step. -/
def sS (R : Fin 128) (h : Fin 4) (d : Fin 256) (l : Fin 512) : EReal :=
  Ideal.exp (gg a w b R h d) * s R h d l + p R (kc h d) * p R (vc h l)

end Cert.Sample

end
-- ==== Proof.SampleValue.lean ====
/- What a point of the sample's attention leaves in its blocks, entry by entry. -/
module

public import proofs.«01_k».proof.Proof.SampleSpec
public import proofs.«01_k».proof.Proof.Gen.Kernel4Ideal.Value
public import Idealize.ShloMosaic.Lib.Pointwise
public import Idealize.ShloMosaic.Lib.Pipeline.ValueKit.Tiles

@[expose] public section

set_option maxRecDepth 16384

noncomputable section

namespace Cert.Kernel4Ideal.Own

open Cert.Kernel4Ideal.Gen Cert.Sample Cert.Gla

open Idealize.ShloMosaic Idealize.ShloMosaic.TcCoe Idealize.ShloMosaic.Tactic Idealize.SL.Sem Idealize.ShloMosaic.Rounds
open Idealize.ShloMosaic.Pipeline (Dat Cfg Window)
open scoped BigOperators

/-! ## The values the body computes, at an index -/

/-- One row for the keys, and for the values, copied to eight. -/
def row8 (k : FVec Ideal S1x1x256 .f32) : FVec Ideal S8x256 .f32 :=
  broadcastTo S8x256 (shapeCast S1x256 (shapeCast S1x256 k shapeCasts_S1x1x256_S1x256) shapeCasts_S1x256_S1x256) broadcasts_S1x256_S8x256
def val8 (v : FVec Ideal S1x1x512 .f32) : FVec Ideal S8x512 .f32 :=
  broadcastTo S8x512 (shapeCast S1x512 (shapeCast S1x512 v shapeCasts_S1x1x512_S1x512) shapeCasts_S1x512_S1x512) broadcasts_S1x512_S8x512

/-- The scaled query, copied to eight rows. -/
def qry8 (q : FVec Ideal S1x1x256 .f32) : FVec Ideal S8x256 .f32 :=
  mulf (row8 q) (broadcast S8x256 (Scalar.ofBits .f32 0x3D800000#32 : Ideal .f32))

/-- The log-decays of a sequence, in each of eight rows. -/
def dec8 (a : FVec Ideal S1x1x128 .f32) (w : FVec Ideal S128x1024 .bf16) (b : FVec Ideal S1x1024 .f32) : FVec Ideal S8x1024 .f32 :=
  have v : FVec Ideal S8x1024 .f32 := addf (matmul dot_S8x128_S128x1024_S8x1024_1_0_0_1_n_n none
    (truncf .bf16 (broadcastTo S8x128 (shapeCast S1x128 (shapeCast S1x128 a shapeCasts_S1x1x128_S1x128) shapeCasts_S1x128_S1x128) broadcasts_S1x128_S8x128) bitsLt_bf16_f32) w
    (constant S8x1024 .f32 0x00000000#32)) (broadcastTo S8x1024 b broadcasts_S1x1024_S8x1024)
  mulf (subf (broadcast S8x1024 (Scalar.ofBits .f32 0x00000000#32 : Ideal .f32))
    (addf (maximumf (subf (broadcast S8x1024 (Scalar.ofBits .f32 0x00000000#32 : Ideal .f32)) v)
        (broadcast S8x1024 (Scalar.ofBits .f32 0x00000000#32 : Ideal .f32)))
      (log1p (exp (subf (broadcast S8x1024 (Scalar.ofBits .f32 0x00000000#32 : Ideal .f32)) (absf v))))))
    (broadcast S8x1024 (Scalar.ofBits .f32 0x3D800000#32 : Ideal .f32))

theorem dec8_at (a : FVec Ideal S1x1x128 .f32) (w : FVec Ideal S128x1024 .bf16) (b : FVec Ideal S1x1024 .f32) (r : Fin 8) (C : Fin 1024) :
    dec8 a w b (ix2 r C) = gOf (∑ e, a (ix3 0 0 e) * w (ix2 e C) + b (ix2 0 C)) := by
  pointwise [dec8, gOf]
  try rfl

/-- The output of one head. -/
def outV (g : FVec Ideal S8x256 .f32) (q k : FVec Ideal S1x1x256 .f32) (v : FVec Ideal S1x1x512 .f32) (s : FVec Ideal S1x1x256x512 .f32) : FVec Ideal S1x1x512 .f32 :=
  shapeCast S1x1x512 (extractStridedSlice S1x512 ![0, 0] (addf
    (mulf (broadcastTo S8x512 (shapeCast S8x1 (multiReduction .add [1] S8 (mulf (qry8 q) (row8 k)) 0x00000000#32 reduces_S8x256_S8 (.inl rfl) rfl) shapeCasts_S8_S8x1) broadcasts_S8x1_S8x512) (val8 v))
    (matmul dot_S8x256_S256x512_S8x512_1_0_0_1_n_n none (truncf .bf16 (mulf (qry8 q) (exp g)) bitsLt_bf16_f32)
      (truncf .bf16 (shapeCast S256x512 s shapeCasts_S1x1x256x512_S256x512) bitsLt_bf16_f32) (constant S8x512 .f32 0x00000000#32)))
    slices_S8x512_o0_0_S1x512) shapeCasts_S1x512_S1x1x512

theorem outV_at (g : FVec Ideal S8x256 .f32) (q k : FVec Ideal S1x1x256 .f32) (v : FVec Ideal S1x1x512 .f32) (s : FVec Ideal S1x1x256x512 .f32) (l : Fin 512) :
    outV g q k v s (ix3 0 0 l) = (∑ d, q (ix3 0 0 d) * Ideal.ofBits .f32 0x3D800000#32 * k (ix3 0 0 d)) * v (ix3 0 0 l)
      + ∑ d, q (ix3 0 0 d) * Ideal.ofBits .f32 0x3D800000#32 * Ideal.exp (g (ix2 0 d)) * s (ix4 0 0 d l) := by
  pointwise [outV, qry8, row8, val8]
  try rfl

/-- The state of one head. -/
def stV (g : FVec Ideal S8x256 .f32) (k : FVec Ideal S1x1x256 .f32) (v : FVec Ideal S1x1x512 .f32) (s : FVec Ideal S1x1x256x512 .f32) : FVec Ideal S1x1x256x512 .f32 :=
  have e : FVec Ideal S256x128 .f32 := transpose S256x128 [1, 0] (broadcastTo S128x256 (shapeCast S1x256 (exp (extractStridedSlice S1x256 ![0, 0] g slices_S8x256_o0_0_S1x256)) shapeCasts_S1x256_S1x256) broadcasts_S1x256_S128x256) transposes_S128x256_p1_0_S256x128
  shapeCast S1x1x256x512 (addf
    (mulf (concatenate S256x512 1 [⟨S256x128, e⟩, ⟨S256x128, e⟩, ⟨S256x128, e⟩, ⟨S256x128, e⟩] concatenates_S256x128_S256x128_S256x128_S256x128_S256x512_d1)
      (shapeCast S256x512 s shapeCasts_S1x1x256x512_S256x512))
    (matmul dot_S8x256_S8x512_S256x512_0_0_1_1_n_n none (truncf .bf16 (select k0_pay3 (row8 k) (broadcast S8x256 (Scalar.ofBits .f32 0x00000000#32 : Ideal .f32))) bitsLt_bf16_f32)
      (truncf .bf16 (val8 v) bitsLt_bf16_f32) (constant S256x512 .f32 0x00000000#32))) shapeCasts_S256x512_S1x1x256x512

theorem row0 : ∀ r : Fin 8, IntOp.cmpi .eq (BitVec.ofNat 32 r.val) 0#32 = if r = 0 then 1#1 else 0#1 := by decide +kernel

theorem select_ite {α : Type} (p : Prop) [Decidable p] (a b : α) : Scalar.select (if p then 1#1 else 0#1) a b = if p then a else b := by
  split <;> rfl

theorem stV_at (g : FVec Ideal S8x256 .f32) (k : FVec Ideal S1x1x256 .f32) (v : FVec Ideal S1x1x512 .f32) (s : FVec Ideal S1x1x256x512 .f32) (d : Fin 256) (l : Fin 512) :
    stV g k v s (ix4 0 0 d l) = Ideal.exp (g (ix2 0 d)) * s (ix4 0 0 d l) + k (ix3 0 0 d) * v (ix3 0 0 l) := by
  pointwise [stV, row8, val8, k0_pay3]
  simp only [dite_eq_ite, ite_self, row0, select_ite, ite_mul, zero_mul, Finset.sum_ite_eq', Finset.mem_univ, if_true]

/-! ## What a point leaves in each output's block -/

section Blocks

/-- A load of part of one row, at an index. -/
theorem ld3 {n k : ℕ} (x : Vec Ideal ⟨3, ![4, 1, n]⟩ .f32) (b a : ℕ) (hb : b < 4) (ha : a + k ≤ n)
    (inb : ∀ i, (![b, 0, a] : Fin 3 → ℕ) i + (![1, 1, k] : Fin 3 → ℕ) i ≤ (![4, 1, n] : Fin 3 → ℕ) i) (d : Fin k) :
    View.ld x (Rect.unit (s := ⟨3, ![4, 1, n]⟩) ![b, 0, a] ![1, 1, k] inb) (ix3 0 0 d) = x (ix3 ⟨b, hb⟩ 0 ⟨a + d.val, by omega⟩) :=
  congrArg x (funext fun i => Fin.ext (by
    match i with
    | ⟨0, _⟩ => show b + 1 * 0 = b; omega
    | ⟨1, _⟩ => rfl
    | ⟨2, _⟩ => show a + 1 * d.val = a + d.val; omega))

/-- A load of one head's state, at an index. -/
theorem ld4 (x : Vec Ideal S4x4x256x512 .f32) (b h : ℕ) (hb : b < 4) (hh : h < 4)
    (inb : ∀ i, (![b, h, 0, 0] : Fin 4 → ℕ) i + S1x1x256x512.size i ≤ S4x4x256x512.size i) (d : Fin 256) (l : Fin 512) :
    View.ld x (Rect.unit (s := S4x4x256x512) ![b, h, 0, 0] S1x1x256x512.size inb) (ix4 0 0 d l) = x (ix4 ⟨b, hb⟩ ⟨h, hh⟩ d l) :=
  congrArg x (funext fun i => Fin.ext (by
    match i with
    | ⟨0, _⟩ => show b + 1 * 0 = b; omega
    | ⟨1, _⟩ => show h + 1 * 0 = h; omega
    | ⟨2, _⟩ => show 0 + 1 * d.val = d.val; omega
    | ⟨3, _⟩ => show 0 + 1 * l.val = l.val; omega))

/-- A load of a whole matrix. -/
theorem ld2 {e : EltTy} {n k : ℕ} (x : Vec Ideal ⟨2, ![n, k]⟩ e) (inb : ∀ i, (![0, 0] : Fin 2 → ℕ) i + (![n, k] : Fin 2 → ℕ) i ≤ (![n, k] : Fin 2 → ℕ) i)
    (i : Fin n) (j : Fin k) : View.ld x (Rect.unit (s := ⟨2, ![n, k]⟩) ![0, 0] ![n, k] inb) (ix2 i j) = x (ix2 i j) :=
  congrArg x (funext fun a => Fin.ext (by
    match a with
    | ⟨0, _⟩ => show 0 + 1 * i.val = i.val; omega
    | ⟨1, _⟩ => show 0 + 1 * j.val = j.val; omega))

theorem inb3 {n k b a : ℕ} (hb : b < 4) (ha : a + k ≤ n) : ∀ i, (![b, 0, a] : Fin 3 → ℕ) i + (![1, 1, k] : Fin 3 → ℕ) i ≤ (![4, 1, n] : Fin 3 → ℕ) i := fun i => by
  match i with
  | ⟨0, _⟩ => show b + 1 ≤ 4; omega
  | ⟨1, _⟩ => show 0 + 1 ≤ 1; omega
  | ⟨2, _⟩ => exact ha

theorem inb4 {b h : ℕ} (hb : b < 4) (hh : h < 4) : ∀ i, (![b, h, 0, 0] : Fin 4 → ℕ) i + S1x1x256x512.size i ≤ S4x4x256x512.size i := fun i => by
  match i with
  | ⟨0, _⟩ => show b + 1 ≤ 4; omega
  | ⟨1, _⟩ => show h + 1 ≤ 4; omega
  | ⟨2, _⟩ => exact le_refl 256
  | ⟨3, _⟩ => exact le_refl 512

variable (p : Fin 128 → Fin 8192 → EReal) (al : Fin 128 → Fin 128 → EReal) (w : Fin 128 → Fin 1024 → EReal) (ba : Fin 1024 → EReal)
  (s : Fin 128 → Fin 4 → Fin 256 → Fin 512 → EReal) (R : Fin 4 → Fin 128)
  (x0 x1 : Vec Ideal S4x1x1024 .f32) (x2 : Vec Ideal S4x1x2048 .f32) (x3 : Vec Ideal S4x1x128 .f32) (x4 : Vec Ideal S128x1024 .bf16)
  (x5 : Vec Ideal S1x1024 .f32) (x6 : Vec Ideal S4x4x256x512 .f32)

/-- The blocks hold the rows `R` of the arrays. -/
structure Given : Prop where
  q : ∀ b h d, x0 (ix3 b 0 (gc h d)) = p (R b) (qc h d)
  k : ∀ b h d, x1 (ix3 b 0 (gc h d)) = p (R b) (kc h d)
  v : ∀ b h l, x2 (ix3 b 0 ⟨512 * h.val + l.val, by have := h.isLt; have := l.isLt; omega⟩) = p (R b) (vc h l)
  a : ∀ b e, x3 (ix3 b 0 e) = al (R b) e
  w : ∀ e C, x4 (ix2 e C) = w e C
  b : ∀ C, x5 (ix2 0 C) = ba C
  s : ∀ b h d l, x6 (ix4 b h d l) = s (R b) h d l

variable {p al w ba s R x0 x1 x2 x3 x4 x5 x6}

/-- The log-decays of one head. -/
abbrev decV (x3 : Vec Ideal S4x1x128 .f32) (x4 : Vec Ideal S128x1024 .bf16) (x5 : Vec Ideal S1x1024 .f32) (b a : ℕ) (hb : b < 4) (hs : S8x1024.Slices ![0, a] S8x256) : FVec Ideal S8x256 .f32 :=
  extractStridedSlice S8x256 ![0, a] (dec8 (View.ld x3 (Rect.unit (s := S4x1x128) ![b, 0, 0] S1x1x128.size (inb3 hb (le_refl 128)))) (View.ld x4 r0_1) (View.ld x5 r0_2)) hs

theorem decV_at (hg : Given p al w ba s R x0 x1 x2 x3 x4 x5 x6) (b h a : ℕ) (hb : b < 4) (hh : h < 4) (ha : a = 256 * h) (hs : S8x1024.Slices ![0, a] S8x256) (d : Fin 256) :
    decV x3 x4 x5 b a hb hs (ix2 0 d) = Sample.gg al w ba (R ⟨b, hb⟩) ⟨h, hh⟩ d := by
  have e : decV x3 x4 x5 b a hb hs (ix2 0 d) = dec8 (View.ld x3 (Rect.unit (s := S4x1x128) ![b, 0, 0] S1x1x128.size (inb3 hb (le_refl 128)))) (View.ld x4 r0_1) (View.ld x5 r0_2)
      (ix2 0 (gc ⟨h, hh⟩ d)) := by
    subst ha
    pointwise [decV]
    rfl
  rw [e, dec8_at]
  unfold Sample.gg lg
  refine congrArg gOf (congrArg₂ (HAdd.hAdd (α := EReal)) (Finset.sum_congr rfl fun e _ => ?_) ?_)
  · refine congrArg₂ (HMul.hMul (α := EReal)) ((ld3 x3 b 0 hb (le_refl 128) _ e).trans (Eq.trans ?_ (hg.a ⟨b, hb⟩ e))) ((ld2 x4 _ _ _).trans (hg.w _ _))
    exact congrArg (fun z => x3 (ix3 ⟨b, hb⟩ 0 z)) (Fin.ext (Nat.zero_add _))
  · exact (ld2 x5 _ _ _).trans (hg.b _)

theorem ldq (hg : Given p al w ba s R x0 x1 x2 x3 x4 x5 x6) (b h a : ℕ) (hb : b < 4) (hh : h < 4) (ha : a = 256 * h) (ha' : a + 256 ≤ 1024) (d : Fin 256) :
    View.ld x0 (Rect.unit (s := S4x1x1024) ![b, 0, a] S1x1x256.size (inb3 hb ha')) (ix3 0 0 d) = p (R ⟨b, hb⟩) (qc ⟨h, hh⟩ d) := by
  subst ha
  exact (ld3 x0 b _ hb ha' _ d).trans (hg.q ⟨b, hb⟩ ⟨h, hh⟩ d)

theorem ldk (hg : Given p al w ba s R x0 x1 x2 x3 x4 x5 x6) (b h a : ℕ) (hb : b < 4) (hh : h < 4) (ha : a = 256 * h) (ha' : a + 256 ≤ 1024) (d : Fin 256) :
    View.ld x1 (Rect.unit (s := S4x1x1024) ![b, 0, a] S1x1x256.size (inb3 hb ha')) (ix3 0 0 d) = p (R ⟨b, hb⟩) (kc ⟨h, hh⟩ d) := by
  subst ha
  exact (ld3 x1 b _ hb ha' _ d).trans (hg.k ⟨b, hb⟩ ⟨h, hh⟩ d)

theorem ldv (hg : Given p al w ba s R x0 x1 x2 x3 x4 x5 x6) (b h c : ℕ) (hb : b < 4) (hh : h < 4) (hc : c = 512 * h) (hc' : c + 512 ≤ 2048) (l : Fin 512) :
    View.ld x2 (Rect.unit (s := S4x1x2048) ![b, 0, c] S1x1x512.size (inb3 hb hc')) (ix3 0 0 l) = p (R ⟨b, hb⟩) (vc ⟨h, hh⟩ l) := by
  subst hc
  exact (ld3 x2 b _ hb hc' _ l).trans (hg.v ⟨b, hb⟩ ⟨h, hh⟩ l)

/-- The output of one head of one sequence. -/
theorem out_piece (hg : Given p al w ba s R x0 x1 x2 x3 x4 x5 x6) (b h a c : ℕ) (y : S4x1x2048.Idx) (x : S1x1x512.Idx) (h0 : (y 0).val = b + (x 0).val) (h2 : (y 2).val = c + (x 2).val)
    (hb : b < 4 := by decide) (hh : h < 4 := by decide) (ha : a = 256 * h := by decide) (ha' : a + 256 ≤ 1024 := by decide) (hc : c = 512 * h := by decide)
    (hc' : c + 512 ≤ 2048 := by decide) (hs : S8x1024.Slices ![0, a] S8x256 := by decide) :
    outV (decV x3 x4 x5 b a hb hs) (View.ld x0 (Rect.unit (s := S4x1x1024) ![b, 0, a] S1x1x256.size (inb3 hb ha')))
      (View.ld x1 (Rect.unit (s := S4x1x1024) ![b, 0, a] S1x1x256.size (inb3 hb ha'))) (View.ld x2 (Rect.unit (s := S4x1x2048) ![b, 0, c] S1x1x512.size (inb3 hb hc')))
      (View.ld x6 (Rect.unit (s := S4x4x256x512) ![b, h, 0, 0] S1x1x256x512.size (inb4 hb hh))) x = oS p al w ba s (R (y 0)) (hd (y 2)) (pl (y 2)) := by
  have ex : x = (show S1x1x512.Idx from ix3 (n0 := 1) (n1 := 1) (n2 := 512) 0 0 (x 2)) := funext fun a => by
    match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
  have hx0 : (x 0).val < 1 := (x 0).isLt
  have hx2 : (x 2).val < 512 := (x 2).isLt
  have ey : y 0 = ⟨b, hb⟩ := Fin.ext (by show (y 0).val = b; omega)
  have eh : hd (y 2) = ⟨h, hh⟩ := Fin.ext (by show (y 2).val / 512 = h; omega)
  have el : pl (y 2) = x 2 := Fin.ext (by show (y 2).val % 512 = (x 2).val; omega)
  rw [eh, el, ey]
  refine (congrArg _ ex).trans ((outV_at _ _ _ _ _ _).trans ?_)
  unfold oS qs
  refine congrArg₂ (HAdd.hAdd (α := EReal)) (congrArg₂ (HMul.hMul (α := EReal)) (Finset.sum_congr rfl fun d _ => ?_) (ldv hg b h c hb hh hc hc' (x 2))) (Finset.sum_congr rfl fun d _ => ?_)
  · exact congrArg₂ (HMul.hMul (α := EReal)) (congrArg₂ (HMul.hMul (α := EReal)) (ldq hg b h a hb hh ha ha' d) rfl) (ldk hg b h a hb hh ha ha' d)
  · exact congrArg₂ (HMul.hMul (α := EReal)) (congrArg₂ (HMul.hMul (α := EReal)) (congrArg₂ (HMul.hMul (α := EReal)) (ldq hg b h a hb hh ha ha' d) rfl)
      (congrArg Ideal.exp (decV_at hg b h a hb hh ha hs d))) ((ld4 x6 b h hb hh _ d (x 2)).trans (hg.s _ _ _ _))

/-- The state of one head of one sequence. -/
theorem st_piece (hg : Given p al w ba s R x0 x1 x2 x3 x4 x5 x6) (b h a c : ℕ) (y : S4x4x256x512.Idx) (x : S1x1x256x512.Idx) (h0 : (y 0).val = b + (x 0).val) (h1 : (y 1).val = h + (x 1).val)
    (h2 : (y 2).val = (x 2).val) (h3 : (y 3).val = (x 3).val)
    (hb : b < 4 := by decide) (hh : h < 4 := by decide) (ha : a = 256 * h := by decide) (ha' : a + 256 ≤ 1024 := by decide) (hc : c = 512 * h := by decide)
    (hc' : c + 512 ≤ 2048 := by decide) (hs : S8x1024.Slices ![0, a] S8x256 := by decide) :
    stV (decV x3 x4 x5 b a hb hs) (View.ld x1 (Rect.unit (s := S4x1x1024) ![b, 0, a] S1x1x256.size (inb3 hb ha'))) (View.ld x2 (Rect.unit (s := S4x1x2048) ![b, 0, c] S1x1x512.size (inb3 hb hc')))
      (View.ld x6 (Rect.unit (s := S4x4x256x512) ![b, h, 0, 0] S1x1x256x512.size (inb4 hb hh))) x = sS p al w ba s (R (y 0)) (y 1) (y 2) (y 3) := by
  have ex : x = (show S1x1x256x512.Idx from ix4 (n0 := 1) (n1 := 1) (n2 := 256) (n3 := 512) 0 0 (x 2) (x 3)) := funext fun a => by
    match a with
    | ⟨0, _⟩ => exact Fin.ext (by have : (x 0).val < 1 := (x 0).isLt; show (x 0).val = 0; omega)
    | ⟨1, _⟩ => exact Fin.ext (by have : (x 1).val < 1 := (x 1).isLt; show (x 1).val = 0; omega)
    | ⟨2, _⟩ => rfl
    | ⟨3, _⟩ => rfl
  have hx0 : (x 0).val < 1 := (x 0).isLt
  have hx1 : (x 1).val < 1 := (x 1).isLt
  have ey : y 0 = ⟨b, hb⟩ := Fin.ext (by show (y 0).val = b; omega)
  have eh : y 1 = ⟨h, hh⟩ := Fin.ext (by show (y 1).val = h; omega)
  have e2 : y 2 = x 2 := Fin.ext h2
  have e3 : y 3 = x 3 := Fin.ext h3
  rw [eh, ey, e2, e3]
  refine (congrArg _ ex).trans ((stV_at _ _ _ _ _ _).trans ?_)
  unfold sS
  exact congrArg₂ (HAdd.hAdd (α := EReal)) (congrArg₂ (HMul.hMul (α := EReal)) (congrArg Ideal.exp (decV_at hg b h a hb hh ha hs (x 2))) ((ld4 x6 b h hb hh _ (x 2) (x 3)).trans (hg.s _ _ _ _)))
    (congrArg₂ (HMul.hMul (α := EReal)) (ldk hg b h a hb hh ha ha' (x 2)) (ldv hg b h c hb hh hc hc' (x 3)))

theorem out7_at (hg : Given p al w ba s R x0 x1 x2 x3 x4 x5 x6) (y : S4x1x2048.Idx) :
    out0_7 (F := Ideal) x0 x1 x2 x3 x4 x5 x6 y = oS p al w ba s (R (y 0)) (hd (y 2)) (pl (y 2)) := by
  canon_tiles x h using cover0_7 ..
  · exact out_piece hg 3 3 768 1536 y x (by omega) (by omega)
  · exact out_piece hg 3 2 512 1024 y x (by omega) (by omega)
  · exact out_piece hg 3 1 256 512 y x (by omega) (by omega)
  · exact out_piece hg 3 0 0 0 y x (by omega) (by omega)
  · exact out_piece hg 2 3 768 1536 y x (by omega) (by omega)
  · exact out_piece hg 2 2 512 1024 y x (by omega) (by omega)
  · exact out_piece hg 2 1 256 512 y x (by omega) (by omega)
  · exact out_piece hg 2 0 0 0 y x (by omega) (by omega)
  · exact out_piece hg 1 3 768 1536 y x (by omega) (by omega)
  · exact out_piece hg 1 2 512 1024 y x (by omega) (by omega)
  · exact out_piece hg 1 1 256 512 y x (by omega) (by omega)
  · exact out_piece hg 1 0 0 0 y x (by omega) (by omega)
  · exact out_piece hg 0 3 768 1536 y x (by omega) (by omega)
  · exact out_piece hg 0 2 512 1024 y x (by omega) (by omega)
  · exact out_piece hg 0 1 256 512 y x (by omega) (by omega)
  · exact out_piece hg 0 0 0 0 y x (by omega) (by omega)

theorem out8_at (hg : Given p al w ba s R x0 x1 x2 x3 x4 x5 x6) (y : S4x4x256x512.Idx) :
    out0_8 (F := Ideal) x0 x1 x2 x3 x4 x5 x6 y = sS p al w ba s (R (y 0)) (y 1) (y 2) (y 3) := by
  canon_tiles x h using cover0_8 ..
  · exact st_piece hg 3 3 768 1536 y x (by omega) (by omega) (by omega) (by omega)
  · exact st_piece hg 3 2 512 1024 y x (by omega) (by omega) (by omega) (by omega)
  · exact st_piece hg 3 1 256 512 y x (by omega) (by omega) (by omega) (by omega)
  · exact st_piece hg 3 0 0 0 y x (by omega) (by omega) (by omega) (by omega)
  · exact st_piece hg 2 3 768 1536 y x (by omega) (by omega) (by omega) (by omega)
  · exact st_piece hg 2 2 512 1024 y x (by omega) (by omega) (by omega) (by omega)
  · exact st_piece hg 2 1 256 512 y x (by omega) (by omega) (by omega) (by omega)
  · exact st_piece hg 2 0 0 0 y x (by omega) (by omega) (by omega) (by omega)
  · exact st_piece hg 1 3 768 1536 y x (by omega) (by omega) (by omega) (by omega)
  · exact st_piece hg 1 2 512 1024 y x (by omega) (by omega) (by omega) (by omega)
  · exact st_piece hg 1 1 256 512 y x (by omega) (by omega) (by omega) (by omega)
  · exact st_piece hg 1 0 0 0 y x (by omega) (by omega) (by omega) (by omega)
  · exact st_piece hg 0 3 768 1536 y x (by omega) (by omega) (by omega) (by omega)
  · exact st_piece hg 0 2 512 1024 y x (by omega) (by omega) (by omega) (by omega)
  · exact st_piece hg 0 1 256 512 y x (by omega) (by omega) (by omega) (by omega)
  · exact st_piece hg 0 0 0 0 y x (by omega) (by omega) (by omega) (by omega)

end Blocks

end Cert.Kernel4Ideal.Own

end
-- ==== Proof.SampleArrays.lean ====
/- The two arrays the sample's attention leaves, entry by entry. -/
module

public import proofs.«01_k».proof.Proof.SampleValue

@[expose] public section

set_option maxRecDepth 16384

noncomputable section

namespace Cert.Kernel4Ideal.Own

open Cert.Kernel4Ideal.Gen Cert.Sample

open Idealize.ShloMosaic Idealize.ShloMosaic.TcCoe Idealize.ShloMosaic.Tactic Idealize.SL.Sem Idealize.ShloMosaic.Rounds
open Idealize.ShloMosaic.Pipeline (Dat Cfg Window)
open scoped BigOperators

variable (m : (ℓ : Loc nD τ sig) → Buf (Elt Ideal) ℓ) (c : Dev nD)

/-! ## The blocks read -/

/-- The arguments' entries. -/
abbrev Ps : Fin 128 → Fin 8192 → EReal := fun R k => (m ((c : Thread nD τ).loc main_arg0) : S128x8192.Idx → EReal) (ix2 R k)
abbrev As : Fin 128 → Fin 128 → EReal := fun R k => (m ((c : Thread nD τ).loc main_arg1) : S128x128.Idx → EReal) (ix2 R k)
abbrev Ws : Fin 128 → Fin 1024 → EReal := fun R k => (m ((c : Thread nD τ).loc main_arg2) : S128x1024.Idx → EReal) (ix2 R k)
abbrev Bs : Fin 1024 → EReal := fun k => (m ((c : Thread nD τ).loc main_arg3) : S1x1024.Idx → EReal) (ix2 0 k)
abbrev Ss : Fin 128 → Fin 4 → Fin 256 → Fin 512 → EReal := fun R h d l => (m ((c : Thread nD τ).loc main_arg4) : S128x4x256x512.Idx → EReal) (ix4 R h d l)

theorem V_v0 (R : Fin 128) (k : Fin 8192) : V m c main_v0 (ix3 R 0 k) = Ps m c R k := by
  unfold V
  simp only [hostOps0]
  after_results_simp
  pointwise []

theorem V_v1 (R : Fin 128) (k : Fin 128) : V m c main_v1 (ix3 R 0 k) = As m c R k := by
  unfold V
  simp only [hostOps0]
  after_results_simp
  pointwise []

theorem lt32 (t : Fin cfg0.N) : t.val < 32 := lt_of_lt_of_eq t.isLt N_0

/-- The sequence that is number `b` of a point. -/
def seqAt (t : Fin cfg0.N) (b : Fin 4) : Fin 128 := ⟨4 * t.val + b.val, by have := lt32 t; omega⟩

theorem idx0 : ∀ t : Fin grid0.N, win0_0.index t (0 : Fin 3) = t.val ∧ win0_0.index t (1 : Fin 3) = 0 ∧ win0_0.index t (2 : Fin 3) = 0 := by decide +kernel
theorem iblk0_at (t : Fin cfg0.N) (b h : Fin 4) (d : Fin 256) : iblk m c 0 t (ix3 b 0 (gc h d)) = Ps m c (seqAt t b) (qc h d) := by
  rw [← V_v0 m c]
  refine congrArg (V m c main_v0) (funext fun a => Fin.ext ?_)
  match a with
  | ⟨0, _⟩ => show win0_0.index t (0 : Fin 3) * 4 + 1 * b.val = 4 * t.val + b.val; rw [(idx0 t).1]; omega
  | ⟨1, _⟩ => show win0_0.index t (1 : Fin 3) * 1 + 1 * 0 = 0; rw [(idx0 t).2.1]
  | ⟨2, _⟩ => show win0_0.index t (2 : Fin 3) * 1024 + 1 * (256 * h.val + d.val) = 256 * h.val + d.val; rw [(idx0 t).2.2]; omega

theorem idx1 : ∀ t : Fin grid0.N, win0_1.index t (0 : Fin 3) = t.val ∧ win0_1.index t (1 : Fin 3) = 0 ∧ win0_1.index t (2 : Fin 3) = 1 := by decide +kernel
theorem iblk1_at (t : Fin cfg0.N) (b h : Fin 4) (d : Fin 256) : iblk m c 1 t (ix3 b 0 (gc h d)) = Ps m c (seqAt t b) (kc h d) := by
  rw [← V_v0 m c]
  refine congrArg (V m c main_v0) (funext fun a => Fin.ext ?_)
  match a with
  | ⟨0, _⟩ => show win0_1.index t (0 : Fin 3) * 4 + 1 * b.val = 4 * t.val + b.val; rw [(idx1 t).1]; omega
  | ⟨1, _⟩ => show win0_1.index t (1 : Fin 3) * 1 + 1 * 0 = 0; rw [(idx1 t).2.1]
  | ⟨2, _⟩ => show win0_1.index t (2 : Fin 3) * 1024 + 1 * (256 * h.val + d.val) = 1024 + 256 * h.val + d.val; rw [(idx1 t).2.2]; omega

theorem idx2 : ∀ t : Fin grid0.N, win0_2.index t (0 : Fin 3) = t.val ∧ win0_2.index t (1 : Fin 3) = 0 ∧ win0_2.index t (2 : Fin 3) = 1 := by decide +kernel
theorem iblk2_at (t : Fin cfg0.N) (b h : Fin 4) (l : Fin 512) : iblk m c 2 t (ix3 b 0 ⟨512 * h.val + l.val, by omega⟩) = Ps m c (seqAt t b) (vc h l) := by
  rw [← V_v0 m c]
  refine congrArg (V m c main_v0) (funext fun a => Fin.ext ?_)
  match a with
  | ⟨0, _⟩ => show win0_2.index t (0 : Fin 3) * 4 + 1 * b.val = 4 * t.val + b.val; rw [(idx2 t).1]; omega
  | ⟨1, _⟩ => show win0_2.index t (1 : Fin 3) * 1 + 1 * 0 = 0; rw [(idx2 t).2.1]
  | ⟨2, _⟩ => show win0_2.index t (2 : Fin 3) * 2048 + 1 * (512 * h.val + l.val) = 2048 + 512 * h.val + l.val; rw [(idx2 t).2.2]; omega

theorem idx3 : ∀ t : Fin grid0.N, win0_3.index t (0 : Fin 3) = t.val ∧ win0_3.index t (1 : Fin 3) = 0 ∧ win0_3.index t (2 : Fin 3) = 0 := by decide +kernel
theorem iblk3_at (t : Fin cfg0.N) (b : Fin 4) (e : Fin 128) : iblk m c 3 t (ix3 b 0 e) = As m c (seqAt t b) e := by
  rw [← V_v1 m c]
  refine congrArg (V m c main_v1) (funext fun a => Fin.ext ?_)
  match a with
  | ⟨0, _⟩ => show win0_3.index t (0 : Fin 3) * 4 + 1 * b.val = 4 * t.val + b.val; rw [(idx3 t).1]; omega
  | ⟨1, _⟩ => show win0_3.index t (1 : Fin 3) * 1 + 1 * 0 = 0; rw [(idx3 t).2.1]
  | ⟨2, _⟩ => show win0_3.index t (2 : Fin 3) * 128 + 1 * e.val = e.val; rw [(idx3 t).2.2]; omega

theorem idx4 : ∀ t : Fin grid0.N, win0_4.index t (0 : Fin 2) = 0 ∧ win0_4.index t (1 : Fin 2) = 0 := by decide +kernel
theorem iblk4_at (t : Fin cfg0.N) (e : Fin 128) (C : Fin 1024) : iblk m c 4 t (ix2 e C) = Ws m c e C := by
  unfold Ws; rw [← V_main_arg2 m c]
  refine congrArg (V m c main_arg2) (funext fun a => Fin.ext ?_)
  match a with
  | ⟨0, _⟩ => show win0_4.index t (0 : Fin 2) * 128 + 1 * e.val = e.val; rw [(idx4 t).1]; omega
  | ⟨1, _⟩ => show win0_4.index t (1 : Fin 2) * 1024 + 1 * C.val = C.val; rw [(idx4 t).2]; omega

theorem idx5 : ∀ t : Fin grid0.N, win0_5.index t (0 : Fin 2) = 0 ∧ win0_5.index t (1 : Fin 2) = 0 := by decide +kernel
theorem iblk5_at (t : Fin cfg0.N) (C : Fin 1024) : iblk m c 5 t (ix2 0 C) = Bs m c C := by
  unfold Bs; rw [← V_main_arg3 m c]
  refine congrArg (V m c main_arg3) (funext fun a => Fin.ext ?_)
  match a with
  | ⟨0, _⟩ => show win0_5.index t (0 : Fin 2) * 1 + 1 * 0 = 0; rw [(idx5 t).1]
  | ⟨1, _⟩ => show win0_5.index t (1 : Fin 2) * 1024 + 1 * C.val = C.val; rw [(idx5 t).2]; omega

theorem idx6 : ∀ t : Fin grid0.N, win0_6.index t (0 : Fin 4) = t.val ∧ win0_6.index t (1 : Fin 4) = 0 ∧ win0_6.index t (2 : Fin 4) = 0 ∧ win0_6.index t (3 : Fin 4) = 0 := by decide +kernel
theorem iblk6_at (t : Fin cfg0.N) (b h : Fin 4) (d : Fin 256) (l : Fin 512) : iblk m c 6 t (ix4 b h d l) = Ss m c (seqAt t b) h d l := by
  unfold Ss; rw [← V_main_arg4 m c]
  refine congrArg (V m c main_arg4) (funext fun a => Fin.ext ?_)
  match a with
  | ⟨0, _⟩ => show win0_6.index t (0 : Fin 4) * 4 + 1 * b.val = 4 * t.val + b.val; rw [(idx6 t).1]; omega
  | ⟨1, _⟩ => show win0_6.index t (1 : Fin 4) * 4 + 1 * h.val = h.val; rw [(idx6 t).2.1]; omega
  | ⟨2, _⟩ => show win0_6.index t (2 : Fin 4) * 256 + 1 * d.val = d.val; rw [(idx6 t).2.2.1]; omega
  | ⟨3, _⟩ => show win0_6.index t (3 : Fin 4) * 512 + 1 * l.val = l.val; rw [(idx6 t).2.2.2]; omega

theorem given_at (t : Fin cfg0.N) : Given (Ps m c) (As m c) (Ws m c) (Bs m c) (Ss m c) (seqAt t)
    (iblk m c 0 t) (iblk m c 1 t) (iblk m c 2 t) (iblk m c 3 t) (iblk m c 4 t) (iblk m c 5 t) (iblk m c 6 t) :=
  ⟨iblk0_at m c t, iblk1_at m c t, iblk2_at m c t, iblk3_at m c t, iblk4_at m c t, iblk5_at m c t, iblk6_at m c t⟩

/-! ## The arrays after every point -/

/-- The arrays left. -/
def G7 : S128x1x2048.Idx → EReal := fun i => oS (Ps m c) (As m c) (Ws m c) (Bs m c) (Ss m c) (i 0) (hd (i 2)) (pl (i 2))
def G8 : S128x4x256x512.Idx → EReal := fun i => sS (Ps m c) (As m c) (Ws m c) (Bs m c) (Ss m c) (i 0) (i 1) (i 2) (i 3)

theorem idx7 : ∀ t : Fin grid0.N, win0_7.index t (0 : Fin 3) = t.val ∧ win0_7.index t (1 : Fin 3) = 0 ∧ win0_7.index t (2 : Fin 3) = 0 := by decide +kernel
theorem flush7 : ∀ t : Fin grid0.N, win0_7.flush t = true := by decide +kernel

theorem cut7 (t : Fin cfg0.N) (f : Vec Ideal S4x1x2048 .f32)
    (hf : ∀ y : S4x1x2048.Idx, f y = oS (Ps m c) (As m c) (Ws m c) (Bs m c) (Ss m c) (seqAt t (y 0)) (hd (y 2)) (pl (y 2))) :
    (cfg0.win 7).cut (grid0.coords t) f = ((cfg0.win 7).blk t).view.read (Elt Ideal) (G7 m c) := by
  funext y
  show f ((cfg0.win 7).xinj (grid0.coords t) y) = G7 m c (((cfg0.win 7).blk t).view.emb y)
  refine (hf _).trans ?_
  have e2 : (((cfg0.win 7).xinj (grid0.coords t) y) 2 : Fin 2048) = (((cfg0.win 7).blk t).view.emb y) 2 := Fin.ext (by
    show (y 2).val = win0_7.index t (2 : Fin 3) * 2048 + 1 * (y 2).val
    rw [(idx7 t).2.2]; omega)
  have e0 : seqAt t (((cfg0.win 7).xinj (grid0.coords t) y) 0) = (((cfg0.win 7).blk t).view.emb y) 0 := Fin.ext (by
    show 4 * t.val + (y 0).val = win0_7.index t (0 : Fin 3) * 4 + 1 * (y 0).val
    rw [(idx7 t).1]; omega)
  unfold G7
  rw [e0, e2]

theorem flushed7_eq (t : Fin cfg0.N) : (dats m 0 c).flushed 7 t = ((cfg0.win 7).blk t).view.read (Elt Ideal) (G7 m c) := by
  rw [Value.flushed7]
  exact cut7 m c t _ (out7_at (given_at m c t))

/-- An entry is in a point's block iff its coordinates are in the block's ranges. -/
theorem mem7 (t : Fin cfg0.N) (i : S128x1x2048.Idx) : i ∈ ((cfg0.win 7).blk t).view.set ↔ ∀ a : Fin 3,
    win0_7.index t a * S4x1x2048.size a ≤ (i a).val ∧ (i a).val < win0_7.index t a * S4x1x2048.size a + S4x1x2048.size a := by
  show i ∈ ((View.whole main_v2_0).slice (win0_7.rect t)).set ↔ _
  rw [View.set_slice_whole, Rect.mem_set_unit]
  exact Iff.rfl

theorem final7 : (dats m 0 c).arrAt 7 cfg0.N = G7 m c :=
  (dats m 0 c).arrAt_eq_of_cover 7 _ (fun t _ => flushed7_eq m c t) fun (i : S128x1x2048.Idx) => by
    have hi0 : (i 0).val < 128 := (i 0).isLt
    have hi1 : (i 1).val < 1 := (i 1).isLt
    have hi2 : (i 2).val < 2048 := (i 2).isLt
    refine ⟨⟨(i 0).val / 4, lt_of_lt_of_eq (by omega) N_0.symm⟩, flush7 _, ?_⟩
    rw [mem7]
    intro a
    match a with
    | ⟨0, _⟩ =>
      show win0_7.index _ (0 : Fin 3) * 4 ≤ (i 0).val ∧ (i 0).val < win0_7.index _ (0 : Fin 3) * 4 + 4
      rw [(idx7 _).1]; dsimp only; omega
    | ⟨1, _⟩ =>
      show win0_7.index _ (1 : Fin 3) * 1 ≤ (i 1).val ∧ (i 1).val < win0_7.index _ (1 : Fin 3) * 1 + 1
      rw [(idx7 _).2.1]; omega
    | ⟨2, _⟩ =>
      show win0_7.index _ (2 : Fin 3) * 2048 ≤ (i 2).val ∧ (i 2).val < win0_7.index _ (2 : Fin 3) * 2048 + 2048
      rw [(idx7 _).2.2]; omega

theorem idx8 : ∀ t : Fin grid0.N, win0_8.index t (0 : Fin 4) = t.val ∧ win0_8.index t (1 : Fin 4) = 0 ∧ win0_8.index t (2 : Fin 4) = 0 ∧ win0_8.index t (3 : Fin 4) = 0 := by decide +kernel
theorem flush8 : ∀ t : Fin grid0.N, win0_8.flush t = true := by decide +kernel

theorem cut8 (t : Fin cfg0.N) (f : Vec Ideal S4x4x256x512 .f32)
    (hf : ∀ y : S4x4x256x512.Idx, f y = sS (Ps m c) (As m c) (Ws m c) (Bs m c) (Ss m c) (seqAt t (y 0)) (y 1) (y 2) (y 3)) :
    (cfg0.win 8).cut (grid0.coords t) f = ((cfg0.win 8).blk t).view.read (Elt Ideal) (G8 m c) := by
  funext y
  show f ((cfg0.win 8).xinj (grid0.coords t) y) = G8 m c (((cfg0.win 8).blk t).view.emb y)
  refine (hf _).trans ?_
  have e0 : seqAt t (((cfg0.win 8).xinj (grid0.coords t) y) 0) = (((cfg0.win 8).blk t).view.emb y) 0 := Fin.ext (by
    show 4 * t.val + (y 0).val = win0_8.index t (0 : Fin 4) * 4 + 1 * (y 0).val
    rw [(idx8 t).1]; omega)
  have e1 : (((cfg0.win 8).xinj (grid0.coords t) y) 1 : Fin 4) = (((cfg0.win 8).blk t).view.emb y) 1 := Fin.ext (by
    show (y 1).val = win0_8.index t (1 : Fin 4) * 4 + 1 * (y 1).val
    rw [(idx8 t).2.1]; omega)
  have e2 : (((cfg0.win 8).xinj (grid0.coords t) y) 2 : Fin 256) = (((cfg0.win 8).blk t).view.emb y) 2 := Fin.ext (by
    show (y 2).val = win0_8.index t (2 : Fin 4) * 256 + 1 * (y 2).val
    rw [(idx8 t).2.2.1]; omega)
  have e3 : (((cfg0.win 8).xinj (grid0.coords t) y) 3 : Fin 512) = (((cfg0.win 8).blk t).view.emb y) 3 := Fin.ext (by
    show (y 3).val = win0_8.index t (3 : Fin 4) * 512 + 1 * (y 3).val
    rw [(idx8 t).2.2.2]; omega)
  unfold G8
  rw [e0, e1, e2, e3]

theorem flushed8_eq (t : Fin cfg0.N) : (dats m 0 c).flushed 8 t = ((cfg0.win 8).blk t).view.read (Elt Ideal) (G8 m c) := by
  rw [Value.flushed8]
  exact cut8 m c t _ (out8_at (given_at m c t))

theorem mem8 (t : Fin cfg0.N) (i : S128x4x256x512.Idx) : i ∈ ((cfg0.win 8).blk t).view.set ↔ ∀ a : Fin 4,
    win0_8.index t a * S4x4x256x512.size a ≤ (i a).val ∧ (i a).val < win0_8.index t a * S4x4x256x512.size a + S4x4x256x512.size a := by
  show i ∈ ((View.whole main_v2_1).slice (win0_8.rect t)).set ↔ _
  rw [View.set_slice_whole, Rect.mem_set_unit]
  exact Iff.rfl

theorem final8 : (dats m 0 c).arrAt 8 cfg0.N = G8 m c :=
  (dats m 0 c).arrAt_eq_of_cover 8 _ (fun t _ => flushed8_eq m c t) fun (i : S128x4x256x512.Idx) => by
    have hi0 : (i 0).val < 128 := (i 0).isLt
    have hi1 : (i 1).val < 4 := (i 1).isLt
    have hi2 : (i 2).val < 256 := (i 2).isLt
    have hi3 : (i 3).val < 512 := (i 3).isLt
    refine ⟨⟨(i 0).val / 4, lt_of_lt_of_eq (by omega) N_0.symm⟩, flush8 _, ?_⟩
    rw [mem8]
    intro a
    match a with
    | ⟨0, _⟩ =>
      show win0_8.index _ (0 : Fin 4) * 4 ≤ (i 0).val ∧ (i 0).val < win0_8.index _ (0 : Fin 4) * 4 + 4
      rw [(idx8 _).1]; dsimp only; omega
    | ⟨1, _⟩ =>
      show win0_8.index _ (1 : Fin 4) * 4 ≤ (i 1).val ∧ (i 1).val < win0_8.index _ (1 : Fin 4) * 4 + 4
      rw [(idx8 _).2.1]; omega
    | ⟨2, _⟩ =>
      show win0_8.index _ (2 : Fin 4) * 256 ≤ (i 2).val ∧ (i 2).val < win0_8.index _ (2 : Fin 4) * 256 + 256
      rw [(idx8 _).2.2.1]; omega
    | ⟨3, _⟩ =>
      show win0_8.index _ (3 : Fin 4) * 512 ≤ (i 3).val ∧ (i 3).val < win0_8.index _ (3 : Fin 4) * 512 + 512
      rw [(idx8 _).2.2.2]; omega

variable (ρ : Dev nD → PrngReg)

/-- What the kernel leaves, entry by entry, and its arguments as they were. -/
theorem run : θ_run defs (onTc (τ := τ) (main (F := Ideal))) ⟨m, fun _ => 0, ρ⟩ fun r => ∀ c : Dev nD,
      (r.2.mem ((c : Thread nD τ).loc main_v2_0) : S128x1x2048.Idx → EReal) = G7 m c
      ∧ (r.2.mem ((c : Thread nD τ).loc main_v2_1) : S128x4x256x512.Idx → EReal) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final7 m c), (h c).2.1.trans (final8 m c), (h c).2.2⟩)
    (Value.run_blocks m ρ)

end Cert.Kernel4Ideal.Own

end
-- ==== Proof.SampleRef.lean ====
/- The reference of the sample's attention, entry by entry. -/
module

public import proofs.«01_k».proof.Proof.SampleSpec
public import proofs.«01_k».proof.Proof.RefMath
public import proofs.«01_k».proof.Proof.Gen.Reference4Ideal.Run

@[expose] public section

set_option maxRecDepth 16384

noncomputable section

namespace Cert.Reference4Ideal.Own

open Cert.Reference4Ideal Cert.Reference4Ideal.Gen Cert.Sample Cert.Gla
open Idealize.ShloMosaic Idealize.ShloMosaic.TcCoe Idealize.SL.Sem
open scoped BigOperators

variable (p : FVec Ideal S128x8192 .f32) (a : FVec Ideal S128x128 .f32) (w : FVec Ideal S128x1024 .bf16) (b : FVec Ideal S1x1024 .f32)
  (s : FVec Ideal S128x4x256x512 .f32)

/-- The decay logits. -/
def lgR : FVec Ideal S128x1024 .f32 :=
  addf (Host.dotGeneral dot_S128x128_S128x1024_S128x1024_1_0_0_1_n_n none a (extf .f32 w bitsLt_bf16_f32)) (broadcastInDim S128x1024 ![0, 1] bcast_S1x1024_S128x1024_0_1 b)

theorem lgR_at (R : Fin 128) (C : Fin 1024) : lgR a w b (ix2 R C) = lg (fun R k => a (ix2 R k)) (fun k y => w (ix2 k y)) (fun k => b (ix2 0 k)) R C := by
  unfold lg
  pointwise [lgR]
  try rfl

/-- The softplus function of the negated logits. -/
def spR (x : FVec Ideal S128x1024 .f32) : FVec Ideal S128x1024 .f32 :=
  have z : FVec Ideal S128x1024 .f32 := broadcastInDim S128x1024 ![] bcast_S_S128x1024 (constant S_ .f32 0x00000000#32)
  select (cmpf .une (subf (Host.negf x) z) (subf (Host.negf x) z)) (addf (Host.negf x) z)
    (addf (maximumf (Host.negf x) z) (Host.log1p (Host.exp (Host.negf (Host.absf (subf (Host.negf x) z))))))

theorem spR_at (x : FVec Ideal S128x1024 .f32) (i : S128x1024.Idx) :
    spR x i = max (-(x i : EReal)) 0 + Ideal.log1p (Ideal.exp (-(max (-(x i : EReal)) (-(-(x i : EReal)))))) := by
  pointwise [spR]
  rw [if_neg (fun hne => hne rfl)]
  rfl

/-- The log-decays. -/
def ldR : FVec Ideal S128x4x1x256 .f32 :=
  shapeCast _ (Host.divf (Host.negf (spR (lgR a w b))) (broadcastInDim S128x1024 ![] bcast_S_S128x1024 (constant S_ .f32 0x41800000#32))) shapeCasts_S128x1024_S128x4x1x256

theorem ldR_at (R : Fin 128) (h : Fin 4) (z : Fin 1) (d : Fin 256) :
    ldR a w b (ix4 R h z d) = gg (fun R k => a (ix2 R k)) (fun k y => w (ix2 k y)) (fun k => b (ix2 0 k)) R h d := by
  have e : ldR a w b (ix4 R h z d) = Ideal.div (-(spR (lgR a w b) (ix2 R (gc h d)) : EReal)) (Ideal.ofBits .f32 0x41800000#32) := by
    pointwise [ldR]
    exact congrArg (fun C => Ideal.div (-(spR (lgR a w b) (ix2 R C) : EReal)) _) (Fin.ext (by show h.val * 256 + d.val = 256 * h.val + d.val; omega))
  have eg := Cert.ReferenceIdeal.Trip.gOf_eq (lgR a w b (ix2 R (gc h d)))
  rw [sub_zero] at eg
  rw [e, spR_at, eg, lgR_at]
  rfl

/-- The scaled queries, the keys and the values, by head. -/
def qR : FVec Ideal S128x4x1x256 .f32 :=
  mulf (shapeCast _ (extractStridedSlice S128x1024 ![0, 0] p slices_S128x8192_S128x1024_0_0) shapeCasts_S128x1024_S128x4x1x256)
    (broadcastInDim S128x4x1x256 ![] bcast_S_S128x4x1x256 (constant S_ .f32 0x3D800000#32))
def kR : FVec Ideal S128x4x1x256 .f32 := shapeCast _ (extractStridedSlice S128x1024 ![0, 1024] p slices_S128x8192_S128x1024_0_1024) shapeCasts_S128x1024_S128x4x1x256
def vR : FVec Ideal S128x4x1x512 .f32 := shapeCast _ (extractStridedSlice S128x2048 ![0, 2048] p slices_S128x8192_S128x2048_0_2048) shapeCasts_S128x2048_S128x4x1x512

theorem qR_at (R : Fin 128) (h : Fin 4) (z : Fin 1) (d : Fin 256) : qR p (ix4 R h z d) = qs (fun R k => p (ix2 R k)) R h d := by
  unfold qs
  pointwise [qR]
  exact congrArg (fun C => HMul.hMul (α := EReal) (p (ix2 R C)) _) (Fin.ext (by show h.val * 256 + d.val = 256 * h.val + d.val; omega))

theorem kR_at (R : Fin 128) (h : Fin 4) (z : Fin 1) (d : Fin 256) : kR p (ix4 R h z d) = p (ix2 R (kc h d)) := by
  pointwise [kR]
  exact congrArg (fun C => p (ix2 R C)) (Fin.ext (by show 1024 + (h.val * 256 + d.val) = 1024 + 256 * h.val + d.val; omega))

theorem vR_at (R : Fin 128) (h : Fin 4) (z : Fin 1) (l : Fin 512) : vR p (ix4 R h z l) = p (ix2 R (vc h l)) := by
  pointwise [vR]
  exact congrArg (fun C => p (ix2 R C)) (Fin.ext (by show 2048 + (h.val * 512 + l.val) = 2048 + 512 * h.val + l.val; omega))

/-- The score of the query against the step's key. -/
def scR (g q k : FVec Ideal S128x4x1x256 .f32) : FVec Ideal S128x4x1x1 .f32 :=
  Host.reduceAdd (mulf (mulf (broadcastInDim S128x4x1x1x256 ![0, 1, 2, 4] bcast_S128x4x1x256_S128x4x1x1x256_0_1_2_4 q)
      (broadcastInDim S128x4x1x1x256 ![0, 1, 3, 4] bcast_S128x4x1x256_S128x4x1x1x256_0_1_3_4 k))
    (Host.exp (subf (broadcastInDim S128x4x1x1x256 ![0, 1, 2, 4] bcast_S128x4x1x256_S128x4x1x1x256_0_1_2_4 g)
      (broadcastInDim S128x4x1x1x256 ![0, 1, 3, 4] bcast_S128x4x1x256_S128x4x1x1x256_0_1_3_4 g))))
    (constant S_ .f32 0x00000000#32) reducesTo_S128x4x1x1x256_S128x4x1x1_d4 h_S_

theorem scR_at (g q k : FVec Ideal S128x4x1x256 .f32) (R : Fin 128) (h : Fin 4) (y z : Fin 1) :
    scR g q k (ix4 R h y z) = ∑ d, q (ix4 R h 0 d) * k (ix4 R h 0 d) * Ideal.exp (g (ix4 R h 0 d) - g (ix4 R h 0 d)) := by
  pointwise [scR]

/-- The output. -/
def outR (g q k : FVec Ideal S128x4x1x256 .f32) (v : FVec Ideal S128x4x1x512 .f32) : FVec Ideal S128x1x2048 .f32 :=
  shapeCast _ (addf (Host.dotGeneral dot_S128x4x1x1_S128x4x1x512_S128x4x1x512_3_2_2_3_01_01 none (scR g q k) v)
    (Host.dotGeneral dot_S128x4x1x256_S128x4x256x512_S128x4x1x512_3_2_2_3_01_01 none (mulf q (Host.exp g)) s)) shapeCasts_S128x4x1x512_S128x1x2048

theorem outR_at (g q k : FVec Ideal S128x4x1x256 .f32) (v : FVec Ideal S128x4x1x512 .f32) (R : Fin 128) (C : Fin 2048) :
    outR s g q k v (ix3 R 0 C) = scR g q k (ix4 R (hd C) 0 0) * v (ix4 R (hd C) 0 (pl C))
      + ∑ d, q (ix4 R (hd C) 0 d) * Ideal.exp (g (ix4 R (hd C) 0 d)) * s (ix4 R (hd C) d (pl C)) := by
  pointwise [outR]
  rw [Fin.sum_univ_one]
  rfl

/-- The state after the step. -/
def stR (g k : FVec Ideal S128x4x1x256 .f32) (v : FVec Ideal S128x4x1x512 .f32) : FVec Ideal S128x4x256x512 .f32 :=
  addf (mulf (broadcastInDim S128x4x256x512 ![0, 1, 2, 3] bcast_S128x4x256x1_S128x4x256x512_0_1_2_3 (broadcastInDim S128x4x256x1 ![0, 1, 2] bcast_S128x4x256_S128x4x256x1_0_1_2
      (Host.exp (shapeCast _ g shapeCasts_S128x4x1x256_S128x4x256)))) s)
    (Host.dotGeneral dot_S128x4x1x256_S128x4x1x512_S128x4x256x512_2_2_3_3_01_01 none (mulf k (Host.exp (subf g g))) v)

theorem stR_at (g k : FVec Ideal S128x4x1x256 .f32) (v : FVec Ideal S128x4x1x512 .f32) (R : Fin 128) (h : Fin 4) (d : Fin 256) (l : Fin 512) :
    stR s g k v (ix4 R h d l) = Ideal.exp (g (ix4 R h 0 d)) * s (ix4 R h d l)
      + k (ix4 R h 0 d) * Ideal.exp (g (ix4 R h 0 d) - g (ix4 R h 0 d)) * v (ix4 R h 0 l) := by
  pointwise [stR]
  rw [Fin.sum_univ_one]

variable (m : (ℓ : Loc nD τ sig) → Buf (Elt Ideal) ℓ) (c : Dev nD)

abbrev pm : FVec Ideal S128x8192 .f32 := m ((c.tc : Thread nD τ).loc main_arg0)
abbrev am : FVec Ideal S128x128 .f32 := m ((c.tc : Thread nD τ).loc main_arg1)
abbrev wm : FVec Ideal S128x1024 .bf16 := m ((c.tc : Thread nD τ).loc main_arg2)
abbrev bm : FVec Ideal S1x1024 .f32 := m ((c.tc : Thread nD τ).loc main_arg3)
abbrev sm : FVec Ideal S128x4x256x512 .f32 := m ((c.tc : Thread nD τ).loc main_arg4)

theorem res0 : Value.res_main_v42 m c = outR (sm m c) (ldR (am m c) (wm m c) (bm m c)) (qR (pm m c)) (kR (pm m c)) (vR (pm m c)) := rfl
theorem res1 : Value.res_main_v41 m c = stR (sm m c) (ldR (am m c) (wm m c) (bm m c)) (kR (pm m c)) (vR (pm m c)) := rfl

/-- The arguments' entries. -/
abbrev Ps : Fin 128 → Fin 8192 → EReal := fun R k => pm m c (ix2 R k)
abbrev As : Fin 128 → Fin 128 → EReal := fun R k => am m c (ix2 R k)
abbrev Ws : Fin 128 → Fin 1024 → EReal := fun R k => wm m c (ix2 R k)
abbrev Bs : Fin 1024 → EReal := fun k => bm m c (ix2 0 k)
abbrev Ss : Fin 128 → Fin 4 → Fin 256 → Fin 512 → EReal := fun R h d l => sm m c (ix4 R h d l)

/-- Where no decay logit is `-∞`, a decay from a row to itself is none. -/
theorem decay_self (hx : ∀ R C, lg (As m c) (Ws m c) (Bs m c) R C ≠ ⊥) (R : Fin 128) (h : Fin 4) (d : Fin 256) :
    Ideal.exp (ldR (am m c) (wm m c) (bm m c) (ix4 R h 0 d) - ldR (am m c) (wm m c) (bm m c) (ix4 R h 0 d)) = 1 := by
  rw [ldR_at]
  exact exp_sub_self (gOf_real (hx R (gc h d)))

theorem out_at (hx : ∀ R C, lg (As m c) (Ws m c) (Bs m c) R C ≠ ⊥) (R : Fin 128) (C : Fin 2048) :
    Value.res_main_v42 m c (ix3 R 0 C) = oS (Ps m c) (As m c) (Ws m c) (Bs m c) (Ss m c) R (hd C) (pl C) := by
  rw [res0, outR_at, scR_at]
  unfold oS
  refine congrArg₂ (HAdd.hAdd (α := EReal)) (congrArg₂ (HMul.hMul (α := EReal)) (Finset.sum_congr rfl fun d _ => ?_) (vR_at _ _ _ _ _)) (Finset.sum_congr rfl fun d _ => ?_)
  · rw [decay_self m c hx, mul_one, qR_at, kR_at]
  · rw [ldR_at, qR_at]

theorem st_at (hx : ∀ R C, lg (As m c) (Ws m c) (Bs m c) R C ≠ ⊥) (R : Fin 128) (h : Fin 4) (d : Fin 256) (l : Fin 512) :
    Value.res_main_v41 m c (ix4 R h d l) = sS (Ps m c) (As m c) (Ws m c) (Bs m c) (Ss m c) R h d l := by
  rw [res1, stR_at, decay_self m c hx, mul_one, ldR_at, kR_at, vR_at]
  rfl

end Cert.Reference4Ideal.Own

end
-- ==== Proof.lean ====
module

public import proofs.«01_k».proof.Proof.Gen.Pre_decay_above_minus_inf
public import proofs.«01_k».proof.Defs
public import proofs.«01_k».proof.Proof.BitsFrame
public import proofs.«01_k».proof.Proof.IdealValue
public import proofs.«01_k».proof.Proof.RefStep
public import proofs.«01_k».proof.Proof.Whole
public import proofs.«01_k».proof.Proof.RefMath
public import proofs.«01_k».proof.Proof.Gen.Kernel2.Frame
public import proofs.«01_k».proof.Proof.Gen.Kernel2Ideal.Frame
public import proofs.«01_k».proof.Proof.InValue
public import proofs.«01_k».proof.Proof.InBitsFrame
public import proofs.«01_k».proof.Proof.InRef
public import proofs.«01_k».proof.Proof.Gen.Kernel3.Frame
public import proofs.«01_k».proof.Proof.Gen.Kernel3Ideal.Frame
public import proofs.«01_k».proof.Proof.Gen.Reference3Ideal.Run
public import proofs.«01_k».proof.Proof.MixArrays
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Pre_sample_decay_above_minus_inf
public import proofs.«01_k».proof.Proof.MixRef
public import proofs.«01_k».proof.Proof.SampleArrays
public import proofs.«01_k».proof.Proof.SampleRef
public import Idealize.ShloMosaic.Adequacy
public import Idealize.ShloMosaic.Init

@[expose] public section

noncomputable section

namespace Cert.Proof

open Idealize.ShloMosaic Idealize.SL.Sem Cert.Gla

/-- The reference's frame: its run read at the arguments; it declares no semaphore. -/
theorem frame_ref : Cert.quiescent_ReferenceIdeal (hReferenceIdeal := Cert.ReferenceIdeal.Gen.facts) := fun m ρ _ =>
  (θ_run Cert.ReferenceIdeal.defs _ _).mono (fun r h => ⟨fun c => ⟨(h c).2.2.1, (h c).2.2.2.1, (h c).2.2.2.2.1, (h c).2.2.2.2.2⟩,
      Idealize.ShloMosaic.sem_eq_zero_of_no_sems (by decide) r.2⟩)
    (Cert.ReferenceIdeal.Value.run (F := Ideal) m ρ)

/-- The precondition's predicate holds where no logit is `-∞`. -/
theorem logit_ne_bot (a0 : FVec Ideal ⟨2, ![8192, 8192]⟩ .f32) (a1 : FVec Ideal ⟨2, ![8192, 128]⟩ .f32) (a2 : FVec Ideal ⟨2, ![128, 1024]⟩ .bf16)
    (a3 : FVec Ideal ⟨2, ![1, 1024]⟩ .f32) (R : Fin 8192) (C : Fin 1024)
    (h : @Cert.Pre_decay_above_minus_inf.fn Cert.Pre_decay_above_minus_inf.Gen.facts Ideal _ a0 a1 a2 a3 (ix2 R C) = 1#1) :
    logitA a1 a2 a3 R C ≠ ⊥ := by
  have e : @Cert.Pre_decay_above_minus_inf.fn Cert.Pre_decay_above_minus_inf.Gen.facts Ideal _ a0 a1 a2 a3 (ix2 R C)
      = BitVec.ofBool (decide (Ideal.ofBits .f32 0xFF800000#32 < logitA a1 a2 a3 R C)) := by
    unfold logitA
    pointwise [Cert.Pre_decay_above_minus_inf.fn]
    try rfl
  intro hb
  rw [e, hb, decide_eq_false (fun hlt => not_lt_bot hlt)] at h
  exact absurd h (by decide)

/-- The two programs' results are the same arrays. -/
theorem alg : Cert.algebraic_KernelIdeal_ReferenceIdeal_pre_decay_above_minus_inf (hKernelIdeal := Cert.KernelIdeal.Gen.facts)
    (hReferenceIdeal := Cert.ReferenceIdeal.Gen.facts) (hPre_decay_above_minus_inf := Cert.Pre_decay_above_minus_inf.Gen.facts) := by
  intro m g m' g' hpre hargs
  have hx : ∀ (c : Dev Cert.KernelIdeal.nD) R C, Cert.KernelIdeal.Own.inX m c R C ≠ ⊥ := fun c R C =>
    logit_ne_bot _ _ _ _ R C (congrFun (hpre c) (ix2 R C))
  refine ⟨fun c => Cert.KernelIdeal.Value.G6 m c, fun c => Cert.KernelIdeal.Value.G7 m c, Cert.KernelIdeal.Value.run m g, ?_⟩
  refine (θ_run Cert.ReferenceIdeal.defs _ _).mono (fun r h c => ?_)
    (Cert.ReferenceIdeal.OwnStep.run_iter (F := Ideal) m' g' (fun c => Cert.ReferenceIdeal.Trip.iter
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))) (fun _ => rfl) (fun _ _ => rfl))
  obtain ⟨h0, h1, hrest⟩ := h c
  obtain ⟨e0, e1, e2, e3⟩ := hargs c
  refine ⟨h0.trans (funext fun i => ?_), h1.trans (funext fun i => ?_), hrest⟩
  · rw [eq_ix2 (n0 := 8192) (n1 := 2048) i]
    refine (Cert.ReferenceIdeal.Trip.out_at _ _ _ _ (i 0) (i 1)).trans (Eq.trans ?_ (Cert.KernelIdeal.Own.G6_apply m hx c (i 0) (i 1)).symm)
    rw [e0, e1, e2, e3]
  · rw [eq_ix4 (n0 := 4) (n1 := 4) (n2 := 256) (n3 := 512) i]
    refine (Cert.ReferenceIdeal.Trip.fin_at _ _ _ _ (i 0) (i 1) (i 2) (i 3)).trans
      (Eq.trans ?_ (Cert.KernelIdeal.Own.G7_apply m c (i 0) (i 1) (i 2) (i 3)).symm)
    rw [e0, e1, e2, e3]

/-- The frame of the projection's reference. -/
theorem frame_ref2 : Cert.quiescent_Reference2Ideal (hReference2Ideal := Cert.Reference2Ideal.Gen.facts) := fun m ρ _ =>
  (θ_run Cert.Reference2Ideal.defs _ _).mono (fun r h => ⟨fun c => (h c).2.2.2.2.2.2.2,
      Idealize.ShloMosaic.sem_eq_zero_of_no_sems (by decide) r.2⟩)
    (Cert.Reference2Ideal.Value.run (F := Ideal) m ρ)

/-- The projection and its reference leave the same seven arrays. -/
theorem alg2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Own.G9 m c, fun c => Cert.Kernel2Ideal.Own.G10 m c, fun c => Cert.Kernel2Ideal.Own.G11 m c,
    fun c => Cert.Kernel2Ideal.Own.G12 m c, fun c => Cert.Kernel2Ideal.Own.G13 m c, fun c => Cert.Kernel2Ideal.Own.G14 m c,
    fun c => Cert.Kernel2Ideal.Own.G15 m c, Cert.Kernel2Ideal.Own.run m g, ?_⟩
  refine (θ_run Cert.Reference2Ideal.defs _ _).mono (fun r h c => ?_) (Cert.Reference2Ideal.Own.run m' g')
  obtain ⟨h0, h1, h2, h3, h4, h5, h6, hrest⟩ := h c
  obtain ⟨e0, e1, e2, e3, e4, e5, e6⟩ := hargs c
  have ep : ∀ R C, Cert.Reference2Ideal.Own.pOf m' c R C
      = Cert.Inproj.prj (Cert.Kernel2Ideal.Own.xs m c) (Cert.Kernel2Ideal.Own.gs m c) (Cert.Kernel2Ideal.Own.ws m c) R C := fun R C => by
    unfold Cert.Reference2Ideal.Own.pOf; rw [e0, e1, e2]
  refine ⟨h0.trans (funext fun i => ep _ _), h1.trans (funext fun i => ep _ _), h2.trans (funext fun i => ?_), h3.trans (funext fun i => ?_),
    h4.trans e4, h5.trans e5, h6.trans e6, hrest⟩
  · show (if h : (i 1).val < 16 then _ else _) = (if h : (i 1).val < 16 then _ else _)
    by_cases hd : (i 1).val < 16
    · rw [dif_pos hd, dif_pos hd]; exact ep _ _
    · rw [dif_neg hd, dif_neg hd]
  · unfold Cert.Reference2Ideal.Own.uOf; rw [e3]; rfl

/-- The frame of the mixing's reference. -/
theorem frame_ref3 : Cert.quiescent_Reference3Ideal (hReference3Ideal := Cert.Reference3Ideal.Gen.facts) := fun m ρ _ =>
  (θ_run Cert.Reference3Ideal.defs _ _).mono (fun r h => ⟨fun c => (h c).2.2.2.2,
      Idealize.ShloMosaic.sem_eq_zero_of_no_sems (by decide) r.2⟩)
    (Cert.Reference3Ideal.Value.run (F := Ideal) m ρ)

/-- The mixing and its reference leave the same four arrays. -/
theorem alg3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Own.G16 m c, fun c => Cert.Kernel3Ideal.Own.G17 m c, fun c => Cert.Kernel3Ideal.Own.G18 m c,
    fun c => Cert.Kernel3Ideal.Own.G6 m c, (θ_run Cert.Kernel3Ideal.defs _ _).mono (fun r h c => ⟨(h.1 c).1, (h.1 c).2.1, (h.1 c).2.2.1, (h.1 c).2.2.2, h.2 c⟩)
      (θ_run_and (Cert.Kernel3Ideal.Own.run m g) (Cert.Kernel3Ideal.Gen.unchanged m g)), ?_⟩
  refine (θ_run Cert.Reference3Ideal.defs _ _).mono (fun r h c => ?_) (Cert.Reference3Ideal.Own.run m' g')
  obtain ⟨h0, h1, h2, h3, hrest⟩ := h c
  obtain ⟨e0, e1, e2, e3, e4, e5, e6, e7, e8, e9⟩ := hargs c
  have ex : Cert.Reference3Ideal.Own.xmOf m' c = Cert.Kernel3Ideal.Own.xmV m c := by
    unfold Cert.Reference3Ideal.Own.xmOf; rw [e0, e1, e2, e3, e4, e5, e6, e8]
  have eh : Cert.Reference3Ideal.Own.hOf m' c = Cert.Kernel3Ideal.Own.h2V m c := by
    unfold Cert.Reference3Ideal.Own.hOf; rw [ex, e7]
  refine ⟨h0.trans (funext fun i => ?_), h1.trans (funext fun i => ?_), h2.trans (funext fun i => ?_), h3.trans (funext fun i => ?_), hrest⟩
  · exact congrFun (congrFun ex (i 0)) (i 1)
  · exact congrFun (congrFun eh (i 1)) (i 0)
  · rw [eh, e9]; rfl
  · rw [e1]; rfl

/-- The frame of the reference of the sample's attention. -/
theorem frame_ref4 : Cert.quiescent_Reference4Ideal (hReference4Ideal := Cert.Reference4Ideal.Gen.facts) := fun m ρ _ =>
  (θ_run Cert.Reference4Ideal.defs _ _).mono (fun r h => ⟨fun c => (h c).2.2,
      Idealize.ShloMosaic.sem_eq_zero_of_no_sems (by decide) r.2⟩)
    (Cert.Reference4Ideal.Value.run (F := Ideal) m ρ)

/-- The precondition's predicate of the sample holds where no logit is `-∞`. -/
theorem sample_logit_ne_bot (a0 : FVec Ideal ⟨2, ![128, 8192]⟩ .f32) (a1 : FVec Ideal ⟨2, ![128, 128]⟩ .f32) (a2 : FVec Ideal ⟨2, ![128, 1024]⟩ .bf16)
    (a3 : FVec Ideal ⟨2, ![1, 1024]⟩ .f32) (a4 : FVec Ideal ⟨4, ![128, 4, 256, 512]⟩ .f32) (R : Fin 128) (C : Fin 1024)
    (h : @Cert.Pre_sample_decay_above_minus_inf.fn Cert.Pre_sample_decay_above_minus_inf.Gen.facts Ideal _ a0 a1 a2 a3 a4 (ix2 R C) = 1#1) :
    Cert.Sample.lg (fun R k => a1 (ix2 R k)) (fun k y => a2 (ix2 k y)) (fun k => a3 (ix2 0 k)) R C ≠ ⊥ := by
  have e : @Cert.Pre_sample_decay_above_minus_inf.fn Cert.Pre_sample_decay_above_minus_inf.Gen.facts Ideal _ a0 a1 a2 a3 a4 (ix2 R C)
      = BitVec.ofBool (decide (Ideal.ofBits .f32 0xFF800000#32 < Cert.Sample.lg (fun R k => a1 (ix2 R k)) (fun k y => a2 (ix2 k y)) (fun k => a3 (ix2 0 k)) R C)) := by
    unfold Cert.Sample.lg
    pointwise [Cert.Pre_sample_decay_above_minus_inf.fn]
    try rfl
  intro hb
  rw [e, hb, decide_eq_false (fun hlt => not_lt_bot hlt)] at h
  exact absurd h (by decide)

/-- The sample's attention and its reference leave the same two arrays. -/
theorem alg4 : Cert.algebraic_Kernel4Ideal_Reference4Ideal_pre_sample_decay_above_minus_inf (hKernel4Ideal := Cert.Kernel4Ideal.Gen.facts)
    (hReference4Ideal := Cert.Reference4Ideal.Gen.facts) (hPre_sample_decay_above_minus_inf := Cert.Pre_sample_decay_above_minus_inf.Gen.facts) := by
  intro m g m' g' hpre hargs
  refine ⟨fun c => Cert.Kernel4Ideal.Own.G7 m c, fun c => Cert.Kernel4Ideal.Own.G8 m c, Cert.Kernel4Ideal.Own.run m g, ?_⟩
  refine (θ_run Cert.Reference4Ideal.defs _ _).mono (fun r h c => ?_) (Cert.Reference4Ideal.Value.run (F := Ideal) m' g')
  obtain ⟨h0, h1, hrest⟩ := h c
  obtain ⟨e0, e1, e2, e3, e4⟩ := hargs c
  have hx : ∀ R C, Cert.Sample.lg (Cert.Reference4Ideal.Own.As m' c) (Cert.Reference4Ideal.Own.Ws m' c) (Cert.Reference4Ideal.Own.Bs m' c) R C ≠ ⊥ := fun R C => by
    unfold Cert.Reference4Ideal.Own.As Cert.Reference4Ideal.Own.Ws Cert.Reference4Ideal.Own.Bs Cert.Reference4Ideal.Own.am Cert.Reference4Ideal.Own.wm Cert.Reference4Ideal.Own.bm
    rw [e1, e2, e3]
    exact sample_logit_ne_bot _ _ _ _ _ R C (congrFun (hpre c) (ix2 R C))
  refine ⟨h0.trans (funext fun i => ?_), h1.trans (funext fun i => ?_), hrest⟩
  · have hi : i = ix3 (n0 := 128) (n1 := 1) (n2 := 2048) (i 0) 0 (i 2) := funext fun a => by
      match a with
      | ⟨0, _⟩ => rfl
      | ⟨1, _⟩ => exact Fin.ext (by have : (i 1).val < 1 := (i 1).isLt; show (i 1).val = 0; omega)
      | ⟨2, _⟩ => rfl
    refine (congrArg _ hi).trans ((Cert.Reference4Ideal.Own.out_at m' c hx (i 0) (i 2)).trans ?_)
    unfold Cert.Reference4Ideal.Own.Ps Cert.Reference4Ideal.Own.As Cert.Reference4Ideal.Own.Ws Cert.Reference4Ideal.Own.Bs Cert.Reference4Ideal.Own.Ss Cert.Reference4Ideal.Own.pm Cert.Reference4Ideal.Own.am Cert.Reference4Ideal.Own.wm Cert.Reference4Ideal.Own.bm Cert.Reference4Ideal.Own.sm
    rw [e0, e1, e2, e3, e4]
    rfl
  · rw [eq_ix4 (n0 := 128) (n1 := 4) (n2 := 256) (n3 := 512) i]
    refine (Cert.Reference4Ideal.Own.st_at m' c hx (i 0) (i 1) (i 2) (i 3)).trans ?_
    unfold Cert.Reference4Ideal.Own.Ps Cert.Reference4Ideal.Own.As Cert.Reference4Ideal.Own.Ws Cert.Reference4Ideal.Own.Bs Cert.Reference4Ideal.Own.Ss Cert.Reference4Ideal.Own.pm Cert.Reference4Ideal.Own.am Cert.Reference4Ideal.Own.wm Cert.Reference4Ideal.Own.bm Cert.Reference4Ideal.Own.sm
    rw [e0, e1, e2, e3, e4]
    rfl

/-- Every claim of the certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_decay_above_minus_inf.Gen.facts, Cert.Pre_sample_decay_above_minus_inf.Gen.facts,
  fun m ρ _ => Cert.Kernel.Own.frame m ρ, fun m ρ _ => Cert.KernelIdeal.Own.frame m ρ,
  fun m ρ _ => Cert.KernelIdeal.Own.frame m ρ, frame_ref, fun m ρ _ => frame_ref m ρ trivial,
  fun m ρ _ => Cert.Kernel2.Own.frame m ρ, fun m ρ _ => Cert.Kernel2Ideal.Own.frame m ρ, frame_ref2,
  fun m ρ _ => Cert.Kernel3.Gen.frame m ρ, fun m ρ _ => Cert.Kernel3Ideal.Gen.frame m ρ, frame_ref3,
  fun m ρ _ => Cert.Kernel4.Gen.frame m ρ, fun m ρ _ => Cert.Kernel4Ideal.Gen.frame m ρ, fun m ρ _ => Cert.Kernel4Ideal.Gen.frame m ρ,
  frame_ref4, fun m ρ _ => frame_ref4 m ρ trivial, trivial, alg, trivial, alg2, trivial, alg3, trivial, alg4⟩

end Cert.Proof

end
